-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_ReferenceDh2Ideal (m : (ℓ : Loc Cert.ReferenceDh2Ideal.nD Cert.ReferenceDh2Ideal.τ Cert.ReferenceDh2Ideal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDh1 (m : (ℓ : Loc Cert.KernelDh1.nD Cert.KernelDh1.τ Cert.KernelDh1.sig) → Buf (Elt Bits) ℓ) : Prop :=
  True

def Pre_KernelDh1Ideal (m : (ℓ : Loc Cert.KernelDh1Ideal.nD Cert.KernelDh1Ideal.τ Cert.KernelDh1Ideal.sig) → Buf (Elt Ideal) ℓ) : Prop :=
  True

def Pre_ReferenceDh1Ideal (m : (ℓ : Loc Cert.ReferenceDh1Ideal.nD Cert.ReferenceDh1Ideal.τ Cert.ReferenceDh1Ideal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDmixed (m : (ℓ : Loc Cert.KernelDmixed.nD Cert.KernelDmixed.τ Cert.KernelDmixed.sig) → Buf (Elt Bits) ℓ) : Prop :=
  True

def Pre_KernelDmixedIdeal (m : (ℓ : Loc Cert.KernelDmixedIdeal.nD Cert.KernelDmixedIdeal.τ Cert.KernelDmixedIdeal.sig) → Buf (Elt Ideal) ℓ) : Prop :=
  True

def Pre_ReferenceDmixedIdeal (m : (ℓ : Loc Cert.ReferenceDmixedIdeal.nD Cert.ReferenceDmixedIdeal.τ Cert.ReferenceDmixedIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1)
      ∧ r.2.mem ((c.tc : Thread Cert.KernelDh2.nD Cert.KernelDh2.τ).loc Cert.KernelDh2.main_arg2) = m ((c.tc : Thread Cert.KernelDh2.nD Cert.KernelDh2.τ).loc Cert.KernelDh2.main_arg2))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelDh1 [hKernelDh1 : Cert.KernelDh1.Facts] : Prop :=
  ∀ (m : (ℓ : Loc Cert.KernelDh1.nD Cert.KernelDh1.τ Cert.KernelDh1.sig) → Buf (Elt Bits) ℓ) (g : Dev Cert.KernelDh1.nD → PrngReg), Pre_KernelDh1 m →
    θ_run (Cert.KernelDh1.defs (F := Bits)) (onTc (τ := Cert.KernelDh1.τ) (Cert.KernelDh1.main (F := Bits))) ⟨m, fun _ => 0, g⟩ (fun r => (∀ c : Dev Cert.KernelDh1.nD,
      r.2.mem ((c.tc : Thread Cert.KernelDh1.nD Cert.KernelDh1.τ).loc Cert.KernelDh1.main_arg0) = m ((c.tc : Thread Cert.KernelDh1.nD Cert.KernelDh1.τ).loc Cert.KernelDh1.main_arg0)
      ∧ r.2.mem ((c.tc : Thread Cert.KernelDh1.nD Cert.KernelDh1.τ).loc Cert.KernelDh1.main_arg1) = m ((c.tc : Thread Cert.KernelDh1.nD Cert.KernelDh1.τ).loc Cert.KernelDh1.main_arg1)
      ∧ r.2.mem ((c.tc : Thread Cert.KernelDh1.nD Cert.KernelDh1.τ).loc Cert.KernelDh1.main_arg2) = m ((c.tc : Thread Cert.KernelDh1.nD Cert.KernelDh1.τ).loc Cert.KernelDh1.main_arg2))
      ∧ r.2.sem = fun _ => 0)

def quiescent_KernelDh1Ideal [hKernelDh1Ideal : Cert.KernelDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
      ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2))
      ∧ r.2.sem = fun _ => 0)

def quiescent_ReferenceDh1Ideal [hReferenceDh1Ideal : Cert.ReferenceDh1Ideal.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1)
      ∧ r.2.mem ((c.tc : Thread Cert.ReferenceDh1Ideal.nD Cert.ReferenceDh1Ideal.τ).loc Cert.ReferenceDh1Ideal.main_arg2) = m ((c.tc : Thread Cert.ReferenceDh1Ideal.nD Cert.ReferenceDh1Ideal.τ).loc Cert.ReferenceDh1Ideal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDmixed [hKernelDmixed : Cert.KernelDmixed.Facts] : Prop :=
  ∀ (m : (ℓ : Loc Cert.KernelDmixed.nD Cert.KernelDmixed.τ Cert.KernelDmixed.sig) → Buf (Elt Bits) ℓ) (g : Dev Cert.KernelDmixed.nD → PrngReg), Pre_KernelDmixed m →
    θ_run (Cert.KernelDmixed.defs (F := Bits)) (onTc (τ := Cert.KernelDmixed.τ) (Cert.KernelDmixed.main (F := Bits))) ⟨m, fun _ => 0, g⟩ (fun r => (∀ c : Dev Cert.KernelDmixed.nD,
      r.2.mem ((c.tc : Thread Cert.KernelDmixed.nD Cert.KernelDmixed.τ).loc Cert.KernelDmixed.main_arg0) = m ((c.tc : Thread Cert.KernelDmixed.nD Cert.KernelDmixed.τ).loc Cert.KernelDmixed.main_arg0)
      ∧ r.2.mem ((c.tc : Thread Cert.KernelDmixed.nD Cert.KernelDmixed.τ).loc Cert.KernelDmixed.main_arg1) = m ((c.tc : Thread Cert.KernelDmixed.nD Cert.KernelDmixed.τ).loc Cert.KernelDmixed.main_arg1)
      ∧ r.2.mem ((c.tc : Thread Cert.KernelDmixed.nD Cert.KernelDmixed.τ).loc Cert.KernelDmixed.main_arg2) = m ((c.tc : Thread Cert.KernelDmixed.nD Cert.KernelDmixed.τ).loc Cert.KernelDmixed.main_arg2))
      ∧ r.2.sem = fun _ => 0)

def quiescent_KernelDmixedIdeal [hKernelDmixedIdeal : Cert.KernelDmixedIdeal.Facts] : Prop :=
  ∀ (m : (ℓ : Loc Cert.KernelDmixedIdeal.nD Cert.KernelDmixedIdeal.τ Cert.KernelDmixedIdeal.sig) → Buf (Elt Ideal) ℓ) (g : Dev Cert.KernelDmixedIdeal.nD → PrngReg), Pre_KernelDmixedIdeal m →
    θ_run (Cert.KernelDmixedIdeal.defs (F := Ideal)) (onTc (τ := Cert.KernelDmixedIdeal.τ) (Cert.KernelDmixedIdeal.main (F := Ideal))) ⟨m, fun _ => 0, g⟩ (fun r => (∀ c : Dev Cert.KernelDmixedIdeal.nD,
      r.2.mem ((c.tc : Thread Cert.KernelDmixedIdeal.nD Cert.KernelDmixedIdeal.τ).loc Cert.KernelDmixedIdeal.main_arg0) = m ((c.tc : Thread Cert.KernelDmixedIdeal.nD Cert.KernelDmixedIdeal.τ).loc Cert.KernelDmixedIdeal.main_arg0)
      ∧ r.2.mem ((c.tc : Thread Cert.KernelDmixedIdeal.nD Cert.KernelDmixedIdeal.τ).loc Cert.KernelDmixedIdeal.main_arg1) = m ((c.tc : Thread Cert.KernelDmixedIdeal.nD Cert.KernelDmixedIdeal.τ).loc Cert.KernelDmixedIdeal.main_arg1)
      ∧ r.2.mem ((c.tc : Thread Cert.KernelDmixedIdeal.nD Cert.KernelDmixedIdeal.τ).loc Cert.KernelDmixedIdeal.main_arg2) = m ((c.tc : Thread Cert.KernelDmixedIdeal.nD Cert.KernelDmixedIdeal.τ).loc Cert.KernelDmixedIdeal.main_arg2))
      ∧ r.2.sem = fun _ => 0)

def quiescent_ReferenceDmixedIdeal [hReferenceDmixedIdeal : Cert.ReferenceDmixedIdeal.Facts] : Prop :=
  ∀ (m : (ℓ : Loc Cert.ReferenceDmixedIdeal.nD Cert.ReferenceDmixedIdeal.τ Cert.ReferenceDmixedIdeal.sig) → Buf (Elt Ideal) ℓ) (g : Dev Cert.ReferenceDmixedIdeal.nD → PrngReg), Pre_ReferenceDmixedIdeal m →
    θ_run (Cert.ReferenceDmixedIdeal.defs (F := Ideal)) (onTc (τ := Cert.ReferenceDmixedIdeal.τ) (Cert.ReferenceDmixedIdeal.main (F := Ideal))) ⟨m, fun _ => 0, g⟩ (fun r => (∀ c : Dev Cert.ReferenceDmixedIdeal.nD,
      r.2.mem ((c.tc : Thread Cert.ReferenceDmixedIdeal.nD Cert.ReferenceDmixedIdeal.τ).loc Cert.ReferenceDmixedIdeal.main_arg0) = m ((c.tc : Thread Cert.ReferenceDmixedIdeal.nD Cert.ReferenceDmixedIdeal.τ).loc Cert.ReferenceDmixedIdeal.main_arg0)
      ∧ r.2.mem ((c.tc : Thread Cert.ReferenceDmixedIdeal.nD Cert.ReferenceDmixedIdeal.τ).loc Cert.ReferenceDmixedIdeal.main_arg1) = m ((c.tc : Thread Cert.ReferenceDmixedIdeal.nD Cert.ReferenceDmixedIdeal.τ).loc Cert.ReferenceDmixedIdeal.main_arg1)
      ∧ r.2.mem ((c.tc : Thread Cert.ReferenceDmixedIdeal.nD Cert.ReferenceDmixedIdeal.τ).loc Cert.ReferenceDmixedIdeal.main_arg2) = m ((c.tc : Thread Cert.ReferenceDmixedIdeal.nD Cert.ReferenceDmixedIdeal.τ).loc Cert.ReferenceDmixedIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_v349) = v1 c
          ∧ r.2.mem ((c.tc : Thread Cert.ReferenceIdeal.nD Cert.ReferenceIdeal.τ).loc Cert.ReferenceIdeal.main_v351) = v2 c
          ∧ r.2.mem ((c.tc : Thread Cert.ReferenceIdeal.nD Cert.ReferenceIdeal.τ).loc Cert.ReferenceIdeal.main_v311) = v3 c
          ∧ r.2.mem ((c.tc : Thread Cert.ReferenceIdeal.nD Cert.ReferenceIdeal.τ).loc Cert.ReferenceIdeal.main_v273) = v4 c
          ∧ r.2.mem ((c.tc : Thread Cert.ReferenceIdeal.nD Cert.ReferenceIdeal.τ).loc Cert.ReferenceIdeal.main_v353) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v7)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v7) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v14) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v8)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v8) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v14) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDh2_KernelDh2Ideal : Prop :=
  True

def algebraic_KernelDh2Ideal_ReferenceDh2Ideal [hKernelDh2Ideal : Cert.KernelDh2Ideal.Facts] [hReferenceDh2Ideal : Cert.ReferenceDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)
      ∧ m' ((c.tc : Thread Cert.ReferenceDh2Ideal.nD Cert.ReferenceDh2Ideal.τ).loc Cert.ReferenceDh2Ideal.main_arg2) = m ((c.tc : Thread Cert.KernelDh2Ideal.nD Cert.KernelDh2Ideal.τ).loc Cert.KernelDh2Ideal.main_arg2)) →
    ∃ (v0 : (c : Dev Cert.KernelDh2Ideal.nD) → Buf (Elt Ideal) ((c.tc : Thread Cert.KernelDh2Ideal.nD Cert.KernelDh2Ideal.τ).loc Cert.KernelDh2Ideal.main_v4)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v4) = v0 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
          ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v3) = v0 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1)
          ∧ r.2.mem ((c.tc : Thread Cert.ReferenceDh2Ideal.nD Cert.ReferenceDh2Ideal.τ).loc Cert.ReferenceDh2Ideal.main_arg2) = m' ((c.tc : Thread Cert.ReferenceDh2Ideal.nD Cert.ReferenceDh2Ideal.τ).loc Cert.ReferenceDh2Ideal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelDh1_KernelDh1Ideal : Prop :=
  True

def algebraic_KernelDh1Ideal_ReferenceDh1Ideal [hKernelDh1Ideal : Cert.KernelDh1Ideal.Facts] [hReferenceDh1Ideal : Cert.ReferenceDh1Ideal.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg)
    (m' : (ℓ : Loc Cert.ReferenceDh1Ideal.nD Cert.ReferenceDh1Ideal.τ Cert.ReferenceDh1Ideal.sig) → Buf (Elt Ideal) ℓ) (g' : Dev Cert.ReferenceDh1Ideal.nD → PrngReg), Pre_KernelDh1Ideal m →
    (∀ c : Dev Cert.KernelDh1Ideal.nD,
      m' ((c.tc : Thread Cert.ReferenceDh1Ideal.nD Cert.ReferenceDh1Ideal.τ).loc Cert.ReferenceDh1Ideal.main_arg0) = m ((c.tc : Thread Cert.KernelDh1Ideal.nD Cert.KernelDh1Ideal.τ).loc Cert.KernelDh1Ideal.main_arg0)
      ∧ m' ((c.tc : Thread Cert.ReferenceDh1Ideal.nD Cert.ReferenceDh1Ideal.τ).loc Cert.ReferenceDh1Ideal.main_arg1) = m ((c.tc : Thread Cert.KernelDh1Ideal.nD Cert.KernelDh1Ideal.τ).loc Cert.KernelDh1Ideal.main_arg1)
      ∧ m' ((c.tc : Thread Cert.ReferenceDh1Ideal.nD Cert.ReferenceDh1Ideal.τ).loc Cert.ReferenceDh1Ideal.main_arg2) = m ((c.tc : Thread Cert.KernelDh1Ideal.nD Cert.KernelDh1Ideal.τ).loc Cert.KernelDh1Ideal.main_arg2)) →
    ∃ (v0 : (c : Dev Cert.KernelDh1Ideal.nD) → Buf (Elt Ideal) ((c.tc : Thread Cert.KernelDh1Ideal.nD Cert.KernelDh1Ideal.τ).loc Cert.KernelDh1Ideal.main_v4)),
      θ_run (Cert.KernelDh1Ideal.defs (F := Ideal)) (onTc (τ := Cert.KernelDh1Ideal.τ) (Cert.KernelDh1Ideal.main (F := Ideal))) ⟨m, fun _ => 0, g⟩ (fun r => ∀ c : Dev Cert.KernelDh1Ideal.nD,
          r.2.mem ((c.tc : Thread Cert.KernelDh1Ideal.nD Cert.KernelDh1Ideal.τ).loc Cert.KernelDh1Ideal.main_v4) = v0 c
          ∧ r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
          ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
          ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2))
      ∧ θ_run (Cert.ReferenceDh1Ideal.defs (F := Ideal)) (onTc (τ := Cert.ReferenceDh1Ideal.τ) (Cert.ReferenceDh1Ideal.main (F := Ideal))) ⟨m', fun _ => 0, g'⟩ (fun r => ∀ c : Dev Cert.ReferenceDh1Ideal.nD,
          r.2.mem ((c.tc : Thread Cert.ReferenceDh1Ideal.nD Cert.ReferenceDh1Ideal.τ).loc Cert.ReferenceDh1Ideal.main_v3) = v0 c
          ∧ r.2.mem ((c.tc : Thread Cert.ReferenceDh1Ideal.nD Cert.ReferenceDh1Ideal.τ).loc Cert.ReferenceDh1Ideal.main_arg0) = m' ((c.tc : Thread Cert.ReferenceDh1Ideal.nD Cert.ReferenceDh1Ideal.τ).loc Cert.ReferenceDh1Ideal.main_arg0)
          ∧ r.2.mem ((c.tc : Thread Cert.ReferenceDh1Ideal.nD Cert.ReferenceDh1Ideal.τ).loc Cert.ReferenceDh1Ideal.main_arg1) = m' ((c.tc : Thread Cert.ReferenceDh1Ideal.nD Cert.ReferenceDh1Ideal.τ).loc Cert.ReferenceDh1Ideal.main_arg1)
          ∧ r.2.mem ((c.tc : Thread Cert.ReferenceDh1Ideal.nD Cert.ReferenceDh1Ideal.τ).loc Cert.ReferenceDh1Ideal.main_arg2) = m' ((c.tc : Thread Cert.ReferenceDh1Ideal.nD Cert.ReferenceDh1Ideal.τ).loc Cert.ReferenceDh1Ideal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDmixed_KernelDmixedIdeal : Prop :=
  True

def algebraic_KernelDmixedIdeal_ReferenceDmixedIdeal [hKernelDmixedIdeal : Cert.KernelDmixedIdeal.Facts] [hReferenceDmixedIdeal : Cert.ReferenceDmixedIdeal.Facts] : Prop :=
  ∀ (m : (ℓ : Loc Cert.KernelDmixedIdeal.nD Cert.KernelDmixedIdeal.τ Cert.KernelDmixedIdeal.sig) → Buf (Elt Ideal) ℓ) (g : Dev Cert.KernelDmixedIdeal.nD → PrngReg)
    (m' : (ℓ : Loc Cert.ReferenceDmixedIdeal.nD Cert.ReferenceDmixedIdeal.τ Cert.ReferenceDmixedIdeal.sig) → Buf (Elt Ideal) ℓ) (g' : Dev Cert.ReferenceDmixedIdeal.nD → PrngReg), Pre_KernelDmixedIdeal m →
    (∀ c : Dev Cert.KernelDmixedIdeal.nD,
      m' ((c.tc : Thread Cert.ReferenceDmixedIdeal.nD Cert.ReferenceDmixedIdeal.τ).loc Cert.ReferenceDmixedIdeal.main_arg0) = m ((c.tc : Thread Cert.KernelDmixedIdeal.nD Cert.KernelDmixedIdeal.τ).loc Cert.KernelDmixedIdeal.main_arg0)
      ∧ m' ((c.tc : Thread Cert.ReferenceDmixedIdeal.nD Cert.ReferenceDmixedIdeal.τ).loc Cert.ReferenceDmixedIdeal.main_arg1) = m ((c.tc : Thread Cert.KernelDmixedIdeal.nD Cert.KernelDmixedIdeal.τ).loc Cert.KernelDmixedIdeal.main_arg1)
      ∧ m' ((c.tc : Thread Cert.ReferenceDmixedIdeal.nD Cert.ReferenceDmixedIdeal.τ).loc Cert.ReferenceDmixedIdeal.main_arg2) = m ((c.tc : Thread Cert.KernelDmixedIdeal.nD Cert.KernelDmixedIdeal.τ).loc Cert.KernelDmixedIdeal.main_arg2)) →
    ∃ (v0 : (c : Dev Cert.KernelDmixedIdeal.nD) → Buf (Elt Ideal) ((c.tc : Thread Cert.KernelDmixedIdeal.nD Cert.KernelDmixedIdeal.τ).loc Cert.KernelDmixedIdeal.main_v2)),
      θ_run (Cert.KernelDmixedIdeal.defs (F := Ideal)) (onTc (τ := Cert.KernelDmixedIdeal.τ) (Cert.KernelDmixedIdeal.main (F := Ideal))) ⟨m, fun _ => 0, g⟩ (fun r => ∀ c : Dev Cert.KernelDmixedIdeal.nD,
          r.2.mem ((c.tc : Thread Cert.KernelDmixedIdeal.nD Cert.KernelDmixedIdeal.τ).loc Cert.KernelDmixedIdeal.main_v2) = v0 c
          ∧ r.2.mem ((c.tc : Thread Cert.KernelDmixedIdeal.nD Cert.KernelDmixedIdeal.τ).loc Cert.KernelDmixedIdeal.main_arg0) = m ((c.tc : Thread Cert.KernelDmixedIdeal.nD Cert.KernelDmixedIdeal.τ).loc Cert.KernelDmixedIdeal.main_arg0)
          ∧ r.2.mem ((c.tc : Thread Cert.KernelDmixedIdeal.nD Cert.KernelDmixedIdeal.τ).loc Cert.KernelDmixedIdeal.main_arg1) = m ((c.tc : Thread Cert.KernelDmixedIdeal.nD Cert.KernelDmixedIdeal.τ).loc Cert.KernelDmixedIdeal.main_arg1)
          ∧ r.2.mem ((c.tc : Thread Cert.KernelDmixedIdeal.nD Cert.KernelDmixedIdeal.τ).loc Cert.KernelDmixedIdeal.main_arg2) = m ((c.tc : Thread Cert.KernelDmixedIdeal.nD Cert.KernelDmixedIdeal.τ).loc Cert.KernelDmixedIdeal.main_arg2))
      ∧ θ_run (Cert.ReferenceDmixedIdeal.defs (F := Ideal)) (onTc (τ := Cert.ReferenceDmixedIdeal.τ) (Cert.ReferenceDmixedIdeal.main (F := Ideal))) ⟨m', fun _ => 0, g'⟩ (fun r => ∀ c : Dev Cert.ReferenceDmixedIdeal.nD,
          r.2.mem ((c.tc : Thread Cert.ReferenceDmixedIdeal.nD Cert.ReferenceDmixedIdeal.τ).loc Cert.ReferenceDmixedIdeal.main_v3) = v0 c
          ∧ r.2.mem ((c.tc : Thread Cert.ReferenceDmixedIdeal.nD Cert.ReferenceDmixedIdeal.τ).loc Cert.ReferenceDmixedIdeal.main_arg0) = m' ((c.tc : Thread Cert.ReferenceDmixedIdeal.nD Cert.ReferenceDmixedIdeal.τ).loc Cert.ReferenceDmixedIdeal.main_arg0)
          ∧ r.2.mem ((c.tc : Thread Cert.ReferenceDmixedIdeal.nD Cert.ReferenceDmixedIdeal.τ).loc Cert.ReferenceDmixedIdeal.main_arg1) = m' ((c.tc : Thread Cert.ReferenceDmixedIdeal.nD Cert.ReferenceDmixedIdeal.τ).loc Cert.ReferenceDmixedIdeal.main_arg1)
          ∧ r.2.mem ((c.tc : Thread Cert.ReferenceDmixedIdeal.nD Cert.ReferenceDmixedIdeal.τ).loc Cert.ReferenceDmixedIdeal.main_arg2) = m' ((c.tc : Thread Cert.ReferenceDmixedIdeal.nD Cert.ReferenceDmixedIdeal.τ).loc Cert.ReferenceDmixedIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v36) = v0 c
          ∧ r.2.mem ((c.tc : Thread Cert.ReferenceNormIdeal.nD Cert.ReferenceNormIdeal.τ).loc Cert.ReferenceNormIdeal.main_v37) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v1_0)) (v1 : (c : Dev Cert.KernelFfnIdeal.nD) → Buf (Elt Ideal) ((c.tc : Thread Cert.KernelFfnIdeal.nD Cert.KernelFfnIdeal.τ).loc Cert.KernelFfnIdeal.main_v1_1)) (v2 : (c : Dev Cert.KernelFfnIdeal.nD) → Buf (Elt Ideal) ((c.tc : Thread Cert.KernelFfnIdeal.nD Cert.KernelFfnIdeal.τ).loc Cert.KernelFfnIdeal.main_v1_2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v1_0) = v0 c
          ∧ r.2.mem ((c.tc : Thread Cert.KernelFfnIdeal.nD Cert.KernelFfnIdeal.τ).loc Cert.KernelFfnIdeal.main_v1_1) = v1 c
          ∧ r.2.mem ((c.tc : Thread Cert.KernelFfnIdeal.nD Cert.KernelFfnIdeal.τ).loc Cert.KernelFfnIdeal.main_v1_2) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v36) = v0 c
          ∧ r.2.mem ((c.tc : Thread Cert.ReferenceFfnIdeal.nD Cert.ReferenceFfnIdeal.τ).loc Cert.ReferenceFfnIdeal.main_v37) = v1 c
          ∧ r.2.mem ((c.tc : Thread Cert.ReferenceFfnIdeal.nD Cert.ReferenceFfnIdeal.τ).loc Cert.ReferenceFfnIdeal.main_v38) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v2) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v1) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)) (v3 : (c : Dev Cert.KernelLossIdeal.nD) → Buf (Elt Ideal) ((c.tc : Thread Cert.KernelLossIdeal.nD Cert.KernelLossIdeal.τ).loc Cert.KernelLossIdeal.main_v1_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_v1_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v53) = v0 c
          ∧ r.2.mem ((c.tc : Thread Cert.ReferenceLossIdeal.nD Cert.ReferenceLossIdeal.τ).loc Cert.ReferenceLossIdeal.main_v52) = v1 c
          ∧ r.2.mem ((c.tc : Thread Cert.ReferenceLossIdeal.nD Cert.ReferenceLossIdeal.τ).loc Cert.ReferenceLossIdeal.main_v54) = v2 c
          ∧ r.2.mem ((c.tc : Thread Cert.ReferenceLossIdeal.nD Cert.ReferenceLossIdeal.τ).loc Cert.ReferenceLossIdeal.main_v55) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelAct : Cert.KernelAct.Facts) (hKernelActIdeal : Cert.KernelActIdeal.Facts) (hReferenceActIdeal : Cert.ReferenceActIdeal.Facts) (hKernelUp : Cert.KernelUp.Facts) (hKernelUpIdeal : Cert.KernelUpIdeal.Facts) (hReferenceUpIdeal : Cert.ReferenceUpIdeal.Facts) (hKernelDh2 : Cert.KernelDh2.Facts) (hKernelDh2Ideal : Cert.KernelDh2Ideal.Facts) (hReferenceDh2Ideal : Cert.ReferenceDh2Ideal.Facts) (hKernelIn : Cert.KernelIn.Facts) (hKernelInIdeal : Cert.KernelInIdeal.Facts) (hReferenceInIdeal : Cert.ReferenceInIdeal.Facts) (hKernelDh1 : Cert.KernelDh1.Facts) (hKernelDh1Ideal : Cert.KernelDh1Ideal.Facts) (hReferenceDh1Ideal : Cert.ReferenceDh1Ideal.Facts) (hKernelOut : Cert.KernelOut.Facts) (hKernelOutIdeal : Cert.KernelOutIdeal.Facts) (hReferenceOutIdeal : Cert.ReferenceOutIdeal.Facts) (hKernelDmixed : Cert.KernelDmixed.Facts) (hKernelDmixedIdeal : Cert.KernelDmixedIdeal.Facts) (hReferenceDmixedIdeal : Cert.ReferenceDmixedIdeal.Facts) (hKernelNorm : Cert.KernelNorm.Facts) (hKernelNormIdeal : Cert.KernelNormIdeal.Facts) (hReferenceNormIdeal : Cert.ReferenceNormIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelLoss : Cert.KernelLoss.Facts) (hKernelLossIdeal : Cert.KernelLossIdeal.Facts) (hReferenceLossIdeal : Cert.ReferenceLossIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDh2 (hKernelDh2 := hKernelDh2)
    ∧ quiescent_KernelDh2Ideal (hKernelDh2Ideal := hKernelDh2Ideal)
    ∧ quiescent_ReferenceDh2Ideal (hReferenceDh2Ideal := hReferenceDh2Ideal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDh1 (hKernelDh1 := hKernelDh1)
    ∧ quiescent_KernelDh1Ideal (hKernelDh1Ideal := hKernelDh1Ideal)
    ∧ quiescent_ReferenceDh1Ideal (hReferenceDh1Ideal := hReferenceDh1Ideal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDmixed (hKernelDmixed := hKernelDmixed)
    ∧ quiescent_KernelDmixedIdeal (hKernelDmixedIdeal := hKernelDmixedIdeal)
    ∧ quiescent_ReferenceDmixedIdeal (hReferenceDmixedIdeal := hReferenceDmixedIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelDown_KernelDownIdeal
    ∧ algebraic_KernelDownIdeal_ReferenceDownIdeal (hKernelDownIdeal := hKernelDownIdeal) (hReferenceDownIdeal := hReferenceDownIdeal)
    ∧ preserves_KernelAct_KernelActIdeal
    ∧ algebraic_KernelActIdeal_ReferenceActIdeal (hKernelActIdeal := hKernelActIdeal) (hReferenceActIdeal := hReferenceActIdeal)
    ∧ preserves_KernelUp_KernelUpIdeal
    ∧ algebraic_KernelUpIdeal_ReferenceUpIdeal (hKernelUpIdeal := hKernelUpIdeal) (hReferenceUpIdeal := hReferenceUpIdeal)
    ∧ preserves_KernelDh2_KernelDh2Ideal
    ∧ algebraic_KernelDh2Ideal_ReferenceDh2Ideal (hKernelDh2Ideal := hKernelDh2Ideal) (hReferenceDh2Ideal := hReferenceDh2Ideal)
    ∧ preserves_KernelIn_KernelInIdeal
    ∧ algebraic_KernelInIdeal_ReferenceInIdeal (hKernelInIdeal := hKernelInIdeal) (hReferenceInIdeal := hReferenceInIdeal)
    ∧ preserves_KernelDh1_KernelDh1Ideal
    ∧ algebraic_KernelDh1Ideal_ReferenceDh1Ideal (hKernelDh1Ideal := hKernelDh1Ideal) (hReferenceDh1Ideal := hReferenceDh1Ideal)
    ∧ preserves_KernelOut_KernelOutIdeal
    ∧ algebraic_KernelOutIdeal_ReferenceOutIdeal (hKernelOutIdeal := hKernelOutIdeal) (hReferenceOutIdeal := hReferenceOutIdeal)
    ∧ preserves_KernelDmixed_KernelDmixedIdeal
    ∧ algebraic_KernelDmixedIdeal_ReferenceDmixedIdeal (hKernelDmixedIdeal := hKernelDmixedIdeal) (hReferenceDmixedIdeal := hReferenceDmixedIdeal)
    ∧ preserves_KernelNorm_KernelNormIdeal
    ∧ algebraic_KernelNormIdeal_ReferenceNormIdeal (hKernelNormIdeal := hKernelNormIdeal) (hReferenceNormIdeal := hReferenceNormIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelLoss_KernelLossIdeal
    ∧ algebraic_KernelLossIdeal_ReferenceLossIdeal (hKernelLossIdeal := hKernelLossIdeal) (hReferenceLossIdeal := hReferenceLossIdeal)
-- ==== Pre_all_finite.lean ====
abbrev S4096x3072 : Shape := ⟨2, ![4096, 3072]⟩
abbrev S4096x2048 : Shape := ⟨2, ![4096, 2048]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S_ : Shape := ⟨0, ![]⟩

class Facts : Prop where
  bcast_S_S4096x3072 : S_.BroadcastsInDim S4096x3072 (![] : Fin 0 → Fin S4096x3072.rank)
  bcast_S_S4096x2048 : S_.BroadcastsInDim S4096x2048 (![] : Fin 0 → Fin S4096x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x1024 : S_.BroadcastsInDim S1x1024 (![] : Fin 0 → Fin S1x1024.rank)
  bcast_S_S1x4x256x256 : S_.BroadcastsInDim S1x4x256x256 (![] : Fin 0 → Fin S1x4x256x256.rank)

variable [Facts]

def fn_part1 {F : FTy → Type} [FloatOps F] (main_arg6 : FVec F S1x1024 .f32) (main_v2 : IVec S4096x3072 1) (main_v5 : IVec S4096x2048 1) (main_v8 : IVec S1x8x128x128 1) (main_v11 : IVec S1x8x128 1) (main_v14 : IVec S1x1024 1) (main_v17 : IVec S1x4x256x256 1) : IVec S4096x3072 1 × IVec S4096x2048 1 × IVec S1x8x128x128 1 × IVec S1x8x128 1 × IVec S1x1024 1 × IVec S1x4x256x256 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x3072 .f32) (main_arg1 : FVec F S4096x2048 .f32) (main_arg2 : FVec F S1x8x128x128 .f32) (main_arg3 : FVec F S1x8x128 .f32) (main_arg4 : FVec F S1x1024 .f32) (main_arg5 : FVec F S1x4x256x256 .f32) (main_arg6 : FVec F S1x1024 .f32) : IVec S4096x3072 1 × IVec S4096x2048 1 × IVec S1x8x128x128 1 × IVec S1x8x128 1 × IVec S1x1024 1 × IVec S1x4x256x256 1 × IVec S1x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x8x128x128 .f32 := Host.absf main_arg2
  let main_cst_1 : FVec F S_ .f32 := constant S_ .f32 0x7F800000#32
  let main_v7 : FVec F S1x8x128x128 .f32 := broadcastInDim S1x8x128x128 ![] bcast_S_S1x8x128x128 main_cst_1
  let main_v8 : IVec S1x8x128x128 1 := cmpf .olt main_v6 main_v7
  let main_v9 : FVec F S1x8x128 .f32 := Host.absf main_arg3
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x4x256x256 .f32 := Host.absf main_arg5
  let main_cst_4 : FVec F S_ .f32 := constant S_ .f32 0x7F800000#32
  let main_v16 : FVec F S1x4x256x256 .f32 := broadcastInDim S1x4x256x256 ![] bcast_S_S1x4x256x256 main_cst_4
  let main_v17 : IVec S1x4x256x256 1 := cmpf .olt main_v15 main_v16
  fn_part1 (F := F) main_arg6 main_v2 main_v5 main_v8 main_v11 main_v14 main_v17
-- ==== Kernel.lean ====
abbrev S4096x3072 : Shape := ⟨2, ![4096, 3072]⟩
abbrev S4096x2048 : Shape := ⟨2, ![4096, 2048]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S8x128x128 : Shape := ⟨3, ![8, 128, 128]⟩
abbrev S8x128 : Shape := ⟨2, ![8, 128]⟩
abbrev S128x8 : Shape := ⟨2, ![128, 8]⟩
abbrev S4x8x32x256 : Shape := ⟨4, ![4, 8, 32, 256]⟩
abbrev S8x4x32x256 : Shape := ⟨4, ![8, 4, 32, 256]⟩
abbrev S512x1024 : Shape := ⟨2, ![512, 1024]⟩
abbrev S16x1024 : Shape := ⟨2, ![16, 1024]⟩
abbrev S512x3072 : Shape := ⟨2, ![512, 3072]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩
abbrev S528x1024 : Shape := ⟨2, ![528, 1024]⟩
abbrev S528x256 : Shape := ⟨2, ![528, 256]⟩
abbrev S512x256 : Shape := ⟨2, ![512, 256]⟩
abbrev S8x1x32x256 : Shape := ⟨4, ![8, 1, 32, 256]⟩
abbrev S8x32x256 : Shape := ⟨3, ![8, 32, 256]⟩
abbrev S256x256 : Shape := ⟨2, ![256, 256]⟩
abbrev S1x256 : Shape := ⟨2, ![1, 256]⟩
abbrev S256 : Shape := ⟨1, ![256]⟩
abbrev S528x1 : Shape := ⟨2, ![528, 1]⟩

abbrev nBuf : Space → Nat
  | .hbm => 19
  | .vmem => 26
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S1x8x128x128, .f32⟩
  | .hbm, ⟨3, _⟩ => ⟨S1x8x128, .f32⟩
  | .hbm, ⟨4, _⟩ => ⟨S1x1024, .f32⟩
  | .hbm, ⟨5, _⟩ => ⟨S1x4x256x256, .f32⟩
  | .hbm, ⟨6, _⟩ => ⟨S1x1024, .f32⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S4x8x32x256, .f32⟩
  | .hbm, ⟨11, _⟩ => ⟨S8x4x32x256, .f32⟩
  | .hbm, ⟨12, _⟩ => ⟨S8x4x32x256, .bf16⟩
  | .hbm, ⟨13, _⟩ => ⟨S4096x3072, .bf16⟩
  | .hbm, ⟨14, _⟩ => ⟨S8x128x128, .f32⟩
  | .hbm, ⟨15, _⟩ => ⟨S128x8, .f32⟩
  | .hbm, ⟨16, _⟩ => ⟨S1x1024, .f32⟩
  | .hbm, ⟨17, _⟩ => ⟨S1x1024, .f32⟩
  | .hbm, ⟨18, _⟩ => ⟨S8x4x32x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S16x1024, .f32⟩
  | .local _ .vmem, ⟨13, _⟩ => ⟨S16x1024, .f32⟩
  | .local _ .vmem, ⟨14, _⟩ => ⟨S8x128x128, .f32⟩
  | .local _ .vmem, ⟨15, _⟩ => ⟨S128x8, .f32⟩
  | .local _ .vmem, ⟨16, _⟩ => ⟨S1x1024, .f32⟩
  | .local _ .vmem, ⟨17, _⟩ => ⟨S8x4x32x256, .bf16⟩
  | .local _ .vmem, ⟨18, _⟩ => ⟨S1x1024, .f32⟩
  | .local _ .vmem, ⟨19, _⟩ => ⟨S512x3072, .bf16⟩
  | .local _ .vmem, ⟨20, _⟩ => ⟨S512x3072, .bf16⟩
  | .local _ .vmem, ⟨21, _⟩ => ⟨S8x128x128, .f32⟩
  | .local _ .vmem, ⟨22, _⟩ => ⟨S128x8, .f32⟩
  | .local _ .vmem, ⟨23, _⟩ => ⟨S1x1024, .f32⟩
  | .local _ .vmem, ⟨24, _⟩ => ⟨S1x1024, .f32⟩
  | .local _ .vmem, ⟨25, _⟩ => ⟨S8x4x32x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4x32x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x4x32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x3072 : Shape := ⟨2, ![4096, 3072]⟩
abbrev S4096x2048 : Shape := ⟨2, ![4096, 2048]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S1x4096x3072 : Shape := ⟨3, ![1, 4096, 3072]⟩
abbrev S1x4096x1024 : Shape := ⟨3, ![1, 4096, 1024]⟩
abbrev S_ : Shape := ⟨0, ![]⟩
abbrev S8x128x128 : Shape := ⟨3, ![8, 128, 128]⟩
abbrev S8x128 : Shape := ⟨2, ![8, 128]⟩
abbrev S1024 : Shape := ⟨1, ![1024]⟩
abbrev S1x4096x8x128 : Shape := ⟨4, ![1, 4096, 8, 128]⟩
abbrev S1x4096x8 : Shape := ⟨3, ![1, 4096, 8]⟩
abbrev S1x4096x8x1 : Shape := ⟨4, ![1, 4096, 8, 1]⟩
abbrev S1x1x8x128 : Shape := ⟨4, ![1, 1, 8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4x256x256 : Shape := ⟨3, ![4, 256, 256]⟩
abbrev S1x4096x4x256 : Shape := ⟨4, ![1, 4096, 4, 256]⟩
abbrev S1x1x4x256 : Shape := ⟨4, ![1, 1, 4, 256]⟩
abbrev S1x4097x4x256 : Shape := ⟨4, ![1, 4097, 4, 256]⟩
abbrev S4096 : Shape := ⟨1, ![4096]⟩
abbrev S1x4097x1x256 : Shape := ⟨4, ![1, 4097, 1, 256]⟩
abbrev S1x4097x256 : Shape := ⟨3, ![1, 4097, 256]⟩
abbrev S1x1x256 : Shape := ⟨3, ![1, 1, 256]⟩
abbrev S1x4095x256 : Shape := ⟨3, ![1, 4095, 256]⟩
abbrev S1x4096x256 : Shape := ⟨3, ![1, 4096, 256]⟩
abbrev S1x4096x1 : Shape := ⟨3, ![1, 4096, 1]⟩
abbrev S1x4096x1x256 : Shape := ⟨4, ![1, 4096, 1, 256]⟩
abbrev S1x3x256 : Shape := ⟨3, ![1, 3, 256]⟩
abbrev S1x4093x256 : Shape := ⟨3, ![1, 4093, 256]⟩
abbrev S1x7x256 : Shape := ⟨3, ![1, 7, 256]⟩
abbrev S1x4089x256 : Shape := ⟨3, ![1, 4089, 256]⟩
abbrev S1x15x256 : Shape := ⟨3, ![1, 15, 256]⟩
abbrev S1x4081x256 : Shape := ⟨3, ![1, 4081, 256]⟩
abbrev S4x256x1x4096 : Shape := ⟨4, ![4, 256, 1, 4096]⟩
abbrev S1x1x1024 : Shape := ⟨3, ![1, 1, 1024]⟩
abbrev S1x4096x2048 : Shape := ⟨3, ![1, 4096, 2048]⟩
abbrev S4x1x4096x256 : Shape := ⟨4, ![4, 1, 4096, 256]⟩
abbrev S1x128x8 : Shape := ⟨3, ![1, 128, 8]⟩
abbrev S4096x8 : Shape := ⟨2, ![4096, 8]⟩
abbrev S4x8x32x256 : Shape := ⟨4, ![4, 8, 32, 256]⟩
abbrev S8x4x32x256 : Shape := ⟨4, ![8, 4, 32, 256]⟩

abbrev nBuf : Space → Nat
  | .hbm => 454
  | .vmem => 0
  | .smem => 0
  | _ => 0

abbrev hbmTy0_0 (i : Nat) : BufTy := match i % 128 with
  | 0 => ⟨S4096x3072, .f32⟩
  | 1 => ⟨S4096x2048, .f32⟩
  | 2 => ⟨S1x8x128x128, .f32⟩
  | 3 => ⟨S1x8x128, .f32⟩
  | 4 => ⟨S1x1024, .f32⟩
  | 5 => ⟨S1x4x256x256, .f32⟩
  | 6 => ⟨S1x1024, .f32⟩
  | 7 => ⟨S1x4096x3072, .f32⟩
  | 8 => ⟨S1x4096x1024, .f32⟩
  | 9 => ⟨S1x4096x1024, .f32⟩
  | 10 => ⟨S1x4096x1024, .f32⟩
  | 11 => ⟨S1x4096x1024, .f32⟩
  | 12 => ⟨S_, .f32⟩
  | 13 => ⟨S1x4096x1024, .f32⟩
  | 14 => ⟨S1x4096x1024, .f32⟩
  | 15 => ⟨S_, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S_, .f32⟩
  | 30 => ⟨S1x4096x1024, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S1x4096x1024, .f32⟩
  | 58 => ⟨S_, .f32⟩
  | 59 => ⟨S1x4096x1024, .f32⟩
  | 60 => ⟨S1x4096x1024, .f32⟩
  | 61 => ⟨S_, .f32⟩
  | 62 => ⟨S1x4096x1024, .f32⟩
  | 63 => ⟨S1x4096x1024, .f32⟩
  | 64 => ⟨S1x4096x1024, .f32⟩
  | 65 => ⟨S_, .f32⟩
  | 66 => ⟨S1x4096x1024, .f32⟩
  | 67 => ⟨S1x4096x1024, .f32⟩
  | 68 => ⟨S_, .f32⟩
  | 69 => ⟨S1x4096x1024, .f32⟩
  | 70 => ⟨S1x4096x1024, .f32⟩
  | 71 => ⟨S1x4096x1024, .f32⟩
  | 72 => ⟨S1x4096x1024, .f32⟩
  | 73 => ⟨S8x128x128, .f32⟩
  | 74 => ⟨S8x128, .f32⟩
  | 75 => ⟨S1024, .f32⟩
  | 76 => ⟨S1x4096x8x128, .f32⟩
  | 77 => ⟨S8x128, .f32⟩
  | 78 => ⟨S1x4096x8x128, .f32⟩
  | 79 => ⟨S_, .f32⟩
  | 80 => ⟨S1x4096x8, .f32⟩
  | 81 => ⟨S1x4096x8x1, .f32⟩
  | 82 => ⟨S_, .f32⟩
  | 83 => ⟨S1x4096x8x1, .f32⟩
  | 84 => ⟨S1x4096x8x1, .f32⟩
  | 85 => ⟨S_, .f32⟩
  | 86 => ⟨S1x4096x8x1, .f32⟩
  | 87 => ⟨S1x4096x8x1, .f32⟩
  | 88 => ⟨S1x4096x8x1, .f32⟩
  | 89 => ⟨S1x4096x8x1, .f32⟩
  | 90 => ⟨S_, .f32⟩
  | 91 => ⟨S1x4096x8x1, .f32⟩
  | 92 => ⟨S1x4096x8x1, .f32⟩
  | 93 => ⟨S1x4096x8x128, .f32⟩
  | 94 => ⟨S1x4096x8x128, .f32⟩
  | 95 => ⟨S1x1x8x128, .f32⟩
  | 96 => ⟨S1x4096x8x128, .f32⟩
  | 97 => ⟨S1x4096x8x128, .f32⟩
  | 98 => ⟨S1x32x128x8x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S1x128x128, .i1⟩
  | 111 => ⟨S_, .f32⟩
  | 112 => ⟨S8x128x128, .f32⟩
  | 113 => ⟨S8x128x128, .i1⟩
  | 114 => ⟨S8x128x128, .f32⟩
  | 115 => ⟨S_, .f32⟩
  | 116 => ⟨S8x128x128, .f32⟩
  | 117 => ⟨S8x1x32x128x128, .f32⟩
  | 118 => ⟨S1x32x128x8x128, .f32⟩
  | 119 => ⟨S128x8, .f32⟩
  | 120 => ⟨S1x1x128x8x1, .f32⟩
  | 121 => ⟨S1x32x128x8x128, .f32⟩
  | 122 => ⟨S1x32x128x8x128, .f32⟩
  | 123 => ⟨S1x4096x1024, .f32⟩
  | 124 => ⟨S1x4096x1024, .f32⟩
  | 125 => ⟨S4x256x256, .f32⟩
  | 126 => ⟨S1024, .f32⟩
  | 127 => ⟨S1x4096x4x256, .f32⟩
  | _ => ⟨S4096x3072, .f32⟩

abbrev hbmTy0_1 (i : Nat) : BufTy := match i % 128 with
  | 0 => ⟨S_, .f32⟩
  | 1 => ⟨S_, .f32⟩
  | 2 => ⟨S1x4096x4x256, .f32⟩
  | 3 => ⟨S1x1x4x256, .f32⟩
  | 4 => ⟨S_, .f32⟩
  | 5 => ⟨S1x1x4x256, .f32⟩
  | 6 => ⟨S1x4097x4x256, .f32⟩
  | 7 => ⟨S_, .f32⟩
  | 8 => ⟨S1x1x4x256, .f32⟩
  | 9 => ⟨S4096, .i32⟩
  | 10 => ⟨S1x4097x1x256, .f32⟩
  | 11 => ⟨S1x4097x256, .f32⟩
  | 12 => ⟨S1x1x256, .f32⟩
  | 13 => ⟨S_, .f32⟩
  | 14 => ⟨S1x1x256, .f32⟩
  | 15 => ⟨S1x4095x256, .f32⟩
  | 16 => ⟨S1x4096x256, .f32⟩
  | 17 => ⟨S_, .f32⟩
  | 18 => ⟨S1x1x256, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S1x4096x1, .f32⟩
  | 27 => ⟨S1x4096x256, .f32⟩
  | 28 => ⟨S1x4096x256, .f32⟩
  | 29 => ⟨S1x4096x256, .f32⟩
  | 30 => ⟨S1x4096x256, .f32⟩
  | 31 => ⟨S1x4096x1x256, .f32⟩
  | 32 => ⟨S1x4096x256, .f32⟩
  | 33 => ⟨S1x4096x256, .f32⟩
  | 34 => ⟨S1x4097x1x256, .f32⟩
  | 35 => ⟨S1x4097x256, .f32⟩
  | 36 => ⟨S1x3x256, .f32⟩
  | 37 => ⟨S_, .f32⟩
  | 38 => ⟨S1x3x256, .f32⟩
  | 39 => ⟨S1x4093x256, .f32⟩
  | 40 => ⟨S1x4096x256, .f32⟩
  | 41 => ⟨S_, .f32⟩
  | 42 => ⟨S1x3x256, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .f32⟩
  | 50 => ⟨S1x4096x1, .f32⟩
  | 51 => ⟨S1x4096x256, .f32⟩
  | 52 => ⟨S1x4096x256, .f32⟩
  | 53 => ⟨S1x4096x256, .f32⟩
  | 54 => ⟨S1x4096x256, .f32⟩
  | 55 => ⟨S1x4096x1x256, .f32⟩
  | 56 => ⟨S1x4096x256, .f32⟩
  | 57 => ⟨S1x4096x256, .f32⟩
  | 58 => ⟨S1x4097x1x256, .f32⟩
  | 59 => ⟨S1x4097x256, .f32⟩
  | 60 => ⟨S1x7x256, .f32⟩
  | 61 => ⟨S_, .f32⟩
  | 62 => ⟨S1x7x256, .f32⟩
  | 63 => ⟨S1x4089x256, .f32⟩
  | 64 => ⟨S1x4096x256, .f32⟩
  | 65 => ⟨S_, .f32⟩
  | 66 => ⟨S1x7x256, .f32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S1x4096x1, .f32⟩
  | 75 => ⟨S1x4096x256, .f32⟩
  | 76 => ⟨S1x4096x256, .f32⟩
  | 77 => ⟨S1x4096x256, .f32⟩
  | 78 => ⟨S1x4096x256, .f32⟩
  | 79 => ⟨S1x4096x1x256, .f32⟩
  | 80 => ⟨S1x4096x256, .f32⟩
  | 81 => ⟨S1x4096x256, .f32⟩
  | 82 => ⟨S1x4097x1x256, .f32⟩
  | 83 => ⟨S1x4097x256, .f32⟩
  | 84 => ⟨S1x15x256, .f32⟩
  | 85 => ⟨S_, .f32⟩
  | 86 => ⟨S1x15x256, .f32⟩
  | 87 => ⟨S1x4081x256, .f32⟩
  | 88 => ⟨S1x4096x256, .f32⟩
  | 89 => ⟨S_, .f32⟩
  | 90 => ⟨S1x15x256, .f32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .f32⟩
  | 98 => ⟨S1x4096x1, .f32⟩
  | 99 => ⟨S1x4096x256, .f32⟩
  | 100 => ⟨S1x4096x256, .f32⟩
  | 101 => ⟨S1x4096x256, .f32⟩
  | 102 => ⟨S1x4096x256, .f32⟩
  | 103 => ⟨S1x4096x1x256, .f32⟩
  | 104 => ⟨S1x4096x256, .f32⟩
  | 105 => ⟨S1x4096x256, .f32⟩
  | 106 => ⟨S1x4096x1x256, .f32⟩
  | 107 => ⟨S1x4096x1x256, .f32⟩
  | 108 => ⟨S1x4096x1x256, .f32⟩
  | 109 => ⟨S1x4096x1x256, .f32⟩
  | 110 => ⟨S1x4096x4x256, .f32⟩
  | 111 => ⟨S4x256x1x4096, .f32⟩
  | 112 => ⟨S1x4096x4x256, .f32⟩
  | 113 => ⟨S1x4096x1024, .f32⟩
  | 114 => ⟨S1x1x1024, .f32⟩
  | 115 => ⟨S1x4096x1024, .f32⟩
  | 116 => ⟨S1x4096x1024, .f32⟩
  | 117 => ⟨S1x4096x2048, .f32⟩
  | 118 => ⟨S4096x2048, .f32⟩
  | 119 => ⟨S1x4096x2048, .f32⟩
  | 120 => ⟨S1x4096x1024, .f32⟩
  | 121 => ⟨S1x4096x1024, .f32⟩
  | 122 => ⟨S1x4096x1024, .f32⟩
  | 123 => ⟨S_, .f32⟩
  | 124 => ⟨S1x1024, .f32⟩
  | 125 => ⟨S1x1x1024, .f32⟩
  | 126 => ⟨S1x4096x1024, .f32⟩
  | 127 => ⟨S1x4096x1024, .f32⟩
  | _ => ⟨S4096x3072, .f32⟩

abbrev hbmTy0_2 (i : Nat) : BufTy := match i % 128 with
  | 0 => ⟨S_, .f32⟩
  | 1 => ⟨S1024, .f32⟩
  | 2 => ⟨S1x4096x4x256, .f32⟩
  | 3 => ⟨S4x256x1x4096, .f32⟩
  | 4 => ⟨S4x1x4096x256, .f32⟩
  | 5 => ⟨S1x4096x4x256, .f32⟩
  | 6 => ⟨S4x256x256, .f32⟩
  | 7 => ⟨S4x256x256, .f32⟩
  | 8 => ⟨S1x4096x1x256, .f32⟩
  | 9 => ⟨S1x4096x256, .f32⟩
  | 10 => ⟨S1x4096x1x256, .f32⟩
  | 11 => ⟨S1x4096x256, .f32⟩
  | 12 => ⟨S1x4096x1x256, .f32⟩
  | 13 => ⟨S1x4096x256, .f32⟩
  | 14 => ⟨S1x4096x1x256, .f32⟩
  | 15 => ⟨S1x4096x256, .f32⟩
  | 16 => ⟨S1x4096x256, .f32⟩
  | 17 => ⟨S1x4096x1x256, .f32⟩
  | 18 => ⟨S_, .f32⟩
  | 19 => ⟨S1x4096x4x256, .f32⟩
  | 20 => ⟨S1x4096x256, .f32⟩
  | 21 => ⟨S1x4096x256, .f32⟩
  | 22 => ⟨S1x4096x256, .f32⟩
  | 23 => ⟨S_, .f32⟩
  | 24 => ⟨S1x4097x256, .f32⟩
  | 25 => ⟨S1x15x256, .f32⟩
  | 26 => ⟨S1x4081x256, .f32⟩
  | 27 => ⟨S_, .f32⟩
  | 28 => ⟨S1x4097x256, .f32⟩
  | 29 => ⟨S1x4097x256, .f32⟩
  | 30 => ⟨S1x4097x1x256, .f32⟩
  | 31 => ⟨S_, .f32⟩
  | 32 => ⟨S1x4097x4x256, .f32⟩
  | 33 => ⟨S1x4096x256, .f32⟩
  | 34 => ⟨S1x4096x1x256, .f32⟩
  | 35 => ⟨S_, .f32⟩
  | 36 => ⟨S1x4096x4x256, .f32⟩
  | 37 => ⟨S1x4096x4x256, .f32⟩
  | 38 => ⟨S1x4096x256, .f32⟩
  | 39 => ⟨S1x4096x256, .f32⟩
  | 40 => ⟨S1x4096x256, .f32⟩
  | 41 => ⟨S_, .f32⟩
  | 42 => ⟨S1x4097x256, .f32⟩
  | 43 => ⟨S1x7x256, .f32⟩
  | 44 => ⟨S1x4089x256, .f32⟩
  | 45 => ⟨S_, .f32⟩
  | 46 => ⟨S1x4097x256, .f32⟩
  | 47 => ⟨S1x4097x256, .f32⟩
  | 48 => ⟨S1x4097x1x256, .f32⟩
  | 49 => ⟨S_, .f32⟩
  | 50 => ⟨S1x4097x4x256, .f32⟩
  | 51 => ⟨S1x4097x4x256, .f32⟩
  | 52 => ⟨S1x4096x256, .f32⟩
  | 53 => ⟨S1x4096x1x256, .f32⟩
  | 54 => ⟨S_, .f32⟩
  | 55 => ⟨S1x4096x4x256, .f32⟩
  | 56 => ⟨S1x4096x4x256, .f32⟩
  | 57 => ⟨S1x4096x256, .f32⟩
  | 58 => ⟨S1x4096x256, .f32⟩
  | 59 => ⟨S1x4096x256, .f32⟩
  | 60 => ⟨S_, .f32⟩
  | 61 => ⟨S1x4097x256, .f32⟩
  | 62 => ⟨S1x3x256, .f32⟩
  | 63 => ⟨S1x4093x256, .f32⟩
  | 64 => ⟨S_, .f32⟩
  | 65 => ⟨S1x4097x256, .f32⟩
  | 66 => ⟨S1x4097x256, .f32⟩
  | 67 => ⟨S1x4097x1x256, .f32⟩
  | 68 => ⟨S_, .f32⟩
  | 69 => ⟨S1x4097x4x256, .f32⟩
  | 70 => ⟨S1x4097x4x256, .f32⟩
  | 71 => ⟨S1x4096x256, .f32⟩
  | 72 => ⟨S1x4096x1x256, .f32⟩
  | 73 => ⟨S_, .f32⟩
  | 74 => ⟨S1x4096x4x256, .f32⟩
  | 75 => ⟨S1x4096x4x256, .f32⟩
  | 76 => ⟨S1x4096x256, .f32⟩
  | 77 => ⟨S1x4096x256, .f32⟩
  | 78 => ⟨S1x4096x256, .f32⟩
  | 79 => ⟨S_, .f32⟩
  | 80 => ⟨S1x4097x256, .f32⟩
  | 81 => ⟨S1x1x256, .f32⟩
  | 82 => ⟨S1x4095x256, .f32⟩
  | 83 => ⟨S_, .f32⟩
  | 84 => ⟨S1x4097x256, .f32⟩
  | 85 => ⟨S1x4097x256, .f32⟩
  | 86 => ⟨S1x4097x1x256, .f32⟩
  | 87 => ⟨S_, .f32⟩
  | 88 => ⟨S1x4097x4x256, .f32⟩
  | 89 => ⟨S1x4097x4x256, .f32⟩
  | 90 => ⟨S1x1x4x256, .f32⟩
  | 91 => ⟨S1x4096x4x256, .f32⟩
  | 92 => ⟨S_, .f32⟩
  | 93 => ⟨S_, .f32⟩
  | 94 => ⟨S1x4096x4x256, .f32⟩
  | 95 => ⟨S1x4096x4x256, .f32⟩
  | 96 => ⟨S1x4096x1024, .f32⟩
  | 97 => ⟨S1x1024, .f32⟩
  | 98 => ⟨S1x4x256x256, .f32⟩
  | 99 => ⟨S1x4096x1024, .f32⟩
  | 100 => ⟨S1x4096x1024, .f32⟩
  | 101 => ⟨S1x32x128x8x128, .f32⟩
  | 102 => ⟨S_, .f32⟩
  | 103 => ⟨S1x128x8, .f32⟩
  | 104 => ⟨S1x1x128x8x1, .f32⟩
  | 105 => ⟨S_, .f32⟩
  | 106 => ⟨S128x8, .f32⟩
  | 107 => ⟨S8x128, .f32⟩
  | 108 => ⟨S8x1x32x128x128, .f32⟩
  | 109 => ⟨S8x128x128, .f32⟩
  | 110 => ⟨S8x1x32x128x128, .f32⟩
  | 111 => ⟨S1x32x128x8x128, .f32⟩
  | 112 => ⟨S_, .f32⟩
  | 113 => ⟨S8x128x128, .f32⟩
  | 114 => ⟨S8x128x128, .f32⟩
  | 115 => ⟨S1x4096x8x128, .f32⟩
  | 116 => ⟨S1x4096x8x128, .f32⟩
  | 117 => ⟨S_, .f32⟩
  | 118 => ⟨S1x8x128, .f32⟩
  | 119 => ⟨S1x1x8x128, .f32⟩
  | 120 => ⟨S1x4096x8x128, .f32⟩
  | 121 => ⟨S1x4096x8x128, .f32⟩
  | 122 => ⟨S_, .f32⟩
  | 123 => ⟨S8x128, .f32⟩
  | 124 => ⟨S1x4096x8x128, .f32⟩
  | 125 => ⟨S_, .f32⟩
  | 126 => ⟨S1x4096x8, .f32⟩
  | 127 => ⟨S1x4096x8x1, .f32⟩
  | _ => ⟨S4096x3072, .f32⟩

abbrev hbmTy0_3 (i : Nat) : BufTy := match i % 128 with
  | 0 => ⟨S1x4096x8x128, .f32⟩
  | 1 => ⟨S1x4096x8x128, .f32⟩
  | 2 => ⟨S1x4096x8x1, .f32⟩
  | 3 => ⟨S_, .f32⟩
  | 4 => ⟨S1x4096x8x1, .f32⟩
  | 5 => ⟨S1x4096x8x1, .f32⟩
  | 6 => ⟨S_, .f32⟩
  | 7 => ⟨S4096x8, .f32⟩
  | 8 => ⟨S1x4096x8, .f32⟩
  | 9 => ⟨S1x4096x8x128, .f32⟩
  | 10 => ⟨S1x4096x8x128, .f32⟩
  | 11 => ⟨S1x4096x8x128, .f32⟩
  | 12 => ⟨S1x4096x8x128, .f32⟩
  | 13 => ⟨S1x4096x8x128, .f32⟩
  | 14 => ⟨S1024, .f32⟩
  | 15 => ⟨S1x4096x1024, .f32⟩
  | 16 => ⟨S1x1024, .f32⟩
  | 17 => ⟨S1x8x128, .f32⟩
  | 18 => ⟨S1x8x128x128, .f32⟩
  | 19 => ⟨S_, .f32⟩
  | 20 => ⟨S1x4096x3072, .f32⟩
  | 21 => ⟨S1x4096x1024, .f32⟩
  | 22 => ⟨S1x4096x1024, .f32⟩
  | 23 => ⟨S_, .f32⟩
  | 24 => ⟨S1x4096x1024, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S1x4096x1024, .f32⟩
  | 38 => ⟨S1x4096x1024, .f32⟩
  | 39 => ⟨S_, .f32⟩
  | 40 => ⟨S1x4096x3072, .f32⟩
  | 41 => ⟨S1x4096x3072, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S1x4096x1024, .f32⟩
  | 48 => ⟨S_, .f32⟩
  | 49 => ⟨S1x4096x1024, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S1x4096x1024, .f32⟩
  | 59 => ⟨S1x4096x1024, .f32⟩
  | 60 => ⟨S_, .f32⟩
  | 61 => ⟨S1x4096x3072, .f32⟩
  | 62 => ⟨S1x4096x3072, .f32⟩
  | 63 => ⟨S4096x3072, .f32⟩
  | 64 => ⟨S4096x3072, .bf16⟩
  | 65 => ⟨S8x128x128, .f32⟩
  | 66 => ⟨S8x128, .f32⟩
  | 67 => ⟨S128x8, .f32⟩
  | 68 => ⟨S4x8x32x256, .f32⟩
  | 69 => ⟨S8x4x32x256, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c : Ref sig .tc := ⟨.hbm, 99, rfl⟩
abbrev main_v72 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_c_0 : Ref sig .tc := ⟨.hbm, 107, rfl⟩
abbrev main_call0_v5 : Ref sig .tc := ⟨.hbm, 108, rfl⟩
abbrev main_v73 : Ref sig .tc := ⟨.hbm, 109, rfl⟩
abbrev main_v74 : Ref sig .tc := ⟨.hbm, 110, rfl⟩
abbrev main_cst_19 : Ref sig .tc := ⟨.hbm, 111, rfl⟩
abbrev main_v75 : Ref sig .tc := ⟨.hbm, 112, rfl⟩
abbrev main_v76_1 : Ref sig .tc := ⟨.hbm, 113, rfl⟩
abbrev main_v76_0 : Ref sig .tc := ⟨.hbm, 114, rfl⟩
abbrev main_call1_cst : Ref sig .tc := ⟨.hbm, 115, rfl⟩
abbrev main_v76_2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_call0_cst : Ref sig .tc := ⟨.hbm, 128, rfl⟩
abbrev main_call2_call0_v0 : Ref sig .tc := ⟨.hbm, 129, rfl⟩
abbrev main_v88 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_22 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_23 : Ref sig .tc := ⟨.hbm, 145, rfl⟩
abbrev main_v100 : Ref sig .tc := ⟨.hbm, 146, rfl⟩
abbrev main_c_24 : Ref sig .tc := ⟨.hbm, 147, rfl⟩
abbrev main_v101 : Ref sig .tc := ⟨.hbm, 148, rfl⟩
abbrev main_v102 : Ref sig .tc := ⟨.hbm, 149, rfl⟩
abbrev main_c_25 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_c_28 : Ref sig .tc := ⟨.hbm, 171, rfl⟩
abbrev main_v121 : Ref sig .tc := ⟨.hbm, 172, rfl⟩
abbrev main_v122 : Ref sig .tc := ⟨.hbm, 173, rfl⟩
abbrev main_c_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_30 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_31 : Ref sig .tc := ⟨.hbm, 193, rfl⟩
abbrev main_v140 : Ref sig .tc := ⟨.hbm, 194, rfl⟩
abbrev main_c_32 : Ref sig .tc := ⟨.hbm, 195, rfl⟩
abbrev main_v141 : Ref sig .tc := ⟨.hbm, 196, rfl⟩
abbrev main_v142 : Ref sig .tc := ⟨.hbm, 197, rfl⟩
abbrev main_c_33 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_34 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_35 : Ref sig .tc := ⟨.hbm, 217, rfl⟩
abbrev main_v160 : Ref sig .tc := ⟨.hbm, 218, rfl⟩
abbrev main_c_36 : Ref sig .tc := ⟨.hbm, 219, rfl⟩
abbrev main_v161 : Ref sig .tc := ⟨.hbm, 220, rfl⟩
abbrev main_v162 : Ref sig .tc := ⟨.hbm, 221, rfl⟩
abbrev main_c_37 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_38 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_39 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_cst_40 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_41 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_cst_42 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_43 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_44 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_cst_45 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_cst_46 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_cst_47 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_48 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_cst_49 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_cst_50 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_cst_51 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_cst_52 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_cst_53 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_cst_54 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_cst_55 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_call3_call0_cst : Ref sig .tc := ⟨.hbm, 348, rfl⟩
abbrev main_call3_call0_v0 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_cst_56 : Ref sig .tc := ⟨.hbm, 358, rfl⟩
abbrev main_v278 : Ref sig .tc := ⟨.hbm, 359, rfl⟩
abbrev main_v279 : Ref sig .tc := ⟨.hbm, 360, rfl⟩
abbrev main_cst_57 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_call4_cst : Ref sig .tc := ⟨.hbm, 368, rfl⟩
abbrev main_call4_v0 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_cst_58 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_cst_59 : Ref sig .tc := ⟨.hbm, 378, rfl⟩
abbrev main_v293 : Ref sig .tc := ⟨.hbm, 379, rfl⟩
abbrev main_v294 : Ref sig .tc := ⟨.hbm, 380, rfl⟩
abbrev main_cst_60 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_cst_61 : Ref sig .tc := ⟨.hbm, 387, rfl⟩
abbrev main_v300 : Ref sig .tc := ⟨.hbm, 388, rfl⟩
abbrev main_v301 : Ref sig .tc := ⟨.hbm, 389, rfl⟩
abbrev main_cst_62 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_cst_63 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_cst_64 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_cst_65 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_cst_66 : Ref sig .tc := ⟨.hbm, 415, rfl⟩
abbrev main_v323 : Ref sig .tc := ⟨.hbm, 416, rfl⟩
abbrev main_v324 : Ref sig .tc := ⟨.hbm, 417, rfl⟩
abbrev main_cst_67 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_v328 : Ref sig .tc := ⟨.hbm, 422, rfl⟩
abbrev main_cst_68 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_cst_69 : Ref sig .tc := ⟨.hbm, 428, rfl⟩
abbrev main_v333 : Ref sig .tc := ⟨.hbm, 429, rfl⟩
abbrev main_v334 : Ref sig .tc := ⟨.hbm, 430, rfl⟩
abbrev main_v335 : Ref sig .tc := ⟨.hbm, 431, rfl⟩
abbrev main_cst_70 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_cst_71 : Ref sig .tc := ⟨.hbm, 436, rfl⟩
abbrev main_v339 : Ref sig .tc := ⟨.hbm, 437, rfl⟩
abbrev main_v340 : Ref sig .tc := ⟨.hbm, 438, rfl⟩
abbrev main_cst_72 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_v344 : Ref sig .tc := ⟨.hbm, 443, rfl⟩
abbrev main_cst_73 : Ref sig .tc := ⟨.hbm, 444, rfl⟩
abbrev main_v345 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩

abbrev nD : Nat := 1
abbrev τ : Topo := Topo.v7x

variable {F : FTy → Type} [FloatOps F]
-- ==== KernelDown.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 13
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x2048, .bf16⟩
  | .hbm, ⟨12, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S2048x8192, .f32⟩
  | .hbm, ⟨17, _⟩ => ⟨S8192x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelAct.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 14
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x2048, .bf16⟩
  | .hbm, ⟨12, _⟩ => ⟨S8192x2048, .bf16⟩
  | .hbm, ⟨13, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceActIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S2048x8192, .f32⟩
  | .hbm, ⟨17, _⟩ => ⟨S8192x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelUp.lean ====
abbrev S4096x2048 : Shape := ⟨2, ![4096, 2048]⟩
abbrev S2048x8192 : Shape := ⟨2, ![2048, 8192]⟩
abbrev S4096x8192 : Shape := ⟨2, ![4096, 8192]⟩
abbrev S8x2048x1024 : Shape := ⟨3, ![8, 2048, 1024]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S8x2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh2.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x8192, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x1024, .bf16⟩
  | .local _ .vmem, ⟨3, _⟩ => ⟨S2x2048x1024, .bf16⟩
  | .local _ .vmem, ⟨4, _⟩ => ⟨S1024x2048, .f32⟩
  | .local _ .vmem, ⟨5, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh2Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelIn.lean ====
abbrev S4096x2048 : Shape := ⟨2, ![4096, 2048]⟩
abbrev S2048x3072 : Shape := ⟨2, ![2048, 3072]⟩
abbrev S4096x3072 : Shape := ⟨2, ![4096, 3072]⟩
abbrev S8x2048x384 : Shape := ⟨3, ![8, 2048, 384]⟩
abbrev S2048x2048 : Shape := ⟨2, ![2048, 2048]⟩
abbrev S2048x768 : Shape := ⟨2, ![2048, 768]⟩
abbrev S2x2048x384 : Shape := ⟨3, ![2, 2048, 384]⟩
abbrev S2048x384 : Shape := ⟨2, ![2048, 384]⟩
abbrev S1x2048x384 : Shape := ⟨3, ![1, 2048, 384]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S4096x2048, .bf16⟩
  | .hbm, ⟨4, _⟩ => ⟨S4096x3072, .bf16⟩
  | .hbm, ⟨5, _⟩ => ⟨S8x2048x384, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S2x2048x384, .bf16⟩
  | .local _ .vmem, ⟨5, _⟩ => ⟨S2x2048x384, .bf16⟩
  | .local _ .vmem, ⟨6, _⟩ => ⟨S2048x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x2048 : Shape := ⟨2, ![4096, 2048]⟩
abbrev S2048x3072 : Shape := ⟨2, ![2048, 3072]⟩
abbrev S4096x3072 : Shape := ⟨2, ![4096, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S4096x3072, .f32⟩
  | .hbm, ⟨4, _⟩ => ⟨S3072x2048, .f32⟩
  | .hbm, ⟨5, _⟩ => ⟨S2048x3072, .f32⟩
  | .hbm, ⟨6, _⟩ => ⟨S4096x2048, .f32⟩
  | .hbm, ⟨7, _⟩ => ⟨S2048x8x384, .f32⟩
  | .hbm, ⟨8, _⟩ => ⟨S8x2048x384, .f32⟩
  | .hbm, ⟨9, _⟩ => ⟨S8x2048x384, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh1.lean ====
abbrev S4096x2048 : Shape := ⟨2, ![4096, 2048]⟩
abbrev S2048x3072 : Shape := ⟨2, ![2048, 3072]⟩
abbrev S4096x3072 : Shape := ⟨2, ![4096, 3072]⟩
abbrev S2048x8x384 : Shape := ⟨3, ![2048, 8, 384]⟩
abbrev S8x2048x384 : Shape := ⟨3, ![8, 2048, 384]⟩
abbrev S1024x768 : Shape := ⟨2, ![1024, 768]⟩
abbrev S2x2048x384 : Shape := ⟨3, ![2, 2048, 384]⟩
abbrev S1024x2048 : Shape := ⟨2, ![1024, 2048]⟩
abbrev S1x2048x384 : Shape := ⟨3, ![1, 2048, 384]⟩
abbrev S2048x384 : Shape := ⟨2, ![2048, 384]⟩
abbrev S2048x768 : Shape := ⟨2, ![2048, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S2048x8x384, .f32⟩
  | .hbm, ⟨4, _⟩ => ⟨S8x2048x384, .f32⟩
  | .hbm, ⟨5, _⟩ => ⟨S8x2048x384, .bf16⟩
  | .hbm, ⟨6, _⟩ => ⟨S4096x3072, .bf16⟩
  | .hbm, ⟨7, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S2x2048x384, .bf16⟩
  | .local _ .vmem, ⟨3, _⟩ => ⟨S2x2048x384, .bf16⟩
  | .local _ .vmem, ⟨4, _⟩ => ⟨S1024x2048, .f32⟩
  | .local _ .vmem, ⟨5, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDh1Ideal.lean ====
abbrev S4096x2048 : Shape := ⟨2, ![4096, 2048]⟩
abbrev S2048x3072 : Shape := ⟨2, ![2048, 3072]⟩
abbrev S4096x3072 : Shape := ⟨2, ![4096, 3072]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S4096x3072, .f32⟩
  | .hbm, ⟨4, _⟩ => ⟨S3072x2048, .f32⟩
  | .hbm, ⟨5, _⟩ => ⟨S2048x3072, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOut.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDmixed.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDmixedIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelFfn.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFfnIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelLoss.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S8x128, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S8x128, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLossIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S8x128, .f32⟩
  | .hbm, ⟨75, _⟩ => ⟨S4096x2048, .bf16⟩
  | .hbm, ⟨76, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Mixer.Body.lean ====
module

public import proofs.«01_k».proof.Proof.Gen.KernelIdeal.Value
public import Idealize.ShloMosaic.Lib.Pipeline.ReadBack

/-! What one grid point of the kernel stores, head by head and group by group.

The kernel's text is written out eight times for the heads and four times for the pooling groups.  Here one head and one
group are named once, as functions of the blocks loaded, and each stored piece of the generated run is shown to be that
function at its head or group. -/

@[expose] public section

set_option maxRecDepth 16384

noncomputable section

namespace Cert.Mixer

open Cert.KernelIdeal Cert.KernelIdeal.Gen Idealize.ShloMosaic Idealize.ShloMosaic.TcCoe Idealize.SL.Sem

section Stack

variable {sig : RefSig} {κ : Kind} {sp : Space} {s : Shape} {e : EltTy} {Val : EltTy → Type} [∀ e, Nonempty (Val e)]

/-- The writes of a buffer that is filled once with `Z` and then, rectangle by rectangle, read and written again. -/
def stack (v : View sig κ sp s e) (Z : View.Piece Val s e) {n : ℕ} (R : Fin n → Rect s)
    (P : ∀ k, ((R k).shape.Idx → Val e) → (R k).shape.Idx → Val e) : List (Fin n) → List (View.Piece Val s e)
  | [] => [Z]
  | k :: ks => ⟨R k, P k (v.readCov (stack v Z R P ks) (R k).toLoadRect)⟩ :: stack v Z R P ks

/-- The writes of a buffer that holds `X` and is read and written again rectangle by rectangle. -/
def stackOver (X : s.Idx → Val e) {n : ℕ} (R : Fin n → Rect s)
    (P : ∀ k, ((R k).shape.Idx → Val e) → (R k).shape.Idx → Val e) : List (Fin n) → List (View.Piece Val s e)
  | [] => []
  | k :: ks => ⟨R k, P k (View.ld X (R k))⟩ :: stackOver X R P ks

/-- A rectangle not written yet still reads the fill. -/
theorem readCov_stack (v : View sig κ sp s e) {off : Fin s.rank → ℕ} (inb : ∀ a, off a + s.size a ≤ s.size a)
    (X : s.Idx → Val e) (hoff : ∀ a, off a = 0) {n : ℕ} (R : Fin n → Rect s)
    (P : ∀ k, ((R k).shape.Idx → Val e) → (R k).shape.Idx → Val e)
    (hR : ∀ j k, j ≠ k → Disjoint (R j).set (R k).set) (k : Fin n) :
    ∀ ks : List (Fin n), k ∉ ks →
      v.readCov (stack v ⟨Rect.unit off s.size inb, X⟩ R P ks) (R k).toLoadRect = View.ld X (R k)
  | [], _ => View.readCov_fill v inb X [] (R k) hoff
  | j :: js, h => by
    rw [stack, View.readCov_cons_of_disjoint _ _ _ _ (hR j k (fun e => h (by simp [e]))),
      readCov_stack v inb X hoff R P hR k js (fun e => h (List.mem_cons_of_mem _ e))]

/-- So the stacked writes are the writes over a buffer that holds the fill, after the fill itself. -/
theorem stack_eq (v : View sig κ sp s e) {off : Fin s.rank → ℕ} (inb : ∀ a, off a + s.size a ≤ s.size a)
    (X : s.Idx → Val e) (hoff : ∀ a, off a = 0) {n : ℕ} (R : Fin n → Rect s)
    (P : ∀ k, ((R k).shape.Idx → Val e) → (R k).shape.Idx → Val e)
    (hR : ∀ j k, j ≠ k → Disjoint (R j).set (R k).set) :
    ∀ ks : List (Fin n), ks.Nodup →
      stack v ⟨Rect.unit off s.size inb, X⟩ R P ks = stackOver X R P ks ++ [⟨Rect.unit off s.size inb, X⟩]
  | [], _ => rfl
  | k :: ks, h => by
    rw [stack, stackOver, readCov_stack v inb X hoff R P hR k ks (List.nodup_cons.mp h).1,
      stack_eq v inb X hoff R P hR ks (List.nodup_cons.mp h).2]
    rfl

/-- Every write over `X` is a block of `G` when each rectangle's payload over `X` is. -/
theorem piecesOf_stackOver (X G : s.Idx → Val e) {n : ℕ} (R : Fin n → Rect s)
    (P : ∀ k, ((R k).shape.Idx → Val e) → (R k).shape.Idx → Val e)
    (hP : ∀ k x, P k (View.ld X (R k)) x = G ((R k).emb x)) :
    ∀ ks : List (Fin n), View.PiecesOf G (stackOver X R P ks)
  | [] => trivial
  | k :: ks => ⟨hP k, piecesOf_stackOver X G R P hP ks⟩

/-- An index in a listed rectangle is in a listed write. -/
theorem mem_stackOver (X : s.Idx → Val e) {n : ℕ} (R : Fin n → Rect s)
    (P : ∀ k, ((R k).shape.Idx → Val e) → (R k).shape.Idx → Val e) (y : s.Idx) (k : Fin n) (hy : y ∈ (R k).set) :
    ∀ ks : List (Fin n), k ∈ ks → ∃ p ∈ stackOver X R P ks, y ∈ p.1.set
  | j :: js, h => by
    by_cases e : k = j
    · subst e
      exact ⟨_, List.mem_cons_self, hy⟩
    · obtain ⟨p, hp, hm⟩ := mem_stackOver X R P y k hy js ((List.mem_cons.mp h).resolve_left e)
      exact ⟨p, List.mem_cons_of_mem _ hp, hm⟩

/-- What the writes over `X` leave is `G`. -/
theorem canon_stackOver (X G : s.Idx → Val e) {n : ℕ} (R : Fin n → Rect s)
    (P : ∀ k, ((R k).shape.Idx → Val e) → (R k).shape.Idx → Val e)
    (hP : ∀ k x, P k (View.ld X (R k)) x = G ((R k).emb x)) (ks : List (Fin n))
    (hc : ∀ y, ∃ k ∈ ks, y ∈ (R k).set) : View.canon (stackOver X R P ks) = G := by
  funext y
  obtain ⟨k, hk, hy⟩ := hc y
  have := View.canon_append_of_piecesOf G [] (stackOver X R P ks) (piecesOf_stackOver X G R P hP ks) y
    (mem_stackOver X R P y k hy ks hk)
  rwa [List.append_nil] at this

/-- What the writes after a fill with `X` leave is `G`. -/
theorem canon_stack (v : View sig κ sp s e) {off : Fin s.rank → ℕ} (inb : ∀ a, off a + s.size a ≤ s.size a)
    (X G : s.Idx → Val e) (hoff : ∀ a, off a = 0) {n : ℕ} (R : Fin n → Rect s)
    (P : ∀ k, ((R k).shape.Idx → Val e) → (R k).shape.Idx → Val e)
    (hR : ∀ j k, j ≠ k → Disjoint (R j).set (R k).set)
    (hP : ∀ k x, P k (View.ld X (R k)) x = G ((R k).emb x)) (ks : List (Fin n)) (hks : ks.Nodup)
    (hc : ∀ y, ∃ k ∈ ks, y ∈ (R k).set) :
    View.canon (stack v ⟨Rect.unit off s.size inb, X⟩ R P ks) = G := by
  rw [stack_eq v inb X hoff R P hR ks hks]
  funext y
  obtain ⟨k, hk, hy⟩ := hc y
  exact View.canon_append_of_piecesOf G _ (stackOver X R P ks) (piecesOf_stackOver X G R P hP ks) y
    (mem_stackOver X R P y k hy ks hk)

end Stack

variable {F : FTy → Type} [FloatOps F] [Named F]

/-! ### One head -/

/-- The normalised gate input of a head, scaled. -/
def hVn (xv : Vec F S512x128 .f32) (gv : Vec F S1x128 .f32) : FVec F S512x128 .bf16 :=
  k0_pay15 (k0_pay10 xv) (k0_pay12 xv) gv

/-- The four chunks of the gradient of the normalised gate input. -/
def hDvn (xu : Vec F S512x128 .f32) (w : Vec F S1x128x128 .f32) (d : Vec F S512x128 .f32) (k : Fin 4) : FVec F S128x128 .f32 :=
  match k with
  | 0 => k0_pay26 k0_pay8 (k0_pay17 xu) w d
  | 1 => k0_pay29 k0_pay8 (k0_pay17 xu) w d
  | 2 => k0_pay33 (k0_pay21 k0_pay8 w) (k0_pay24 (k0_pay17 xu) d)
  | 3 => k0_pay35 (k0_pay21 k0_pay8 w) (k0_pay24 (k0_pay17 xu) d)

/-- The gradient of a head's `u` columns of the projection. -/
def hDu (xu xv : Vec F S512x128 .f32) (gv : Vec F S1x128 .f32) (w : Vec F S1x128x128 .f32) (b : Vec F S128x1 .f32)
    (d : Vec F S512x128 .f32) : FVec F S512x128 .bf16 :=
  k0_pay41 (k0_pay20 (k0_pay18 xu) (k0_pay19 xu)) (k0_pay25 k0_pay8 (hVn xv gv) w b d) (k0_pay28 k0_pay8 (hVn xv gv) w b d)
    (k0_pay32 (hVn xv gv) (k0_pay21 k0_pay8 w) (k0_pay22 b) d) (k0_pay34 (hVn xv gv) (k0_pay21 k0_pay8 w) (k0_pay22 b) d)

/-- The gradient of a head's `v` columns of the projection. -/
def hDv (xu xv : Vec F S512x128 .f32) (gv : Vec F S1x128 .f32) (w : Vec F S1x128x128 .f32) (d : Vec F S512x128 .f32) :
    FVec F S512x128 .bf16 :=
  k0_pay42 (k0_pay11 xv) (k0_pay13 (k0_pay12 xv)) (k0_pay14 (k0_pay10 xv) (k0_pay12 xv)) gv (hDvn xu w d 0) (hDvn xu w d 1)
    (hDvn xu w d 2) (hDvn xu w d 3)

/-- A head's mixing matrix gradient added to `acc`. -/
def hDws (xu xv : Vec F S512x128 .f32) (gv : Vec F S1x128 .f32) (d : Vec F S512x128 .f32) (acc : Vec F S1x128x128 .f32) :
    FVec F S1x128x128 .f32 :=
  k0_pay37 k0_pay8 (hVn xv gv) (k0_pay24 (k0_pay17 xu) d) (k0_pay30 (hVn xv gv) (k0_pay17 xu) d) acc

/-- A head's bias gradient added to `acc`. -/
def hDbs (xu d : Vec F S512x128 .f32) (acc : Vec F S128x1 .f32) : FVec F S128x1 .f32 :=
  k0_pay38 (k0_pay36 (k0_pay23 (k0_pay17 xu) d) (k0_pay27 (k0_pay17 xu) d) (k0_pay31 (k0_pay17 xu) d)) acc

/-- A head's gain gradient added to `acc`. -/
def hDgv (xu xv : Vec F S512x128 .f32) (w : Vec F S1x128x128 .f32) (d : Vec F S512x128 .f32) (acc : Vec F S1x128 .f32) :
    FVec F S1x128 .f32 :=
  k0_pay40 (k0_pay14 (k0_pay10 xv) (k0_pay12 xv)) (hDvn xu w d 0) (hDvn xu w d 1) (hDvn xu w d 2) (hDvn xu w d 3) acc

/-! ### One pooling group -/

/-- The group's columns lie in the rows with their halo. -/
theorem slices_group (g : Fin 4) : S528x1024.Slices ![0, 256 * g.val] S528x256 := by
  revert g; decide

/-- The columns of group `g`. -/
def gCols (g : Fin 4) (x : FVec F S528x1024 .f32) : FVec F S528x256 .f32 :=
  extractStridedSlice S528x256 ![0, 256 * g.val] x (slices_group g)

/-- A sum with itself rotated by `k` rows. -/
def rotAdd (k : BitVec 32) (x : FVec F S528x256 .f32) : FVec F S528x256 .f32 :=
  addf x (dynamicRotate 0 k none x rotates_S528x256_d0)

/-- The sum over the group's window of rows at and before each row. -/
def gBack (g : Fin 4) (x : FVec F S528x256 .f32) : FVec F S528x256 .f32 :=
  match g with
  | 0 => rotAdd 1#32 x
  | 1 => rotAdd 2#32 (rotAdd 1#32 x)
  | 2 => rotAdd 4#32 (rotAdd 2#32 (rotAdd 1#32 x))
  | 3 => rotAdd 8#32 (rotAdd 4#32 (rotAdd 2#32 (rotAdd 1#32 x)))

/-- The sum over the group's window of rows at and after each row. -/
def gAhead (g : Fin 4) (x : FVec F S528x256 .f32) : FVec F S528x256 .f32 :=
  match g with
  | 0 => rotAdd 527#32 x
  | 1 => rotAdd 526#32 (rotAdd 527#32 x)
  | 2 => rotAdd 524#32 (rotAdd 526#32 (rotAdd 527#32 x))
  | 3 => rotAdd 520#32 (rotAdd 524#32 (rotAdd 526#32 (rotAdd 527#32 x)))

/-- The group's window. -/
def gWin (g : Fin 4) : BitVec 32 :=
  match g with | 0 => 2#32 | 1 => 4#32 | 2 => 8#32 | 3 => 16#32

/-- The pooled values of the group, from its columns. -/
def gPooled (g : Fin 4) (a : BitVec 32) (zg : FVec F S528x256 .f32) : FVec F S512x256 .bf16 :=
  k0_pay290 zg (extractStridedSlice S512x256 ![16, 0] (gBack g zg) slices_S528x256_o16_0_S512x256) (k0_pay289 a) (gWin g)

/-- The gradient of the pooled values, halo included. -/
def gDpooled (dg : FVec F S528x256 .f32) (wp : Vec F S8x1x32x256 .bf16) (ps : Vec F S1x256 .f32) : FVec F S528x256 .f32 :=
  k0_pay305 (k0_pay291 wp) dg ps

/-- How many rows each row's window holds, halo included, as floats. -/
def gCount (g : Fin 4) (a : BitVec 32) : FVec F S528x1 .f32 :=
  sitofp .f32 (minsi (addi (addi (broadcast S528x1 (Scalar.muli a 512#32)) (iota .tc S528x1 32 [0] iota_S528x1_d0_w32))
    (broadcast S528x1 1#32)) (broadcast S528x1 (gWin g)))

/-- The gradient of the group's `z` columns of the projection. -/
def gDz (g : Fin 4) (a : BitVec 32) (dg : FVec F S528x256 .f32) (wp : Vec F S8x1x32x256 .bf16) (ps : Vec F S1x256 .f32) :
    FVec F S512x256 .bf16 :=
  k0_pay307 (gDpooled dg wp ps)
    (gAhead g (divf (gDpooled dg wp ps) (broadcastTo S528x256 (gCount g a) broadcasts_S528x1_S528x256)))

/-- The group's scale gradient added to `acc`. -/
def gDps (g : Fin 4) (a : BitVec 32) (zg dg : FVec F S528x256 .f32) (wp : Vec F S8x1x32x256 .bf16) (acc : Vec F S1x256 .f32) :
    FVec F S1x256 .f32 :=
  k0_pay302 (matmul dot_S512x256_S256x256_S512x256_1_0_0_1_n_n none (gPooled g a zg) (k0_pay291 wp) (constant S512x256 .f32 0x00000000#32))
    dg acc

/-- The group's pooling matrix gradient added to `acc`. -/
def gDwp (g : Fin 4) (a : BitVec 32) (zg dg : FVec F S528x256 .f32) (ps : Vec F S1x256 .f32) (acc : Vec F S8x1x32x256 .f32) :
    FVec F S8x1x32x256 .f32 :=
  k0_pay304 (gPooled g a zg) dg ps acc

/-! ### The rectangles -/

theorem inb_cols (h : Fin 8) : ∀ a, (![0, 128 * h.val] : Fin 2 → ℕ) a + S512x128.size a ≤ S512x1024.size a := by
  revert h; decide
theorem inb_row (h : Fin 8) : ∀ a, (![0, 128 * h.val] : Fin 2 → ℕ) a + S1x128.size a ≤ S1x1024.size a := by
  revert h; decide
theorem inb_mat (h : Fin 8) : ∀ a, (![h.val, 0, 0] : Fin 3 → ℕ) a + S1x128x128.size a ≤ S8x128x128.size a := by
  revert h; decide
theorem inb_bias (h : Fin 8) : ∀ a, (![0, h.val] : Fin 2 → ℕ) a + S128x1.size a ≤ S128x8.size a := by
  revert h; decide
theorem inb_outU (h : Fin 8) : ∀ a, (![0, 128 * h.val] : Fin 2 → ℕ) a + S512x128.size a ≤ S512x3072.size a := by
  revert h; decide
theorem inb_outV (h : Fin 8) : ∀ a, (![0, 1024 + 128 * h.val] : Fin 2 → ℕ) a + S512x128.size a ≤ S512x3072.size a := by
  revert h; decide
theorem inb_outZ (g : Fin 4) : ∀ a, (![0, 2048 + 256 * g.val] : Fin 2 → ℕ) a + S512x256.size a ≤ S512x3072.size a := by
  revert g; decide
theorem inb_gmat (g : Fin 4) : ∀ a, (![0, g.val, 0, 0] : Fin 4 → ℕ) a + S8x1x32x256.size a ≤ S8x4x32x256.size a := by
  revert g; decide
theorem inb_grow (g : Fin 4) : ∀ a, (![0, 256 * g.val] : Fin 2 → ℕ) a + S1x256.size a ≤ S1x1024.size a := by
  revert g; decide

/-- A head's columns of a block of rows. -/
abbrev rCols (h : Fin 8) : Rect S512x1024 := Rect.unit ![0, 128 * h.val] S512x128.size (inb_cols h)
/-- A whole block of rows. -/
abbrev rRows : Rect S512x1024 := Rect.unit ![0, 0] S512x1024.size inb_S512x1024_S512x1024_0_0
/-- A whole halo. -/
abbrev rHalo : Rect S16x1024 := Rect.unit ![0, 0] S16x1024.size inb_S16x1024_S16x1024_0_0
/-- A head's columns of a row vector. -/
abbrev rRow (h : Fin 8) : Rect S1x1024 := Rect.unit ![0, 128 * h.val] S1x128.size (inb_row h)
/-- A head's matrix. -/
abbrev rMat (h : Fin 8) : Rect S8x128x128 := Rect.unit ![h.val, 0, 0] S1x128x128.size (inb_mat h)
/-- A head's bias column. -/
abbrev rBias (h : Fin 8) : Rect S128x8 := Rect.unit ![0, h.val] S128x1.size (inb_bias h)
/-- A head's `u` columns of the result. -/
abbrev rOutU (h : Fin 8) : Rect S512x3072 := Rect.unit ![0, 128 * h.val] S512x128.size (inb_outU h)
/-- A head's `v` columns of the result. -/
abbrev rOutV (h : Fin 8) : Rect S512x3072 := Rect.unit ![0, 1024 + 128 * h.val] S512x128.size (inb_outV h)
/-- A group's `z` columns of the result. -/
abbrev rOutZ (g : Fin 4) : Rect S512x3072 := Rect.unit ![0, 2048 + 256 * g.val] S512x256.size (inb_outZ g)
/-- A group's matrix. -/
abbrev rGmat (g : Fin 4) : Rect S8x4x32x256 := Rect.unit ![0, g.val, 0, 0] S8x1x32x256.size (inb_gmat g)
/-- A group's columns of a row vector. -/
abbrev rGrow (g : Fin 4) : Rect S1x1024 := Rect.unit ![0, 256 * g.val] S1x256.size (inb_grow g)

/-- Different heads' matrices are apart. -/
theorem disj_rMat (j k : Fin 8) (h : j ≠ k) : Disjoint (rMat j).set (rMat k).set := by
  refine Rect.unit_disjoint 0 ?_
  have : j.val ≠ k.val := fun e => h (Fin.ext e)
  revert j k; decide

/-- The heads' matrices are all of the buffer. -/
theorem cover_rMat (y : S8x128x128.Idx) : ∃ k ∈ ([7, 6, 5, 4, 3, 2, 1, 0] : List (Fin 8)), y ∈ (rMat k).set := by
  have hb : ∀ a, (y a).val < S8x128x128.size a := fun a => (y a).isLt
  have hy := hb
  have ha := hb 0
  refine ⟨⟨(y 0).val / 1, by change (y 0).val < _ at ha; change _ < 8 at ha; omega⟩, ?_, Rect.mem_set_unit.mpr fun a => ?_⟩
  · generalize (⟨(y 0).val / 1, _⟩ : Fin 8) = k
    revert k; decide
  · have := hb a
    revert this
    fin_cases a <;> intro this <;> change _ < _ at this <;> simp <;> simp at this ha <;> omega

/-- Different heads' bias columns are apart. -/
theorem disj_rBias (j k : Fin 8) (h : j ≠ k) : Disjoint (rBias j).set (rBias k).set := by
  refine Rect.unit_disjoint 1 ?_
  have : j.val ≠ k.val := fun e => h (Fin.ext e)
  revert j k; decide

/-- The heads' bias columns are all of the buffer. -/
theorem cover_rBias (y : S128x8.Idx) : ∃ k ∈ ([7, 6, 5, 4, 3, 2, 1, 0] : List (Fin 8)), y ∈ (rBias k).set := by
  have hb : ∀ a, (y a).val < S128x8.size a := fun a => (y a).isLt
  have hy := Fin.forall_fin_two.mp hb
  have ha := hb 1
  refine ⟨⟨(y 1).val / 1, by change (y 1).val < _ at ha; change _ < 8 at ha; omega⟩, ?_, Rect.mem_set_unit.mpr fun a => ?_⟩
  · generalize (⟨(y 1).val / 1, _⟩ : Fin 8) = k
    revert k; decide
  · have := hb a
    revert this
    fin_cases a <;> intro this <;> change _ < _ at this <;> simp <;> simp at this ha <;> omega

/-- Different heads' columns are apart. -/
theorem disj_rRow (j k : Fin 8) (h : j ≠ k) : Disjoint (rRow j).set (rRow k).set := by
  refine Rect.unit_disjoint 1 ?_
  have : j.val ≠ k.val := fun e => h (Fin.ext e)
  revert j k; decide

/-- The heads' columns are all of the buffer. -/
theorem cover_rRow (y : S1x1024.Idx) : ∃ k ∈ ([7, 6, 5, 4, 3, 2, 1, 0] : List (Fin 8)), y ∈ (rRow k).set := by
  have hb : ∀ a, (y a).val < S1x1024.size a := fun a => (y a).isLt
  have hy := Fin.forall_fin_two.mp hb
  have ha := hb 1
  refine ⟨⟨(y 1).val / 128, by change (y 1).val < _ at ha; change _ < 1024 at ha; omega⟩, ?_, Rect.mem_set_unit.mpr fun a => ?_⟩
  · generalize (⟨(y 1).val / 128, _⟩ : Fin 8) = k
    revert k; decide
  · have := hb a
    revert this
    fin_cases a <;> intro this <;> change _ < _ at this <;> simp <;> simp at this ha <;> omega

/-- Different groups' columns are apart. -/
theorem disj_rGrow (j k : Fin 4) (h : j ≠ k) : Disjoint (rGrow j).set (rGrow k).set := by
  refine Rect.unit_disjoint 1 ?_
  have : j.val ≠ k.val := fun e => h (Fin.ext e)
  revert j k; decide

/-- The groups' columns are all of the buffer. -/
theorem cover_rGrow (y : S1x1024.Idx) : ∃ k ∈ ([3, 2, 1, 0] : List (Fin 4)), y ∈ (rGrow k).set := by
  have hb : ∀ a, (y a).val < S1x1024.size a := fun a => (y a).isLt
  have hy := Fin.forall_fin_two.mp hb
  have ha := hb 1
  refine ⟨⟨(y 1).val / 256, by change (y 1).val < _ at ha; change _ < 1024 at ha; omega⟩, ?_, Rect.mem_set_unit.mpr fun a => ?_⟩
  · generalize (⟨(y 1).val / 256, _⟩ : Fin 4) = k
    revert k; decide
  · have := hb a
    revert this
    fin_cases a <;> intro this <;> change _ < _ at this <;> simp <;> simp at this ha <;> omega

/-- Different groups' matrices are apart. -/
theorem disj_rGmat (j k : Fin 4) (h : j ≠ k) : Disjoint (rGmat j).set (rGmat k).set := by
  refine Rect.unit_disjoint 1 ?_
  have : j.val ≠ k.val := fun e => h (Fin.ext e)
  revert j k; decide

/-- The groups' matrices are all of the buffer. -/
theorem cover_rGmat (y : S8x4x32x256.Idx) : ∃ k ∈ ([3, 2, 1, 0] : List (Fin 4)), y ∈ (rGmat k).set := by
  have hb : ∀ a, (y a).val < S8x4x32x256.size a := fun a => (y a).isLt
  have hy := hb
  have ha := hb 1
  refine ⟨⟨(y 1).val / 1, by change (y 1).val < _ at ha; change _ < 4 at ha; omega⟩, ?_, Rect.mem_set_unit.mpr fun a => ?_⟩
  · generalize (⟨(y 1).val / 1, _⟩ : Fin 4) = k
    revert k; decide
  · have := hb a
    revert this
    fin_cases a <;> intro this <;> change _ < _ at this <;> simp <;> simp at this ha <;> omega

/-! ### The stores of one grid point -/

/-! ### The groups as the kernel writes them out -/

section Written

variable (a : BitVec 32) (x2 : Vec F S512x1024 .f32) (x3 : Vec F S16x1024 .f32) (d : FVec F S528x1024 .f32)
  (wp : Vec F S8x1x32x256 .bf16) (ps acc : Vec F S1x256 .f32) (accM : Vec F S8x1x32x256 .f32)

/-- Each group's scale gradient as it is written out. -/
def wDps (g : Fin 4) : FVec F S1x256 .f32 :=
  match g with
  | 0 => k0_pay293 d (k0_pay287 a x3 x2) (k0_pay288 a x3 x2) (k0_pay289 a) 2#32 wp acc
  | 1 => k0_pay302 (k0_pay300 a (k0_pay285 a x3 x2) wp) (k0_pay301 d) acc
  | 2 => k0_pay311 a (k0_pay285 a x3 x2) d wp acc
  | 3 => k0_pay319 a d (k0_pay315 (k0_pay285 a x3 x2)) 1#32 wp acc

/-- Each group's matrix gradient as it is written out. -/
def wDwp (g : Fin 4) : FVec F S8x1x32x256 .f32 :=
  match g with
  | 0 => k0_pay295 d (k0_pay287 a x3 x2) (k0_pay288 a x3 x2) (k0_pay289 a) 2#32 ps accM
  | 1 => k0_pay304 (k0_pay298 a (k0_pay285 a x3 x2)) (k0_pay301 d) ps accM
  | 2 => k0_pay313 (k0_pay308 a (k0_pay285 a x3 x2)) (k0_pay310 d) ps accM
  | 3 => k0_pay1 (k0_pay321 (k0_pay316 a (k0_pay315 (k0_pay285 a x3 x2)) 1#32) (k0_pay320 d ps) accM)

/-- Each group's columns of the projection's gradient as they are written out. -/
def wDz (g : Fin 4) : FVec F S512x256 .bf16 :=
  match g with
  | 0 => k0_pay297 a (k0_pay296 d wp ps) 512#32
  | 1 => k0_pay307 (k0_pay305 (k0_pay299 wp) (k0_pay301 d) ps) (k0_pay306 a (k0_pay299 wp) (k0_pay301 d) ps)
  | 2 => k0_pay314 a (k0_pay309 wp) (k0_pay310 d) ps
  | 3 => k0_pay2 a (k0_pay317 wp) (k0_pay320 d ps)

/-- The written scale gradients are one function of the group. -/
theorem wDps_eq (g : Fin 4) : wDps a x2 x3 d wp acc g = gDps g a (gCols g (k0_pay285 a x3 x2)) (gCols g d) wp acc := by
  match g with
  | 0 => rfl
  | 1 => rfl
  | 2 => rfl
  | 3 => rfl

/-- The written matrix gradients are one function of the group. -/
theorem wDwp_eq (g : Fin 4) : wDwp a x2 x3 d ps accM g = gDwp g a (gCols g (k0_pay285 a x3 x2)) (gCols g d) ps accM := by
  match g with
  | 0 => rfl
  | 1 => rfl
  | 2 => rfl
  | 3 => rfl

/-- The written columns are one function of the group. -/
theorem wDz_eq (g : Fin 4) : wDz a d wp ps g = gDz g a (gCols g d) wp ps := by
  match g with
  | 0 => rfl
  | 1 => rfl
  | 2 => rfl
  | 3 => rfl

end Written

section Point

variable (c : Dev nD) (i : grid0.Coords) (arg1 : Memref sig .tc .vmem S512x1024 .f32) (harg1 : arg1.IsWhole)
    (arg2 : Memref sig .tc .vmem S512x1024 .f32) (harg2 : arg2.IsWhole)
    (arg3 : Memref sig .tc .vmem S512x1024 .f32) (harg3 : arg3.IsWhole)
    (arg4 : Memref sig .tc .vmem S16x1024 .f32) (harg4 : arg4.IsWhole)
    (arg5 : Memref sig .tc .vmem S512x1024 .f32) (harg5 : arg5.IsWhole)
    (arg6 : Memref sig .tc .vmem S512x1024 .f32) (harg6 : arg6.IsWhole)
    (arg7 : Memref sig .tc .vmem S16x1024 .f32) (harg7 : arg7.IsWhole)
    (arg8 : Memref sig .tc .vmem S8x128x128 .f32) (harg8 : arg8.IsWhole) (arg9 : Memref sig .tc .vmem S128x8 .f32)
    (harg9 : arg9.IsWhole) (arg10 : Memref sig .tc .vmem S1x1024 .f32) (harg10 : arg10.IsWhole)
    (arg11 : Memref sig .tc .vmem S8x4x32x256 .bf16) (harg11 : arg11.IsWhole)
    (arg12 : Memref sig .tc .vmem S1x1024 .f32) (harg12 : arg12.IsWhole)
    (arg13 : Memref sig .tc .vmem S512x3072 .bf16) (harg13 : arg13.IsWhole)
    (arg14 : Memref sig .tc .vmem S8x128x128 .f32) (harg14 : arg14.IsWhole)
    (arg15 : Memref sig .tc .vmem S128x8 .f32) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S8x4x32x256 .f32) (harg18 : arg18.IsWhole)
variable (x0 : Vec F S512x1024 .f32) (x1 : Vec F S512x1024 .f32) (x2 : Vec F S512x1024 .f32) (x3 : Vec F S16x1024 .f32)
    (x4 : Vec F S512x1024 .f32) (x5 : Vec F S512x1024 .f32) (x6 : Vec F S16x1024 .f32)
    (x7 : Vec F S8x128x128 .f32) (x8 : Vec F S128x8 .f32) (x9 : Vec F S1x1024 .f32)
    (x10 : Vec F S8x4x32x256 .bf16) (x11 : Vec F S1x1024 .f32)

/-- The incoming gradient's rows with the halo after them. -/
def dRows (i : grid0.Coords) (x5 : Vec F S512x1024 .f32) (x6 : Vec F S16x1024 .f32) : FVec F S528x1024 .f32 :=
  k0_pay286 (BitVec.ofNat 32 (i 0).val) (View.ld x6 rHalo) (View.ld x5 rRows)

/-- The payload of a head's matrix gradient. -/
def P13 (h : Fin 8) (acc : Vec F S1x128x128 .f32) : Vec F S1x128x128 .f32 :=
  hDws (View.ld x0 (rCols h)) (View.ld x1 (rCols h)) (View.ld x9 (rRow h)) (View.ld x4 (rCols h)) acc
/-- The payload of a head's bias gradient. -/
def P14 (h : Fin 8) (acc : Vec F S128x1 .f32) : Vec F S128x1 .f32 :=
  hDbs (View.ld x0 (rCols h)) (View.ld x4 (rCols h)) acc
/-- The payload of a head's gain gradient. -/
def P15 (h : Fin 8) (acc : Vec F S1x128 .f32) : Vec F S1x128 .f32 :=
  hDgv (View.ld x0 (rCols h)) (View.ld x1 (rCols h)) (View.ld x7 (rMat h)) (View.ld x4 (rCols h)) acc
/-- The payload of a group's scale gradient. -/
def P16 (g : Fin 4) (acc : Vec F S1x256 .f32) : Vec F S1x256 .f32 :=
  wDps (BitVec.ofNat 32 (i 0).val) (View.ld x2 rRows) (View.ld x3 rHalo) (dRows i x5 x6) (View.ld x10 (rGmat g)) acc g
/-- The payload of a group's matrix gradient. -/
def P17 (g : Fin 4) (acc : Vec F S8x1x32x256 .f32) : Vec F S8x1x32x256 .f32 :=
  wDwp (BitVec.ofNat 32 (i 0).val) (View.ld x2 rRows) (View.ld x3 rHalo) (dRows i x5 x6) (View.ld x11 (rGrow g)) acc g

/-- The stores of the projection's gradient: every group's columns, then every head's. -/
def pieces12 : List (View.Piece (Elt F) S512x3072 .bf16) :=
  ([3, 2, 1, 0] : List (Fin 4)).map (fun g => ⟨rOutZ g, wDz (BitVec.ofNat 32 (i 0).val) (dRows i x5 x6)
      (View.ld x10 (rGmat g)) (View.ld x11 (rGrow g)) g⟩)
    ++ ([7, 6, 5, 4, 3, 2, 1, 0] : List (Fin 8)).flatMap fun h =>
      [⟨rOutV h, hDv (View.ld x0 (rCols h)) (View.ld x1 (rCols h)) (View.ld x9 (rRow h)) (View.ld x7 (rMat h)) (View.ld x4 (rCols h))⟩,
       ⟨rOutU h, hDu (View.ld x0 (rCols h)) (View.ld x1 (rCols h)) (View.ld x9 (rRow h)) (View.ld x7 (rMat h))
          (View.ld x8 (rBias h)) (View.ld x4 (rCols h))⟩]

/-- The stores of the projection's gradient at a later point. -/
theorem stores12_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).1
      = pieces12 i (arg1.view.read (Elt F) (harg1.unread x0)) (arg2.view.read (Elt F) (harg2.unread x1)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) := rfl

/-- The stores of the projection's gradient at a first point. -/
theorem stores12_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).1
      = pieces12 i (arg1.view.read (Elt F) (harg1.unread x0)) (arg2.view.read (Elt F) (harg2.unread x1)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) := rfl

/-- The stores of the mixing matrices' gradient at a later point. -/
theorem stores13_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).2.1
      = stackOver (arg14.view.read (Elt F) (harg14.unread xo13)) rMat (P13 (arg1.view.read (Elt F) (harg1.unread x0)) (arg2.view.read (Elt F) (harg2.unread x1)) (arg5.view.read (Elt F) (harg5.unread x4)) (arg10.view.read (Elt F) (harg10.unread x9))) [7, 6, 5, 4, 3, 2, 1, 0] := rfl

/-- The stores of the mixing matrices' gradient at a first point. -/
theorem stores13_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.1
      = stack arg14.view ⟨Rect.unit ![0, 0, 0] S8x128x128.size inb_S8x128x128_S8x128x128_0_0_0, k0_pay3⟩ rMat (P13 (arg1.view.read (Elt F) (harg1.unread x0)) (arg2.view.read (Elt F) (harg2.unread x1)) (arg5.view.read (Elt F) (harg5.unread x4)) (arg10.view.read (Elt F) (harg10.unread x9))) [7, 6, 5, 4, 3, 2, 1, 0] := rfl

/-- The stores of the bias gradient at a later point. -/
theorem stores14_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).2.2.1
      = stackOver (arg15.view.read (Elt F) (harg15.unread xo14)) rBias (P14 (arg1.view.read (Elt F) (harg1.unread x0)) (arg5.view.read (Elt F) (harg5.unread x4))) [7, 6, 5, 4, 3, 2, 1, 0] := rfl

/-- The stores of the bias gradient at a first point. -/
theorem stores14_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.1
      = stack arg15.view ⟨Rect.unit ![0, 0] S128x8.size inb_S128x8_S128x8_0_0, k0_pay4⟩ rBias (P14 (arg1.view.read (Elt F) (harg1.unread x0)) (arg5.view.read (Elt F) (harg5.unread x4))) [7, 6, 5, 4, 3, 2, 1, 0] := rfl

/-- The stores of the gain gradient at a later point. -/
theorem stores15_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).2.2.2.1
      = stackOver (arg16.view.read (Elt F) (harg16.unread xo15)) rRow (P15 (arg1.view.read (Elt F) (harg1.unread x0)) (arg2.view.read (Elt F) (harg2.unread x1)) (arg5.view.read (Elt F) (harg5.unread x4)) (arg8.view.read (Elt F) (harg8.unread x7))) [7, 6, 5, 4, 3, 2, 1, 0] := rfl

/-- The stores of the gain gradient at a first point. -/
theorem stores15_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.1
      = stack arg16.view ⟨Rect.unit ![0, 0] S1x1024.size inb_S1x1024_S1x1024_0_0, k0_pay5⟩ rRow (P15 (arg1.view.read (Elt F) (harg1.unread x0)) (arg2.view.read (Elt F) (harg2.unread x1)) (arg5.view.read (Elt F) (harg5.unread x4)) (arg8.view.read (Elt F) (harg8.unread x7))) [7, 6, 5, 4, 3, 2, 1, 0] := rfl

/-- The stores of the pooling scale's gradient at a later point. -/
theorem stores16_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).2.2.2.2.1
      = stackOver (arg17.view.read (Elt F) (harg17.unread xo16)) rGrow (P16 i (arg3.view.read (Elt F) (harg3.unread x2)) (arg4.view.read (Elt F) (harg4.unread x3)) (arg6.view.read (Elt F) (harg6.unread x5)) (arg7.view.read (Elt F) (harg7.unread x6)) (arg11.view.read (Elt F) (harg11.unread x10))) [3, 2, 1, 0] := rfl

/-- The stores of the pooling scale's gradient at a first point. -/
theorem stores16_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.1
      = stack arg17.view ⟨Rect.unit ![0, 0] S1x1024.size inb_S1x1024_S1x1024_0_0, k0_pay6⟩ rGrow (P16 i (arg3.view.read (Elt F) (harg3.unread x2)) (arg4.view.read (Elt F) (harg4.unread x3)) (arg6.view.read (Elt F) (harg6.unread x5)) (arg7.view.read (Elt F) (harg7.unread x6)) (arg11.view.read (Elt F) (harg11.unread x10))) [3, 2, 1, 0] := rfl

/-- The stores of the pooling matrices' gradient at a later point. -/
theorem stores17_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17).2.2.2.2.2.val
      = stackOver (arg18.view.read (Elt F) (harg18.unread xo17)) rGmat (P17 i (arg3.view.read (Elt F) (harg3.unread x2)) (arg4.view.read (Elt F) (harg4.unread x3)) (arg6.view.read (Elt F) (harg6.unread x5)) (arg7.view.read (Elt F) (harg7.unread x6)) (arg12.view.read (Elt F) (harg12.unread x11))) [3, 2, 1, 0] := rfl

/-- The stores of the pooling matrices' gradient at a first point. -/
theorem stores17_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.2.val
      = stack arg18.view ⟨Rect.unit ![0, 0, 0, 0] S8x4x32x256.size inb_S8x4x32x256_S8x4x32x256_0_0_0_0, k0_pay7⟩ rGmat (P17 i (arg3.view.read (Elt F) (harg3.unread x2)) (arg4.view.read (Elt F) (harg4.unread x3)) (arg6.view.read (Elt F) (harg6.unread x5)) (arg7.view.read (Elt F) (harg7.unread x6)) (arg12.view.read (Elt F) (harg12.unread x11))) [3, 2, 1, 0] := rfl

/-! ### What the stores leave -/

/-- After a later point the block is `G` when every rectangle's payload is its part of `G`. -/
theorem out13_B (hc0 : ¬cond0_0 i) (xo13 : Vec F S8x128x128 .f32) (xo14 : Vec F S128x8 .f32) (xo15 : Vec F S1x1024 .f32)
    (xo16 : Vec F S1x1024 .f32) (xo17 : Vec F S8x4x32x256 .f32) (G : S8x128x128.Idx → Elt F .f32)
    (hP : ∀ k x, P13 x0 x1 x4 x9 k (View.ld xo13 (rMat k)) x = G ((rMat k).emb x)) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = G := by
  unfold out0_B_13
  rw [View.read_writes_junk_eq_canon, stores13_B, harg1.read_unread, harg2.read_unread, harg5.read_unread, harg10.read_unread, harg14.read_unread]
  exact canon_stackOver _ G rMat _ hP _ cover_rMat

/-- After a first point the block is `G` when every rectangle's payload is its part of `G`. -/
theorem out13_A (hc0 : cond0_0 i) (G : S8x128x128.Idx → Elt F .f32)
    (hP : ∀ k x, P13 x0 x1 x4 x9 k (View.ld (k0_pay3 (F := F)) (rMat k)) x = G ((rMat k).emb x)) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = G := by
  unfold out0_A_13
  rw [View.read_writes_junk_eq_canon, stores13_A, harg1.read_unread, harg2.read_unread, harg5.read_unread, harg10.read_unread]
  exact canon_stack _ _ _ G (by decide) rMat _ disj_rMat hP _ (by decide) cover_rMat

/-- After a later point the block is `G` when every rectangle's payload is its part of `G`. -/
theorem out14_B (hc0 : ¬cond0_0 i) (xo13 : Vec F S8x128x128 .f32) (xo14 : Vec F S128x8 .f32) (xo15 : Vec F S1x1024 .f32)
    (xo16 : Vec F S1x1024 .f32) (xo17 : Vec F S8x4x32x256 .f32) (G : S128x8.Idx → Elt F .f32)
    (hP : ∀ k x, P14 x0 x4 k (View.ld xo14 (rBias k)) x = G ((rBias k).emb x)) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = G := by
  unfold out0_B_14
  rw [View.read_writes_junk_eq_canon, stores14_B, harg1.read_unread, harg5.read_unread, harg15.read_unread]
  exact canon_stackOver _ G rBias _ hP _ cover_rBias

/-- After a first point the block is `G` when every rectangle's payload is its part of `G`. -/
theorem out14_A (hc0 : cond0_0 i) (G : S128x8.Idx → Elt F .f32)
    (hP : ∀ k x, P14 x0 x4 k (View.ld (k0_pay4 (F := F)) (rBias k)) x = G ((rBias k).emb x)) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = G := by
  unfold out0_A_14
  rw [View.read_writes_junk_eq_canon, stores14_A, harg1.read_unread, harg5.read_unread]
  exact canon_stack _ _ _ G (by decide) rBias _ disj_rBias hP _ (by decide) cover_rBias

/-- After a later point the block is `G` when every rectangle's payload is its part of `G`. -/
theorem out15_B (hc0 : ¬cond0_0 i) (xo13 : Vec F S8x128x128 .f32) (xo14 : Vec F S128x8 .f32) (xo15 : Vec F S1x1024 .f32)
    (xo16 : Vec F S1x1024 .f32) (xo17 : Vec F S8x4x32x256 .f32) (G : S1x1024.Idx → Elt F .f32)
    (hP : ∀ k x, P15 x0 x1 x4 x7 k (View.ld xo15 (rRow k)) x = G ((rRow k).emb x)) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = G := by
  unfold out0_B_15
  rw [View.read_writes_junk_eq_canon, stores15_B, harg1.read_unread, harg2.read_unread, harg5.read_unread, harg8.read_unread, harg16.read_unread]
  exact canon_stackOver _ G rRow _ hP _ cover_rRow

/-- After a first point the block is `G` when every rectangle's payload is its part of `G`. -/
theorem out15_A (hc0 : cond0_0 i) (G : S1x1024.Idx → Elt F .f32)
    (hP : ∀ k x, P15 x0 x1 x4 x7 k (View.ld (k0_pay5 (F := F)) (rRow k)) x = G ((rRow k).emb x)) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = G := by
  unfold out0_A_15
  rw [View.read_writes_junk_eq_canon, stores15_A, harg1.read_unread, harg2.read_unread, harg5.read_unread, harg8.read_unread]
  exact canon_stack _ _ _ G (by decide) rRow _ disj_rRow hP _ (by decide) cover_rRow

/-- After a later point the block is `G` when every rectangle's payload is its part of `G`. -/
theorem out16_B (hc0 : ¬cond0_0 i) (xo13 : Vec F S8x128x128 .f32) (xo14 : Vec F S128x8 .f32) (xo15 : Vec F S1x1024 .f32)
    (xo16 : Vec F S1x1024 .f32) (xo17 : Vec F S8x4x32x256 .f32) (G : S1x1024.Idx → Elt F .f32)
    (hP : ∀ k x, P16 i x2 x3 x5 x6 x10 k (View.ld xo16 (rGrow k)) x = G ((rGrow k).emb x)) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = G := by
  unfold out0_B_16
  rw [View.read_writes_junk_eq_canon, stores16_B, harg3.read_unread, harg4.read_unread, harg6.read_unread, harg7.read_unread, harg11.read_unread, harg17.read_unread]
  exact canon_stackOver _ G rGrow _ hP _ cover_rGrow

/-- After a first point the block is `G` when every rectangle's payload is its part of `G`. -/
theorem out16_A (hc0 : cond0_0 i) (G : S1x1024.Idx → Elt F .f32)
    (hP : ∀ k x, P16 i x2 x3 x5 x6 x10 k (View.ld (k0_pay6 (F := F)) (rGrow k)) x = G ((rGrow k).emb x)) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = G := by
  unfold out0_A_16
  rw [View.read_writes_junk_eq_canon, stores16_A, harg3.read_unread, harg4.read_unread, harg6.read_unread, harg7.read_unread, harg11.read_unread]
  exact canon_stack _ _ _ G (by decide) rGrow _ disj_rGrow hP _ (by decide) cover_rGrow

/-- After a later point the block is `G` when every rectangle's payload is its part of `G`. -/
theorem out17_B (hc0 : ¬cond0_0 i) (xo13 : Vec F S8x128x128 .f32) (xo14 : Vec F S128x8 .f32) (xo15 : Vec F S1x1024 .f32)
    (xo16 : Vec F S1x1024 .f32) (xo17 : Vec F S8x4x32x256 .f32) (G : S8x4x32x256.Idx → Elt F .f32)
    (hP : ∀ k x, P17 i x2 x3 x5 x6 x11 k (View.ld xo17 (rGmat k)) x = G ((rGmat k).emb x)) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = G := by
  unfold out0_B_17
  rw [View.read_writes_junk_eq_canon, stores17_B, harg3.read_unread, harg4.read_unread, harg6.read_unread, harg7.read_unread, harg12.read_unread, harg18.read_unread]
  exact canon_stackOver _ G rGmat _ hP _ cover_rGmat

/-- After a first point the block is `G` when every rectangle's payload is its part of `G`. -/
theorem out17_A (hc0 : cond0_0 i) (G : S8x4x32x256.Idx → Elt F .f32)
    (hP : ∀ k x, P17 i x2 x3 x5 x6 x11 k (View.ld (k0_pay7 (F := F)) (rGmat k)) x = G ((rGmat k).emb x)) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = G := by
  unfold out0_A_17
  rw [View.read_writes_junk_eq_canon, stores17_A, harg3.read_unread, harg4.read_unread, harg6.read_unread, harg7.read_unread, harg12.read_unread]
  exact canon_stack _ _ _ G (by decide) rGmat _ disj_rGmat hP _ (by decide) cover_rGmat

/-- The stores of the projection's gradient leave `G` when every head's and every group's payload is its part of `G`. -/
theorem canon_pieces12 (G : S512x3072.Idx → Elt F .bf16)
    (hU : ∀ h x, hDu (View.ld x0 (rCols h)) (View.ld x1 (rCols h)) (View.ld x9 (rRow h)) (View.ld x7 (rMat h))
      (View.ld x8 (rBias h)) (View.ld x4 (rCols h)) x = G ((rOutU h).emb x))
    (hV : ∀ h x, hDv (View.ld x0 (rCols h)) (View.ld x1 (rCols h)) (View.ld x9 (rRow h)) (View.ld x7 (rMat h))
      (View.ld x4 (rCols h)) x = G ((rOutV h).emb x))
    (hZ : ∀ g x, wDz (BitVec.ofNat 32 (i 0).val) (dRows i x5 x6) (View.ld x10 (rGmat g)) (View.ld x11 (rGrow g)) g x
      = G ((rOutZ g).emb x)) :
    View.canon (pieces12 i x0 x1 x4 x5 x6 x7 x8 x9 x10 x11) = G := by
  have hmem : ∀ p ∈ pieces12 i x0 x1 x4 x5 x6 x7 x8 x9 x10 x11, ∀ x : p.1.shape.Idx, p.2 x = G (p.1.emb x) := by
    intro p hp
    rcases List.mem_append.mp hp with hp | hp
    · obtain ⟨g, -, rfl⟩ := List.mem_map.mp hp
      exact hZ g
    · obtain ⟨h, -, hp⟩ := List.mem_flatMap.mp hp
      rcases List.mem_cons.mp hp with rfl | hp
      · exact hV h
      · rcases List.mem_cons.mp hp with rfl | hp
        · exact hU h
        · exact absurd hp List.not_mem_nil
  funext y
  refine View.canon_apply_of_pieces G _ hmem y ?_
  have hb : ∀ a, (y a).val < S512x3072.size a := fun a => (y a).isLt
  have h1 : (y 1).val < 3072 := hb 1
  have h0 : (y 0).val < 512 := hb 0
  have all8 : ∀ h : Fin 8, h ∈ ([7, 6, 5, 4, 3, 2, 1, 0] : List (Fin 8)) := by decide
  have all4 : ∀ h : Fin 4, h ∈ ([3, 2, 1, 0] : List (Fin 4)) := by decide
  by_cases hu : (y 1).val < 1024
  · have hm : y ∈ (rOutU ⟨(y 1).val / 128, by omega⟩).set := Rect.mem_set_unit.mpr fun a => by
      fin_cases a <;> simp <;> omega
    exact ⟨_, List.mem_append_right _ (List.mem_flatMap.mpr ⟨⟨(y 1).val / 128, by omega⟩, all8 _,
      List.mem_cons_of_mem _ List.mem_cons_self⟩), hm⟩
  · by_cases hv : (y 1).val < 2048
    · have hm : y ∈ (rOutV ⟨((y 1).val - 1024) / 128, by omega⟩).set := Rect.mem_set_unit.mpr fun a => by
        fin_cases a <;> simp <;> omega
      exact ⟨_, List.mem_append_right _ (List.mem_flatMap.mpr ⟨⟨((y 1).val - 1024) / 128, by omega⟩, all8 _,
        List.mem_cons_self⟩), hm⟩
    · have hm : y ∈ (rOutZ ⟨((y 1).val - 2048) / 256, by omega⟩).set := Rect.mem_set_unit.mpr fun a => by
        fin_cases a <;> simp <;> omega
      exact ⟨_, List.mem_append_left _ (List.mem_map.mpr ⟨⟨((y 1).val - 2048) / 256, by omega⟩, all4 _, rfl⟩), hm⟩

/-- A first point's block of the projection's gradient is what its stores leave. -/
theorem out12_A (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = View.canon (pieces12 i x0 x1 x4 x5 x6 x7 x8 x9 x10 x11) := by
  unfold out0_A_12
  rw [View.read_writes_junk_eq_canon, stores12_A, harg1.read_unread, harg2.read_unread, harg5.read_unread, harg6.read_unread, harg7.read_unread, harg8.read_unread, harg9.read_unread, harg10.read_unread, harg11.read_unread, harg12.read_unread]

/-- A later point's block of the projection's gradient is what its stores leave. -/
theorem out12_B (hc0 : ¬cond0_0 i) (xo13 : Vec F S8x128x128 .f32) (xo14 : Vec F S128x8 .f32) (xo15 : Vec F S1x1024 .f32)
    (xo16 : Vec F S1x1024 .f32) (xo17 : Vec F S8x4x32x256 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo13 xo14 xo15 xo16 xo17 = View.canon (pieces12 i x0 x1 x4 x5 x6 x7 x8 x9 x10 x11) := by
  unfold out0_B_12
  rw [View.read_writes_junk_eq_canon, stores12_B, harg1.read_unread, harg2.read_unread, harg5.read_unread, harg6.read_unread, harg7.read_unread, harg8.read_unread, harg9.read_unread, harg10.read_unread, harg11.read_unread, harg12.read_unread]

end Point

end Cert.Mixer
-- ==== Proof.Mixer.Lift.lean ====
module

public import Idealize.ShloMosaic.PureOps.Ideal.Laws
public import Idealize.ShloMosaic.Lib.Pipeline.Value
public import Idealize.ShloMosaic.Lib.KernelVsHost
public import Idealize.ShloMosaic.Lib.Pointwise.Reduce
public import Idealize.ShloMosaic.Lib.ValueIdx

/-! Arrays of extended reals that hold real numbers, and what each operation does to the real numbers.

`Lf x f` says the array `x` holds the real number `f i` at every index `i`; `R2 x f` says it of a matrix and a function of
the row and the column. -/

@[expose] public section

noncomputable section

namespace Cert.Mixer

open Idealize.ShloMosaic Idealize.ShloMosaic.TcCoe Finset
open Idealize.ShloMosaic.ValueIdx (contrEquiv1 contrEquiv1_symm_val)

/-- The array holds the real numbers `f`. -/
def Lf {s : Shape} {φ : FTy} (x : FVec Ideal s φ) (f : s.Idx → ℝ) : Prop := ∀ i, x i = ((f i : ℝ) : EReal)

/-- A matrix that holds `f r c` in row `r` and column `c`. -/
abbrev R2 {n m : ℕ} {φ : FTy} (x : FVec Ideal ⟨2, ![n, m]⟩ φ) (f : ℕ → ℕ → ℝ) : Prop :=
  Lf x fun i => f (i 0).val (i 1).val

variable {s : Shape} {φ : FTy} {x y : FVec Ideal s φ} {f g : s.Idx → ℝ}

theorem Lf.congr (h : Lf x f) (e : ∀ i, f i = g i) : Lf x g := fun i => (h i).trans (congrArg _ (e i))

theorem R2.congr {n m : ℕ} {x : FVec Ideal ⟨2, ![n, m]⟩ φ} {f g : ℕ → ℕ → ℝ} (h : R2 x f)
    (e : ∀ r < n, ∀ c < m, f r c = g r c) : R2 x g := fun i => (h i).trans (congrArg _ (e _ (i 0).isLt _ (i 1).isLt))

theorem Lf.addf (hx : Lf x f) (hy : Lf y g) : Lf (addf x y) fun i => f i + g i := fun i => by
  show x i + y i = _
  rw [hx i, hy i, EReal.coe_add]
theorem Lf.subf (hx : Lf x f) (hy : Lf y g) : Lf (subf x y) fun i => f i - g i := fun i => by
  show x i - y i = _
  rw [hx i, hy i, EReal.coe_sub]
theorem Lf.mulf (hx : Lf x f) (hy : Lf y g) : Lf (mulf x y) fun i => f i * g i := fun i => by
  show x i * y i = _
  rw [hx i, hy i, EReal.coe_mul]
theorem Lf.divf (hx : Lf x f) (hy : Lf y g) (h0 : ∀ i, g i ≠ 0) : Lf (divf x y) fun i => f i / g i := fun i => by
  show Ideal.div (x i) (y i) = _
  rw [hx i, hy i, Ideal.div_coe (h0 i), ← EReal.coe_mul, mul_one_div]
theorem Lf.tanh (hx : Lf x f) : Lf (tanh x) fun i => Real.tanh (f i) := fun i => by
  show Ideal.tanh (x i) = _
  rw [hx i, Ideal.tanh_coe]
theorem Lf.rsqrt (hx : Lf x f) (h0 : ∀ i, 0 < f i) : Lf (rsqrt x) fun i => (Real.sqrt (f i))⁻¹ := fun i => by
  show Ideal.rsqrt (x i) = _
  rw [hx i, Ideal.rsqrt_coe, if_neg (h0 i).le.not_gt, if_neg (h0 i).ne']
theorem Lf.truncf {ψ : FTy} (hx : Lf x f) (h : ψ.bits < φ.bits) : Lf (truncf ψ x h) f := fun i => hx i
theorem Lf.const {r : ℝ} {b : Ideal φ} (h : (b : EReal) = (r : EReal)) (s : Shape) : Lf (φ := φ) (broadcast s b) fun _ => r :=
  fun _ => h

/-- A select between two arrays of reals is the array of the selected reals. -/
theorem Lf.select {c : IVec s 1} {p : s.Idx → Prop} [DecidablePred p] (hc : ∀ i, c i = 1#1 ↔ p i) (hx : Lf x f) (hy : Lf y g) :
    Lf (φ := φ) (select c x y) fun i => if p i then f i else g i := fun i => by
  show Scalar.select (c i) (x i) (y i) = _
  unfold Scalar.select
  by_cases h : p i
  · have := (hc i).mpr h
    simp only [this, if_pos h]
    exact hx i
  · have hn : c i = 0#1 := by
      rcases BitVec.eq_zero_or_eq_one (c i) with e | e
      · exact e
      · exact absurd ((hc i).mp e) h
    simp only [hn, if_neg h]
    exact hy i

/-- Coercion of a finite sum of reals. -/
theorem coe_sum_fin {n : ℕ} (f : ℕ → ℝ) : (∑ k : Fin n, ((f k.val : ℝ) : EReal)) = ((∑ k ∈ range n, f k : ℝ) : EReal) := by
  rw [← Fin.sum_univ_eq_sum_range]
  exact (map_sum (⟨⟨fun x : ℝ => (x : EReal), rfl⟩, EReal.coe_add⟩ : ℝ →+ EReal) _ _).symm

/-! ### Layout -/

section Layout
variable {n m : ℕ}

theorem R2.bcastCol {x : FVec Ideal ⟨2, ![n, 1]⟩ φ} {f : ℕ → ℕ → ℝ} (hx : R2 x f) (h) (hn : n ≠ 1) :
    R2 (φ := φ) (broadcastTo ⟨2, ![n, m]⟩ x h) fun r _ => f r 0 := fun i => by
  rw [broadcastTo_apply x h i (ix2 (i 0) 0)]
  · exact hx _
  · intro a
    fin_cases a
    · simp [hn]
    · simp

theorem R2.bcastRow {x : FVec Ideal ⟨2, ![1, m]⟩ φ} {f : ℕ → ℕ → ℝ} (hx : R2 x f) (h) (hm : m ≠ 1) :
    R2 (φ := φ) (broadcastTo ⟨2, ![n, m]⟩ x h) fun _ c => f 0 c := fun i => by
  rw [broadcastTo_apply x h i (ix2 0 (i 1))]
  · exact hx _
  · intro a
    fin_cases a
    · simp
    · simp [hm]

theorem R2.slice {x : FVec Ideal ⟨2, ![n, m]⟩ φ} {f : ℕ → ℕ → ℝ} (hx : R2 x f) {n' m' a b : ℕ} (h) :
    R2 (φ := φ) (extractStridedSlice ⟨2, ![n', m']⟩ ![a, b] x h) fun r c => f (a + r) (b + c) := fun i => by
  have h0 := h.2 0
  have h1 := h.2 1
  simp at h0 h1
  have i0 : (i 0).val < n' := (i 0).isLt
  have i1 : (i 1).val < m' := (i 1).isLt
  rw [extractStridedSlice_apply _ x h i (ix2 ⟨a + (i 0).val, by omega⟩ ⟨b + (i 1).val, by omega⟩)]
  · exact hx _
  · intro d
    fin_cases d <;> rfl

theorem R2.cast_self {x : FVec Ideal ⟨2, ![n, m]⟩ φ} {f : ℕ → ℕ → ℝ} (hx : R2 x f) (h) :
    R2 (φ := φ) (shapeCast ⟨2, ![n, m]⟩ x h) f := fun i => by
  rw [shapeCast_apply x h i i rfl]
  exact hx i

/-- The row sums, as a column. -/
theorem R2.rowSum {x : FVec Ideal ⟨2, ![n, m]⟩ .f32} {f : ℕ → ℕ → ℝ} (hx : R2 x f) (h hf ha hc) :
    R2 (φ := .f32) (shapeCast ⟨2, ![n, 1]⟩ (multiReduction .add [1] ⟨1, ![n]⟩ x 0x00000000#32 h hf ha) hc)
      fun r _ => ∑ c ∈ range m, f r c := fun i => by
  rw [shapeCast_apply _ hc i (fun a => match a with | ⟨0, _⟩ => i 0), multiReduction_add_apply, Ideal.reduceAdd_def, Ideal.reduceAdd_r2_a1, ← coe_sum_fin]
  · exact Finset.sum_congr rfl fun k _ => hx _
  · have : (i 1).val = 0 := by have := (i 1).isLt; simp at this; omega
    rw [Shape.rowMajor_val_one, Shape.rowMajor_val_two]
    simp [this]
    try rfl

/-- The column sums, as a row. -/
theorem R2.colSum {x : FVec Ideal ⟨2, ![n, m]⟩ .f32} {f : ℕ → ℕ → ℝ} (hx : R2 x f) (h hf ha hc) :
    R2 (φ := .f32) (shapeCast ⟨2, ![1, m]⟩ (multiReduction .add [0] ⟨1, ![m]⟩ x 0x00000000#32 h hf ha) hc)
      fun _ c => ∑ r ∈ range n, f r c := fun i => by
  rw [shapeCast_apply _ hc i (fun a => match a with | ⟨0, _⟩ => i 1), multiReduction_add_apply, Ideal.reduceAdd_def, Ideal.reduceAdd_r2_a0, ← coe_sum_fin]
  · exact Finset.sum_congr rfl fun k _ => hx _
  · have : (i 0).val = 0 := by have := (i 0).isLt; simp at this; omega
    rw [Shape.rowMajor_val_one, Shape.rowMajor_val_two]
    simp [this]
    try rfl

/-- A matrix with a leading unit axis holds the same numbers. -/
theorem R2.of3 {x : FVec Ideal ⟨3, ![1, n, m]⟩ φ} {f : ℕ → ℕ → ℝ} (hx : Lf x fun i => f (i 1).val (i 2).val) (h) :
    R2 (φ := φ) (shapeCast ⟨2, ![n, m]⟩ x h) f := fun i => by
  rw [shapeCast_apply x h i (ix3 0 (i 0) (i 1))]
  · exact hx _
  · rw [Shape.rowMajor_val_three, Shape.rowMajor_val_two]
    simp

theorem R2.to3 {x : FVec Ideal ⟨2, ![n, m]⟩ φ} {f : ℕ → ℕ → ℝ} (hx : R2 x f) (h) :
    Lf (φ := φ) (shapeCast ⟨3, ![1, n, m]⟩ x h) fun i => f (i 1).val (i 2).val := fun i => by
  rw [shapeCast_apply x h i (ix2 (i 1) (i 2))]
  · exact hx _
  · have : (i 0).val = 0 := by have := (i 0).isLt; simp at this; omega
    rw [Shape.rowMajor_val_three, Shape.rowMajor_val_two]
    simp [this]

/-- Two matrices, one above the other. -/
theorem R2.concat2 {n₁ n₂ : ℕ} {x : FVec Ideal ⟨2, ![n₁, m]⟩ φ} {y : FVec Ideal ⟨2, ![n₂, m]⟩ φ} {f g : ℕ → ℕ → ℝ}
    (hx : R2 x f) (hy : R2 y g) (h) (hn : n = n₁ + n₂) :
    R2 (φ := φ) (concatenate ⟨2, ![n, m]⟩ 0 [⟨⟨2, ![n₁, m]⟩, x⟩, ⟨⟨2, ![n₂, m]⟩, y⟩] h)
      fun r c => if r < n₁ then f r c else g (r - n₁) c := fun i => by
  have i0 : (i 0).val < n := (i 0).isLt
  by_cases hr : (i 0).val < n₁
  · simp only [if_pos hr]
    rw [concatenate_apply_piece 0 _ h i 0 (by simp) _ x rfl rfl 0 (by simp) (ix2 ⟨(i 0).val, hr⟩ (i 1))]
    · exact hx _
    · intro b hb; fin_cases b
      · exact absurd rfl hb
      · rfl
    · simp
  · simp only [if_neg hr]
    rw [concatenate_apply_piece 0 _ h i 1 (by simp) _ y rfl rfl n₁ (by simp) (ix2 ⟨(i 0).val - n₁, by omega⟩ (i 1))]
    · exact hy _
    · intro b hb; fin_cases b
      · exact absurd rfl hb
      · rfl
    · simp; omega

/-- Four chunks, one above the other. -/
theorem R2.concat4 {p : ℕ} {x₀ x₁ x₂ x₃ : FVec Ideal ⟨2, ![p, m]⟩ φ} {f : ℕ → ℕ → ℝ}
    (h0 : R2 x₀ f) (h1 : R2 x₁ fun r c => f (p + r) c) (h2 : R2 x₂ fun r c => f (2 * p + r) c)
    (h3 : R2 x₃ fun r c => f (3 * p + r) c) (h) (hn : n = 4 * p) :
    R2 (φ := φ) (concatenate ⟨2, ![n, m]⟩ 0 [⟨⟨2, ![p, m]⟩, x₀⟩, ⟨⟨2, ![p, m]⟩, x₁⟩, ⟨⟨2, ![p, m]⟩, x₂⟩, ⟨⟨2, ![p, m]⟩, x₃⟩] h) f :=
  fun i => by
  have i0 : (i 0).val < n := (i 0).isLt
  have hb : ∀ (r : Fin p) (b : Fin 2), b.cast rfl ≠ (0 : Fin 2) →
      ((ix2 r (i 1) : (⟨2, ![p, m]⟩ : Shape).Idx) b).val = (i (b.cast rfl)).val := by
    intro r b hb; fin_cases b
    · exact absurd rfl hb
    · rfl
  by_cases c0 : (i 0).val < p
  · rw [concatenate_apply_piece 0 _ h i 0 (by simp) _ x₀ rfl rfl 0 (by simp) (ix2 ⟨(i 0).val, c0⟩ (i 1)) (hb _) (by simp)]
    exact h0 _
  by_cases c1 : (i 0).val < 2 * p
  · rw [concatenate_apply_piece 0 _ h i 1 (by simp) _ x₁ rfl rfl p (by simp) (ix2 ⟨(i 0).val - p, by omega⟩ (i 1)) (hb _) (by simp; omega)]
    refine (h1 _).trans ?_
    show ((f (p + ((i 0).val - p)) (i 1).val : ℝ) : EReal) = _
    rw [show p + ((i 0).val - p) = (i 0).val by omega]
  by_cases c2 : (i 0).val < 3 * p
  · rw [concatenate_apply_piece 0 _ h i 2 (by simp) _ x₂ rfl rfl (2 * p) (by simp; omega) (ix2 ⟨(i 0).val - 2 * p, by omega⟩ (i 1)) (hb _) (by simp; omega)]
    refine (h2 _).trans ?_
    show ((f (2 * p + ((i 0).val - 2 * p)) (i 1).val : ℝ) : EReal) = _
    rw [show 2 * p + ((i 0).val - 2 * p) = (i 0).val by omega]
  · rw [concatenate_apply_piece 0 _ h i 3 (by simp) _ x₃ rfl rfl (3 * p) (by simp; omega) (ix2 ⟨(i 0).val - 3 * p, by omega⟩ (i 1)) (hb _) (by simp; omega)]
    refine (h3 _).trans ?_
    show ((f (3 * p + ((i 0).val - 3 * p)) (i 1).val : ℝ) : EReal) = _
    rw [show 3 * p + ((i 0).val - 3 * p) = (i 0).val by omega]

/-- A rotation down by `k` rows. -/
theorem R2.rotate {x : FVec Ideal ⟨2, ![n, m]⟩ φ} {f : ℕ → ℕ → ℝ} (hx : R2 x f) (k : BitVec 32) (h) (hk : k.toNat < n) :
    R2 (φ := φ) (dynamicRotate 0 k none x h) fun r c => f ((r + n - k.toNat) % n) c := fun i => by
  rw [dynamicRotate_apply 0 k x h i (ix2 ⟨((i 0).val + n - k.toNat) % n, Nat.mod_lt _ (by omega)⟩ (i 1))]
  · exact hx _
  · intro b; fin_cases b
    · simp [Nat.mod_eq_of_lt hk]
    · simp

end Layout

/-! ### Products -/

section Products
variable {φ₁ φ₂ : FTy} {M K N : ℕ} {f g : ℕ → ℕ → ℝ}

/-- Rows times columns. -/
theorem R2.mm10 {a : FVec Ideal ⟨2, ![M, K]⟩ φ₁} {b : FVec Ideal ⟨2, ![K, N]⟩ φ₂} (ha : R2 a f) (hb : R2 b g) (prec) (wf) :
    R2 (φ := .f32) (matmul (⟨[1], [0], [0], [1], [], [], wf⟩ : DotDims ⟨2, ![M, K]⟩ ⟨2, ![K, N]⟩ ⟨2, ![M, N]⟩) prec a b
      (constant ⟨2, ![M, N]⟩ .f32 0x00000000#32)) fun r c => ∑ k ∈ range K, f r k * g k c := fun i => by
  refine (Ideal.matmul_constant_zero_apply _ prec a b i).trans ?_
  rw [← coe_sum_fin, ← Equiv.sum_comp (contrEquiv1 _ K rfl rfl).symm]
  exact Finset.sum_congr rfl fun k _ => by rw [ha, hb, EReal.coe_mul]; rfl

/-- Columns times columns. -/
theorem R2.mm00 {a : FVec Ideal ⟨2, ![K, M]⟩ φ₁} {b : FVec Ideal ⟨2, ![K, N]⟩ φ₂} (ha : R2 a f) (hb : R2 b g) (prec) (wf) :
    R2 (φ := .f32) (matmul (⟨[0], [0], [1], [1], [], [], wf⟩ : DotDims ⟨2, ![K, M]⟩ ⟨2, ![K, N]⟩ ⟨2, ![M, N]⟩) prec a b
      (constant ⟨2, ![M, N]⟩ .f32 0x00000000#32)) fun r c => ∑ k ∈ range K, f k r * g k c := fun i => by
  refine (Ideal.matmul_constant_zero_apply _ prec a b i).trans ?_
  rw [← coe_sum_fin, ← Equiv.sum_comp (contrEquiv1 _ K rfl rfl).symm]
  exact Finset.sum_congr rfl fun k _ => by rw [ha, hb, EReal.coe_mul]; rfl

/-- Rows times rows. -/
theorem R2.mm11 {a : FVec Ideal ⟨2, ![M, K]⟩ φ₁} {b : FVec Ideal ⟨2, ![N, K]⟩ φ₂} (ha : R2 a f) (hb : R2 b g) (prec) (wf) :
    R2 (φ := .f32) (matmul (⟨[1], [1], [0], [0], [], [], wf⟩ : DotDims ⟨2, ![M, K]⟩ ⟨2, ![N, K]⟩ ⟨2, ![M, N]⟩) prec a b
      (constant ⟨2, ![M, N]⟩ .f32 0x00000000#32)) fun r c => ∑ k ∈ range K, f r k * g c k := fun i => by
  refine (Ideal.matmul_constant_zero_apply _ prec a b i).trans ?_
  rw [← coe_sum_fin, ← Equiv.sum_comp (contrEquiv1 _ K rfl rfl).symm]
  exact Finset.sum_congr rfl fun k _ => by rw [ha, hb, EReal.coe_mul]; rfl

end Products

end Cert.Mixer

end
-- ==== Proof.Mixer.Consts.lean ====
module

public import Idealize.ShloMosaic.PureOps.Ideal.Laws

/-! The real numbers the programs' float constants denote. -/

@[expose] public section

noncomputable section

namespace Cert.Mixer

open Idealize.ShloMosaic

/-- The constant of the tanh form, near the root of two over pi. -/
def cC : ℝ := 13386282 / 16777216
/-- The small number added to a mean of squares. -/
def cEps : ℝ := 8796093 / 8796093022208

theorem cEps_pos : 0 < cEps := by unfold cEps; norm_num

theorem bits_C : Ideal.ofBits .f32 0x3F4C422A#32 = ((cC : ℝ) : EReal) := by
  unfold cC; simp [Ideal.ofBits, Ideal.ieee, -EReal.coe_mul]; norm_num
theorem bits_eps : Ideal.ofBits .f32 0x358637BD#32 = ((cEps : ℝ) : EReal) := by
  unfold cEps; simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_zero : Ideal.ofBits .f32 0x00000000#32 = ((0 : ℝ) : EReal) := by
  rw [Ideal.ofBits_zero_f32, EReal.coe_zero]
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num

end Cert.Mixer

end
-- ==== Proof.Mixer.Spec.lean ====
module

public import proofs.«01_k».proof.Proof.Mixer.Consts
public import Mathlib.Analysis.SpecialFunctions.Trigonometric.DerivHyp
public import Mathlib.Algebra.BigOperators.Intervals

/-! The gradients the kernel computes, as real functions of a row and a column.

A head is given by its columns `U`, `V` of the projection, its columns `D` of the incoming gradient, its gain `G`, its
mixing matrix `W` and its bias `B`. Every function reads only rows of the row's own chunk of 128. -/

@[expose] public section

noncomputable section

namespace Cert.Mixer

open Finset

/-- The coefficient of the cube in the tanh form. -/
def cA : ℝ := 8943 / 200000
/-- Three times that coefficient. -/
def c3A : ℝ := 26829 / 200000

def gth (x : ℝ) : ℝ := Real.tanh (cC * (x + cA * x * x * x))
/-- The tanh form of gelu. -/
def gelu (x : ℝ) : ℝ := 1 / 2 * x * (1 + gth x)
/-- Its derivative. -/
def dgelu (x : ℝ) : ℝ := 1 / 2 * (1 + gth x) + 1 / 2 * x * (1 - gth x * gth x) * (cC * (1 + c3A * x * x))

section Head
variable (U V D : ℕ → ℕ → ℝ) (G : ℕ → ℝ) (W : ℕ → ℕ → ℝ) (B : ℕ → ℝ)

/-- A row's sum of squares. -/
def sq (r : ℕ) : ℝ := ∑ c ∈ range 128, gelu (V r c) * gelu (V r c)
/-- One over a row's root mean square. -/
def rr (r : ℕ) : ℝ := (Real.sqrt (sq V r / 128 + cEps))⁻¹
/-- The normalised row. -/
def hat (r c : ℕ) : ℝ := gelu (V r c) * rr V r
/-- The normalised row, scaled. -/
def vn (r c : ℕ) : ℝ := hat V r c * G c
/-- The gradient of the mixed values. -/
def dmix (r c : ℕ) : ℝ := D r c * gelu (U r c)
/-- The mixing matrix on and below its diagonal. -/
def tril (t s : ℕ) : ℝ := if s ≤ t then W t s else 0
/-- The mixed values. -/
def mixed (r c : ℕ) : ℝ := ∑ s ∈ range 128, tril W (r % 128) s * vn V G (128 * (r / 128) + s) c + B (r % 128)
/-- The gradient of the `u` columns. -/
def du (r c : ℕ) : ℝ := D r c * mixed V G W B r c * dgelu (U r c)
/-- The gradient of the scaled normalised values. -/
def dvn (r c : ℕ) : ℝ := ∑ t ∈ range 128, tril W t (r % 128) * dmix U D (128 * (r / 128) + t) c
/-- The gradient of the `v` columns. -/
def dv (r c : ℕ) : ℝ :=
  rr V r * (dvn U D W r c * G c - hat V r c * ((∑ k ∈ range 128, dvn U D W r k * G k * hat V r k) / 128)) * dgelu (V r c)
/-- Chunk `n`'s part of the mixing matrix's gradient. -/
def dws1 (n t s : ℕ) : ℝ := ∑ d ∈ range 128, dmix U D (128 * n + t) d * vn V G (128 * n + s) d
/-- Chunk `n`'s part of the bias's gradient. -/
def dbs1 (n t : ℕ) : ℝ := ∑ d ∈ range 128, dmix U D (128 * n + t) d

end Head

theorem sq_pos (V : ℕ → ℕ → ℝ) (r : ℕ) : 0 < sq V r / 128 + cEps :=
  add_pos_of_nonneg_of_pos (div_nonneg (sum_nonneg fun _ _ => mul_self_nonneg _) (by norm_num)) cEps_pos

/-! A pooling group is given by its window `w`, its columns `Z` of the projection, its columns `D` of the incoming gradient,
its matrix `P` and its scale `S`. -/

section Pool
variable (w : ℕ) (Z D : ℕ → ℕ → ℝ) (P : ℕ → ℕ → ℝ) (S : ℕ → ℝ)

/-- How many rows the window of row `q` holds. -/
def cnt (q : ℕ) : ℝ := (min (q + 1) w : ℕ)
/-- The mean over the window less the row itself. -/
def pooled (q c : ℕ) : ℝ := (∑ k ∈ range w, if k ≤ q then Z (q - k) c else 0) / cnt w q - Z q c
/-- The gradient of the product with the pooling matrix, zero after the last row. -/
def dy (q d : ℕ) : ℝ := (if q < 4096 then D q d else 0) * S d
/-- The gradient of the pooled values. -/
def dpl (q c : ℕ) : ℝ := ∑ d ∈ range 256, dy D S q d * P c d
/-- The gradient of the `z` columns. -/
def dz (q c : ℕ) : ℝ := (∑ k ∈ range w, dpl D P S (q + k) c / cnt w (q + k)) - dpl D P S q c
/-- A row's part of the scale's gradient. -/
def dps1 (q d : ℕ) : ℝ := D q d * ∑ c ∈ range 256, pooled w Z q c * P c d
/-- A row's part of the pooling matrix's gradient. -/
def dwp1 (c d q : ℕ) : ℝ := pooled w Z q c * dy D S q d

end Pool

theorem cnt_pos (w : ℕ) (hw : 0 < w) (q : ℕ) : 0 < cnt w q := by
  unfold cnt
  exact_mod_cast (by omega : 0 < min (q + 1) w)

end Cert.Mixer

end
-- ==== Proof.Mixer.Head.lean ====
module

public import proofs.«01_k».proof.Proof.Mixer.Body
public import proofs.«01_k».proof.Proof.Mixer.Lift
public import proofs.«01_k».proof.Proof.Mixer.Spec
public import Idealize.ShloMosaic.PureOps.IdealRules

/-! What one head of the kernel's body computes from blocks of real numbers. -/

@[expose] public section

set_option maxRecDepth 16384

noncomputable section

namespace Cert.Mixer

open Cert.KernelIdeal Cert.KernelIdeal.Gen Idealize.ShloMosaic Idealize.ShloMosaic.TcCoe Finset

theorem named_A : (Named.named (F := Ideal) κ "gelu_a" (φ := .f32) 0x3D372713#32 : EReal) = ((cA : ℝ) : EReal) :=
  IdealRules.named_const.ideal_named_scalar _ _ _ _ rfl
theorem named_3A : (Named.named (F := Ideal) κ "gelu_3a" (φ := .f32) 0x3E095D4F#32 : EReal) = ((c3A : ℝ) : EReal) :=
  IdealRules.named_const.ideal_named_scalar _ _ _ _ rfl

section
variable {n m : ℕ}

theorem c_A (s : Shape) : Lf (φ := .f32) (broadcast s (Named.named (F := Ideal) κ "gelu_a" 0x3D372713#32)) fun _ => cA :=
  .const named_A s
theorem c_3A (s : Shape) : Lf (φ := .f32) (broadcast s (Named.named (F := Ideal) κ "gelu_3a" 0x3E095D4F#32)) fun _ => c3A :=
  .const named_3A s
theorem c_C (s : Shape) : Lf (φ := .f32) (broadcast s (Scalar.ofBits (F := Ideal) .f32 0x3F4C422A#32)) fun _ => cC := .const bits_C s
theorem c_eps (s : Shape) : Lf (φ := .f32) (broadcast s (Scalar.ofBits (F := Ideal) .f32 0x358637BD#32)) fun _ => cEps := .const bits_eps s
theorem c_half (s : Shape) : Lf (φ := .f32) (broadcast s (Scalar.ofBits (F := Ideal) .f32 0x3F000000#32)) fun _ => 1 / 2 := .const bits_half s
theorem c_one (s : Shape) : Lf (φ := .f32) (broadcast s (Scalar.ofBits (F := Ideal) .f32 0x3F800000#32)) fun _ => 1 := .const bits_one s
theorem c_128 (s : Shape) : Lf (φ := .f32) (broadcast s (Scalar.ofBits (F := Ideal) .f32 0x43000000#32)) fun _ => 128 := .const bits_128 s
theorem c_zero (s : Shape) : Lf (φ := .f32) (broadcast s (Scalar.ofBits (F := Ideal) .f32 0x00000000#32)) fun _ => 0 := .const bits_zero s
end

/-- The causal mask holds on and below the diagonal. -/
theorem mask_apply (i : S128x128.Idx) : k0_pay8 i = 1#1 ↔ (i 1).val ≤ (i 0).val := by
  show (cmpi .sge (iota .tc S128x128 32 [0] iota_S128x128_d0_w32) (iota .tc S128x128 32 [1] iota_S128x128_d1_w32)) i = 1#1 ↔ _
  have h : ∀ a b : Fin 128, Scalar.cmpi .sge (BitVec.ofNat 32 a.val) (BitVec.ofNat 32 b.val) = 1#1 ↔ b.val ≤ a.val := by decide +kernel
  have := h (i 0) (i 1)
  rw [← this]
  show Scalar.cmpi .sge (iota .tc S128x128 32 [0] iota_S128x128_d0_w32 i) (iota .tc S128x128 32 [1] iota_S128x128_d1_w32 i) = 1#1 ↔ _
  rw [iota_single_apply, iota_single_apply]

section Eval
variable {xu xv d : FVec Ideal S512x128 .f32} {gv : FVec Ideal S1x128 .f32} {w : FVec Ideal S1x128x128 .f32} {b : FVec Ideal S128x1 .f32}
  {U V D : ℕ → ℕ → ℝ} {G : ℕ → ℝ} {W : ℕ → ℕ → ℝ} {B : ℕ → ℝ}

theorem pay9 (h : R2 xv V) : R2 (k0_pay9 xv) fun r c => gth (V r c) :=
  ((c_C _).mulf (h.addf ((((c_A _).mulf h).mulf h).mulf h))).tanh
theorem pay16 (h : R2 xv V) : R2 (k0_pay16 xv) fun r c => gth (V r c) := pay9 h
theorem pay10 (h : R2 xv V) : R2 (k0_pay10 xv) fun r c => gelu (V r c) :=
  ((c_half _).mulf h).mulf ((c_one _).addf (pay9 h))
theorem pay17 (h : R2 xv V) : R2 (k0_pay17 xv) fun r c => gelu (V r c) := pay10 h
theorem pay11 (h : R2 xv V) : R2 (k0_pay11 xv) fun r c => dgelu (V r c) :=
  ((c_half _).mulf ((c_one _).addf (pay9 h))).addf
    ((((c_half _).mulf h).mulf ((c_one _).subf ((pay9 h).mulf (pay9 h)))).mulf
      ((c_C _).mulf ((c_one _).addf (((c_3A _).mulf h).mulf h))))
theorem pay20 (h : R2 xu U) : R2 (k0_pay20 (k0_pay18 xu) (k0_pay19 xu)) fun r c => dgelu (U r c) := pay11 h
theorem pay12 (h : R2 xv V) : R2 (k0_pay12 xv) fun r _ => sq V r :=
  R2.rowSum ((pay10 h).mulf (pay10 h)) _ _ _ _
theorem pay13 (h : R2 xv V) : R2 (k0_pay13 (k0_pay12 xv)) fun r _ => rr V r :=
  (((pay12 h).divf (c_128 _) fun _ => by norm_num).addf (c_eps _)).rsqrt fun _ => sq_pos _ _
theorem pay14 (h : R2 xv V) : R2 (k0_pay14 (k0_pay10 xv) (k0_pay12 xv)) (hat V) :=
  (pay10 h).mulf (R2.bcastCol (pay13 h) _ (by decide))

/-- The scaled normalised values. -/
theorem hVn_eval (h : R2 xv V) (hg : R2 gv fun _ c => G c) : R2 (hVn xv gv) (vn V G) :=
  ((pay14 h).mulf (R2.bcastRow hg _ (by decide))).truncf _

theorem pay21 (h : Lf w fun i => W (i 1).val (i 2).val) : R2 (k0_pay21 k0_pay8 w) (tril W) :=
  (Lf.select (p := fun i => (i 1).val ≤ (i 0).val) mask_apply (R2.of3 (f := W) h _) (c_zero _)).truncf _
theorem pay23 (hu : R2 xu U) (hd : R2 d D) : R2 (k0_pay23 (k0_pay17 xu) d) (dmix U D) := hd.mulf (pay17 hu)
theorem pay24 (hu : R2 xu U) (hd : R2 d D) : R2 (k0_pay24 (k0_pay17 xu) d) (dmix U D) := (pay23 hu hd).truncf _

/-- A chunk of rows. -/
theorem R2.chunk {φ : FTy} {x : FVec Ideal S512x128 φ} {f : ℕ → ℕ → ℝ} (hx : R2 x f) (n : ℕ) (h : S512x128.Slices ![128 * n, 0] S128x128) :
    R2 (φ := φ) (extractStridedSlice S128x128 ![128 * n, 0] x h) fun r c => f (128 * n + r) c :=
  (R2.slice hx h).congr fun r _ c _ => by rw [Nat.zero_add]

/-- A chunk's product of the incoming gradient and the mixed values. -/
theorem du_chunk {wm : FVec Ideal S128x128 .bf16} {vv : FVec Ideal S512x128 .bf16} (n : ℕ) (hs : S512x128.Slices ![128 * n, 0] S128x128)
    (hw : R2 wm (tril W)) (hv : R2 vv (vn V G)) (hb : R2 b fun r _ => B r) (hd : R2 d D) (h1 wf) :
    R2 (mulf (extractStridedSlice S128x128 ![128 * n, 0] d hs)
      (addf (matmul (⟨[1], [0], [0], [1], [], [], wf⟩ : DotDims S128x128 S128x128 S128x128) none wm
        (extractStridedSlice S128x128 ![128 * n, 0] vv hs) (constant S128x128 .f32 0x00000000#32))
        (broadcastTo S128x128 b h1)))
      fun r c => D (128 * n + r) c * mixed V G W B (128 * n + r) c :=
  R2.congr (f := fun r c => D (128 * n + r) c * (∑ k ∈ range 128, tril W r k * vn V G (128 * n + k) c + B r)) ((R2.chunk hd n hs).mulf ((R2.mm10 hw (R2.chunk hv n hs) _ wf).addf (R2.bcastCol hb h1 (by decide))))
    fun r hr c _ => by
      have e1 : (128 * n + r) % 128 = r := by omega
      have e2 : (128 * n + r) / 128 = n := by omega
      simp only [mixed, e1, e2]

/-- A chunk of the gradient of the normalised values. -/
theorem dvn_chunk {wm : FVec Ideal S128x128 .bf16} {dm : FVec Ideal S512x128 .bf16} (n : ℕ) (hs : S512x128.Slices ![128 * n, 0] S128x128)
    (hw : R2 wm (tril W)) (hd : R2 dm (dmix U D)) (wf) :
    R2 (matmul (⟨[0], [0], [1], [1], [], [], wf⟩ : DotDims S128x128 S128x128 S128x128) none wm
        (extractStridedSlice S128x128 ![128 * n, 0] dm hs) (constant S128x128 .f32 0x00000000#32))
      fun r c => dvn U D W (128 * n + r) c :=
  R2.congr (R2.mm00 hw (R2.chunk hd n hs) _ wf)
    fun r hr c _ => by
      have e1 : (128 * n + r) % 128 = r := by omega
      have e2 : (128 * n + r) / 128 = n := by omega
      simp only [dvn, e1, e2]

theorem hDvn_eval (hu : R2 xu U) (hw : Lf w fun i => W (i 1).val (i 2).val) (hd : R2 d D) (k : Fin 4) :
    R2 (hDvn xu w d k) fun r c => dvn U D W (128 * k.val + r) c := by
  match k with
  | 0 => exact dvn_chunk 0 _ (pay21 hw) (pay24 hu hd) _
  | 1 => exact dvn_chunk 1 _ (pay21 hw) (pay24 hu hd) _
  | 2 => exact dvn_chunk 2 _ (pay21 hw) (pay24 hu hd) _
  | 3 => exact dvn_chunk 3 _ (pay21 hw) (pay24 hu hd) _

/-- The four chunks of it, one above the other. -/
theorem pay39 (hu : R2 xu U) (hw : Lf w fun i => W (i 1).val (i 2).val) (hd : R2 d D) :
    R2 (k0_pay39 (hDvn xu w d 0) (hDvn xu w d 1) (hDvn xu w d 2) (hDvn xu w d 3)) (dvn U D W) :=
  R2.concat4 ((hDvn_eval hu hw hd 0).congr fun r _ c _ => by norm_num) (hDvn_eval hu hw hd 1) (hDvn_eval hu hw hd 2)
    (hDvn_eval hu hw hd 3) concatenates_S128x128_S128x128_S128x128_S128x128_S512x128_d0 rfl

/-- The gradient of the `u` columns. -/
theorem hDu_eval (hu : R2 xu U) (hv : R2 xv V) (hg : R2 gv fun _ c => G c) (hw : Lf w fun i => W (i 1).val (i 2).val)
    (hb : R2 b fun r _ => B r) (hd : R2 d D) : R2 (hDu xu xv gv w b d) (du U V D G W B) := by
  have hb' : R2 (k0_pay22 b) fun r _ => B r := R2.cast_self hb _
  exact ((R2.concat4 (f := fun r c => D r c * mixed V G W B r c)
    ((du_chunk 0 _ (pay21 hw) (hVn_eval hv hg) hb' hd _ _).congr fun r _ c _ => by norm_num)
    (du_chunk 1 _ (pay21 hw) (hVn_eval hv hg) hb' hd _ _) (du_chunk 2 _ (pay21 hw) (hVn_eval hv hg) hb' hd _ _)
    (du_chunk 3 _ (pay21 hw) (hVn_eval hv hg) hb' hd _ _) concatenates_S128x128_S128x128_S128x128_S128x128_S512x128_d0 rfl).mulf (pay20 hu)).truncf _

/-- The gradient of the `v` columns. -/
theorem hDv_eval (hu : R2 xu U) (hv : R2 xv V) (hg : R2 gv fun _ c => G c) (hw : Lf w fun i => W (i 1).val (i 2).val)
    (hd : R2 d D) : R2 (hDv xu xv gv w d) (dv U V D G W) := by
  have h1 := (pay39 hu hw hd).mulf (R2.bcastRow (n := 512) hg broadcasts_S1x128_S512x128 (by decide))
  have h2 := (R2.rowSum (f := fun r k => dvn U D W r k * G k * hat V r k) (h1.mulf (pay14 hv)) reduces_S512x128_S512 (.inl rfl) rfl
    shapeCasts_S512_S512x1).divf (c_128 _) fun _ => by norm_num
  exact (((R2.bcastCol (pay13 hv) broadcasts_S512x1_S512x128 (by decide)).mulf
    (h1.subf ((pay14 hv).mulf (R2.bcastCol (f := fun r _ => (∑ k ∈ range 128, dvn U D W r k * G k * hat V r k) / 128) h2
      broadcasts_S512x1_S512x128 (by decide))))).mulf (pay11 hv)).truncf _

theorem dws_chunk (n : ℕ) (hs : S512x128.Slices ![128 * n, 0] S128x128) {dm vv : FVec Ideal S512x128 .bf16}
    (hd : R2 dm (dmix U D)) (hv : R2 vv (vn V G)) (wf) :
    R2 (matmul (⟨[1], [1], [0], [0], [], [], wf⟩ : DotDims S128x128 S128x128 S128x128) none
        (extractStridedSlice S128x128 ![128 * n, 0] dm hs) (extractStridedSlice S128x128 ![128 * n, 0] vv hs)
        (constant S128x128 .f32 0x00000000#32)) (dws1 U V D G n) :=
  R2.mm11 (R2.chunk hd n hs) (R2.chunk hv n hs) _ wf

/-- The mixing matrix's gradient, added to what is there. -/
theorem hDws_eval (hu : R2 xu U) (hv : R2 xv V) (hg : R2 gv fun _ c => G c) (hd : R2 d D) {acc : FVec Ideal S1x128x128 .f32}
    {A : ℕ → ℕ → ℝ} (ha : Lf acc fun i => A (i 1).val (i 2).val) :
    Lf (hDws xu xv gv d acc) fun i => A (i 1).val (i 2).val +
      if (i 2).val ≤ (i 1).val then ∑ n ∈ range 4, dws1 U V D G n (i 1).val (i 2).val else 0 := by
  have hc := fun n hs => dws_chunk n hs (pay24 hu hd) (hVn_eval hv hg) dot_S128x128_S128x128_S128x128_1_1_0_0_n_n_wf
  have h4 := ((((c_zero S128x128).addf (hc 0 slices_S512x128_o0_0_S128x128)).addf (hc 1 slices_S512x128_o128_0_S128x128)).addf
    (hc 2 slices_S512x128_o256_0_S128x128)).addf (hc 3 slices_S512x128_o384_0_S128x128)
  have h5 := (R2.of3 (f := A) ha shapeCasts_S1x128x128_S128x128).addf
    (Lf.select (p := fun i => (i 1).val ≤ (i 0).val) mask_apply h4 (c_zero _))
  refine Lf.congr (R2.to3 (f := fun t s => A t s + if s ≤ t then
    0 + dws1 U V D G 0 t s + dws1 U V D G 1 t s + dws1 U V D G 2 t s + dws1 U V D G 3 t s else 0) h5
    shapeCasts_S128x128_S1x128x128) fun i => ?_
  simp only [sum_range_succ, sum_range_zero]

/-- The bias's gradient, added to what is there. -/
theorem hDbs_eval (hu : R2 xu U) (hd : R2 d D) {acc : FVec Ideal S128x1 .f32} {A : ℕ → ℝ} (ha : R2 acc fun r _ => A r) :
    R2 (hDbs xu d acc) fun r _ => A r + ∑ n ∈ range 4, dbs1 U D n r := by
  have hc : ∀ n hs, R2 _ fun r _ => dbs1 U D n r := fun n hs => R2.rowSum (R2.chunk (pay23 hu hd) n hs) reduces_S128x128_S128 (.inl rfl) rfl
    shapeCasts_S128_S128x1
  have h4 := ((((c_zero S128x1).addf (hc 0 slices_S512x128_o0_0_S128x128)).addf (hc 1 slices_S512x128_o128_0_S128x128)).addf
    (hc 2 slices_S512x128_o256_0_S128x128)).addf (hc 3 slices_S512x128_o384_0_S128x128)
  refine R2.congr (f := fun r _ => A r + (0 + dbs1 U D 0 r + dbs1 U D 1 r + dbs1 U D 2 r + dbs1 U D 3 r))
    ((R2.cast_self ha shapeCasts_S128x1_S128x1).addf h4) fun r _ c _ => ?_
  simp only [sum_range_succ, sum_range_zero]

/-- The gain's gradient, added to what is there. -/
theorem hDgv_eval (hu : R2 xu U) (hv : R2 xv V) (hw : Lf w fun i => W (i 1).val (i 2).val) (hd : R2 d D)
    {acc : FVec Ideal S1x128 .f32} {A : ℕ → ℝ} (ha : R2 acc fun _ c => A c) :
    R2 (hDgv xu xv w d acc) fun _ c => A c + ∑ r ∈ range 512, dvn U D W r c * hat V r c :=
  (R2.cast_self ha shapeCasts_S1x128_S1x128).addf
    (R2.colSum (f := fun r c => dvn U D W r c * hat V r c) ((pay39 hu hw hd).mulf (pay14 hv)) reduces_S512x128_S128 (.inl rfl) rfl
      shapeCasts_S128_S1x128)

end Eval

end Cert.Mixer

end
-- ==== Proof.Mixer.Pool.lean ====
module

public import proofs.«01_k».proof.Proof.Mixer.Head

/-! What one pooling group of the kernel's body computes from blocks of real numbers. -/

@[expose] public section

set_option maxRecDepth 16384

noncomputable section

namespace Cert.Mixer

open Cert.KernelIdeal Cert.KernelIdeal.Gen Idealize.ShloMosaic Idealize.ShloMosaic.TcCoe Finset

/-- The group's window. -/
def win (g : Fin 4) : ℕ := match g with | 0 => 2 | 1 => 4 | 2 => 8 | 3 => 16

theorem win_pos (g : Fin 4) : 0 < win g := by revert g; decide
theorem win_le (g : Fin 4) : win g ≤ 16 := by revert g; decide
theorem gWin_eq (g : Fin 4) : gWin g = BitVec.ofNat 32 (win g) := by revert g; decide

/-! ### The counts -/

theorem minsi_ofNat (a b : ℕ) (ha : a < 2 ^ 31) (hb : b < 2 ^ 31) :
    (Scalar.minsi (BitVec.ofNat 32 a) (BitVec.ofNat 32 b)).toInt = (min a b : ℕ) := by
  have h1 : (BitVec.ofNat 32 a).toInt = a := by simp only [BitVec.toInt, BitVec.toNat_ofNat]; omega
  have h2 : (BitVec.ofNat 32 b).toInt = b := by simp only [BitVec.toInt, BitVec.toNat_ofNat]; omega
  show (IntOp.minsi _ _).toInt = _
  unfold IntOp.minsi
  rw [BitVec.slt_eq_decide, h1, h2]
  by_cases h : (a : ℤ) < b
  · simp only [h, decide_true, if_true, h1]
    omega
  · simp only [h, decide_false, Bool.false_eq_true, if_false, h2]
    omega

/-- The counts of the rows from row `512 i` on. -/
theorem count_eval {n : ℕ} (i : ℕ) (hi : i < 8) (g : Fin 4) (hn : n ≤ 528) (h) :
    R2 (sitofp (F := Ideal) .f32 (minsi (addi (addi (broadcast (⟨2, ![n, 1]⟩ : Shape) (Scalar.muli (BitVec.ofNat 32 i) 512#32))
      (iota .tc ⟨2, ![n, 1]⟩ 32 [0] h)) (broadcast ⟨2, ![n, 1]⟩ 1#32)) (broadcast ⟨2, ![n, 1]⟩ (gWin g))))
      fun r _ => cnt (win g) (512 * i + r) := fun j => by
  have j0 : (j 0).val < n := (j 0).isLt
  show (((Scalar.minsi (BitVec.ofNat 32 i * 512#32 + iota .tc ⟨2, ![n, 1]⟩ 32 [0] h j + 1#32) (gWin g)).toInt : ℝ) : EReal) = _
  rw [iota_single_apply, gWin_eq, show (512#32 : BitVec 32) = BitVec.ofNat 32 512 from rfl, show (1#32 : BitVec 32) = BitVec.ofNat 32 1 from rfl,
    ← BitVec.ofNat_mul, ← BitVec.ofNat_add, ← BitVec.ofNat_add, minsi_ofNat _ _ (by omega) (by have := win_le g; omega)]
  rw [show i * 512 + (j 0).val + 1 = 512 * i + (j 0).val + 1 by omega]
  rfl

/-! ### The window sums -/

section Windows
variable {x : FVec Ideal S528x256 .f32} {f : ℕ → ℕ → ℝ}

theorem rotAdd_eval {h : ℕ → ℕ → ℝ} (hx : R2 x h) (k : BitVec 32) (hk : k.toNat < 528) :
    R2 (rotAdd k x) fun r c => h r c + h ((r + 528 - k.toNat) % 528) c := hx.addf (R2.rotate hx k _ hk)

/-- Away from the first rows, the sum of the `w` rows up to each row. -/
def Back (x : FVec Ideal S528x256 .f32) (f : ℕ → ℕ → ℝ) (w : ℕ) : Prop :=
  ∃ h, R2 x h ∧ ∀ r c, w ≤ r + 1 → r < 528 → h r c = ∑ k ∈ range w, f (r - k) c

theorem Back.step {w : ℕ} (hx : Back x f w) (k : BitVec 32) (hk : k.toNat = w) (hw : w < 264) (hw0 : 0 < w) : Back (rotAdd k x) f (2 * w) := by
  obtain ⟨h, h1, h2⟩ := hx
  refine ⟨_, rotAdd_eval h1 k (by omega), fun r c hr hr' => ?_⟩
  have e : (r + 528 - k.toNat) % 528 = r - w := by omega
  rw [e, h2 r c (by omega) hr', h2 (r - w) c (by omega) (by omega), two_mul, sum_range_add]
  exact congrArg _ (sum_congr rfl fun k _ => by rw [Nat.sub_sub])

theorem gBack_eval (g : Fin 4) (hx : R2 x f) : Back (gBack g x) f (win g) := by
  have h0 : Back x f 1 := ⟨f, hx, fun r c _ _ => by simp⟩
  have h1 := h0.step 1#32 rfl (by omega) (by omega)
  match g with
  | 0 => exact h1
  | 1 => exact h1.step 2#32 rfl (by omega) (by omega)
  | 2 => exact (h1.step 2#32 rfl (by omega) (by omega)).step 4#32 rfl (by omega) (by omega)
  | 3 => exact ((h1.step 2#32 rfl (by omega) (by omega)).step 4#32 rfl (by omega) (by omega)).step 8#32 rfl (by omega) (by omega)

/-- Away from the last rows, the sum of the `w` rows from each row on. -/
def Ahead (x : FVec Ideal S528x256 .f32) (f : ℕ → ℕ → ℝ) (w : ℕ) : Prop :=
  ∃ h, R2 x h ∧ ∀ r c, r + w ≤ 528 → h r c = ∑ k ∈ range w, f (r + k) c

theorem Ahead.step {w : ℕ} (hx : Ahead x f w) (k : BitVec 32) (hk : k.toNat + w = 528) (hw : 0 < w) : Ahead (rotAdd k x) f (2 * w) := by
  obtain ⟨h, h1, h2⟩ := hx
  refine ⟨_, rotAdd_eval h1 k (by omega), fun r c hr => ?_⟩
  have e : (r + 528 - k.toNat) % 528 = r + w := by omega
  rw [e, h2 r c (by omega), h2 (r + w) c (by omega), two_mul, sum_range_add]
  exact congrArg _ (sum_congr rfl fun k _ => by rw [Nat.add_assoc])

theorem gAhead_eval (g : Fin 4) (hx : R2 x f) : Ahead (gAhead g x) f (win g) := by
  have h0 : Ahead x f 1 := ⟨f, hx, fun r c _ => by simp⟩
  have h1 := h0.step 527#32 rfl (by omega)
  match g with
  | 0 => exact h1
  | 1 => exact h1.step 526#32 rfl (by omega)
  | 2 => exact (h1.step 526#32 rfl (by omega)).step 524#32 rfl (by omega)
  | 3 => exact ((h1.step 526#32 rfl (by omega)).step 524#32 rfl (by omega)).step 520#32 rfl (by omega)

end Windows

/-! ### The group -/

section Group
variable {zg dg : FVec Ideal S528x256 .f32} {wp : FVec Ideal S8x1x32x256 .bf16} {ps : FVec Ideal S1x256 .f32}
  {Z D P : ℕ → ℕ → ℝ} {S : ℕ → ℝ} {i : ℕ} (g : Fin 4)

/-- The rows before point `i`'s block and the block, from the whole array. -/
def zpad (Z : ℕ → ℕ → ℝ) (i r c : ℕ) : ℝ := if r < 16 then (if 0 < i then Z (512 * i - 16 + r) c else 0) else Z (512 * i + (r - 16)) c
/-- Point `i`'s block and the rows after it, from the whole array. -/
def dpad (D : ℕ → ℕ → ℝ) (i r c : ℕ) : ℝ := if 512 * i + r < 4096 then D (512 * i + r) c else 0

theorem gPooled_eval (hi : i < 8) (hz : R2 zg (zpad Z i)) :
    R2 (gPooled g (BitVec.ofNat 32 i) zg) fun r c => pooled (win g) Z (512 * i + r) c := by
  obtain ⟨h, h1, h2⟩ := gBack_eval g hz
  have hc : R2 _ _ := R2.bcastCol (m := 256) (count_eval (n := 512) i hi g (by omega) iota_S512x1_d0_w32) broadcasts_S512x1_S512x256 (by decide)
  have hs : R2 _ _ := R2.slice h1 slices_S528x256_o16_0_S512x256
  have hz' : R2 _ _ := R2.slice hz slices_S528x256_o16_0_S512x256
  refine R2.congr (f := fun r c => h (16 + r) (0 + c) / cnt (win g) (512 * i + r) - zpad Z i (16 + r) (0 + c))
    (((hs.divf hc fun j => (cnt_pos _ (win_pos g) _).ne').subf hz').truncf bitsLt_bf16_f32) fun r hr c _ => ?_
  have hw := win_le g
  rw [h2 _ _ (by omega) (by omega), Nat.zero_add]
  unfold pooled
  congr 1
  · congr 1
    refine sum_congr rfl fun k hk => ?_
    rw [mem_range] at hk
    unfold zpad
    by_cases h16 : 16 + r - k < 16
    · by_cases h0 : 0 < i
      · rw [if_pos h16, if_pos h0, if_pos (by omega), show 512 * i - 16 + (16 + r - k) = 512 * i + r - k by omega]
      · rw [if_pos h16, if_neg h0, if_neg (by omega)]
    · rw [if_neg h16, if_pos (by omega), show 512 * i + (16 + r - k - 16) = 512 * i + r - k by omega]
  · unfold zpad
    rw [if_neg (by omega), show 512 * i + (16 + r - 16) = 512 * i + r by omega]

theorem pay291 (hp : Lf wp fun j => P (32 * (j 0).val + (j 2).val) (j 3).val) : R2 (k0_pay291 wp) P := fun j => by
  have j0 : (j 0).val < 256 := (j 0).isLt
  have j1 : (j 1).val < 256 := (j 1).isLt
  show shapeCast S256x256 (shapeCast S8x32x256 wp shapeCasts_S8x1x32x256_S8x32x256) shapeCasts_S8x32x256_S256x256 j = _
  rw [shapeCast_apply _ _ j (ix3 ⟨(j 0).val / 32, by omega⟩ ⟨(j 0).val % 32, by omega⟩ ⟨(j 1).val, j1⟩),
    shapeCast_apply _ _ _ (ix4 ⟨(j 0).val / 32, by omega⟩ 0 ⟨(j 0).val % 32, by omega⟩ ⟨(j 1).val, j1⟩)]
  · refine (hp _).trans ?_
    show ((P (32 * ((j 0).val / 32) + (j 0).val % 32) (j 1).val : ℝ) : EReal) = _
    rw [show 32 * ((j 0).val / 32) + (j 0).val % 32 = (j 0).val by omega]
  · rw [Shape.rowMajor_val_four, Shape.rowMajor_val_three]
    simp
  · rw [Shape.rowMajor_val_three, Shape.rowMajor_val_two]
    show ((j 0).val / 32 * 32 + (j 0).val % 32) * 256 + (j 1).val = (j 0).val * 256 + (j 1).val
    omega

theorem pay303 (hd : R2 dg (dpad D i)) (hs : R2 ps fun _ c => S c) : R2 (k0_pay303 dg ps) fun r d => dy D S (512 * i + r) d :=
  (hd.mulf (R2.bcastRow hs broadcasts_S1x256_S528x256 (by decide))).truncf _

theorem gDpooled_eval (hd : R2 dg (dpad D i)) (hp : Lf wp fun j => P (32 * (j 0).val + (j 2).val) (j 3).val) (hs : R2 ps fun _ c => S c) :
    R2 (gDpooled dg wp ps) fun r c => dpl D P S (512 * i + r) c :=
  R2.mm11 (pay303 hd hs) (pay291 hp) _ _

/-- The gradient of the `z` columns. -/
theorem gDz_eval (hi : i < 8) (hd : R2 dg (dpad D i)) (hp : Lf wp fun j => P (32 * (j 0).val + (j 2).val) (j 3).val) (hs : R2 ps fun _ c => S c) :
    R2 (gDz g (BitVec.ofNat 32 i) dg wp ps) fun r c => dz (win g) D P S (512 * i + r) c := by
  have hq : R2 _ fun r c => dpl D P S (512 * i + r) c / cnt (win g) (512 * i + r) :=
    (gDpooled_eval hd hp hs).divf (R2.bcastCol (m := 256) (count_eval (n := 528) i hi g (by omega) iota_S528x1_d0_w32)
      broadcasts_S528x1_S528x256 (by decide)) fun j => (cnt_pos _ (win_pos g) _).ne'
  obtain ⟨h, h1, h2⟩ := gAhead_eval g hq
  refine R2.congr (f := fun r c => h (0 + r) (0 + c) - dpl D P S (512 * i + (0 + r)) (0 + c))
    (((R2.slice h1 slices_S528x256_o0_0_S512x256).subf (R2.slice (gDpooled_eval hd hp hs) slices_S528x256_o0_0_S512x256)).truncf
    bitsLt_bf16_f32) fun r hr c _ => ?_
  have hw := win_le g
  rw [h2 _ _ (by omega)]
  simp only [Nat.zero_add, dz]
  congr 1
  exact sum_congr rfl fun k _ => by rw [Nat.add_assoc]

/-- The scale's gradient, added to what is there. -/
theorem gDps_eval (hi : i < 8) (hz : R2 zg (zpad Z i)) (hd : R2 dg (dpad D i)) (hp : Lf wp fun j => P (32 * (j 0).val + (j 2).val) (j 3).val)
    {acc : FVec Ideal S1x256 .f32} {A : ℕ → ℝ} (ha : R2 acc fun _ d => A d) :
    R2 (gDps g (BitVec.ofNat 32 i) zg dg wp acc) fun _ d => A d + ∑ r ∈ range 512, dps1 (win g) Z D P (512 * i + r) d := by
  have hm : R2 _ _ := R2.mm10 (gPooled_eval g hi hz) (pay291 hp) none dot_S512x256_S256x256_S512x256_1_0_0_1_n_n_wf
  have hs : R2 _ _ := R2.colSum (f := fun r d => dpad D i (0 + r) (0 + d) * ∑ c ∈ range 256, pooled (win g) Z (512 * i + r) c * P c d)
    ((R2.slice hd slices_S528x256_o0_0_S512x256).mulf hm) reduces_S512x256_S256 (.inl rfl) rfl shapeCasts_S256_S1x256
  refine R2.congr (f := fun _ d => A d +
    ∑ r ∈ range 512, dpad D i (0 + r) (0 + d) * ∑ c ∈ range 256, pooled (win g) Z (512 * i + r) c * P c d)
    ((R2.cast_self ha shapeCasts_S1x256_S1x256).addf hs) fun _ _ d _ => ?_
  congr 1
  refine sum_congr rfl fun r hr => ?_
  rw [mem_range] at hr
  rw [dps1, dpad, if_pos (by omega), Nat.zero_add, Nat.zero_add]

/-- The pooling matrix's gradient, added to what is there. -/
theorem gDwp_eval (hi : i < 8) (hz : R2 zg (zpad Z i)) (hd : R2 dg (dpad D i)) (hs : R2 ps fun _ c => S c)
    {acc : FVec Ideal S8x1x32x256 .f32} {A : ℕ → ℕ → ℝ} (ha : Lf acc fun j => A (32 * (j 0).val + (j 2).val) (j 3).val) :
    Lf (gDwp g (BitVec.ofNat 32 i) zg dg ps acc) fun j => A (32 * (j 0).val + (j 2).val) (j 3).val +
      ∑ r ∈ range 512, dwp1 (win g) Z D S (32 * (j 0).val + (j 2).val) (j 3).val (512 * i + r) := fun j => by
  have hm : R2 _ _ := R2.mm00 (gPooled_eval g hi hz) (R2.slice (pay303 hd hs) slices_S528x256_o0_0_S512x256) none
    dot_S512x256_S512x256_S256x256_0_0_1_1_n_n_wf
  have j0 : (j 0).val < 8 := (j 0).isLt
  have j1 : (j 1).val < 1 := (j 1).isLt
  have j2 : (j 2).val < 32 := (j 2).isLt
  have j3 : (j 3).val < 256 := (j 3).isLt
  show shapeCast S8x1x32x256 (addf (shapeCast S8x32x256 acc shapeCasts_S8x1x32x256_S8x32x256) (shapeCast S8x32x256
    (matmul dot_S512x256_S512x256_S256x256_0_0_1_1_n_n none (gPooled g (BitVec.ofNat 32 i) zg)
      (extractStridedSlice S512x256 ![0, 0] (k0_pay303 dg ps) slices_S528x256_o0_0_S512x256) (constant S256x256 .f32 0x00000000#32))
    shapeCasts_S256x256_S8x32x256)) shapeCasts_S8x32x256_S8x1x32x256 j = _
  rw [shapeCast_apply _ _ j (ix3 ⟨(j 0).val, j0⟩ ⟨(j 2).val, j2⟩ ⟨(j 3).val, j3⟩)]
  · show shapeCast S8x32x256 acc _ _ + shapeCast S8x32x256 _ _ _ = _
    rw [shapeCast_apply acc _ _ j, shapeCast_apply _ _ _ (ix2 ⟨32 * (j 0).val + (j 2).val, by omega⟩ ⟨(j 3).val, j3⟩), ha j]
    · refine (congrArg _ (hm _)).trans ?_
      rw [← EReal.coe_add]
      simp only [Nat.zero_add, dwp1]
      rfl
    · rw [Shape.rowMajor_val_two, Shape.rowMajor_val_three]
      show (32 * (j 0).val + (j 2).val) * 256 + (j 3).val = ((j 0).val * 32 + (j 2).val) * 256 + (j 3).val
      omega
    · rw [Shape.rowMajor_val_four, Shape.rowMajor_val_three]
      show (((j 0).val * 1 + (j 1).val) * 32 + (j 2).val) * 256 + (j 3).val = ((j 0).val * 32 + (j 2).val) * 256 + (j 3).val
      omega
  · rw [Shape.rowMajor_val_four, Shape.rowMajor_val_three]
    show ((j 0).val * 32 + (j 2).val) * 256 + (j 3).val = (((j 0).val * 1 + (j 1).val) * 32 + (j 2).val) * 256 + (j 3).val
    omega

end Group

end Cert.Mixer

end
-- ==== Proof.Mixer.Whole.lean ====
module

public import proofs.«01_k».proof.Proof.Mixer.Body
public import proofs.«01_k».proof.Proof.Mixer.Head
public import proofs.«01_k».proof.Proof.Mixer.Pool

/-! The gradients over all rows, and what one grid point adds to them.

A grid point sees 512 rows. A row's gradient reads only its own chunk of 128 rows, so the point's functions are the whole
array's at the shifted row. -/

@[expose] public section

noncomputable section

namespace Cert.Mixer

open Finset Idealize.ShloMosaic Cert.KernelIdeal Cert.KernelIdeal.Gen

/-- The seven arguments as real functions: the projection, the incoming gradient, the mixing matrices, their biases, the
gain, the pooling matrices and the pooling scale. -/
structure Inp where
  p : ℕ → ℕ → ℝ
  d : ℕ → ℕ → ℝ
  ws : ℕ → ℕ → ℕ → ℝ
  bs : ℕ → ℕ → ℝ
  gv : ℕ → ℝ
  wp : ℕ → ℕ → ℕ → ℝ
  ps : ℕ → ℝ

namespace Inp
variable (a : Inp)

/-- A head's `u` columns. -/
def U (h r c : ℕ) : ℝ := a.p r (128 * h + c)
/-- A head's `v` columns. -/
def V (h r c : ℕ) : ℝ := a.p r (1024 + 128 * h + c)
/-- A group's `z` columns. -/
def Z (g r c : ℕ) : ℝ := a.p r (2048 + 256 * g + c)
/-- A head's columns of the incoming gradient. -/
def Da (h r c : ℕ) : ℝ := a.d r (128 * h + c)
/-- A group's columns of the incoming gradient. -/
def Db (g r c : ℕ) : ℝ := a.d r (1024 + 256 * g + c)
/-- A head's gain. -/
def G (h c : ℕ) : ℝ := a.gv (128 * h + c)
/-- A group's scale. -/
def S (g c : ℕ) : ℝ := a.ps (256 * g + c)
/-- The window of a group by its number. -/
def wn (g : ℕ) : ℕ := 2 ^ (g + 1)

/-- The gradient of the projection. -/
def dproj (q c : ℕ) : ℝ :=
  if c < 1024 then du (a.U (c / 128)) (a.V (c / 128)) (a.Da (c / 128)) (a.G (c / 128)) (a.ws (c / 128)) (a.bs (c / 128)) q (c % 128)
  else if c < 2048 then dv (a.U ((c - 1024) / 128)) (a.V ((c - 1024) / 128)) (a.Da ((c - 1024) / 128)) (a.G ((c - 1024) / 128))
    (a.ws ((c - 1024) / 128)) q ((c - 1024) % 128)
  else dz (wn ((c - 2048) / 256)) (a.Db ((c - 2048) / 256)) (a.wp ((c - 2048) / 256)) (a.S ((c - 2048) / 256)) q ((c - 2048) % 256)
/-- The gradient of the mixing matrices over the first `n` chunks of 128 rows. -/
def dws (n h t s : ℕ) : ℝ := if s ≤ t then ∑ k ∈ range n, dws1 (a.U h) (a.V h) (a.Da h) (a.G h) k t s else 0
/-- The gradient of the biases over the first `n` chunks. -/
def dbs (n t h : ℕ) : ℝ := ∑ k ∈ range n, dbs1 (a.U h) (a.Da h) k t
/-- The gradient of the gain over the first `n` rows. -/
def dgv (n c : ℕ) : ℝ :=
  ∑ r ∈ range n, dvn (a.U (c / 128)) (a.Da (c / 128)) (a.ws (c / 128)) r (c % 128) * hat (a.V (c / 128)) r (c % 128)
/-- The gradient of the pooling scale over the first `n` rows. -/
def dps (n c : ℕ) : ℝ := ∑ r ∈ range n, dps1 (wn (c / 256)) (a.Z (c / 256)) (a.Db (c / 256)) (a.wp (c / 256)) r (c % 256)
/-- The gradient of the pooling matrices over the first `n` rows. -/
def dwp (n g i e : ℕ) : ℝ := ∑ r ∈ range n, dwp1 (wn g) (a.Z g) (a.Db g) (a.S g) i e r

end Inp

theorem win_wn (g : Fin 4) : win g = Inp.wn g.val := by revert g; decide

/-! ### A point's rows -/

/-- The function at the rows of point `t`. -/
def sh (t : ℕ) (f : ℕ → ℕ → ℝ) (r c : ℕ) : ℝ := f (512 * t + r) c

section Shift
variable (t : ℕ) (U V D : ℕ → ℕ → ℝ) (G : ℕ → ℝ) (W : ℕ → ℕ → ℝ) (B : ℕ → ℝ)

theorem chunk_mod (r : ℕ) : (512 * t + r) % 128 = r % 128 := by omega
theorem chunk_row (r s : ℕ) : 128 * ((512 * t + r) / 128) + s = 512 * t + (128 * (r / 128) + s) := by omega

theorem mixed_sh (r c : ℕ) : mixed (sh t V) G W B r c = mixed V G W B (512 * t + r) c := by
  unfold mixed
  rw [chunk_mod]
  exact congrArg (· + _) (sum_congr rfl fun s _ => by rw [chunk_row]; rfl)
theorem du_sh (r c : ℕ) : du (sh t U) (sh t V) (sh t D) G W B r c = du U V D G W B (512 * t + r) c := by
  unfold du; rw [mixed_sh]; rfl
theorem dvn_sh (r c : ℕ) : dvn (sh t U) (sh t D) W r c = dvn U D W (512 * t + r) c := by
  unfold dvn
  rw [chunk_mod]
  exact sum_congr rfl fun s _ => by rw [chunk_row]; rfl
theorem dv_sh (r c : ℕ) : dv (sh t U) (sh t V) (sh t D) G W r c = dv U V D G W (512 * t + r) c := by
  unfold dv
  simp only [dvn_sh]
  rfl
theorem dws1_sh (n i s : ℕ) : dws1 (sh t U) (sh t V) (sh t D) G n i s = dws1 U V D G (4 * t + n) i s := by
  unfold dws1
  have e (x : ℕ) : 128 * (4 * t + n) + x = 512 * t + (128 * n + x) := by omega
  simp only [e]
  rfl
theorem dbs1_sh (n i : ℕ) : dbs1 (sh t U) (sh t D) n i = dbs1 U D (4 * t + n) i := by
  unfold dbs1
  have e (x : ℕ) : 128 * (4 * t + n) + x = 512 * t + (128 * n + x) := by omega
  simp only [e]
  rfl
end Shift

/-! ### A point's blocks -/

/-- The twelve input blocks at point `t` are the arguments' parts. -/
structure Blk (a : Inp) (t : ℕ) (x0 x1 x2 : FVec Ideal S512x1024 .f32) (x3 : FVec Ideal S16x1024 .f32)
    (x4 x5 : FVec Ideal S512x1024 .f32) (x6 : FVec Ideal S16x1024 .f32) (x7 : FVec Ideal S8x128x128 .f32)
    (x8 : FVec Ideal S128x8 .f32) (x9 : FVec Ideal S1x1024 .f32) (x10 : FVec Ideal S8x4x32x256 .bf16)
    (x11 : FVec Ideal S1x1024 .f32) : Prop where
  ht : t < 8
  h0 : R2 x0 fun r c => a.p (512 * t + r) c
  h1 : R2 x1 fun r c => a.p (512 * t + r) (1024 + c)
  h2 : R2 x2 fun r c => a.p (512 * t + r) (2048 + c)
  h3 : 0 < t → R2 x3 fun r c => a.p (512 * t - 16 + r) (2048 + c)
  h4 : R2 x4 fun r c => a.d (512 * t + r) c
  h5 : R2 x5 fun r c => a.d (512 * t + r) (1024 + c)
  h6 : t < 7 → R2 x6 fun r c => a.d (512 * t + 512 + r) (1024 + c)
  h7 : Lf x7 fun i => a.ws (i 0).val (i 1).val (i 2).val
  h8 : R2 x8 fun t h => a.bs h t
  h9 : R2 x9 fun _ c => a.gv c
  h10 : Lf x10 fun i => a.wp (i 1).val (32 * (i 0).val + (i 2).val) (i 3).val
  h11 : R2 x11 fun _ c => a.ps c

/-- A rectangle of a matrix of reals. -/
theorem R2.ld {n m : ℕ} {φ : FTy} {x : FVec Ideal ⟨2, ![n, m]⟩ φ} {f : ℕ → ℕ → ℝ} (hx : R2 x f) {n' m' o p : ℕ} (h) :
    R2 (n := n') (m := m') (φ := φ) (fun i => x ((Rect.unit (s := ⟨2, ![n, m]⟩) ![o, p] ![n', m'] h).idx i)) fun r c => f (o + r) (p + c) := fun i =>
  (hx _).trans (by
    show ((f (o + 1 * (i 0).val) (p + 1 * (i 1).val) : ℝ) : EReal) = _
    rw [one_mul, one_mul])

theorem cmpi_sgt_zero {t : ℕ} (ht : t < 8) : Scalar.cmpi .sgt (BitVec.ofNat 32 t) 0#32 = (1 : BitVec 1) ↔ 0 < t := by
  revert t; decide
theorem cmpi_slt_seven {t : ℕ} (ht : t < 8) : Scalar.cmpi .slt (BitVec.ofNat 32 t) 7#32 = (1 : BitVec 1) ↔ t < 7 := by
  revert t; decide

section Point
variable {a : Inp} {t : ℕ} {x0 x1 x2 : FVec Ideal S512x1024 .f32} {x3 : FVec Ideal S16x1024 .f32}
    {x4 x5 : FVec Ideal S512x1024 .f32} {x6 : FVec Ideal S16x1024 .f32} {x7 : FVec Ideal S8x128x128 .f32}
    {x8 : FVec Ideal S128x8 .f32} {x9 : FVec Ideal S1x1024 .f32} {x10 : FVec Ideal S8x4x32x256 .bf16}
    {x11 : FVec Ideal S1x1024 .f32} (b : Blk a t x0 x1 x2 x3 x4 x5 x6 x7 x8 x9 x10 x11)
include b

theorem Blk.u (h : Fin 8) : R2 (n := 512) (m := 128) (φ := .f32) (View.ld (Val := Elt Ideal) (e' := .f32) x0 (rCols h)) (sh t (a.U h.val)) :=
  R2.congr (f := fun r c => a.p (512 * t + (0 + r)) (128 * h.val + c)) (R2.ld b.h0 _) fun r _ c _ => by
    rw [Nat.zero_add]; rfl
theorem Blk.v (h : Fin 8) : R2 (n := 512) (m := 128) (φ := .f32) (View.ld (Val := Elt Ideal) (e' := .f32) x1 (rCols h)) (sh t (a.V h.val)) :=
  R2.congr (f := fun r c => a.p (512 * t + (0 + r)) (1024 + (128 * h.val + c))) (R2.ld b.h1 _) fun r _ c _ => by
    rw [Nat.zero_add, ← Nat.add_assoc]; rfl
theorem Blk.da (h : Fin 8) : R2 (n := 512) (m := 128) (φ := .f32) (View.ld (Val := Elt Ideal) (e' := .f32) x4 (rCols h)) (sh t (a.Da h.val)) :=
  R2.congr (f := fun r c => a.d (512 * t + (0 + r)) (128 * h.val + c)) (R2.ld b.h4 _) fun r _ c _ => by
    rw [Nat.zero_add]; rfl
theorem Blk.g (h : Fin 8) : R2 (n := 1) (m := 128) (φ := .f32) (View.ld (Val := Elt Ideal) (e' := .f32) x9 (rRow h)) fun _ c => a.G h.val c := R2.ld b.h9 _
theorem Blk.w (h : Fin 8) : Lf (s := S1x128x128) (φ := .f32) (View.ld (Val := Elt Ideal) (e' := .f32) x7 (rMat h)) fun i => a.ws h.val (i 1).val (i 2).val := fun i =>
  (b.h7 _).trans (by
    have i0 : (i 0).val < 1 := (i 0).isLt
    show ((a.ws (h.val + 1 * (i 0).val) (0 + 1 * (i 1).val) (0 + 1 * (i 2).val) : ℝ) : EReal) = _
    rw [show h.val + 1 * (i 0).val = h.val by omega, one_mul, one_mul, Nat.zero_add, Nat.zero_add])
theorem Blk.bias (h : Fin 8) : R2 (n := 128) (m := 1) (φ := .f32) (View.ld (Val := Elt Ideal) (e' := .f32) x8 (rBias h)) fun r _ => a.bs h.val r :=
  R2.congr (f := fun r c => a.bs (h.val + c) (0 + r)) (R2.ld b.h8 _) fun r _ c hc => by
    rw [Nat.zero_add, show c = 0 by omega, Nat.add_zero]
theorem Blk.s (g : Fin 4) : R2 (n := 1) (m := 256) (φ := .f32) (View.ld (Val := Elt Ideal) (e' := .f32) x11 (rGrow g)) fun _ c => a.S g.val c := R2.ld b.h11 _
theorem Blk.pm (g : Fin 4) : Lf (s := S8x1x32x256) (φ := .bf16) (View.ld (Val := Elt Ideal) (e' := .bf16) x10 (rGmat g)) fun i => a.wp g.val (32 * (i 0).val + (i 2).val) (i 3).val := fun i =>
  (b.h10 _).trans (by
    have i1 : (i 1).val < 1 := (i 1).isLt
    show ((a.wp (g.val + 1 * (i 1).val) (32 * (0 + 1 * (i 0).val) + (0 + 1 * (i 2).val)) (0 + 1 * (i 3).val) : ℝ) : EReal) = _
    rw [show g.val + 1 * (i 1).val = g.val by omega]
    simp only [one_mul, Nat.zero_add])

/-- The `z` rows with the halo before them. -/
theorem Blk.z (g : Fin 4) : R2 (gCols g (k0_pay285 (BitVec.ofNat 32 t) (View.ld x3 rHalo) (View.ld x2 rRows))) (zpad (a.Z g.val) t) := by
  have hh : R2 (n := 16) (m := 1024) (φ := .f32) (Scalar.select (Scalar.cmpi .sgt (BitVec.ofNat 32 t) 0#32) (View.ld (Val := Elt Ideal) (e' := .f32) x3 rHalo)
      (broadcast S16x1024 (Scalar.ofBits .f32 0x00000000#32))) fun r c => if 0 < t then a.p (512 * t - 16 + r) (2048 + c) else 0 := by
    have hc := cmpi_sgt_zero b.ht
    unfold Scalar.select
    by_cases h : 0 < t
    · rw [if_pos (hc.mpr h)]
      simp only [if_pos h]
      exact R2.congr (f := fun r c => a.p (512 * t - 16 + (0 + r)) (2048 + (0 + c))) (R2.ld (b.h3 h) _) fun r _ c _ => by
        rw [Nat.zero_add, Nat.zero_add]
    · rw [if_neg fun e => h (hc.mp e)]
      simp only [if_neg h]
      exact c_zero S16x1024
  refine R2.congr (f := fun r c => _) (R2.slice (R2.concat2 hh (R2.ld b.h2 _) concatenates_S16x1024_S512x1024_S528x1024_d0 rfl) (slices_group g))
    fun r hr c hc => ?_
  unfold zpad Inp.Z
  simp only [Nat.zero_add, Nat.add_assoc]

/-- The incoming gradient's rows with the halo after them. -/
theorem Blk.db {i : grid0.Coords} (hi : (i 0).val = t) (g : Fin 4) : R2 (gCols g (dRows i x5 x6)) (dpad (a.Db g.val) t) := by
  unfold dRows
  rw [hi]
  have hh : R2 (n := 16) (m := 1024) (φ := .f32) (Scalar.select (Scalar.cmpi .slt (BitVec.ofNat 32 t) 7#32) (View.ld (Val := Elt Ideal) (e' := .f32) x6 rHalo)
      (broadcast S16x1024 (Scalar.ofBits .f32 0x00000000#32))) fun r c => if t < 7 then a.d (512 * t + 512 + r) (1024 + c) else 0 := by
    have hc := cmpi_slt_seven b.ht
    unfold Scalar.select
    by_cases h : t < 7
    · rw [if_pos (hc.mpr h)]
      simp only [if_pos h]
      exact R2.congr (f := fun r c => a.d (512 * t + 512 + (0 + r)) (1024 + (0 + c))) (R2.ld (b.h6 h) _) fun r _ c _ => by
        rw [Nat.zero_add, Nat.zero_add]
    · rw [if_neg fun e => h (hc.mp e)]
      simp only [if_neg h]
      exact c_zero S16x1024
  refine R2.congr (f := fun r c => _) (R2.slice (R2.concat2 (R2.ld b.h5 _) hh concatenates_S512x1024_S16x1024_S528x1024_d0 rfl) (slices_group g))
    fun r hr c hc => ?_
  have := b.ht
  unfold dpad Inp.Db
  simp only [Nat.zero_add, Nat.add_assoc]
  by_cases h : r < 512
  · rw [if_pos h, if_pos (by omega)]
  · rw [if_neg h]
    by_cases h7 : t < 7
    · rw [if_pos h7, if_pos (by omega), show 512 * t + (512 + (r - 512)) = 512 * t + r by omega]
    · rw [if_neg h7, if_neg (by omega)]

end Point

end Cert.Mixer

end
-- ==== Proof.Mixer.Step.lean ====
module

public import proofs.«01_k».proof.Proof.Mixer.Whole

/-! What each store of one grid point writes, as the gradients over all rows. -/

@[expose] public section

noncomputable section

namespace Cert.Mixer

open Finset Idealize.ShloMosaic Cert.KernelIdeal Cert.KernelIdeal.Gen

section Point
variable {a : Inp} {t : ℕ} {x0 x1 x2 : FVec Ideal S512x1024 .f32} {x3 : FVec Ideal S16x1024 .f32}
    {x4 x5 : FVec Ideal S512x1024 .f32} {x6 : FVec Ideal S16x1024 .f32} {x7 : FVec Ideal S8x128x128 .f32}
    {x8 : FVec Ideal S128x8 .f32} {x9 : FVec Ideal S1x1024 .f32} {x10 : FVec Ideal S8x4x32x256 .bf16}
    {x11 : FVec Ideal S1x1024 .f32} (b : Blk a t x0 x1 x2 x3 x4 x5 x6 x7 x8 x9 x10 x11)
include b

/-- A head's matrix gradient gains the point's four chunks. -/
theorem Blk.p13 {X : FVec Ideal S8x128x128 .f32} (hX : Lf X fun i => a.dws (4 * t) (i 0).val (i 1).val (i 2).val)
    (k : Fin 8) (x : S1x128x128.Idx) :
    P13 x0 x1 x4 x9 k (View.ld (Val := Elt Ideal) (e' := .f32) X (rMat k)) x
      = ((a.dws (4 * (t + 1)) ((rMat k).emb x 0).val ((rMat k).emb x 1).val ((rMat k).emb x 2).val : ℝ) : EReal) := by
  have x0' : (x 0).val < 1 := (x 0).isLt
  have ha : Lf (s := S1x128x128) (φ := .f32) (View.ld (Val := Elt Ideal) (e' := .f32) X (rMat k))
      fun i => a.dws (4 * t) k.val (i 1).val (i 2).val := fun i => (hX _).trans (by
    have i0 : (i 0).val < 1 := (i 0).isLt
    show ((a.dws (4 * t) (k.val + 1 * (i 0).val) (0 + 1 * (i 1).val) (0 + 1 * (i 2).val) : ℝ) : EReal) = _
    rw [show k.val + 1 * (i 0).val = k.val by omega]
    simp only [one_mul, Nat.zero_add])
  refine (hDws_eval (b.u k) (b.v k) (b.g k) (b.da k) ha x).trans ?_
  show _ = ((a.dws (4 * (t + 1)) (k.val + 1 * (x 0).val) (0 + 1 * (x 1).val) (0 + 1 * (x 2).val) : ℝ) : EReal)
  rw [show k.val + 1 * (x 0).val = k.val by omega, one_mul, one_mul, Nat.zero_add, Nat.zero_add]
  refine congrArg _ ?_
  simp only [dws1_sh]
  unfold Inp.dws
  by_cases h : (x 2).val ≤ (x 1).val
  · rw [if_pos h, if_pos h, if_pos h, Nat.mul_add, mul_one, sum_range_add]
  · rw [if_neg h, if_neg h, if_neg h, add_zero]

/-- A head's bias gradient gains the point's four chunks. -/
theorem Blk.p14 {X : FVec Ideal S128x8 .f32} (hX : R2 X (a.dbs (4 * t))) (k : Fin 8) (x : S128x1.Idx) :
    P14 x0 x4 k (View.ld (Val := Elt Ideal) (e' := .f32) X (rBias k)) x
      = ((a.dbs (4 * (t + 1)) ((rBias k).emb x 0).val ((rBias k).emb x 1).val : ℝ) : EReal) := by
  have x1' : (x 1).val < 1 := (x 1).isLt
  have ha : R2 (n := 128) (m := 1) (φ := .f32) (View.ld (Val := Elt Ideal) (e' := .f32) X (rBias k)) fun r _ => a.dbs (4 * t) r k.val :=
    R2.congr (f := fun r c => a.dbs (4 * t) (0 + r) (k.val + c)) (R2.ld hX _) fun r _ c hc => by
      rw [Nat.zero_add, show c = 0 by omega, Nat.add_zero]
  refine (hDbs_eval (b.u k) (b.da k) ha x).trans ?_
  show _ = ((a.dbs (4 * (t + 1)) (0 + 1 * (x 0).val) (k.val + 1 * (x 1).val) : ℝ) : EReal)
  rw [show k.val + 1 * (x 1).val = k.val by omega, one_mul, Nat.zero_add]
  refine congrArg _ ?_
  simp only [dbs1_sh]
  unfold Inp.dbs
  rw [Nat.mul_add, mul_one, sum_range_add]

/-- A head's gain gradient gains the point's rows. -/
theorem Blk.p15 {X : FVec Ideal S1x1024 .f32} (hX : R2 X fun _ c => a.dgv (512 * t) c) (k : Fin 8) (x : S1x128.Idx) :
    P15 x0 x1 x4 x7 k (View.ld (Val := Elt Ideal) (e' := .f32) X (rRow k)) x
      = ((a.dgv (512 * (t + 1)) ((rRow k).emb x 1).val : ℝ) : EReal) := by
  have x1' : (x 1).val < 128 := (x 1).isLt
  have ha : R2 (n := 1) (m := 128) (φ := .f32) (View.ld (Val := Elt Ideal) (e' := .f32) X (rRow k)) fun _ c => a.dgv (512 * t) (128 * k.val + c) :=
    R2.ld hX _
  refine (hDgv_eval (b.u k) (b.v k) (b.w k) (b.da k) ha x).trans ?_
  show _ = ((a.dgv (512 * (t + 1)) (128 * k.val + 1 * (x 1).val) : ℝ) : EReal)
  rw [one_mul]
  refine congrArg _ ?_
  simp only [dvn_sh]
  unfold Inp.dgv
  rw [Nat.mul_add, mul_one, sum_range_add, show (128 * k.val + (x 1).val) / 128 = k.val by omega,
    show (128 * k.val + (x 1).val) % 128 = (x 1).val by omega]
  rfl

variable {i : grid0.Coords} (hi : (i 0).val = t)
include hi

/-- A group's scale gradient gains the point's rows. -/
theorem Blk.p16 {X : FVec Ideal S1x1024 .f32} (hX : R2 X fun _ c => a.dps (512 * t) c) (k : Fin 4) (x : S1x256.Idx) :
    P16 i x2 x3 x5 x6 x10 k (View.ld (Val := Elt Ideal) (e' := .f32) X (rGrow k)) x
      = ((a.dps (512 * (t + 1)) ((rGrow k).emb x 1).val : ℝ) : EReal) := by
  have x1' : (x 1).val < 256 := (x 1).isLt
  have ha : R2 (n := 1) (m := 256) (φ := .f32) (View.ld (Val := Elt Ideal) (e' := .f32) X (rGrow k)) fun _ c => a.dps (512 * t) (256 * k.val + c) :=
    R2.ld hX _
  unfold P16
  rw [wDps_eq, hi]
  refine (gDps_eval k b.ht (b.z k) (b.db hi k) (b.pm k) ha x).trans ?_
  show _ = ((a.dps (512 * (t + 1)) (256 * k.val + 1 * (x 1).val) : ℝ) : EReal)
  rw [one_mul]
  refine congrArg _ ?_
  unfold Inp.dps
  dsimp only
  rw [Nat.mul_add, mul_one, sum_range_add, show (256 * k.val + (x 1).val) / 256 = k.val by omega,
    show (256 * k.val + (x 1).val) % 256 = (x 1).val by omega, win_wn]

/-- A group's matrix gradient gains the point's rows. -/
theorem Blk.p17 {X : FVec Ideal S8x4x32x256 .f32}
    (hX : Lf X fun j => a.dwp (512 * t) (j 1).val (32 * (j 0).val + (j 2).val) (j 3).val) (k : Fin 4) (x : S8x1x32x256.Idx) :
    P17 i x2 x3 x5 x6 x11 k (View.ld (Val := Elt Ideal) (e' := .f32) X (rGmat k)) x
      = ((a.dwp (512 * (t + 1)) ((rGmat k).emb x 1).val (32 * ((rGmat k).emb x 0).val + ((rGmat k).emb x 2).val) ((rGmat k).emb x 3).val : ℝ) : EReal) := by
  have ha : Lf (s := S8x1x32x256) (φ := .f32) (View.ld (Val := Elt Ideal) (e' := .f32) X (rGmat k))
      fun j => a.dwp (512 * t) k.val (32 * (j 0).val + (j 2).val) (j 3).val := fun j => (hX _).trans (by
    have j1 : (j 1).val < 1 := (j 1).isLt
    show ((a.dwp (512 * t) (k.val + 1 * (j 1).val) (32 * (0 + 1 * (j 0).val) + (0 + 1 * (j 2).val)) (0 + 1 * (j 3).val) : ℝ) : EReal) = _
    rw [show k.val + 1 * (j 1).val = k.val by omega]
    simp only [one_mul, Nat.zero_add])
  have x1' : (x 1).val < 1 := (x 1).isLt
  unfold P17
  rw [wDwp_eq, hi]
  refine (gDwp_eval k b.ht (b.z k) (b.db hi k) (b.s k) (A := a.dwp (512 * t) k.val) ha x).trans ?_
  show _ = ((a.dwp (512 * (t + 1)) (k.val + 1 * (x 1).val) (32 * (0 + 1 * (x 0).val) + (0 + 1 * (x 2).val)) (0 + 1 * (x 3).val) : ℝ) : EReal)
  rw [show k.val + 1 * (x 1).val = k.val by omega]
  simp only [one_mul, Nat.zero_add]
  refine congrArg _ ?_
  unfold Inp.dwp
  rw [Nat.mul_add, mul_one, sum_range_add, win_wn]

/-- The stores of the projection's gradient leave the point's rows of it. -/
theorem Blk.p12 : R2 (n := 512) (m := 3072) (φ := .bf16) (View.canon (Val := Elt Ideal) (pieces12 i x0 x1 x4 x5 x6 x7 x8 x9 x10 x11))
    fun r c => a.dproj (512 * t + r) c := fun y => by
  rw [canon_pieces12 (F := Ideal) i x0 x1 x4 x5 x6 x7 x8 x9 x10 x11
    (fun y => ((a.dproj (512 * t + (y 0).val) (y 1).val : ℝ) : EReal)) ?_ ?_ ?_]
  · intro h x
    have x1' : (x 1).val < 128 := (x 1).isLt
    refine (hDu_eval (b.u h) (b.v h) (b.g h) (b.w h) (b.bias h) (b.da h) x).trans ?_
    show _ = ((a.dproj (512 * t + (0 + 1 * (x 0).val)) (128 * h.val + 1 * (x 1).val) : ℝ) : EReal)
    rw [one_mul, one_mul, Nat.zero_add]
    refine congrArg _ ?_
    unfold Inp.dproj
    rw [if_pos (by omega), show (128 * h.val + (x 1).val) / 128 = h.val by omega,
      show (128 * h.val + (x 1).val) % 128 = (x 1).val by omega]
    exact du_sh t _ _ _ _ _ _ _ _
  · intro h x
    have x1' : (x 1).val < 128 := (x 1).isLt
    refine (hDv_eval (b.u h) (b.v h) (b.g h) (b.w h) (b.da h) x).trans ?_
    show _ = ((a.dproj (512 * t + (0 + 1 * (x 0).val)) (1024 + 128 * h.val + 1 * (x 1).val) : ℝ) : EReal)
    rw [one_mul, one_mul, Nat.zero_add]
    refine congrArg _ ?_
    unfold Inp.dproj
    rw [if_neg (by omega), if_pos (by omega), show (1024 + 128 * h.val + (x 1).val - 1024) / 128 = h.val by omega,
      show (1024 + 128 * h.val + (x 1).val - 1024) % 128 = (x 1).val by omega]
    exact dv_sh t _ _ _ _ _ _ _
  · intro g x
    have x1' : (x 1).val < 256 := (x 1).isLt
    rw [wDz_eq, hi]
    refine (gDz_eval g b.ht (b.db hi g) (b.pm g) (b.s g) x).trans ?_
    show _ = ((a.dproj (512 * t + (0 + 1 * (x 0).val)) (2048 + 256 * g.val + 1 * (x 1).val) : ℝ) : EReal)
    rw [one_mul, one_mul, Nat.zero_add]
    refine congrArg _ ?_
    unfold Inp.dproj
    rw [if_neg (by omega), if_neg (by omega), show (2048 + 256 * g.val + (x 1).val - 2048) / 256 = g.val by omega,
      show (2048 + 256 * g.val + (x 1).val - 2048) % 256 = (x 1).val by omega, win_wn]

end Point

end Cert.Mixer

end
-- ==== Proof.Mixer.Blocks.lean ====
module

public import proofs.«01_k».proof.Proof.Mixer.Step
public import proofs.«01_k».proof.Proof.Gen.KernelIdeal.Value

/-! The blocks a grid point reads, as parts of the arguments. -/

@[expose] public section

noncomputable section

namespace Cert.Mixer

open Finset Idealize.ShloMosaic Idealize.ShloMosaic.TcCoe Idealize.SL.Sem Cert.KernelIdeal Cert.KernelIdeal.Gen

/-- The seven arguments' contents are the reals of `a`. -/
structure Args (a : Inp) (p : FVec Ideal S4096x3072 .f32) (d : FVec Ideal S4096x2048 .f32) (ws : FVec Ideal S1x8x128x128 .f32)
    (bs : FVec Ideal S1x8x128 .f32) (gv : FVec Ideal S1x1024 .f32) (wp : FVec Ideal S1x4x256x256 .f32)
    (ps : FVec Ideal S1x1024 .f32) : Prop where
  p : R2 p a.p
  d : R2 d a.d
  ws : Lf ws fun i => a.ws (i 1).val (i 2).val (i 3).val
  bs : Lf bs fun i => a.bs (i 1).val (i 2).val
  gv : R2 gv fun _ c => a.gv c
  wp : Lf wp fun i => a.wp (i 1).val (i 2).val (i 3).val
  ps : R2 ps fun _ c => a.ps c

variable (m : (ℓ : Loc nD τ sig) → Buf (Elt Ideal) ℓ) (c : Dev nD)

variable {m c} {a : Inp} (h : Args a (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))) (t : Fin cfg0.N)
include h

/-! ### The arrays the host prepares -/

theorem host_w : Lf (s := S8x128x128) (φ := .f32) (V m c main_v0) fun i => a.ws (i 0).val (i 1).val (i 2).val := fun i => by
  have i0 : (i 0).val < 8 := (i 0).isLt
  have i1 : (i 1).val < 128 := (i 1).isLt
  have i2 : (i 2).val < 128 := (i 2).isLt
  show shapeCast S8x128x128 (m ((c : Thread nD τ).loc main_arg2)) shapeCasts_S1x8x128x128_S8x128x128 i = _
  rw [shapeCast_apply _ _ i (ix4 0 ⟨(i 0).val, i0⟩ ⟨(i 1).val, i1⟩ ⟨(i 2).val, i2⟩)]
  · exact h.ws _
  · rw [Shape.rowMajor_val_four, Shape.rowMajor_val_three]
    simp

theorem host_b : R2 (n := 128) (m := 8) (φ := .f32) (V m c main_v2) fun t k => a.bs k t := fun i => by
  have i0 : (i 0).val < 128 := (i 0).isLt
  have i1 : (i 1).val < 8 := (i 1).isLt
  show shapeCast S8x128 (m ((c : Thread nD τ).loc main_arg3)) shapeCasts_S1x8x128_S8x128 (ix2 ⟨(i 1).val, i1⟩ ⟨(i 0).val, i0⟩) = _
  rw [shapeCast_apply _ _ _ (ix3 0 ⟨(i 1).val, i1⟩ ⟨(i 0).val, i0⟩)]
  · exact h.bs _
  · rw [Shape.rowMajor_val_three, Shape.rowMajor_val_two]
    simp

theorem host_wp : Lf (s := S8x4x32x256) (φ := .bf16) (V m c main_v5) fun i => a.wp (i 1).val (32 * (i 0).val + (i 2).val) (i 3).val := fun i => by
  have i0 : (i 0).val < 8 := (i 0).isLt
  have i1 : (i 1).val < 4 := (i 1).isLt
  have i2 : (i 2).val < 32 := (i 2).isLt
  have i3 : (i 3).val < 256 := (i 3).isLt
  show shapeCast S4x8x32x256 (m ((c : Thread nD τ).loc main_arg5)) shapeCasts_S1x4x256x256_S4x8x32x256
    (ix4 ⟨(i 1).val, i1⟩ ⟨(i 0).val, i0⟩ ⟨(i 2).val, i2⟩ ⟨(i 3).val, i3⟩) = _
  rw [shapeCast_apply _ _ _ (ix4 0 ⟨(i 1).val, i1⟩ ⟨32 * (i 0).val + (i 2).val, by omega⟩ ⟨(i 3).val, i3⟩)]
  · exact h.wp _
  · rw [Shape.rowMajor_val_four, Shape.rowMajor_val_four]
    simp
    omega

/-! ### The blocks -/

theorem blk0 : R2 (n := 512) (m := 1024) (φ := .f32) (iblk m c 0 t) fun r c => a.p (512 * t.val + r) c := fun i => by
  have hi : win0_0.index t 0 = t.val ∧ win0_0.index t 1 = 0 := by revert t; decide +kernel
  have i0 : (i 0).val < 512 := (i 0).isLt
  have i1 : (i 1).val < 1024 := (i 1).isLt
  unfold iblk
  rw [View.read_apply]
  show m ((c : Thread nD τ).loc main_arg0) _ = _
  refine (h.p _).trans ?_
  show ((a.p (win0_0.index t 0 * 512 + 1 * (i 0).val) (win0_0.index t 1 * 1024 + 1 * (i 1).val) : ℝ) : EReal) = _
  rw [hi.1, hi.2]
  rw [show t.val * 512 + 1 * (i 0).val = 512 * t.val + (i 0).val by omega, show 0 * 1024 + 1 * (i 1).val = (i 1).val by omega]

theorem blk1 : R2 (n := 512) (m := 1024) (φ := .f32) (iblk m c 1 t) fun r c => a.p (512 * t.val + r) (1024 + c) := fun i => by
  have hi : win0_1.index t 0 = t.val ∧ win0_1.index t 1 = 1 := by revert t; decide +kernel
  have i0 : (i 0).val < 512 := (i 0).isLt
  have i1 : (i 1).val < 1024 := (i 1).isLt
  unfold iblk
  rw [View.read_apply]
  show m ((c : Thread nD τ).loc main_arg0) _ = _
  refine (h.p _).trans ?_
  show ((a.p (win0_1.index t 0 * 512 + 1 * (i 0).val) (win0_1.index t 1 * 1024 + 1 * (i 1).val) : ℝ) : EReal) = _
  rw [hi.1, hi.2]
  rw [show t.val * 512 + 1 * (i 0).val = 512 * t.val + (i 0).val by omega, show 1 * 1024 + 1 * (i 1).val = 1024 + (i 1).val by omega]

theorem blk2 : R2 (n := 512) (m := 1024) (φ := .f32) (iblk m c 2 t) fun r c => a.p (512 * t.val + r) (2048 + c) := fun i => by
  have hi : win0_2.index t 0 = t.val ∧ win0_2.index t 1 = 2 := by revert t; decide +kernel
  have i0 : (i 0).val < 512 := (i 0).isLt
  have i1 : (i 1).val < 1024 := (i 1).isLt
  unfold iblk
  rw [View.read_apply]
  show m ((c : Thread nD τ).loc main_arg0) _ = _
  refine (h.p _).trans ?_
  show ((a.p (win0_2.index t 0 * 512 + 1 * (i 0).val) (win0_2.index t 1 * 1024 + 1 * (i 1).val) : ℝ) : EReal) = _
  rw [hi.1, hi.2]
  rw [show t.val * 512 + 1 * (i 0).val = 512 * t.val + (i 0).val by omega, show 2 * 1024 + 1 * (i 1).val = 2048 + (i 1).val by omega]

theorem blk3 : 0 < t.val → R2 (n := 16) (m := 1024) (φ := .f32) (iblk m c 3 t) fun r c => a.p (512 * t.val - 16 + r) (2048 + c) := fun ht => fun i => by
  have hi : 0 < t.val → win0_3.index t 0 = 32 * t.val - 1 ∧ win0_3.index t 1 = 2 := by revert t; decide +kernel
  have i0 : (i 0).val < 16 := (i 0).isLt
  have i1 : (i 1).val < 1024 := (i 1).isLt
  unfold iblk
  rw [View.read_apply]
  show m ((c : Thread nD τ).loc main_arg0) _ = _
  refine (h.p _).trans ?_
  show ((a.p (win0_3.index t 0 * 16 + 1 * (i 0).val) (win0_3.index t 1 * 1024 + 1 * (i 1).val) : ℝ) : EReal) = _
  rw [(hi ht).1, (hi ht).2]
  rw [show (32 * t.val - 1) * 16 + 1 * (i 0).val = 512 * t.val - 16 + (i 0).val by omega, show 2 * 1024 + 1 * (i 1).val = 2048 + (i 1).val by omega]

theorem blk4 : R2 (n := 512) (m := 1024) (φ := .f32) (iblk m c 4 t) fun r c => a.d (512 * t.val + r) c := fun i => by
  have hi : win0_4.index t 0 = t.val ∧ win0_4.index t 1 = 0 := by revert t; decide +kernel
  have i0 : (i 0).val < 512 := (i 0).isLt
  have i1 : (i 1).val < 1024 := (i 1).isLt
  unfold iblk
  rw [View.read_apply]
  show m ((c : Thread nD τ).loc main_arg1) _ = _
  refine (h.d _).trans ?_
  show ((a.d (win0_4.index t 0 * 512 + 1 * (i 0).val) (win0_4.index t 1 * 1024 + 1 * (i 1).val) : ℝ) : EReal) = _
  rw [hi.1, hi.2]
  rw [show t.val * 512 + 1 * (i 0).val = 512 * t.val + (i 0).val by omega, show 0 * 1024 + 1 * (i 1).val = (i 1).val by omega]

theorem blk5 : R2 (n := 512) (m := 1024) (φ := .f32) (iblk m c 5 t) fun r c => a.d (512 * t.val + r) (1024 + c) := fun i => by
  have hi : win0_5.index t 0 = t.val ∧ win0_5.index t 1 = 1 := by revert t; decide +kernel
  have i0 : (i 0).val < 512 := (i 0).isLt
  have i1 : (i 1).val < 1024 := (i 1).isLt
  unfold iblk
  rw [View.read_apply]
  show m ((c : Thread nD τ).loc main_arg1) _ = _
  refine (h.d _).trans ?_
  show ((a.d (win0_5.index t 0 * 512 + 1 * (i 0).val) (win0_5.index t 1 * 1024 + 1 * (i 1).val) : ℝ) : EReal) = _
  rw [hi.1, hi.2]
  rw [show t.val * 512 + 1 * (i 0).val = 512 * t.val + (i 0).val by omega, show 1 * 1024 + 1 * (i 1).val = 1024 + (i 1).val by omega]

theorem blk6 : t.val < 7 → R2 (n := 16) (m := 1024) (φ := .f32) (iblk m c 6 t) fun r c => a.d (512 * t.val + 512 + r) (1024 + c) := fun ht => fun i => by
  have hi : t.val < 7 → win0_6.index t 0 = 32 * t.val + 32 ∧ win0_6.index t 1 = 1 := by revert t; decide +kernel
  have i0 : (i 0).val < 16 := (i 0).isLt
  have i1 : (i 1).val < 1024 := (i 1).isLt
  unfold iblk
  rw [View.read_apply]
  show m ((c : Thread nD τ).loc main_arg1) _ = _
  refine (h.d _).trans ?_
  show ((a.d (win0_6.index t 0 * 16 + 1 * (i 0).val) (win0_6.index t 1 * 1024 + 1 * (i 1).val) : ℝ) : EReal) = _
  rw [(hi ht).1, (hi ht).2]
  rw [show (32 * t.val + 32) * 16 + 1 * (i 0).val = 512 * t.val + 512 + (i 0).val by omega, show 1 * 1024 + 1 * (i 1).val = 1024 + (i 1).val by omega]

theorem blk7 : Lf (s := S8x128x128) (φ := .f32) (iblk m c 7 t) fun i => a.ws (i 0).val (i 1).val (i 2).val := fun i => by
  have hi : win0_7.index t 0 = 0 ∧ win0_7.index t 1 = 0 ∧ win0_7.index t 2 = 0 := by revert t; decide +kernel
  unfold iblk
  rw [View.read_apply]
  refine (host_w h _).trans ?_
  show ((a.ws (win0_7.index t 0 * 8 + 1 * (i 0).val) (win0_7.index t 1 * 128 + 1 * (i 1).val) (win0_7.index t 2 * 128 + 1 * (i 2).val) : ℝ) : EReal) = _
  simp only [hi, Nat.zero_mul, Nat.one_mul, Nat.zero_add]

theorem blk8 : R2 (n := 128) (m := 8) (φ := .f32) (iblk m c 8 t) fun t k => a.bs k t := fun i => by
  have hi : win0_8.index t 0 = 0 ∧ win0_8.index t 1 = 0 := by revert t; decide +kernel
  unfold iblk
  rw [View.read_apply]
  refine (host_b h _).trans ?_
  show ((a.bs (win0_8.index t 1 * 8 + 1 * (i 1).val) (win0_8.index t 0 * 128 + 1 * (i 0).val) : ℝ) : EReal) = _
  simp only [hi, Nat.zero_mul, Nat.one_mul, Nat.zero_add]

theorem blk9 : R2 (n := 1) (m := 1024) (φ := .f32) (iblk m c 9 t) fun _ c => a.gv c := fun i => by
  have hi : win0_9.index t 0 = 0 ∧ win0_9.index t 1 = 0 := by revert t; decide +kernel
  unfold iblk
  rw [View.read_apply]
  refine (h.gv _).trans ?_
  show ((a.gv (win0_9.index t 1 * 1024 + 1 * (i 1).val) : ℝ) : EReal) = _
  simp only [hi, Nat.zero_mul, Nat.one_mul, Nat.zero_add]

theorem blk10 : Lf (s := S8x4x32x256) (φ := .bf16) (iblk m c 10 t) fun i => a.wp (i 1).val (32 * (i 0).val + (i 2).val) (i 3).val := fun i => by
  have hi : win0_10.index t 0 = 0 ∧ win0_10.index t 1 = 0 ∧ win0_10.index t 2 = 0 ∧ win0_10.index t 3 = 0 := by revert t; decide +kernel
  unfold iblk
  rw [View.read_apply]
  refine (host_wp h _).trans ?_
  show ((a.wp (win0_10.index t 1 * 4 + 1 * (i 1).val) (32 * (win0_10.index t 0 * 8 + 1 * (i 0).val) + (win0_10.index t 2 * 32 + 1 * (i 2).val)) (win0_10.index t 3 * 256 + 1 * (i 3).val) : ℝ) : EReal) = _
  simp only [hi, Nat.zero_mul, Nat.one_mul, Nat.zero_add]

theorem blk11 : R2 (n := 1) (m := 1024) (φ := .f32) (iblk m c 11 t) fun _ c => a.ps c := fun i => by
  have hi : win0_11.index t 0 = 0 ∧ win0_11.index t 1 = 0 := by revert t; decide +kernel
  unfold iblk
  rw [View.read_apply]
  refine (h.ps _).trans ?_
  show ((a.ps (win0_11.index t 1 * 1024 + 1 * (i 1).val) : ℝ) : EReal) = _
  simp only [hi, Nat.zero_mul, Nat.one_mul, Nat.zero_add]

/-- The blocks at a point are the arguments' parts. -/
theorem blk_all : Blk a t.val (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) :=
  ⟨t.isLt, blk0 h t, blk1 h t, blk2 h t, blk3 h t, blk4 h t, blk5 h t, blk6 h t, blk7 h t, blk8 h t, blk9 h t, blk10 h t, blk11 h t⟩

end Cert.Mixer

end
-- ==== Proof.Mixer.Outs.lean ====
module

public import proofs.«01_k».proof.Proof.Mixer.Blocks

/-! What the output buffers hold after each grid point, and the six result arrays after the last one. -/

@[expose] public section

noncomputable section

namespace Cert.Mixer

open Finset Idealize.ShloMosaic Idealize.ShloMosaic.TcCoe Idealize.SL.Sem Cert.KernelIdeal Cert.KernelIdeal.Gen

variable {m : (ℓ : Loc nD τ sig) → Buf (Elt Ideal) ℓ} {c : Dev nD} {a : Inp}

/-- What the six output buffers hold after point `n`: the point's rows of the projection's gradient, and the other gradients
summed up to the point. -/
structure Held (a : Inp) (n : ℕ) (o : Vec Ideal S512x3072 .bf16 × Vec Ideal S8x128x128 .f32 × Vec Ideal S128x8 .f32 ×
    Vec Ideal S1x1024 .f32 × Vec Ideal S1x1024 .f32 × Vec Ideal S8x4x32x256 .f32) : Prop where
  o12 : R2 (n := 512) (m := 3072) (φ := .bf16) o.1 fun r c => a.dproj (512 * n + r) c
  o13 : Lf (s := S8x128x128) (φ := .f32) o.2.1 fun i => a.dws (4 * (n + 1)) (i 0).val (i 1).val (i 2).val
  o14 : R2 (n := 128) (m := 8) (φ := .f32) o.2.2.1 (a.dbs (4 * (n + 1)))
  o15 : R2 (n := 1) (m := 1024) (φ := .f32) o.2.2.2.1 fun _ c => a.dgv (512 * (n + 1)) c
  o16 : R2 (n := 1) (m := 1024) (φ := .f32) o.2.2.2.2.1 fun _ c => a.dps (512 * (n + 1)) c
  o17 : Lf (s := S8x4x32x256) (φ := .f32) o.2.2.2.2.2
    fun j => a.dwp (512 * (n + 1)) (j 1).val (32 * (j 0).val + (j 2).val) (j 3).val

theorem coords_val (t : Fin cfg0.N) : (grid0.coords t 0).val = t.val := by revert t; decide +kernel

/-! The zero fills are the sums over no rows. -/

theorem zero13 : Lf (k0_pay3 (F := Ideal)) fun i => a.dws (4 * 0) (i 0).val (i 1).val (i 2).val := fun i =>
  (c_zero S8x128x128 i).trans (congrArg _ (by unfold Inp.dws; simp))
theorem zero14 : R2 (k0_pay4 (F := Ideal)) (a.dbs (4 * 0)) := fun i => (c_zero S128x8 i).trans (congrArg _ (by unfold Inp.dbs; simp))
theorem zero15 : R2 (k0_pay5 (F := Ideal)) fun _ c => a.dgv (512 * 0) c := fun i => (c_zero S1x1024 i).trans (congrArg _ (by unfold Inp.dgv; simp))
theorem zero16 : R2 (k0_pay6 (F := Ideal)) fun _ c => a.dps (512 * 0) c := fun i => (c_zero S1x1024 i).trans (congrArg _ (by unfold Inp.dps; simp))
theorem zero17 : Lf (k0_pay7 (F := Ideal)) fun j => a.dwp (512 * 0) (j 1).val (32 * (j 0).val + (j 2).val) (j 3).val := fun i =>
  (c_zero S8x4x32x256 i).trans (congrArg _ (by unfold Inp.dwp; simp))

variable (h : Args a (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)))
include h

theorem held_A (t : Fin cfg0.N) (h0 : t.val % 8 = 0) : Held a t.val (outsAt0 m c t.val t.isLt) := by
  have b := blk_all h t
  have hi := coords_val t
  have t8 : t.val < 8 := t.isLt
  have t0 : t.val = 0 := by omega
  rw [outsAt0_A m c t h0]
  refine ⟨?_, ?_, ?_, ?_, ?_, ?_⟩
  · dsimp only
    rw [out12_A]
    exact b.p12 hi
  · dsimp only
    rw [out13_A (G := fun i => ((a.dws (4 * (t.val + 1)) (i 0).val (i 1).val (i 2).val : ℝ) : EReal))
      (hP := fun k x => b.p13 (by rw [t0]; exact zero13) k x)]
    exact fun _ => rfl
  · dsimp only
    rw [out14_A (G := fun i => ((a.dbs (4 * (t.val + 1)) (i 0).val (i 1).val : ℝ) : EReal))
      (hP := fun k x => b.p14 (by rw [t0]; exact zero14) k x)]
    exact fun _ => rfl
  · dsimp only
    rw [out15_A (G := fun i => ((a.dgv (512 * (t.val + 1)) (i 1).val : ℝ) : EReal))
      (hP := fun k x => b.p15 (by rw [t0]; exact zero15) k x)]
    exact fun _ => rfl
  · dsimp only
    rw [out16_A (G := fun i => ((a.dps (512 * (t.val + 1)) (i 1).val : ℝ) : EReal))
      (hP := fun k x => b.p16 hi (by rw [t0]; exact zero16) k x)]
    exact fun _ => rfl
  · dsimp only
    rw [out17_A (G := fun j => ((a.dwp (512 * (t.val + 1)) (j 1).val (32 * (j 0).val + (j 2).val) (j 3).val : ℝ) : EReal))
      (hP := fun k x => b.p17 hi (by rw [t0]; exact zero17) k x)]
    exact fun _ => rfl

theorem held_B (t : Fin cfg0.N) (h0 : ¬t.val % 8 = 0)
    (ih : Held a (t.val - 1) (outsAt0 m c (t.val - 1) (Nat.lt_of_le_of_lt (Nat.sub_le _ _) t.isLt))) :
    Held a t.val (outsAt0 m c t.val t.isLt) := by
  have b := blk_all h t
  have hi := coords_val t
  have e : t.val - 1 + 1 = t.val := by omega
  have i13 := ih.o13
  have i14 := ih.o14
  have i15 := ih.o15
  have i16 := ih.o16
  have i17 := ih.o17
  rw [e] at i13 i14 i15 i16 i17
  rw [outsAt0_B m c t h0]
  refine ⟨?_, ?_, ?_, ?_, ?_, ?_⟩
  · dsimp only
    rw [out12_B]
    exact b.p12 hi
  · dsimp only
    rw [out13_B (G := fun i => ((a.dws (4 * (t.val + 1)) (i 0).val (i 1).val (i 2).val : ℝ) : EReal))
      (hP := fun k x => b.p13 i13 k x)]
    exact fun _ => rfl
  · dsimp only
    rw [out14_B (G := fun i => ((a.dbs (4 * (t.val + 1)) (i 0).val (i 1).val : ℝ) : EReal))
      (hP := fun k x => b.p14 i14 k x)]
    exact fun _ => rfl
  · dsimp only
    rw [out15_B (G := fun i => ((a.dgv (512 * (t.val + 1)) (i 1).val : ℝ) : EReal))
      (hP := fun k x => b.p15 i15 k x)]
    exact fun _ => rfl
  · dsimp only
    rw [out16_B (G := fun i => ((a.dps (512 * (t.val + 1)) (i 1).val : ℝ) : EReal))
      (hP := fun k x => b.p16 hi i16 k x)]
    exact fun _ => rfl
  · dsimp only
    rw [out17_B (G := fun j => ((a.dwp (512 * (t.val + 1)) (j 1).val (32 * (j 0).val + (j 2).val) (j 3).val : ℝ) : EReal))
      (hP := fun k x => b.p17 hi i17 k x)]
    exact fun _ => rfl

/-- After every point the buffers hold its rows and the sums up to it. -/
theorem held (n : ℕ) : ∀ t : Fin cfg0.N, t.val = n → Held a t.val (outsAt0 m c t.val t.isLt) := by
  induction n with
  | zero => exact fun t e => held_A h t (by omega)
  | succ n ih =>
    intro t e
    have t8 : t.val < 8 := t.isLt
    exact held_B h t (by omega) (ih ⟨t.val - 1, Nat.lt_of_le_of_lt (Nat.sub_le _ _) t.isLt⟩ (by show t.val - 1 = n; omega))

end Cert.Mixer

end
-- ==== Proof.Mixer.Final.lean ====
module

public import proofs.«01_k».proof.Proof.Mixer.Outs

/-! The six result arrays the kernel leaves. -/

@[expose] public section

noncomputable section

namespace Cert.Mixer

open Finset Idealize.ShloMosaic Idealize.ShloMosaic.TcCoe Idealize.SL.Sem Cert.KernelIdeal Cert.KernelIdeal.Gen Cert.KernelIdeal.Value

variable {m : (ℓ : Loc nD τ sig) → Buf (Elt Ideal) ℓ} {c : Dev nD} {a : Inp}
theorem idx12 : ∀ t : Fin cfg0.N, win0_12.index t 0 = t.val ∧ win0_12.index t 1 = 0 := by decide +kernel

theorem flushed12_at (t : Fin cfg0.N) (y : S512x3072.Idx) : (dats m 0 c).flushed 12 t y = (outsAt0 m c t.val t.isLt).1 y :=
  congrFun (flushed12 m c t) y

theorem emb12_val (t : Fin cfg0.N) (y : S512x3072.Idx) : (((cfg0.win 12).blk t).view.emb y 0).val = 512 * t.val + (y 0).val
    ∧ (((cfg0.win 12).blk t).view.emb y 1).val = (y 1).val := by
  have hi := idx12 t
  constructor
  · show win0_12.index t 0 * 512 + 1 * (y 0).val = _
    omega
  · show win0_12.index t 1 * 3072 + 1 * (y 1).val = _
    omega

theorem emb12_eq (t : Fin cfg0.N) (y : S512x3072.Idx) (i : S4096x3072.Idx) (h0 : (i 0).val = 512 * t.val + (y 0).val)
    (h1 : (i 1).val = (y 1).val) : ((cfg0.win 12).blk t).view.emb y = i := by
  have e := emb12_val t y
  funext k
  apply Fin.ext
  match k with
  | ⟨0, _⟩ => exact e.1.trans h0.symm
  | ⟨1, _⟩ => exact e.2.trans h1.symm

theorem mem12 (t : Fin cfg0.N) (y : S512x3072.Idx) (i : S4096x3072.Idx) (h0 : (i 0).val = 512 * t.val + (y 0).val)
    (h1 : (i 1).val = (y 1).val) : i ∈ ((cfg0.win 12).blk t).view.set :=
  Eq.mp (congrArg (· ∈ _) (emb12_eq t y i h0 h1)) (View.emb_mem_set _ _)

theorem cover12 (i : S4096x3072.Idx) : ∃ t : Fin cfg0.N, (cfg0.win 12).flush t = true ∧ i ∈ ((cfg0.win 12).blk t).view.set := by
  have i0 : (i 0).val < 4096 := (i 0).isLt
  have i1 : (i 1).val < 3072 := (i 1).isLt
  have b0 : (i 0).val % 512 < 512 := by omega
  have bt : (i 0).val / 512 < 8 := by omega
  exact ⟨⟨(i 0).val / 512, bt⟩, flush0_12 _, mem12 _ (ix2 ⟨(i 0).val % 512, b0⟩ ⟨(i 1).val, i1⟩) i
    (show (i 0).val = 512 * ((i 0).val / 512) + (i 0).val % 512 by omega) rfl⟩

theorem idx13 : ∀ t : Fin cfg0.N, win0_13.index t 0 = 0 ∧ win0_13.index t 1 = 0 ∧ win0_13.index t 2 = 0 := by decide +kernel

theorem flushed13_at (t : Fin cfg0.N) (y : S8x128x128.Idx) : (dats m 0 c).flushed 13 t y = (outsAt0 m c t.val t.isLt).2.1 y :=
  congrFun (flushed13 m c t) y

theorem emb13_eq (t : Fin cfg0.N) (y : S8x128x128.Idx) : ((cfg0.win 13).blk t).view.emb y = y := by
  have hi := idx13 t
  funext k
  apply Fin.ext
  match k with
  | ⟨0, _⟩ =>
    show win0_13.index t 0 * 8 + 1 * (y 0).val = (y 0).val
    rw [hi.1]; omega
  | ⟨1, _⟩ =>
    show win0_13.index t 1 * 128 + 1 * (y 1).val = (y 1).val
    rw [hi.2.1]; omega
  | ⟨2, _⟩ =>
    show win0_13.index t 2 * 128 + 1 * (y 2).val = (y 2).val
    rw [hi.2.2]; omega

theorem cover13 (i : S8x128x128.Idx) : ∃ t : Fin cfg0.N, (cfg0.win 13).flush t = true ∧ i ∈ ((cfg0.win 13).blk t).view.set :=
  ⟨⟨7, show 7 < 8 by omega⟩, (flush0_13 _).mpr rfl, Eq.mp (congrArg (· ∈ _) (emb13_eq _ i)) (View.emb_mem_set _ i)⟩

theorem idx14 : ∀ t : Fin cfg0.N, win0_14.index t 0 = 0 ∧ win0_14.index t 1 = 0 := by decide +kernel

theorem flushed14_at (t : Fin cfg0.N) (y : S128x8.Idx) : (dats m 0 c).flushed 14 t y = (outsAt0 m c t.val t.isLt).2.2.1 y :=
  congrFun (flushed14 m c t) y

theorem emb14_eq (t : Fin cfg0.N) (y : S128x8.Idx) : ((cfg0.win 14).blk t).view.emb y = y := by
  have hi := idx14 t
  funext k
  apply Fin.ext
  match k with
  | ⟨0, _⟩ =>
    show win0_14.index t 0 * 128 + 1 * (y 0).val = (y 0).val
    rw [hi.1]; omega
  | ⟨1, _⟩ =>
    show win0_14.index t 1 * 8 + 1 * (y 1).val = (y 1).val
    rw [hi.2]; omega

theorem cover14 (i : S128x8.Idx) : ∃ t : Fin cfg0.N, (cfg0.win 14).flush t = true ∧ i ∈ ((cfg0.win 14).blk t).view.set :=
  ⟨⟨7, show 7 < 8 by omega⟩, (flush0_14 _).mpr rfl, Eq.mp (congrArg (· ∈ _) (emb14_eq _ i)) (View.emb_mem_set _ i)⟩

theorem idx15 : ∀ t : Fin cfg0.N, win0_15.index t 0 = 0 ∧ win0_15.index t 1 = 0 := by decide +kernel

theorem flushed15_at (t : Fin cfg0.N) (y : S1x1024.Idx) : (dats m 0 c).flushed 15 t y = (outsAt0 m c t.val t.isLt).2.2.2.1 y :=
  congrFun (flushed15 m c t) y

theorem emb15_eq (t : Fin cfg0.N) (y : S1x1024.Idx) : ((cfg0.win 15).blk t).view.emb y = y := by
  have hi := idx15 t
  funext k
  apply Fin.ext
  match k with
  | ⟨0, _⟩ =>
    show win0_15.index t 0 * 1 + 1 * (y 0).val = (y 0).val
    rw [hi.1]; omega
  | ⟨1, _⟩ =>
    show win0_15.index t 1 * 1024 + 1 * (y 1).val = (y 1).val
    rw [hi.2]; omega

theorem cover15 (i : S1x1024.Idx) : ∃ t : Fin cfg0.N, (cfg0.win 15).flush t = true ∧ i ∈ ((cfg0.win 15).blk t).view.set :=
  ⟨⟨7, show 7 < 8 by omega⟩, (flush0_15 _).mpr rfl, Eq.mp (congrArg (· ∈ _) (emb15_eq _ i)) (View.emb_mem_set _ i)⟩

theorem idx16 : ∀ t : Fin cfg0.N, win0_16.index t 0 = 0 ∧ win0_16.index t 1 = 0 := by decide +kernel

theorem flushed16_at (t : Fin cfg0.N) (y : S1x1024.Idx) : (dats m 0 c).flushed 16 t y = (outsAt0 m c t.val t.isLt).2.2.2.2.1 y :=
  congrFun (flushed16 m c t) y

theorem emb16_eq (t : Fin cfg0.N) (y : S1x1024.Idx) : ((cfg0.win 16).blk t).view.emb y = y := by
  have hi := idx16 t
  funext k
  apply Fin.ext
  match k with
  | ⟨0, _⟩ =>
    show win0_16.index t 0 * 1 + 1 * (y 0).val = (y 0).val
    rw [hi.1]; omega
  | ⟨1, _⟩ =>
    show win0_16.index t 1 * 1024 + 1 * (y 1).val = (y 1).val
    rw [hi.2]; omega

theorem cover16 (i : S1x1024.Idx) : ∃ t : Fin cfg0.N, (cfg0.win 16).flush t = true ∧ i ∈ ((cfg0.win 16).blk t).view.set :=
  ⟨⟨7, show 7 < 8 by omega⟩, (flush0_16 _).mpr rfl, Eq.mp (congrArg (· ∈ _) (emb16_eq _ i)) (View.emb_mem_set _ i)⟩

theorem idx17 : ∀ t : Fin cfg0.N, win0_17.index t 0 = 0 ∧ win0_17.index t 1 = 0 ∧ win0_17.index t 2 = 0 ∧ win0_17.index t 3 = 0 := by decide +kernel

theorem flushed17_at (t : Fin cfg0.N) (y : S8x4x32x256.Idx) : (dats m 0 c).flushed 17 t y = (outsAt0 m c t.val t.isLt).2.2.2.2.2 y :=
  congrFun (flushed17 m c t) y

theorem emb17_eq (t : Fin cfg0.N) (y : S8x4x32x256.Idx) : ((cfg0.win 17).blk t).view.emb y = y := by
  have hi := idx17 t
  funext k
  apply Fin.ext
  match k with
  | ⟨0, _⟩ =>
    show win0_17.index t 0 * 8 + 1 * (y 0).val = (y 0).val
    rw [hi.1]; omega
  | ⟨1, _⟩ =>
    show win0_17.index t 1 * 4 + 1 * (y 1).val = (y 1).val
    rw [hi.2.1]; omega
  | ⟨2, _⟩ =>
    show win0_17.index t 2 * 32 + 1 * (y 2).val = (y 2).val
    rw [hi.2.2.1]; omega
  | ⟨3, _⟩ =>
    show win0_17.index t 3 * 256 + 1 * (y 3).val = (y 3).val
    rw [hi.2.2.2]; omega

theorem cover17 (i : S8x4x32x256.Idx) : ∃ t : Fin cfg0.N, (cfg0.win 17).flush t = true ∧ i ∈ ((cfg0.win 17).blk t).view.set :=
  ⟨⟨7, show 7 < 8 by omega⟩, (flush0_17 _).mpr rfl, Eq.mp (congrArg (· ∈ _) (emb17_eq _ i)) (View.emb_mem_set _ i)⟩

variable (h : Args a (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)))
include h

/-- The gradient of the projection. -/
theorem final12 (i : S4096x3072.Idx) : (dats m 0 c).arrAt 12 cfg0.N i = ((a.dproj (i 0).val (i 1).val : ℝ) : EReal) := by
  refine (dats m 0 c).arrAt_forall_of_cover 12 (fun i v => v = ((a.dproj (i 0).val (i 1).val : ℝ) : EReal)) ?_ cover12 i
  intro t hf y
  refine (cast_eq _ _).trans ((flushed12_at t y).trans (((held h t.val t rfl).o12 y).trans ?_))
  rw [(emb12_val t y).1, (emb12_val t y).2]

/-- The gradient of the mixing matrices. -/
theorem final13 (i : S8x128x128.Idx) : (dats m 0 c).arrAt 13 cfg0.N i = ((a.dws 32 (i 0).val (i 1).val (i 2).val : ℝ) : EReal) := by
  refine (dats m 0 c).arrAt_forall_of_cover 13 (fun i v => v = ((a.dws 32 (i 0).val (i 1).val (i 2).val : ℝ) : EReal)) ?_ cover13 i
  intro t hf y
  have h7 : t.val = 7 := by have := (flush0_13 t).mp hf; have : t.val < 8 := t.isLt; omega
  have hh := (held h t.val t rfl).o13 y
  rw [emb13_eq t y]
  refine (cast_eq _ _).trans ((flushed13_at t y).trans (hh.trans ?_))
  dsimp only
  rw [h7]

/-- The gradient of the biases. -/
theorem final14 (i : S128x8.Idx) : (dats m 0 c).arrAt 14 cfg0.N i = ((a.dbs 32 (i 0).val (i 1).val : ℝ) : EReal) := by
  refine (dats m 0 c).arrAt_forall_of_cover 14 (fun i v => v = ((a.dbs 32 (i 0).val (i 1).val : ℝ) : EReal)) ?_ cover14 i
  intro t hf y
  have h7 : t.val = 7 := by have := (flush0_14 t).mp hf; have : t.val < 8 := t.isLt; omega
  have hh := (held h t.val t rfl).o14 y
  rw [emb14_eq t y]
  refine (cast_eq _ _).trans ((flushed14_at t y).trans (hh.trans ?_))
  dsimp only
  rw [h7]

/-- The gradient of the gain. -/
theorem final15 (i : S1x1024.Idx) : (dats m 0 c).arrAt 15 cfg0.N i = ((a.dgv 4096 (i 1).val : ℝ) : EReal) := by
  refine (dats m 0 c).arrAt_forall_of_cover 15 (fun i v => v = ((a.dgv 4096 (i 1).val : ℝ) : EReal)) ?_ cover15 i
  intro t hf y
  have h7 : t.val = 7 := by have := (flush0_15 t).mp hf; have : t.val < 8 := t.isLt; omega
  have hh := (held h t.val t rfl).o15 y
  rw [emb15_eq t y]
  refine (cast_eq _ _).trans ((flushed15_at t y).trans (hh.trans ?_))
  dsimp only
  rw [h7]

/-- The gradient of the pooling scale. -/
theorem final16 (i : S1x1024.Idx) : (dats m 0 c).arrAt 16 cfg0.N i = ((a.dps 4096 (i 1).val : ℝ) : EReal) := by
  refine (dats m 0 c).arrAt_forall_of_cover 16 (fun i v => v = ((a.dps 4096 (i 1).val : ℝ) : EReal)) ?_ cover16 i
  intro t hf y
  have h7 : t.val = 7 := by have := (flush0_16 t).mp hf; have : t.val < 8 := t.isLt; omega
  have hh := (held h t.val t rfl).o16 y
  rw [emb16_eq t y]
  refine (cast_eq _ _).trans ((flushed16_at t y).trans (hh.trans ?_))
  dsimp only
  rw [h7]

/-- The gradient of the pooling matrices. -/
theorem final17 (i : S8x4x32x256.Idx) : (dats m 0 c).arrAt 17 cfg0.N i = ((a.dwp 4096 (i 1).val (32 * (i 0).val + (i 2).val) (i 3).val : ℝ) : EReal) := by
  refine (dats m 0 c).arrAt_forall_of_cover 17 (fun i v => v = ((a.dwp 4096 (i 1).val (32 * (i 0).val + (i 2).val) (i 3).val : ℝ) : EReal)) ?_ cover17 i
  intro t hf y
  have h7 : t.val = 7 := by have := (flush0_17 t).mp hf; have : t.val < 8 := t.isLt; omega
  have hh := (held h t.val t rfl).o17 y
  rw [emb17_eq t y]
  refine (cast_eq _ _).trans ((flushed17_at t y).trans (hh.trans ?_))
  dsimp only
  rw [h7]

end Cert.Mixer

end
-- ==== Proof.Mixer.Finite.lean ====
module

public import proofs.«01_k».proof.Pre_all_finite
public import proofs.«01_k».proof.Proof.Mixer.Blocks

/-! Of arguments that are all finite: the real numbers that they hold. -/

@[expose] public section

noncomputable section

namespace Cert.Mixer

open Idealize.ShloMosaic

/-- The shape relations of the precondition hold. -/
theorem facts_finite : Cert.Pre_all_finite.Facts :=
  ⟨by decide, by decide, by decide, by decide, by decide, by decide⟩

/-- The float word of infinity is infinity. -/
theorem bits_top : Ideal.ofBits .f32 0x7F800000#32 = (⊤ : EReal) := by
  simp [Ideal.ofBits, Ideal.ieee]

/-- A value whose size compares below infinity is a real number. -/
theorem real_of_lt {x : EReal} (h : Ideal.cmp .olt (max x (-x)) (⊤ : EReal) = 1#1) : x = ((x.toReal : ℝ) : EReal) := by
  have h1 : max x (-x) < ⊤ := by
    by_contra hn
    simp [Ideal.cmp, hn] at h
  have ht : x ≠ ⊤ := fun e => by rw [e] at h1; simp at h1
  have hb : x ≠ ⊥ := fun e => by rw [e] at h1; simp at h1
  exact (EReal.coe_toReal ht hb).symm

variable {s : Shape} {x : FVec Ideal s .f32}

/-- An array that passes the precondition's comparison holds real numbers. -/
theorem lf_of_lt {y : FVec Ideal s .f32} (hy : ∀ i, y i = (⊤ : EReal)) (h : cmpf .olt (Host.absf x) y = fun _ => 1#1) :
    Lf x fun i => (x i : EReal).toReal := fun i => by
  have e : Ideal.cmp .olt (max (x i) (-(x i))) (y i) = 1#1 := congrFun h i
  rw [hy] at e
  exact real_of_lt e

/-- The real numbers of a matrix, by row and column. -/
theorem reals2 {n m : ℕ} {x : FVec Ideal ⟨2, ![n, m]⟩ .f32} {g : (⟨2, ![n, m]⟩ : Shape).Idx → ℝ} (h : Lf x g) :
    ∃ f : ℕ → ℕ → ℝ, R2 x f := by
  refine ⟨fun r c => if hh : r < n ∧ c < m then g (ix2 ⟨r, hh.1⟩ ⟨c, hh.2⟩) else 0, h.congr fun i => ?_⟩
  dsimp only
  rw [dif_pos ⟨(i 0).isLt, (i 1).isLt⟩]
  exact congrArg g (funext fun q => by match q with | ⟨0, _⟩ => rfl | ⟨1, _⟩ => rfl)

/-- The real numbers of one matrix under a leading axis of one. -/
theorem reals3 {n m : ℕ} {x : FVec Ideal ⟨3, ![1, n, m]⟩ .f32} {g : (⟨3, ![1, n, m]⟩ : Shape).Idx → ℝ} (h : Lf x g) :
    ∃ f : ℕ → ℕ → ℝ, Lf x fun i => f (i 1).val (i 2).val := by
  refine ⟨fun r c => if hh : r < n ∧ c < m then g (ix3 0 ⟨r, hh.1⟩ ⟨c, hh.2⟩) else 0, h.congr fun i => ?_⟩
  dsimp only
  rw [dif_pos ⟨(i 1).isLt, (i 2).isLt⟩]
  exact congrArg g (funext fun q => by match q with | ⟨0, _⟩ => exact Subsingleton.elim (α := Fin 1) _ _ | ⟨1, _⟩ => rfl | ⟨2, _⟩ => rfl)

/-- The real numbers of several matrices under a leading axis of one. -/
theorem reals4 {n m k : ℕ} {x : FVec Ideal ⟨4, ![1, n, m, k]⟩ .f32} {g : (⟨4, ![1, n, m, k]⟩ : Shape).Idx → ℝ} (h : Lf x g) :
    ∃ f : ℕ → ℕ → ℕ → ℝ, Lf x fun i => f (i 1).val (i 2).val (i 3).val := by
  refine ⟨fun a r c => if hh : a < n ∧ r < m ∧ c < k then g (ix4 0 ⟨a, hh.1⟩ ⟨r, hh.2.1⟩ ⟨c, hh.2.2⟩) else 0, h.congr fun i => ?_⟩
  dsimp only
  rw [dif_pos ⟨(i 1).isLt, (i 2).isLt, (i 3).isLt⟩]
  exact congrArg g (funext fun q => by
    match q with | ⟨0, _⟩ => exact Subsingleton.elim (α := Fin 1) _ _ | ⟨1, _⟩ => rfl | ⟨2, _⟩ => rfl | ⟨3, _⟩ => rfl)

/-- Arguments that are all finite hold the real numbers of some `Inp`. -/
theorem exists_args [Cert.Pre_all_finite.Facts] (p : FVec Ideal ⟨2, ![4096, 3072]⟩ .f32) (d : FVec Ideal ⟨2, ![4096, 2048]⟩ .f32)
    (ws : FVec Ideal ⟨4, ![1, 8, 128, 128]⟩ .f32) (bs : FVec Ideal ⟨3, ![1, 8, 128]⟩ .f32) (gv : FVec Ideal ⟨2, ![1, 1024]⟩ .f32)
    (wp : FVec Ideal ⟨4, ![1, 4, 256, 256]⟩ .f32) (ps : FVec Ideal ⟨2, ![1, 1024]⟩ .f32)
    (h0 : (Cert.Pre_all_finite.fn (F := Ideal) p d ws bs gv wp ps).1 = fun _ => 1#1)
    (h1 : (Cert.Pre_all_finite.fn (F := Ideal) p d ws bs gv wp ps).2.1 = fun _ => 1#1)
    (h2 : (Cert.Pre_all_finite.fn (F := Ideal) p d ws bs gv wp ps).2.2.1 = fun _ => 1#1)
    (h3 : (Cert.Pre_all_finite.fn (F := Ideal) p d ws bs gv wp ps).2.2.2.1 = fun _ => 1#1)
    (h4 : (Cert.Pre_all_finite.fn (F := Ideal) p d ws bs gv wp ps).2.2.2.2.1 = fun _ => 1#1)
    (h5 : (Cert.Pre_all_finite.fn (F := Ideal) p d ws bs gv wp ps).2.2.2.2.2.1 = fun _ => 1#1)
    (h6 : (Cert.Pre_all_finite.fn (F := Ideal) p d ws bs gv wp ps).2.2.2.2.2.2 = fun _ => 1#1) :
    ∃ a : Inp, Args a p d ws bs gv wp ps := by
  obtain ⟨fp, hp⟩ := reals2 (lf_of_lt (fun _ => bits_top) h0)
  obtain ⟨fd, hd⟩ := reals2 (lf_of_lt (fun _ => bits_top) h1)
  obtain ⟨fws, hws⟩ := reals4 (lf_of_lt (fun _ => bits_top) h2)
  obtain ⟨fbs, hbs⟩ := reals3 (lf_of_lt (fun _ => bits_top) h3)
  obtain ⟨fgv, hgv⟩ := reals2 (lf_of_lt (fun _ => bits_top) h4)
  obtain ⟨fwp, hwp⟩ := reals4 (lf_of_lt (fun _ => bits_top) h5)
  obtain ⟨fps, hps⟩ := reals2 (lf_of_lt (fun _ => bits_top) h6)
  refine ⟨⟨fp, fd, fws, fbs, fgv 0, fwp, fps 0⟩, ⟨hp, hd, hws, hbs, hgv.congr fun r hr c _ => ?_, hwp, hps.congr fun r hr c _ => ?_⟩⟩
  · rw [show r = 0 by omega]
  · rw [show r = 0 by omega]

end Cert.Mixer

end
-- ==== Proof.Mixer.RefLift.lean ====
module

public import proofs.«01_k».proof.Proof.Mixer.Blocks
public import proofs.«01_k».proof.Proof.Gen.ReferenceIdeal.Read
public import Idealize.ShloMosaic.Lib.IdealHost

@[expose] public section

/-! Reading the reference's operations: arrays with a leading axis of length one that hold real numbers. -/

namespace Cert.Mixer

open Idealize.ShloMosaic Idealize.ShloMosaic.TcCoe Finset

/-- The array of shape `s` holds the real numbers `f`. -/
abbrev LF (s : Shape) (x : FVec Ideal s .f32) (f : s.Idx → ℝ) : Prop := Lf x f
/-- An `l × n × m` array that holds `f r c` at its index `(·, r, c)`. -/
abbrev T3 (l n m : ℕ) (x : FVec Ideal ⟨3, ![l, n, m]⟩ .f32) (f : ℕ → ℕ → ℝ) : Prop :=
  Lf x fun i => f (i 1).val (i 2).val
/-- An `l × n × m × k` array that holds `f r c d` at its index `(·, r, c, d)`. -/
abbrev T4 (l n m k : ℕ) (x : FVec Ideal ⟨4, ![l, n, m, k]⟩ .f32) (f : ℕ → ℕ → ℕ → ℝ) : Prop :=
  Lf x fun i => f (i 1).val (i 2).val (i 3).val
/-- An `l × n × m × k × e` array that holds `f r c d b` at its index `(·, r, c, d, b)`. -/
abbrev T5 (l n m k e : ℕ) (x : FVec Ideal ⟨5, ![l, n, m, k, e]⟩ .f32) (f : ℕ → ℕ → ℕ → ℕ → ℝ) : Prop :=
  Lf x fun i => f (i 1).val (i 2).val (i 3).val (i 4).val

section
variable {l n m k e : ℕ}
theorem lt2 (i : (⟨2, ![l, n]⟩ : Shape).Idx) : (i 0).val < l ∧ (i 1).val < n := ⟨(i 0).isLt, (i 1).isLt⟩
theorem lt3 (i : (⟨3, ![l, n, m]⟩ : Shape).Idx) : (i 0).val < l ∧ (i 1).val < n ∧ (i 2).val < m :=
  ⟨(i 0).isLt, (i 1).isLt, (i 2).isLt⟩
theorem lt4 (i : (⟨4, ![l, n, m, k]⟩ : Shape).Idx) : (i 0).val < l ∧ (i 1).val < n ∧ (i 2).val < m ∧ (i 3).val < k :=
  ⟨(i 0).isLt, (i 1).isLt, (i 2).isLt, (i 3).isLt⟩
theorem lt5 (i : (⟨5, ![l, n, m, k, e]⟩ : Shape).Idx) :
    (i 0).val < l ∧ (i 1).val < n ∧ (i 2).val < m ∧ (i 3).val < k ∧ (i 4).val < e :=
  ⟨(i 0).isLt, (i 1).isLt, (i 2).isLt, (i 3).isLt, (i 4).isLt⟩
end

theorem cg1 (f : ℕ → ℝ) {a a' : ℕ} (h : a = a') : f a = f a' := by rw [h]
theorem cg2 (f : ℕ → ℕ → ℝ) {a a' b b' : ℕ} (h : a = a') (h2 : b = b') : f a b = f a' b' := by rw [h, h2]
theorem cg3 (f : ℕ → ℕ → ℕ → ℝ) {a a' b b' c c' : ℕ} (h : a = a') (h2 : b = b') (h3 : c = c') : f a b c = f a' b' c' := by
  rw [h, h2, h3]
theorem cg4 (f : ℕ → ℕ → ℕ → ℕ → ℝ) {a a' b b' c c' d d' : ℕ} (h : a = a') (h2 : b = b') (h3 : c = c') (h4 : d = d') :
    f a b c d = f a' b' c' d' := by rw [h, h2, h3, h4]

variable {s t w : Shape} {φ : FTy} {x y : FVec Ideal s φ} {v : FVec Ideal t φ} {z : FVec Ideal w φ} {f g : s.Idx → ℝ}
  {q : w.Idx → ℝ} {p : t.Idx → ℝ}

theorem Lf.hdivf (hx : Lf x f) (hy : Lf y g) (h0 : ∀ i, g i ≠ 0) : Lf (Host.divf x y) fun i => f i / g i := fun i => by
  show Ideal.div (x i) (y i) = _
  rw [hx i, hy i, Ideal.div_coe (h0 i), ← EReal.coe_mul, mul_one_div]
theorem Lf.htanh (hx : Lf x f) : Lf (Host.tanh x) fun i => Real.tanh (f i) := fun i => by
  show Ideal.tanh (x i) = _
  rw [hx i, Ideal.tanh_coe]
theorem Lf.hrsqrt (hx : Lf x f) (h0 : ∀ i, 0 < f i) : Lf (Host.rsqrt x) fun i => (Real.sqrt (f i))⁻¹ := fun i => by
  show Ideal.rsqrt (x i) = _
  rw [hx i, Ideal.rsqrt_coe, if_neg (h0 i).le.not_gt, if_neg (h0 i).ne']

/-- An array each of whose elements is an element of another one. -/
theorem Lf.via {idx : t.Idx → s.Idx} (ha : ∀ i, v i = x (idx i)) (hx : Lf x f) (e : ∀ i, f (idx i) = p i) : Lf v p :=
  fun i => (ha i).trans ((hx _).trans (congrArg _ (e i)))
/-- An array each of whose elements is a sum of `n` elements of another one. -/
theorem Lf.viaSum {n : ℕ} {idx : t.Idx → Fin n → s.Idx} {z : EReal} (ha : ∀ i, v i = z + ∑ k : Fin n, x (idx i k))
    (hz : z = ((0 : ℝ) : EReal)) (hx : Lf x f) (G : t.Idx → ℕ → ℝ) (e : ∀ i k, f (idx i k) = G i k.val) :
    Lf v fun i => ∑ k ∈ range n, G i k := fun i => by
  rw [ha i, hz, EReal.coe_zero, zero_add, ← coe_sum_fin]
  exact Finset.sum_congr rfl fun k _ => (hx _).trans (congrArg _ (e i k))
/-- An array each of whose elements is a sum of `n` products of elements of two others. -/
theorem Lf.viaDot {n : ℕ} {li : t.Idx → Fin n → s.Idx} {ri : t.Idx → Fin n → w.Idx}
    (ha : ∀ i, v i = ∑ k : Fin n, x (li i k) * z (ri i k)) (hx : Lf x f) (hz : Lf z q) (G : t.Idx → ℕ → ℝ)
    (e : ∀ i k, f (li i k) * q (ri i k) = G i k.val) :
    Lf v fun i => ∑ k ∈ range n, G i k := fun i => by
  rw [ha i, ← coe_sum_fin]
  exact Finset.sum_congr rfl fun k _ => by rw [hx _, hz _, ← EReal.coe_mul, e i k]

/-- A host's reduction whose kept index determines the whole index. -/
theorem Lf.redOne {u : Shape} {axes : List (Fin s.rank)} (hx : Lf x f) {init : u.Idx → Ideal φ} (h : s.ReducesTo axes t)
    (hu : 0 < u.numel) (hz : init (Shape.Idx.first hu) = ((0 : ℝ) : EReal)) (em : t.Idx → s.Idx)
    (e1 : ∀ j, h.drop (em j) = j) (e2 : ∀ i, em (h.drop i) = i) (e : ∀ j, f (em j) = p j) :
    Lf (Host.reduceAdd x init h hu) p := fun j => by
  rw [ValueIdx.hostReduceAdd_apply, hz]
  unfold Ideal.hostReduceAdd
  rw [Finset.sum_eq_single (em j), hx, e, EReal.coe_zero, zero_add]
  · intro i hi hne
    exact absurd (by rw [← (Finset.mem_filter.mp hi).2, e2]) hne
  · intro hj
    exact absurd (Finset.mem_filter.mpr ⟨Finset.mem_univ (em j), e1 j⟩) hj

theorem coe_sum_finset {ι : Type} (A : Finset ι) (F : ι → ℝ) : ∑ i ∈ A, ((F i : ℝ) : EReal) = ((∑ i ∈ A, F i : ℝ) : EReal) := by
  classical
  induction A using Finset.induction_on with
  | empty => rw [Finset.sum_empty, Finset.sum_empty, EReal.coe_zero]
  | insert i A hi ih => rw [Finset.sum_insert hi, Finset.sum_insert hi, ih, EReal.coe_add]

/-- A host's reduction over two axes. -/
theorem Lf.redTwo {u : Shape} {axes : List (Fin s.rank)} (hx : Lf x f) {init : u.Idx → Ideal φ} (h : s.ReducesTo axes t)
    (hu : 0 < u.numel) (hz : init (Shape.Idx.first hu) = ((0 : ℝ) : EReal)) (n m : ℕ) (co : s.Idx → ℕ × ℕ)
    (hco : ∀ i, (co i).1 < n ∧ (co i).2 < m) (em : t.Idx → Fin n → Fin m → s.Idx)
    (e1 : ∀ j b c, h.drop (em j b c) = j) (e2 : ∀ j b c, co (em j b c) = (b.val, c.val))
    (e3 : ∀ i i', h.drop i = h.drop i' → co i = co i' → i = i') (G : t.Idx → ℕ → ℕ → ℝ)
    (e : ∀ i, f i = G (h.drop i) (co i).1 (co i).2) :
    Lf (Host.reduceAdd x init h hu) fun j => ∑ b ∈ range n, ∑ c ∈ range m, G j b c := fun j => by
  rw [ValueIdx.hostReduceAdd_apply, hz, EReal.coe_zero]
  unfold Ideal.hostReduceAdd
  rw [zero_add, Finset.sum_congr rfl fun i _ => hx i, coe_sum_finset, EReal.coe_eq_coe_iff]
  dsimp only
  rw [← Finset.sum_product']
  refine Finset.sum_nbij co ?_ ?_ ?_ ?_
  · intro i _
    exact Finset.mem_product.mpr ⟨Finset.mem_range.mpr (hco i).1, Finset.mem_range.mpr (hco i).2⟩
  · intro i hi i' hi' hc
    exact e3 i i' ((Finset.mem_filter.mp hi).2.trans (Finset.mem_filter.mp hi').2.symm) hc
  · intro q hq
    have hq' := Finset.mem_product.mp hq
    exact ⟨em j ⟨q.1, Finset.mem_range.mp hq'.1⟩ ⟨q.2, Finset.mem_range.mp hq'.2⟩,
      Finset.mem_coe.mpr (Finset.mem_filter.mpr ⟨Finset.mem_univ _, e1 _ _ _⟩), e2 _ _ _⟩
  · intro i hi
    rw [e i, (Finset.mem_filter.mp hi).2]

/-- A sum over the indices of a `1 × n × m` array. -/
theorem sum_idx3 (n m : ℕ) (F : (⟨3, ![1, n, m]⟩ : Shape).Idx → EReal) (g : ℕ → ℕ → ℝ)
    (e : ∀ k, F k = ((g (k 1).val (k 2).val : ℝ) : EReal)) :
    ∑ k, F k = ((∑ b ∈ range n, ∑ c ∈ range m, g b c : ℝ) : EReal) := by
  rw [Finset.sum_congr rfl fun k _ => e k, coe_sum_finset, EReal.coe_eq_coe_iff, ← Finset.sum_product']
  refine Finset.sum_nbij (fun k => ((k 1).val, (k 2).val)) ?_ ?_ ?_ ?_
  · intro k _
    exact Finset.mem_product.mpr ⟨Finset.mem_range.mpr (k 1).isLt, Finset.mem_range.mpr (k 2).isLt⟩
  · intro k _ k' _ hc
    obtain ⟨h1, h2⟩ := Prod.mk.inj hc
    refine funext fun b => Fin.ext ?_
    have z : (k 0).val < 1 := (k 0).isLt
    have z' : (k' 0).val < 1 := (k' 0).isLt
    match b with
    | ⟨0, _⟩ => exact (by omega : (k 0).val = (k' 0).val)
    | ⟨1, _⟩ => exact h1
    | ⟨2, _⟩ => exact h2
  · intro q hq
    have hq' := Finset.mem_product.mp hq
    exact ⟨ix3 (n0 := 1) 0 ⟨q.1, Finset.mem_range.mp hq'.1⟩ ⟨q.2, Finset.mem_range.mp hq'.2⟩, Finset.mem_coe.mpr (Finset.mem_univ _), rfl⟩
  · intro k _
    rfl

/-- The same for any shape that is `1 × n × m`. -/
theorem sum_shape3 (S : Shape) (n m : ℕ) (hr : S.rank = 3) (h0 : S.size ⟨0, by omega⟩ = 1) (h1 : S.size ⟨1, by omega⟩ = n)
    (h2 : S.size ⟨2, by omega⟩ = m) (F : S.Idx → EReal) (g : ℕ → ℕ → ℝ)
    (e : ∀ k, F k = ((g (k ⟨1, by omega⟩).val (k ⟨2, by omega⟩).val : ℝ) : EReal)) :
    ∑ k, F k = ((∑ b ∈ range n, ∑ c ∈ range m, g b c : ℝ) : EReal) := by
  obtain ⟨r, z⟩ := S
  dsimp only at hr
  subst hr
  have hz : z = ![1, n, m] := funext fun b => by
    match b with
    | ⟨0, _⟩ => exact h0
    | ⟨1, _⟩ => exact h1
    | ⟨2, _⟩ => exact h2
  subst hz
  exact sum_idx3 n m F g e

/-- A pad without steps between the entries. -/
theorem Lf.pad {u : Shape} (hx : Lf x f) {lo hi st : Fin s.rank → ℕ} (hs : ∀ b, st b = 0) {v : u.Idx → Ideal φ}
    (h : s.Pads lo hi st t) (hu : 0 < u.numel) (hz : v (Shape.Idx.first hu) = ((0 : ℝ) : EReal))
    (hin : ∀ (j : t.Idx) (k : s.Idx), (∀ b : Fin s.rank, (j (b.cast h.1)).val = lo b + (k b).val) → f k = p j)
    (hout : ∀ (j : t.Idx) (b : Fin s.rank), ((j (b.cast h.1)).val < lo b ∨ lo b + s.size b ≤ (j (b.cast h.1)).val) → p j = 0) :
    Lf (φ := φ) (pad t lo hi st x v h hu) p := fun j => by
  by_cases hj : ∀ b : Fin s.rank, lo b ≤ (j (b.cast h.1)).val ∧ (j (b.cast h.1)).val < lo b + s.size b
  · have hk : ∀ b : Fin s.rank, (j (b.cast h.1)).val - lo b < s.size b := fun b => by have := hj b; omega
    rw [pad_apply_of_inside lo hi st x v h hu j (fun b => ⟨_, hk b⟩)
      fun b => by rw [hs b]; have := hj b; show _ = lo b + ((j (b.cast h.1)).val - lo b) * _; omega, hx]
    exact congrArg _ (hin j _ fun b => by have := hj b; show _ = lo b + ((j (b.cast h.1)).val - lo b); omega)
  · rw [not_forall] at hj
    obtain ⟨b, hb⟩ := hj
    rw [pad_apply_of_not_inside lo hi st x v h hu j b (by
      rw [hs b, Nat.zero_add, Nat.div_one]; have := (j (b.cast h.1)).isLt; omega), hz, hout j b (by omega)]

theorem Lf.hnegf (hx : Lf x f) : Lf (Host.negf x) fun i => -f i := fun i => by
  show -(x i) = _
  rw [hx i, EReal.coe_neg]

/-- A pad of a `1 × n × m` array along its rows. -/
theorem T3.pad1 {n m N lo hi : ℕ} {x : FVec Ideal ⟨3, ![1, n, m]⟩ .f32} {f : ℕ → ℕ → ℝ} (hx : T3 1 n m x f) {u : Shape} {v : u.Idx → Ideal .f32}
    (h : (⟨3, ![1, n, m]⟩ : Shape).Pads ![0, lo, 0] ![0, hi, 0] ![0, 0, 0] ⟨3, ![1, N, m]⟩) (hu : 0 < u.numel)
    (hz : v (Shape.Idx.first hu) = ((0 : ℝ) : EReal)) :
    T3 1 N m (pad ⟨3, ![1, N, m]⟩ ![0, lo, 0] ![0, hi, 0] ![0, 0, 0] x v h hu) fun r c => if lo ≤ r ∧ r < lo + n then f (r - lo) c else 0 := by
  refine Lf.pad hx (fun b => by match b with | ⟨0, _⟩ => rfl | ⟨1, _⟩ => rfl | ⟨2, _⟩ => rfl) h hu hz (fun j k hk => ?_) (fun j b hb => ?_)
  · have h1 : (j 1).val = lo + (k 1).val := hk 1
    have h2 : (j 2).val = 0 + (k 2).val := hk 2
    have k1 : (k 1).val < n := (k 1).isLt
    dsimp only
    rw [if_pos (by omega)]
    exact cg2 f (by omega) (by omega)
  · obtain ⟨j0, j1, j2⟩ := lt3 j
    match b, hb with
    | ⟨0, _⟩, hb => exact absurd (show (j 0).val < 0 ∨ 0 + 1 ≤ (j 0).val from hb) (by omega)
    | ⟨1, _⟩, hb => exact if_neg (by have : (j 1).val < lo ∨ lo + n ≤ (j 1).val := hb; omega)
    | ⟨2, _⟩, hb => exact absurd (show (j 2).val < 0 ∨ 0 + m ≤ (j 2).val from hb) (by omega)

/-- A pad of a `1 × n × m` array along its columns. -/
theorem T3.pad2 {n m M lo hi : ℕ} {x : FVec Ideal ⟨3, ![1, n, m]⟩ .f32} {f : ℕ → ℕ → ℝ} (hx : T3 1 n m x f) {u : Shape} {v : u.Idx → Ideal .f32}
    (h : (⟨3, ![1, n, m]⟩ : Shape).Pads ![0, 0, lo] ![0, 0, hi] ![0, 0, 0] ⟨3, ![1, n, M]⟩) (hu : 0 < u.numel)
    (hz : v (Shape.Idx.first hu) = ((0 : ℝ) : EReal)) :
    T3 1 n M (pad ⟨3, ![1, n, M]⟩ ![0, 0, lo] ![0, 0, hi] ![0, 0, 0] x v h hu) fun r c => if lo ≤ c ∧ c < lo + m then f r (c - lo) else 0 := by
  refine Lf.pad hx (fun b => by match b with | ⟨0, _⟩ => rfl | ⟨1, _⟩ => rfl | ⟨2, _⟩ => rfl) h hu hz (fun j k hk => ?_) (fun j b hb => ?_)
  · have h1 : (j 1).val = 0 + (k 1).val := hk 1
    have h2 : (j 2).val = lo + (k 2).val := hk 2
    have k2 : (k 2).val < m := (k 2).isLt
    dsimp only
    rw [if_pos (by omega)]
    exact cg2 f (by omega) (by omega)
  · obtain ⟨j0, j1, j2⟩ := lt3 j
    match b, hb with
    | ⟨0, _⟩, hb => exact absurd (show (j 0).val < 0 ∨ 0 + 1 ≤ (j 0).val from hb) (by omega)
    | ⟨1, _⟩, hb => exact absurd (show (j 1).val < 0 ∨ 0 + n ≤ (j 1).val from hb) (by omega)
    | ⟨2, _⟩, hb => exact if_neg (by have : (j 2).val < lo ∨ lo + m ≤ (j 2).val := hb; omega)

/-- A pad of a `1 × n × 1 × m` array along its third axis. -/
theorem T4.pad2 {n m K lo hi : ℕ} {x : FVec Ideal ⟨4, ![1, n, 1, m]⟩ .f32} {f : ℕ → ℕ → ℝ} (hx : T4 1 n 1 m x fun r _ c => f r c) {u : Shape}
    {v : u.Idx → Ideal .f32} (h : (⟨4, ![1, n, 1, m]⟩ : Shape).Pads ![0, 0, lo, 0] ![0, 0, hi, 0] ![0, 0, 0, 0] ⟨4, ![1, n, K, m]⟩)
    (hu : 0 < u.numel) (hz : v (Shape.Idx.first hu) = ((0 : ℝ) : EReal)) :
    T4 1 n K m (pad ⟨4, ![1, n, K, m]⟩ ![0, 0, lo, 0] ![0, 0, hi, 0] ![0, 0, 0, 0] x v h hu) fun r g c => if g = lo then f r c else 0 := by
  refine Lf.pad hx (fun b => by match b with | ⟨0, _⟩ => rfl | ⟨1, _⟩ => rfl | ⟨2, _⟩ => rfl | ⟨3, _⟩ => rfl) h hu hz (fun j k hk => ?_) (fun j b hb => ?_)
  · have h1 : (j 1).val = 0 + (k 1).val := hk 1
    have h2 : (j 2).val = lo + (k 2).val := hk 2
    have h3 : (j 3).val = 0 + (k 3).val := hk 3
    have k2 : (k 2).val < 1 := (k 2).isLt
    dsimp only
    rw [if_pos (by omega)]
    exact cg2 f (by omega) (by omega)
  · obtain ⟨j0, j1, j2, j3⟩ := lt4 j
    match b, hb with
    | ⟨0, _⟩, hb => exact absurd (show (j 0).val < 0 ∨ 0 + 1 ≤ (j 0).val from hb) (by omega)
    | ⟨1, _⟩, hb => exact absurd (show (j 1).val < 0 ∨ 0 + n ≤ (j 1).val from hb) (by omega)
    | ⟨2, _⟩, hb => exact if_neg (by have : (j 2).val < lo ∨ lo + 1 ≤ (j 2).val := hb; omega)
    | ⟨3, _⟩, hb => exact absurd (show (j 3).val < 0 ∨ 0 + m ≤ (j 3).val from hb) (by omega)

/-- Rows of zeros above an array's rows. -/
theorem T3.zcat {n₁ n₂ N m : ℕ} {x : FVec Ideal ⟨3, ![1, n₁, m]⟩ .f32} {y : FVec Ideal ⟨3, ![1, n₂, m]⟩ .f32} {g : ℕ → ℕ → ℝ}
    (hx : LF ⟨3, ![1, n₁, m]⟩ x fun _ => 0) (hy : T3 1 n₂ m y g) (h) (hn : N = n₁ + n₂) :
    T3 1 N m (concatenate ⟨3, ![1, N, m]⟩ 1 [⟨⟨3, ![1, n₁, m]⟩, x⟩, ⟨⟨3, ![1, n₂, m]⟩, y⟩] h) fun r c => if r < n₁ then 0 else g (r - n₁) c :=
  fun i => by
  obtain ⟨i0, i1, i2⟩ := lt3 i
  by_cases hr : (i 1).val < n₁
  · simp only [if_pos hr]
    rw [concatenate_apply_piece 1 _ h i 0 (by simp) _ x rfl rfl 0 (by simp) (ix3 (n0 := 1) (i 0) ⟨(i 1).val, hr⟩ (i 2))]
    · exact hx _
    · intro b hb; fin_cases b
      · rfl
      · exact absurd rfl hb
      · rfl
    · simp
  · simp only [if_neg hr]
    rw [concatenate_apply_piece 1 _ h i 1 (by simp) _ y rfl rfl n₁ (by simp) (ix3 (n0 := 1) (i 0) ⟨(i 1).val - n₁, by omega⟩ (i 2))]
    · exact hy _
    · intro b hb; fin_cases b
      · rfl
      · exact absurd rfl hb
      · rfl
    · simp; omega

theorem T4.zcat {n₁ n₂ N k m : ℕ} {x : FVec Ideal ⟨4, ![1, n₁, k, m]⟩ .f32} {y : FVec Ideal ⟨4, ![1, n₂, k, m]⟩ .f32} {g : ℕ → ℕ → ℕ → ℝ}
    (hx : LF ⟨4, ![1, n₁, k, m]⟩ x fun _ => 0) (hy : T4 1 n₂ k m y g) (h) (hn : N = n₁ + n₂) :
    T4 1 N k m (concatenate ⟨4, ![1, N, k, m]⟩ 1 [⟨⟨4, ![1, n₁, k, m]⟩, x⟩, ⟨⟨4, ![1, n₂, k, m]⟩, y⟩] h)
      fun r c d => if r < n₁ then 0 else g (r - n₁) c d :=
  fun i => by
  obtain ⟨i0, i1, i2, i3⟩ := lt4 i
  by_cases hr : (i 1).val < n₁
  · simp only [if_pos hr]
    rw [concatenate_apply_piece 1 _ h i 0 (by simp) _ x rfl rfl 0 (by simp) (ix4 (n0 := 1) (i 0) ⟨(i 1).val, hr⟩ (i 2) (i 3))]
    · exact hx _
    · intro b hb; fin_cases b
      · rfl
      · exact absurd rfl hb
      · rfl
      · rfl
    · simp
  · simp only [if_neg hr]
    rw [concatenate_apply_piece 1 _ h i 1 (by simp) _ y rfl rfl n₁ (by simp) (ix4 (n0 := 1) (i 0) ⟨(i 1).val - n₁, by omega⟩ (i 2) (i 3))]
    · exact hy _
    · intro b hb; fin_cases b
      · rfl
      · exact absurd rfl hb
      · rfl
      · rfl
    · simp; omega

/-- Four arrays side by side along a third axis. -/
theorem T4.cat4 {n m : ℕ} {x₀ x₁ x₂ x₃ : FVec Ideal ⟨4, ![1, n, 1, m]⟩ .f32} {f : ℕ → ℕ → ℕ → ℝ}
    (h0 : T4 1 n 1 m x₀ fun r _ c => f r 0 c) (h1 : T4 1 n 1 m x₁ fun r _ c => f r 1 c) (h2 : T4 1 n 1 m x₂ fun r _ c => f r 2 c)
    (h3 : T4 1 n 1 m x₃ fun r _ c => f r 3 c) (h) :
    T4 1 n 4 m (concatenate ⟨4, ![1, n, 4, m]⟩ 2 [⟨⟨4, ![1, n, 1, m]⟩, x₀⟩, ⟨⟨4, ![1, n, 1, m]⟩, x₁⟩, ⟨⟨4, ![1, n, 1, m]⟩, x₂⟩,
      ⟨⟨4, ![1, n, 1, m]⟩, x₃⟩] h) f := fun i => by
  obtain ⟨i0, i1, i2, i3⟩ := lt4 i
  have hb : ∀ b : Fin 4, b.cast rfl ≠ (2 : Fin 4) →
      ((ix4 (n0 := 1) (i 0) (i 1) (0 : Fin 1) (i 3) : (⟨4, ![1, n, 1, m]⟩ : Shape).Idx) b).val = (i (b.cast rfl)).val := by
    intro b hb; fin_cases b
    · rfl
    · rfl
    · exact absurd rfl hb
    · rfl
  rcases (by omega : (i 2).val = 0 ∨ (i 2).val = 1 ∨ (i 2).val = 2 ∨ (i 2).val = 3) with e | e | e | e
  · rw [concatenate_apply_piece 2 _ h i 0 (by simp) _ x₀ rfl rfl 0 (by simp) (ix4 (n0 := 1) (i 0) (i 1) (0 : Fin 1) (i 3)) hb e.symm]
    exact (h0 _).trans (congrArg _ (cg3 f rfl e.symm rfl))
  · rw [concatenate_apply_piece 2 _ h i 1 (by simp) _ x₁ rfl rfl 1 (by simp) (ix4 (n0 := 1) (i 0) (i 1) (0 : Fin 1) (i 3)) hb e.symm]
    exact (h1 _).trans (congrArg _ (cg3 f rfl e.symm rfl))
  · rw [concatenate_apply_piece 2 _ h i 2 (by simp) _ x₂ rfl rfl 2 (by simp) (ix4 (n0 := 1) (i 0) (i 1) (0 : Fin 1) (i 3)) hb e.symm]
    exact (h2 _).trans (congrArg _ (cg3 f rfl e.symm rfl))
  · rw [concatenate_apply_piece 2 _ h i 3 (by simp) _ x₃ rfl rfl 3 (by simp) (ix4 (n0 := 1) (i 0) (i 1) (0 : Fin 1) (i 3)) hb e.symm]
    exact (h3 _).trans (congrArg _ (cg3 f rfl e.symm rfl))

theorem foldl_plus {ι : Type} (l : List ι) (F : ι → EReal) (v : EReal) : l.foldl (fun r i => r + F i) v = v + (l.map F).sum := by
  induction l generalizing v with
  | nil => simp
  | cons b l ih => rw [List.foldl_cons, ih, List.map_cons, List.sum_cons, add_assoc]

/-- A sum over the indices of a `1 × n × 1 × 1` array. -/
theorem sum_idx4 (n : ℕ) (F : (⟨4, ![1, n, 1, 1]⟩ : Shape).Idx → EReal) (g : ℕ → ℝ) (e : ∀ k, F k = ((g (k 1).val : ℝ) : EReal)) :
    ∑ k, F k = ((∑ b ∈ range n, g b : ℝ) : EReal) := by
  rw [Finset.sum_congr rfl fun k _ => e k, coe_sum_finset, EReal.coe_eq_coe_iff]
  refine Finset.sum_nbij (fun k => (k 1).val) ?_ ?_ ?_ ?_
  · intro k _
    exact Finset.mem_range.mpr (k 1).isLt
  · intro k _ k' _ hc
    obtain ⟨z0, _, z2, z3⟩ := lt4 k
    obtain ⟨y0, _, y2, y3⟩ := lt4 k'
    refine funext fun b => Fin.ext ?_
    match b with
    | ⟨0, _⟩ => exact (by omega : (k 0).val = (k' 0).val)
    | ⟨1, _⟩ => exact hc
    | ⟨2, _⟩ => exact (by omega : (k 2).val = (k' 2).val)
    | ⟨3, _⟩ => exact (by omega : (k 3).val = (k' 3).val)
  · intro q hq
    exact ⟨ix4 (n0 := 1) (n2 := 1) (n3 := 1) 0 ⟨q, Finset.mem_range.mp hq⟩ 0 0, Finset.mem_coe.mpr (Finset.mem_univ _), rfl⟩
  · intro k _
    rfl

/-- A sum over the indices of any shape that is `1 × n`. -/
theorem sum_shape2 (S : Shape) (n : ℕ) (hr : S.rank = 2) (h0 : S.size ⟨0, by omega⟩ = 1) (h1 : S.size ⟨1, by omega⟩ = n)
    (F : S.Idx → EReal) (g : ℕ → ℝ) (e : ∀ k, F k = ((g (k ⟨1, by omega⟩).val : ℝ) : EReal)) :
    ∑ k, F k = ((∑ b ∈ range n, g b : ℝ) : EReal) := by
  obtain ⟨r, z⟩ := S
  dsimp only at hr
  subst hr
  have hz : z = ![1, n] := funext fun b => by
    match b with
    | ⟨0, _⟩ => exact h0
    | ⟨1, _⟩ => exact h1
  subst hz
  rw [Finset.sum_congr rfl fun k _ => e k, coe_sum_finset, EReal.coe_eq_coe_iff]
  refine Finset.sum_nbij (fun k => (k 1).val) ?_ ?_ ?_ ?_
  · intro k _
    exact Finset.mem_range.mpr (k 1).isLt
  · intro k _ k' _ hc
    obtain ⟨z0, _⟩ := lt2 k
    obtain ⟨y0, _⟩ := lt2 k'
    refine funext fun b => Fin.ext ?_
    match b with
    | ⟨0, _⟩ => exact (by omega : (k 0).val = (k' 0).val)
    | ⟨1, _⟩ => exact hc
  · intro q hq
    exact ⟨ix2 (n0 := 1) 0 ⟨q, Finset.mem_range.mp hq⟩, Finset.mem_coe.mpr (Finset.mem_univ _), rfl⟩
  · intro k _
    rfl

/-- A host's windowed sum down the rows of a `1 × n × k × m` array, the window `n` rows long. -/
theorem T4.win {n k m lo hi : ℕ} {x : FVec Ideal ⟨4, ![1, n, k, m]⟩ .f32} {f : ℕ → ℕ → ℕ → ℝ} (hx : T4 1 n k m x f) {u : Shape}
    {init : u.Idx → Ideal .f32}
    (h : (⟨4, ![1, n, k, m]⟩ : Shape).ReduceWindows ![1, n, 1, 1] ![1, 1, 1, 1] ![0, lo, 0, 0] ![0, hi, 0, 0] ⟨4, ![1, n, k, m]⟩)
    (hu : 0 < u.numel) (hz : init (Shape.Idx.first hu) = ((0 : ℝ) : EReal)) :
    T4 1 n k m (Host.reduceWindowAdd ![1, n, 1, 1] ![1, 1, 1, 1] ![0, lo, 0, 0] ![0, hi, 0, 0] x init h hu) fun r g c =>
      ∑ b ∈ range n, if lo ≤ r + b ∧ r + b - lo < n then f (r + b - lo) g c else 0 := fun j => by
  obtain ⟨j0, j1, j2, j3⟩ := lt4 j
  show Ideal.hostReduceWindowAdd _ _ _ _ h x (init (Shape.Idx.first hu)) j = _
  rw [hz]
  unfold Ideal.hostReduceWindowAdd Host.reduceWindow
  dsimp only
  rw [foldl_plus, ← List.ofFn_eq_map, List.sum_ofFn, EReal.coe_zero, zero_add]
  refine (Finset.sum_congr rfl fun i _ => (?_ : _ = (((fun b => if lo ≤ (j 1).val + b ∧ (j 1).val + b - lo < n then
    f ((j 1).val + b - lo) (j 2).val (j 3).val else 0) (((Shape.rowMajor ⟨4, ![1, n, 1, 1]⟩).symm i) 1).val : ℝ) : EReal))).trans
    ((Equiv.sum_comp (Shape.rowMajor ⟨4, ![1, n, 1, 1]⟩).symm fun w => (((fun b => if lo ≤ (j 1).val + b ∧ (j 1).val + b - lo < n then
    f ((j 1).val + b - lo) (j 2).val (j 3).val else 0) (w 1).val : ℝ) : EReal)).trans (sum_idx4 n _ _ fun _ => rfl))
  dsimp only
  obtain ⟨w0, w1, w2, w3⟩ := lt4 ((Shape.rowMajor ⟨4, ![1, n, 1, 1]⟩).symm i)
  by_cases hc : lo ≤ (j 1).val + ((Shape.rowMajor ⟨4, ![1, n, 1, 1]⟩).symm i 1).val ∧ (j 1).val + ((Shape.rowMajor ⟨4, ![1, n, 1, 1]⟩).symm i 1).val - lo < n
  · rw [if_pos hc, dif_pos]
    · rw [hx]
      refine congrArg _ (cg3 f ?_ ?_ ?_)
      · show (j 1).val * 1 + ((Shape.rowMajor ⟨4, ![1, n, 1, 1]⟩).symm i 1).val - lo = _; omega
      · show (j 2).val * 1 + ((Shape.rowMajor ⟨4, ![1, n, 1, 1]⟩).symm i 2).val - 0 = _; omega
      · show (j 3).val * 1 + ((Shape.rowMajor ⟨4, ![1, n, 1, 1]⟩).symm i 3).val - 0 = _; omega
    · intro b
      match b with
      | ⟨0, _⟩ => show 0 ≤ (j 0).val * 1 + ((Shape.rowMajor ⟨4, ![1, n, 1, 1]⟩).symm i 0).val ∧ (j 0).val * 1 + ((Shape.rowMajor ⟨4, ![1, n, 1, 1]⟩).symm i 0).val - 0 < 1; omega
      | ⟨1, _⟩ => show lo ≤ (j 1).val * 1 + ((Shape.rowMajor ⟨4, ![1, n, 1, 1]⟩).symm i 1).val ∧ (j 1).val * 1 + ((Shape.rowMajor ⟨4, ![1, n, 1, 1]⟩).symm i 1).val - lo < n; omega
      | ⟨2, _⟩ => show 0 ≤ (j 2).val * 1 + ((Shape.rowMajor ⟨4, ![1, n, 1, 1]⟩).symm i 2).val ∧ (j 2).val * 1 + ((Shape.rowMajor ⟨4, ![1, n, 1, 1]⟩).symm i 2).val - 0 < k; omega
      | ⟨3, _⟩ => show 0 ≤ (j 3).val * 1 + ((Shape.rowMajor ⟨4, ![1, n, 1, 1]⟩).symm i 3).val ∧ (j 3).val * 1 + ((Shape.rowMajor ⟨4, ![1, n, 1, 1]⟩).symm i 3).val - 0 < m; omega
  · rw [if_neg hc, dif_neg]
    · exact EReal.coe_zero.symm
    intro hin
    have h1 : lo ≤ (j 1).val * 1 + ((Shape.rowMajor ⟨4, ![1, n, 1, 1]⟩).symm i 1).val ∧ (j 1).val * 1 + ((Shape.rowMajor ⟨4, ![1, n, 1, 1]⟩).symm i 1).val - lo < n := hin 1
    omega

end Cert.Mixer
-- ==== Proof.Mixer.RefHead.lean ====
module

public import proofs.«01_k».proof.Proof.Mixer.RefLift

@[expose] public section

/-! The reference's head part: what its operations hold. -/

namespace Cert.Mixer.Ref

open Idealize.ShloMosaic Idealize.ShloMosaic.TcCoe Finset
open Cert.ReferenceIdeal Cert.ReferenceIdeal.Read Cert.ReferenceIdeal.Gen

variable {x0 : FVec Ideal S4096x3072 .f32} {x1 : FVec Ideal S4096x2048 .f32} {x2 : FVec Ideal S1x8x128x128 .f32}
  {x3 : FVec Ideal S1x8x128 .f32} {x4 : FVec Ideal S1x1024 .f32} {x5 : FVec Ideal S1x4x256x256 .f32}
  {x6 : FVec Ideal S1x1024 .f32} {a : Inp}

theorem k5 : LF S1x4096x1024 (val_main_v5 (F := Ideal)) fun _ => 3 := fun _ => bits_three
theorem k7 : LF S1x4096x1024 (val_main_v7 (F := Ideal)) fun _ => 44715 := fun _ => bits_44715
theorem k9 : LF S1x4096x1024 (val_main_v9 (F := Ideal)) fun _ => 1000000 := fun _ => bits_million
theorem k12 : LF S1x4096x1024 (val_main_v12 (F := Ideal)) fun _ => cC := fun _ => bits_C
theorem k15 : LF S1x4096x1024 (val_main_v15 (F := Ideal)) fun _ => 1 := fun _ => bits_one
theorem k22 : LF S1x4096x1024 (val_main_v22 (F := Ideal)) fun _ => 1 / 2 := fun _ => bits_half
theorem k58 : LF S1x4096x8x1 (val_main_v58 (F := Ideal)) fun _ => 128 := fun _ => bits_128
theorem k60 : LF S1x4096x8x1 (val_main_v60 (F := Ideal)) fun _ => cEps := fun _ => bits_eps
theorem k64 : LF S1x4096x8x1 (val_main_v64 (F := Ideal)) fun _ => -(1 / 2) := fun _ => bits_neg_half
theorem k75 : LF S8x128x128 (val_main_v75 (F := Ideal)) fun _ => 0 := fun _ => bits_zero

/-- The mask holds on and below the diagonal. -/
theorem m76 (i : S8x128x128.Idx) : (val_main_v76_1 (F := Ideal)) i = 1#1 ↔ (i 2).val ≤ (i 1).val := by
  rw [val_main_v76_1_apply, val_main_v74_apply, val_main_v73_apply, val_main_call0_v4_apply]
  have hb : ∀ b c : Fin 128, Scalar.select (IntOp.cmpi .sge (IntOp.addi (BitVec.ofNat 32 b.val) 0#32) (BitVec.ofNat 32 c.val)) 1#1 0#1 = 1#1 ↔
      c.val ≤ b.val := by decide +kernel
  exact hb (i 1) (i 2)

variable (h : Args a x0 x1 x2 x3 x4 x5 x6)
include h

theorem r0 : T3 1 4096 3072 (val_main_v0 (F := Ideal) x0) a.p := by
  refine Lf.via (idx := idx_main_v0) (val_main_v0_apply (F := Ideal) x0) h.p fun i => ?_
  obtain ⟨h0, h1, h2⟩ := lt3 i
  dsimp only [idx_main_v0] <;> exact cg2 a.p (by omega) (by omega)
theorem r1 : T3 1 4096 1024 (val_main_v1 (F := Ideal) x0) a.p := by
  refine Lf.via (idx := idx_main_v1) (val_main_v1_apply (F := Ideal) x0) (r0 h) fun i => ?_
  obtain ⟨h0, h1, h2⟩ := lt3 i
  dsimp only [idx_main_v1] <;> exact cg2 a.p (by omega) (by omega)
theorem r6 : T3 1 4096 1024 (val_main_v6 (F := Ideal) x0) fun r c => 3 * (a.p r c * a.p r c) := k5.mulf ((r1 h).mulf (r1 h))
theorem r11 : T3 1 4096 1024 (val_main_v11 (F := Ideal) x0) fun r c => a.p r c + cA * a.p r c * a.p r c * a.p r c :=
  ((r1 h).addf ((k7.mulf (((r1 h).mulf (r1 h)).mulf (r1 h))).hdivf k9 fun _ => by norm_num)).congr fun i => by
    unfold cA; ring
theorem r14 : T3 1 4096 1024 (val_main_v14 (F := Ideal) x0) fun r c => gth (a.p r c) := (k12.mulf (r11 h)).htanh
theorem r19 : T3 1 4096 1024 (val_main_v19 (F := Ideal) x0) fun r c => 1 - gth (a.p r c) * gth (a.p r c) :=
  ((k15.addf (r14 h)).mulf (k15.subf (r14 h))).congr fun i => by ring
theorem r23 : T3 1 4096 1024 (val_main_v23 (F := Ideal) x0) fun r c => 1 / 2 * (1 + gth (a.p r c)) := k22.mulf (k15.addf (r14 h))
theorem r24 : T3 1 4096 1024 (val_main_v24 (F := Ideal) x0) fun r c => gelu (a.p r c) := ((r1 h).mulf (r23 h)).congr fun i => by
  unfold gelu; ring
theorem r25 : T3 1 4096 1024 (val_main_v25 (F := Ideal) x0) fun r c => a.p r (1024 + c) := by
  refine Lf.via (idx := idx_main_v25) (val_main_v25_apply (F := Ideal) x0) (r0 h) fun i => ?_
  obtain ⟨h0, h1, h2⟩ := lt3 i
  dsimp only [idx_main_v25] <;> exact cg2 a.p (by omega) (by omega)
theorem r30 : T3 1 4096 1024 (val_main_v30 (F := Ideal) x0) fun r c => 3 * (a.p r (1024 + c) * a.p r (1024 + c)) := k5.mulf ((r25 h).mulf (r25 h))
theorem r35 : T3 1 4096 1024 (val_main_v35 (F := Ideal) x0) fun r c => a.p r (1024 + c) + cA * a.p r (1024 + c) * a.p r (1024 + c) * a.p r (1024 + c) :=
  ((r25 h).addf ((k7.mulf (((r25 h).mulf (r25 h)).mulf (r25 h))).hdivf k9 fun _ => by norm_num)).congr fun i => by
    unfold cA; ring
theorem r38 : T3 1 4096 1024 (val_main_v38 (F := Ideal) x0) fun r c => gth (a.p r (1024 + c)) := (k12.mulf (r35 h)).htanh
theorem r43 : T3 1 4096 1024 (val_main_v43 (F := Ideal) x0) fun r c => 1 - gth (a.p r (1024 + c)) * gth (a.p r (1024 + c)) :=
  ((k15.addf (r38 h)).mulf (k15.subf (r38 h))).congr fun i => by ring
theorem r47 : T3 1 4096 1024 (val_main_v47 (F := Ideal) x0) fun r c => 1 / 2 * (1 + gth (a.p r (1024 + c))) := k22.mulf (k15.addf (r38 h))
theorem r48 : T3 1 4096 1024 (val_main_v48 (F := Ideal) x0) fun r c => gelu (a.p r (1024 + c)) := ((r25 h).mulf (r47 h)).congr fun i => by
  unfold gelu; ring
theorem r50 : LF S8x128x128 (val_main_v50 (F := Ideal) x2) fun i => a.ws (i 0).val (i 1).val (i 2).val := by
  refine Lf.via (idx := idx_main_v50) (val_main_v50_apply (F := Ideal) x2) h.ws fun i => ?_
  obtain ⟨h0, h1, h2⟩ := lt3 i
  dsimp only [idx_main_v50] <;> exact cg3 a.ws (by omega) (by omega) (by omega)
theorem r51 : LF S8x128 (val_main_v51 (F := Ideal) x3) fun i => a.bs (i 0).val (i 1).val := by
  refine Lf.via (idx := idx_main_v51) (val_main_v51_apply (F := Ideal) x3) h.bs fun i => ?_
  obtain ⟨h0, h1⟩ := lt2 i
  dsimp only [idx_main_v51] <;> exact cg2 a.bs (by omega) (by omega)
theorem r52 : LF S1024 (val_main_v52 (F := Ideal) x4) fun i => a.gv (i 0).val := by
  refine Lf.via (idx := idx_main_v52) (val_main_v52_apply (F := Ideal) x4) h.gv fun i => ?_
  have h0 : (i 0).val < 1024 := (i 0).isLt
  dsimp only [idx_main_v52] <;> exact cg1 a.gv (by omega)
theorem r53 : T4 1 4096 8 128 (val_main_v53 (F := Ideal) x0) fun r g c => gelu (a.V g r c) := by
  refine Lf.via (idx := idx_main_v53) (val_main_v53_apply (F := Ideal) x0) (r48 h) fun i => ?_
  obtain ⟨h0, h1, h2, h3⟩ := lt4 i
  dsimp only [idx_main_v53] <;> exact cg2 (fun r c => gelu (a.p r c)) (by omega) (by omega)
theorem r54 : LF S8x128 (val_main_v54 (F := Ideal) x4) fun i => a.G (i 0).val (i 1).val := by
  refine Lf.via (idx := idx_main_v54) (val_main_v54_apply (F := Ideal) x4) (r52 h) fun i => ?_
  obtain ⟨h0, h1⟩ := lt2 i
  dsimp only [idx_main_v54] <;> exact cg1 a.gv (by omega)
theorem r56 : T3 1 4096 8 (val_main_v56 (F := Ideal) x0) fun r g => sq (a.V g) r :=
  Lf.viaSum (val_main_v56_apply x0) bits_zero ((r53 h).mulf (r53 h)) (fun i k => gelu (a.V (i 2).val (i 1).val k) * gelu (a.V (i 2).val (i 1).val k))
    fun _ _ => rfl
theorem r57 : T4 1 4096 8 1 (val_main_v57 (F := Ideal) x0) fun r g _ => sq (a.V g) r := by
  refine Lf.via (idx := idx_main_v57) (val_main_v57_apply (F := Ideal) x0) (r56 h) fun i => ?_
  obtain ⟨h0, h1, h2, h3⟩ := lt4 i
  dsimp only [idx_main_v57] <;> exact cg2 (fun r g => sq (a.V g) r) (by omega) (by omega)
theorem r59 : T4 1 4096 8 1 (val_main_v59 (F := Ideal) x0) fun r g _ => sq (a.V g) r / 128 := (r57 h).hdivf k58 fun _ => by norm_num
theorem r61 : T4 1 4096 8 1 (val_main_v61 (F := Ideal) x0) fun r g _ => sq (a.V g) r / 128 + cEps := (r59 h).addf k60
theorem r62 : T4 1 4096 8 1 (val_main_v62 (F := Ideal) x0) fun r g _ => rr (a.V g) r := (r61 h).hrsqrt fun i => sq_pos _ _
theorem r65 : T4 1 4096 8 1 (val_main_v65 (F := Ideal) x0) fun r g _ => -(1 / 2) * (rr (a.V g) r / (sq (a.V g) r / 128 + cEps)) :=
  k64.mulf ((r62 h).hdivf (r61 h) fun i => (sq_pos _ _).ne')
theorem r66 : T4 1 4096 8 128 (val_main_v66 (F := Ideal) x0) fun r g _ => rr (a.V g) r := by
  refine Lf.via (idx := idx_main_v66) (val_main_v66_apply (F := Ideal) x0) (r62 h) fun i => ?_
  obtain ⟨h0, h1, h2, h3⟩ := lt4 i
  dsimp only [idx_main_v66] <;> exact cg2 (fun r g => rr (a.V g) r) (by omega) (by omega)
theorem r67 : T4 1 4096 8 128 (val_main_v67 (F := Ideal) x0) fun r g c => hat (a.V g) r c := (r53 h).mulf (r66 h)
theorem r68 : LF S1x1x8x128 (val_main_v68 (F := Ideal) x4) fun i => a.G (i 2).val (i 3).val := by
  refine Lf.via (idx := idx_main_v68) (val_main_v68_apply (F := Ideal) x4) (r54 h) fun i => ?_
  obtain ⟨h0, h1, h2, h3⟩ := lt4 i
  dsimp only [idx_main_v68] <;> exact cg2 a.G (by omega) (by omega)
theorem r69 : T4 1 4096 8 128 (val_main_v69 (F := Ideal) x4) fun _ g c => a.G g c := by
  refine Lf.via (idx := idx_main_v69) (val_main_v69_apply (F := Ideal) x4) (r68 h) fun i => ?_
  obtain ⟨h0, h1, h2, h3⟩ := lt4 i
  dsimp only [idx_main_v69] <;> exact cg2 a.G (by omega) (by omega)
theorem r70 : T4 1 4096 8 128 (val_main_v70 (F := Ideal) x0 x4) fun r g c => vn (a.V g) (a.G g) r c := (r67 h).mulf (r69 h)
theorem r71 : T5 1 32 128 8 128 (val_main_v71 (F := Ideal) x0 x4) fun n t g c => vn (a.V g) (a.G g) (128 * n + t) c := by
  refine Lf.via (idx := idx_main_v71) (val_main_v71_apply (F := Ideal) x0 x4) (r70 h) fun i => ?_
  obtain ⟨h0, h1, h2, h3, h4⟩ := lt5 i
  dsimp only [idx_main_v71] <;> exact cg3 (fun r g c => vn (a.V g) (a.G g) r c) (by omega) (by omega) (by omega)
theorem r76 : LF S8x128x128 (val_main_v76_0 (F := Ideal) x2) fun i => tril (a.ws (i 0).val) (i 1).val (i 2).val :=
  Lf.select (p := fun i => (i 2).val ≤ (i 1).val) m76 (r50 h) k75
theorem r77 : LF S8x1x32x128x128 (val_main_v77 (F := Ideal) x0 x2 x4) fun i => ∑ s ∈ range 128,
    tril (a.ws (i 0).val) (i 4).val s * vn (a.V (i 0).val) (a.G (i 0).val) (128 * (i 2).val + s) (i 3).val :=
  Lf.viaDot (val_main_v77_apply x0 x2 x4) (r71 h) (r76 h) (fun i s => tril (a.ws (i 0).val) (i 4).val s * vn (a.V (i 0).val) (a.G (i 0).val) (128 * (i 2).val + s) (i 3).val)
    fun i k => mul_comm _ _
theorem r78 : T5 1 32 128 8 128 (val_main_v78 (F := Ideal) x0 x2 x4) fun n t g c => ∑ s ∈ range 128, tril (a.ws g) t s * vn (a.V g) (a.G g) (128 * n + s) c :=
  Lf.via (idx := idx_main_v78) (val_main_v78_apply (F := Ideal) x0 x2 x4) (r77 h) fun _ => rfl
theorem r79 : LF S128x8 (val_main_v79 (F := Ideal) x3) fun i => a.bs (i 1).val (i 0).val := Lf.via (idx := idx_main_v79) (val_main_v79_apply (F := Ideal) x3) (r51 h) fun _ => rfl
theorem r80 : LF S1x1x128x8x1 (val_main_v80 (F := Ideal) x3) fun i => a.bs (i 3).val (i 2).val := Lf.via (idx := idx_main_v80) (val_main_v80_apply (F := Ideal) x3) (r79 h) fun _ => rfl
theorem r81 : T5 1 32 128 8 128 (val_main_v81 (F := Ideal) x3) fun _ t g _ => a.bs g t := Lf.via (idx := idx_main_v81) (val_main_v81_apply (F := Ideal) x3) (r80 h) fun _ => rfl
theorem r82 : T5 1 32 128 8 128 (val_main_v82 (F := Ideal) x0 x2 x3 x4) fun n t g c => ∑ s ∈ range 128, tril (a.ws g) t s * vn (a.V g) (a.G g) (128 * n + s) c + a.bs g t :=
  (r78 h).addf (r81 h)
theorem r83 : T3 1 4096 1024 (val_main_v83 (F := Ideal) x0 x2 x3 x4) fun r c => mixed (a.V (c / 128)) (a.G (c / 128)) (a.ws (c / 128)) (a.bs (c / 128)) r (c % 128) :=
  by
  refine Lf.via (idx := idx_main_v83) (val_main_v83_apply (F := Ideal) x0 x2 x3 x4) (r82 h) fun i => ?_
  obtain ⟨h0, h1, h2⟩ := lt3 i
  dsimp only [idx_main_v83] <;> exact cg4 (fun n t g c => ∑ s ∈ range 128, tril (a.ws g) t s * vn (a.V g) (a.G g) (128 * n + s) c + a.bs g t) (by omega) (by omega) (by omega) (by omega)
theorem r187 : T3 1 4096 2048 (val_main_v187 (F := Ideal) x1) a.d := by
  refine Lf.via (idx := idx_main_v187) (val_main_v187_apply (F := Ideal) x1) h.d fun i => ?_
  obtain ⟨h0, h1, h2⟩ := lt3 i
  dsimp only [idx_main_v187] <;> exact cg2 a.d (by omega) (by omega)
theorem r188 : T3 1 4096 1024 (val_main_v188 (F := Ideal) x1) a.d := by
  refine Lf.via (idx := idx_main_v188) (val_main_v188_apply (F := Ideal) x1) (r187 h) fun i => ?_
  obtain ⟨h0, h1, h2⟩ := lt3 i
  dsimp only [idx_main_v188] <;> exact cg2 a.d (by omega) (by omega)
theorem r189 : T3 1 4096 1024 (val_main_v189 (F := Ideal) x1) fun r c => a.d r (1024 + c) := by
  refine Lf.via (idx := idx_main_v189) (val_main_v189_apply (F := Ideal) x1) (r187 h) fun i => ?_
  obtain ⟨h0, h1, h2⟩ := lt3 i
  dsimp only [idx_main_v189] <;> exact cg2 a.d (by omega) (by omega)
theorem r275 : T3 1 4096 1024 (val_main_v275 (F := Ideal) x0 x1) fun r c => a.d r c * gelu (a.p r c) := ((r24 h).mulf (r188 h)).congr fun _ => mul_comm _ _
theorem r276 : T3 1 4096 1024 (val_main_v276 (F := Ideal) x0 x1 x2 x3 x4) fun r c => a.d r c * mixed (a.V (c / 128)) (a.G (c / 128)) (a.ws (c / 128)) (a.bs (c / 128)) r (c % 128) :=
  (r188 h).mulf (r83 h)
theorem r277 : T5 1 32 128 8 128 (val_main_v277 (F := Ideal) x0 x1) fun n t g c => dmix (a.U g) (a.Da g) (128 * n + t) c := by
  refine Lf.via (idx := idx_main_v277) (val_main_v277_apply (F := Ideal) x0 x1) (r275 h) fun i => ?_
  obtain ⟨h0, h1, h2, h3, h4⟩ := lt5 i
  dsimp only [idx_main_v277] <;> exact cg2 (fun r c => a.d r c * gelu (a.p r c)) (by omega) (by omega)

/-! The gradients of the biases and of the mixing matrices. -/

theorem r278 : T3 1 128 8 (val_main_v278 (F := Ideal) x0 x1) fun t g => a.dbs 32 t g :=
  (Lf.redTwo (r277 h) reducesTo_S1x32x128x8x128_S1x128x8_d1_4 h_S_ bits_zero 32 128 (fun i => ((i 1).val, (i 4).val))
    (fun i => ⟨(i 1).isLt, (i 4).isLt⟩) (fun j b c => ix5 (n0 := 1) (n1 := 32) (n2 := 128) (n3 := 8) (n4 := 128) (j 0) b (j 1) (j 2) c)
    (fun j b c => funext fun q => Fin.ext (by match q with | ⟨0, _⟩ => rfl | ⟨1, _⟩ => rfl | ⟨2, _⟩ => rfl))
    (fun j b c => rfl)
    (fun i i' hd hc => by
      obtain ⟨h1, h4⟩ := Prod.mk.inj hc
      have g0 : (i 0).val = (i' 0).val := congrArg Fin.val (congrFun hd 0)
      have g2 : (i 2).val = (i' 2).val := congrArg Fin.val (congrFun hd 1)
      have g3 : (i 3).val = (i' 3).val := congrArg Fin.val (congrFun hd 2)
      exact funext fun q => Fin.ext (by match q with | ⟨0, _⟩ => exact g0 | ⟨1, _⟩ => exact h1 | ⟨2, _⟩ => exact g2 | ⟨3, _⟩ => exact g3 | ⟨4, _⟩ => exact h4))
    (fun j n c => dmix (a.U (j 2).val) (a.Da (j 2).val) (128 * n + (j 1).val) c) fun i => rfl).congr fun i => rfl
theorem r279 : LF S1x1x128x8x1 (val_main_v279 (F := Ideal) x0 x1) fun i => a.dbs 32 (i 2).val (i 3).val := by
  refine Lf.via (idx := idx_main_v279) (val_main_v279_apply (F := Ideal) x0 x1) (r278 h) fun i => ?_
  obtain ⟨h0, h1, h2, h3, h4⟩ := lt5 i
  dsimp only [idx_main_v279] <;> exact cg2 (fun t g => a.dbs 32 t g) (by omega) (by omega)
theorem r280 : LF S128x8 (val_main_v280 (F := Ideal) x0 x1) fun i => a.dbs 32 (i 0).val (i 1).val :=
  Lf.redOne (r279 h) reducesTo_S1x1x128x8x1_S128x8_d0_1_4 h_S_ bits_zero
    (fun j => ix5 (n0 := 1) (n1 := 1) (n2 := 128) (n3 := 8) (n4 := 1) 0 0 (j 0) (j 1) 0)
    (fun j => funext fun q => Fin.ext (by match q with | ⟨0, _⟩ => rfl | ⟨1, _⟩ => rfl))
    (fun i => funext fun q => by
      match q with
      | ⟨0, _⟩ => exact (Subsingleton.elim (α := Fin 1) _ _)
      | ⟨1, _⟩ => exact (Subsingleton.elim (α := Fin 1) _ _)
      | ⟨2, _⟩ => rfl
      | ⟨3, _⟩ => rfl
      | ⟨4, _⟩ => exact (Subsingleton.elim (α := Fin 1) _ _)) fun _ => rfl
theorem r281 : LF S8x128 (val_main_v281 (F := Ideal) x0 x1) fun i => a.dbs 32 (i 1).val (i 0).val := Lf.via (idx := idx_main_v281) (val_main_v281_apply (F := Ideal) x0 x1) (r280 h) fun _ => rfl
theorem r312 : LF S1x8x128 (val_main_v312 (F := Ideal) x0 x1) fun i => a.dbs 32 (i 2).val (i 1).val := Lf.via (idx := idx_main_v312) (val_main_v312_apply (F := Ideal) x0 x1) (r281 h) fun _ => rfl
theorem r350 : LF S8x128 (val_main_v350 (F := Ideal) x0 x1) fun i => a.dbs 32 (i 1).val (i 0).val := by
  refine Lf.via (idx := idx_main_v350) (val_main_v350_apply (F := Ideal) x0 x1) (r312 h) fun i => ?_
  obtain ⟨h0, h1⟩ := lt2 i
  dsimp only [idx_main_v350] <;> exact cg2 (fun g t => a.dbs 32 t g) (by omega) (by omega)
theorem r351 : LF S128x8 (val_main_v351 (F := Ideal) x0 x1) fun i => a.dbs 32 (i 0).val (i 1).val := Lf.via (idx := idx_main_v351) (val_main_v351_apply (F := Ideal) x0 x1) (r350 h) fun _ => rfl

theorem r282 : LF S8x1x32x128x128 (val_main_v282 (F := Ideal) x0 x1) fun i => dmix (a.U (i 0).val) (a.Da (i 0).val) (128 * (i 2).val + (i 4).val) (i 3).val :=
  Lf.via (idx := idx_main_v282) (val_main_v282_apply (F := Ideal) x0 x1) (r277 h) fun _ => rfl
theorem r283 : LF S8x128x128 (val_main_v283 (F := Ideal) x0 x1 x4) fun i => ∑ n ∈ range 32,
    dws1 (a.U (i 0).val) (a.V (i 0).val) (a.Da (i 0).val) (a.G (i 0).val) n (i 1).val (i 2).val := fun i => by
  show Host.dotGeneral (F := Ideal) (φ₁ := .f32) (φ₂ := .f32) dot_S8x1x32x128x128_S1x32x128x8x128_S8x128x128_123_014_4_2_0_3 none (val_main_v282 (F := Ideal) x0 x1) (val_main_v71 (F := Ideal) x0 x4) i = _
  simp only [Host.dotGeneral]
  rw [Ideal.dotGeneral_apply]
  refine sum_shape3 _ 32 128 rfl rfl rfl rfl _ (fun n d => dmix (a.U (i 0).val) (a.Da (i 0).val) (128 * n + (i 1).val) d *
    vn (a.V (i 0).val) (a.G (i 0).val) (128 * n + (i 2).val) d) fun k => ?_
  rw [r282 h, r71 h, ← EReal.coe_mul]
  rfl
theorem r284 : LF S8x1x32x128x128 (val_main_v284 (F := Ideal) x0 x1 x2) fun i => ∑ t ∈ range 128,
    tril (a.ws (i 0).val) t (i 4).val * dmix (a.U (i 0).val) (a.Da (i 0).val) (128 * (i 2).val + t) (i 3).val :=
  Lf.viaDot (val_main_v284_apply x0 x1 x2) (r282 h) (r76 h) (fun i t => tril (a.ws (i 0).val) t (i 4).val * dmix (a.U (i 0).val) (a.Da (i 0).val) (128 * (i 2).val + t) (i 3).val)
    fun i k => mul_comm _ _
theorem r285 : T5 1 32 128 8 128 (val_main_v285 (F := Ideal) x0 x1 x2) fun n s g c => ∑ t ∈ range 128, tril (a.ws g) t s * dmix (a.U g) (a.Da g) (128 * n + t) c :=
  Lf.via (idx := idx_main_v285) (val_main_v285_apply (F := Ideal) x0 x1 x2) (r284 h) fun _ => rfl
omit h in
theorem k286 : LF S8x128x128 (val_main_call4_v0 (F := Ideal)) fun _ => 0 := fun _ => bits_zero
theorem r286 : LF S8x128x128 (val_main_v286 (F := Ideal) x0 x1 x4) fun i => a.dws 32 (i 0).val (i 1).val (i 2).val :=
  Lf.select (p := fun i => (i 2).val ≤ (i 1).val) m76 (r283 h) k286
theorem r313 : T4 1 8 128 128 (val_main_v313 (F := Ideal) x0 x1 x4) fun g t s => a.dws 32 g t s := Lf.via (idx := idx_main_v313) (val_main_v313_apply (F := Ideal) x0 x1 x4) (r286 h) fun _ => rfl
theorem r349 : LF S8x128x128 (val_main_v349 (F := Ideal) x0 x1 x4) fun i => a.dws 32 (i 0).val (i 1).val (i 2).val := by
  refine Lf.via (idx := idx_main_v349) (val_main_v349_apply (F := Ideal) x0 x1 x4) (r313 h) fun i => ?_
  obtain ⟨h0, h1, h2⟩ := lt3 i
  dsimp only [idx_main_v349] <;> exact cg3 (fun g t s => a.dws 32 g t s) (by omega) (by omega) (by omega)

/-! The gradients of the gain and of the `v` columns. -/

theorem r287 : T4 1 4096 8 128 (val_main_v287 (F := Ideal) x0 x1 x2) fun r g c => dvn (a.U g) (a.Da g) (a.ws g) r c :=
  by
  refine Lf.via (idx := idx_main_v287) (val_main_v287_apply (F := Ideal) x0 x1 x2) (r285 h) fun i => ?_
  obtain ⟨h0, h1, h2, h3⟩ := lt4 i
  dsimp only [idx_main_v287] <;> exact cg4 (fun n s g c => ∑ t ∈ range 128, tril (a.ws g) t s * dmix (a.U g) (a.Da g) (128 * n + t) c) (by omega) (by omega) (by omega) (by omega)
theorem r288 : T4 1 4096 8 128 (val_main_v288 (F := Ideal) x0 x1 x2) fun r g c => dvn (a.U g) (a.Da g) (a.ws g) r c * hat (a.V g) r c :=
  ((r67 h).mulf (r287 h)).congr fun _ => mul_comm _ _
theorem r289 : LF S1x8x128 (val_main_v289 (F := Ideal) x0 x1 x2) fun i => ∑ r ∈ range 4096,
    dvn (a.U (i 1).val) (a.Da (i 1).val) (a.ws (i 1).val) r (i 2).val * hat (a.V (i 1).val) r (i 2).val :=
  Lf.viaSum (val_main_v289_apply x0 x1 x2) bits_zero (r288 h) (fun i r => dvn (a.U (i 1).val) (a.Da (i 1).val) (a.ws (i 1).val) r (i 2).val * hat (a.V (i 1).val) r (i 2).val)
    fun _ _ => rfl
theorem r290 : LF S1x1x8x128 (val_main_v290 (F := Ideal) x0 x1 x2) fun i => ∑ r ∈ range 4096,
    dvn (a.U (i 2).val) (a.Da (i 2).val) (a.ws (i 2).val) r (i 3).val * hat (a.V (i 2).val) r (i 3).val :=
  by
  refine Lf.via (idx := idx_main_v290) (val_main_v290_apply (F := Ideal) x0 x1 x2) (r289 h) fun i => ?_
  obtain ⟨h0, h1, h2, h3⟩ := lt4 i
  dsimp only [idx_main_v290] <;> exact cg2 (fun g c => ∑ r ∈ range 4096, dvn (a.U g) (a.Da g) (a.ws g) r c * hat (a.V g) r c) (by omega) (by omega)
theorem r293 : LF S8x128 (val_main_v293 (F := Ideal) x0 x1 x2) fun i => ∑ r ∈ range 4096,
    dvn (a.U (i 0).val) (a.Da (i 0).val) (a.ws (i 0).val) r (i 1).val * hat (a.V (i 0).val) r (i 1).val :=
  Lf.redOne (r290 h) reducesTo_S1x1x8x128_S8x128_d0_1 h_S_ bits_zero
    (fun j => ix4 (n0 := 1) (n1 := 1) (n2 := 8) (n3 := 128) 0 0 (j 0) (j 1))
    (fun j => funext fun q => Fin.ext (by match q with | ⟨0, _⟩ => rfl | ⟨1, _⟩ => rfl))
    (fun i => funext fun q => by
      match q with
      | ⟨0, _⟩ => exact (Subsingleton.elim (α := Fin 1) _ _)
      | ⟨1, _⟩ => exact (Subsingleton.elim (α := Fin 1) _ _)
      | ⟨2, _⟩ => rfl
      | ⟨3, _⟩ => rfl) fun _ => rfl
theorem r309 : LF S1024 (val_main_v309 (F := Ideal) x0 x1 x2) fun i => a.dgv 4096 (i 0).val :=
  by
  refine Lf.via (idx := idx_main_v309) (val_main_v309_apply (F := Ideal) x0 x1 x2) (r293 h) fun i => ?_
  have h0 : (i 0).val < 1024 := (i 0).isLt
  dsimp only [idx_main_v309] <;> exact cg2 (fun g c => ∑ r ∈ range 4096, dvn (a.U g) (a.Da g) (a.ws g) r c * hat (a.V g) r c) (by omega) (by omega)
theorem r311 : LF S1x1024 (val_main_v311 (F := Ideal) x0 x1 x2) fun i => a.dgv 4096 (i 1).val := Lf.via (idx := idx_main_v311) (val_main_v311_apply (F := Ideal) x0 x1 x2) (r309 h) fun _ => rfl

theorem r291 : T4 1 4096 8 128 (val_main_v291 (F := Ideal) x4) fun _ g c => a.G g c := by
  refine Lf.via (idx := idx_main_v291) (val_main_v291_apply (F := Ideal) x4) (r68 h) fun i => ?_
  obtain ⟨h0, h1, h2, h3⟩ := lt4 i
  dsimp only [idx_main_v291] <;> exact cg2 a.G (by omega) (by omega)
theorem r292 : T4 1 4096 8 128 (val_main_v292 (F := Ideal) x0 x1 x2 x4) fun r g c => dvn (a.U g) (a.Da g) (a.ws g) r c * a.G g c := (r287 h).mulf (r291 h)
theorem r295 : T3 1 4096 8 (val_main_v295 (F := Ideal) x0 x1 x2 x4) fun r g => ∑ c ∈ range 128, gelu (a.V g r c) * (dvn (a.U g) (a.Da g) (a.ws g) r c * a.G g c) :=
  Lf.viaSum (val_main_v295_apply x0 x1 x2 x4) bits_zero ((r53 h).mulf (r292 h)) (fun i c => gelu (a.V (i 2).val (i 1).val c) *
    (dvn (a.U (i 2).val) (a.Da (i 2).val) (a.ws (i 2).val) (i 1).val c * a.G (i 2).val c)) fun _ _ => rfl
theorem r296 : T4 1 4096 8 1 (val_main_v296 (F := Ideal) x0 x1 x2 x4) fun r g _ => ∑ c ∈ range 128, gelu (a.V g r c) * (dvn (a.U g) (a.Da g) (a.ws g) r c * a.G g c) :=
  by
  refine Lf.via (idx := idx_main_v296) (val_main_v296_apply (F := Ideal) x0 x1 x2 x4) (r295 h) fun i => ?_
  obtain ⟨h0, h1, h2, h3⟩ := lt4 i
  dsimp only [idx_main_v296] <;> exact cg2 (fun r g => ∑ c ∈ range 128, gelu (a.V g r c) * (dvn (a.U g) (a.Da g) (a.ws g) r c * a.G g c)) (by omega) (by omega)
theorem r297 : T4 1 4096 8 128 (val_main_v297 (F := Ideal) x0) fun r g _ => rr (a.V g) r := by
  refine Lf.via (idx := idx_main_v297) (val_main_v297_apply (F := Ideal) x0) (r62 h) fun i => ?_
  obtain ⟨h0, h1, h2, h3⟩ := lt4 i
  dsimp only [idx_main_v297] <;> exact cg2 (fun r g => rr (a.V g) r) (by omega) (by omega)
theorem r298 : T4 1 4096 8 128 (val_main_v298 (F := Ideal) x0 x1 x2 x4) fun r g c => dvn (a.U g) (a.Da g) (a.ws g) r c * a.G g c * rr (a.V g) r := (r292 h).mulf (r297 h)
theorem r299 : T4 1 4096 8 1 (val_main_v299 (F := Ideal) x0 x1 x2 x4) fun r g _ => (∑ c ∈ range 128, gelu (a.V g r c) * (dvn (a.U g) (a.Da g) (a.ws g) r c * a.G g c)) *
    (-(1 / 2) * (rr (a.V g) r / (sq (a.V g) r / 128 + cEps))) := (r296 h).mulf (r65 h)
omit h in
theorem k300 : LF S1x4096x8x1 (val_main_v300 (F := Ideal)) fun _ => 128 := fun _ => bits_128

/-- What the normalisation's scale passes back to each entry of a row, half of it. -/
noncomputable def back (a : Inp) (r g : ℕ) : ℝ := (∑ c ∈ range 128, gelu (a.V g r c) * (dvn (a.U g) (a.Da g) (a.ws g) r c * a.G g c)) *
    (-(1 / 2) * (rr (a.V g) r / (sq (a.V g) r / 128 + cEps))) / 128
theorem r301 : T4 1 4096 8 1 (val_main_v301 (F := Ideal) x0 x1 x2 x4) fun r g _ => back a r g := (r299 h).hdivf k300 fun _ => by norm_num
theorem r302 : LF S4096x8 (val_main_v302 (F := Ideal) x0 x1 x2 x4) fun i => back a (i 0).val (i 1).val :=
  Lf.redOne (r301 h) reducesTo_S1x4096x8x1_S4096x8_d0_3 h_S_ bits_zero
    (fun j => ix4 (n0 := 1) (n1 := 4096) (n2 := 8) (n3 := 1) 0 (j 0) (j 1) 0)
    (fun j => funext fun q => Fin.ext (by match q with | ⟨0, _⟩ => rfl | ⟨1, _⟩ => rfl))
    (fun i => funext fun q => by
      match q with
      | ⟨0, _⟩ => exact (Subsingleton.elim (α := Fin 1) _ _)
      | ⟨1, _⟩ => rfl
      | ⟨2, _⟩ => rfl
      | ⟨3, _⟩ => exact (Subsingleton.elim (α := Fin 1) _ _)) fun _ => rfl
theorem r303 : T3 1 4096 8 (val_main_v303 (F := Ideal) x0 x1 x2 x4) fun r g => back a r g := Lf.via (idx := idx_main_v303) (val_main_v303_apply (F := Ideal) x0 x1 x2 x4) (r302 h) fun _ => rfl
theorem r304 : T4 1 4096 8 128 (val_main_v304 (F := Ideal) x0 x1 x2 x4) fun r g _ => back a r g := Lf.via (idx := idx_main_v304) (val_main_v304_apply (F := Ideal) x0 x1 x2 x4) (r303 h) fun _ => rfl
theorem r305 : T4 1 4096 8 128 (val_main_v305 (F := Ideal) x0 x1 x2 x4) fun r g c => gelu (a.V g r c) * back a r g := (r53 h).mulf (r304 h)
theorem r306 : T4 1 4096 8 128 (val_main_v306 (F := Ideal) x0 x1 x2 x4) fun r g c => dvn (a.U g) (a.Da g) (a.ws g) r c * a.G g c * rr (a.V g) r + gelu (a.V g r c) * back a r g :=
  (r298 h).addf (r305 h)
theorem r307 : T4 1 4096 8 128 (val_main_v307 (F := Ideal) x0 x1 x2 x4) fun r g c => back a r g * gelu (a.V g r c) := (r304 h).mulf (r53 h)

omit h in
theorem rr_div (V : ℕ → ℕ → ℝ) (r : ℕ) : rr V r / (sq V r / 128 + cEps) = rr V r * rr V r * rr V r := by
  have hp := sq_pos V r
  unfold rr
  generalize sq V r / 128 + cEps = y at hp ⊢
  have hs : Real.sqrt y ≠ 0 := (Real.sqrt_pos.mpr hp).ne'
  conv_lhs => rw [← Real.mul_self_sqrt hp.le]
  rw [Real.sqrt_mul_self (Real.sqrt_nonneg y)]
  field_simp

/-- The gradient of a head's activations before the normalisation. -/
noncomputable def core (a : Inp) (r g c : ℕ) : ℝ := rr (a.V g) r * (dvn (a.U g) (a.Da g) (a.ws g) r c * a.G g c -
  hat (a.V g) r c * ((∑ k ∈ range 128, dvn (a.U g) (a.Da g) (a.ws g) r k * a.G g k * hat (a.V g) r k) / 128))
theorem r308 : T4 1 4096 8 128 (val_main_v308 (F := Ideal) x0 x1 x2 x4) fun r g c => core a r g c := ((r306 h).addf (r307 h)).congr fun i => by
  unfold core back
  dsimp only
  rw [rr_div]
  have e : ∀ g r, ∑ k ∈ range 128, dvn (a.U g) (a.Da g) (a.ws g) r k * a.G g k * hat (a.V g) r k =
      (∑ c ∈ range 128, gelu (a.V g r c) * (dvn (a.U g) (a.Da g) (a.ws g) r c * a.G g c)) * rr (a.V g) r := fun g r => by
    rw [Finset.sum_mul]
    exact Finset.sum_congr rfl fun k _ => by unfold hat; ring
  rw [e]
  unfold hat
  ring
theorem r310 : T3 1 4096 1024 (val_main_v310 (F := Ideal) x0 x1 x2 x4) fun r c => core a r (c / 128) (c % 128) := by
  refine Lf.via (idx := idx_main_v310) (val_main_v310_apply (F := Ideal) x0 x1 x2 x4) (r308 h) fun i => ?_
  obtain ⟨h0, h1, h2⟩ := lt3 i
  dsimp only [idx_main_v310] <;> exact cg3 (fun r g c => core a r g c) (by omega) (by omega) (by omega)

/-! The gradients through gelu. -/

omit h in
theorem k317 : LF S1x4096x1024 (val_main_v317 (F := Ideal)) fun _ => 1 / 2 := fun _ => bits_half
omit h in
theorem k320 : LF S1x4096x1024 (val_main_v320 (F := Ideal)) fun _ => cC := fun _ => bits_C
omit h in
theorem k323 : LF S1x4096x1024 (val_main_v323 (F := Ideal)) fun _ => 1000000 := fun _ => bits_million
omit h in
theorem k325 : LF S1x4096x1024 (val_main_v325 (F := Ideal)) fun _ => 44715 := fun _ => bits_44715
omit h in
theorem k333 : LF S1x4096x1024 (val_main_v333 (F := Ideal)) fun _ => 1 / 2 := fun _ => bits_half
omit h in
theorem k336 : LF S1x4096x1024 (val_main_v336 (F := Ideal)) fun _ => cC := fun _ => bits_C
omit h in
theorem k339 : LF S1x4096x1024 (val_main_v339 (F := Ideal)) fun _ => 1000000 := fun _ => bits_million
omit h in
theorem k341 : LF S1x4096x1024 (val_main_v341 (F := Ideal)) fun _ => 44715 := fun _ => bits_44715

omit h in
theorem gelu_back (X v : ℝ) : X * (1 / 2 * (1 + gth v)) + cC * (1 / 2 * (v * X) * (1 - gth v * gth v)) +
    44715 * (cC * (1 / 2 * (v * X) * (1 - gth v * gth v)) / 1000000) * (3 * (v * v)) = X * dgelu v := by
  unfold dgelu c3A
  ring

theorem r316 : T3 1 4096 1024 (val_main_v316 (F := Ideal) x0 x1 x2 x4) fun r c => core a r (c / 128) (c % 128) * (1 / 2 * (1 + gth (a.p r (1024 + c)))) := (r310 h).mulf (r47 h)
theorem r319 : T3 1 4096 1024 (val_main_v319 (F := Ideal) x0 x1 x2 x4) fun r c => 1 / 2 * (a.p r (1024 + c) * core a r (c / 128) (c % 128)) * (1 - gth (a.p r (1024 + c)) * gth (a.p r (1024 + c))) :=
  (k317.mulf ((r25 h).mulf (r310 h))).mulf (r43 h)
theorem r321 : T3 1 4096 1024 (val_main_v321 (F := Ideal) x0 x1 x2 x4) fun r c => cC * (1 / 2 * (a.p r (1024 + c) * core a r (c / 128) (c % 128)) * (1 - gth (a.p r (1024 + c)) * gth (a.p r (1024 + c)))) :=
  k320.mulf (r319 h)
theorem r324 : T3 1 4096 1024 (val_main_v324 (F := Ideal) x0 x1 x2 x4) fun r c => cC * (1 / 2 * (a.p r (1024 + c) * core a r (c / 128) (c % 128)) * (1 - gth (a.p r (1024 + c)) * gth (a.p r (1024 + c)))) / 1000000 :=
  (r321 h).hdivf k323 fun _ => by norm_num
theorem r328 : T3 1 4096 1024 (val_main_v328 (F := Ideal) x0 x1 x2 x4) fun r c => core a r (c / 128) (c % 128) * dgelu (a.p r (1024 + c)) :=
  (((r316 h).addf (r321 h)).addf ((k325.mulf (r324 h)).mulf (r30 h))).congr fun i => gelu_back _ _

theorem r332 : T3 1 4096 1024 (val_main_v332 (F := Ideal) x0 x1 x2 x3 x4) fun r c => a.d r c * mixed (a.V (c / 128)) (a.G (c / 128)) (a.ws (c / 128)) (a.bs (c / 128)) r (c % 128) *
    (1 / 2 * (1 + gth (a.p r c))) := (r276 h).mulf (r23 h)
theorem r335 : T3 1 4096 1024 (val_main_v335 (F := Ideal) x0 x1 x2 x3 x4) fun r c => 1 / 2 * (a.p r c * (a.d r c * mixed (a.V (c / 128)) (a.G (c / 128)) (a.ws (c / 128)) (a.bs (c / 128)) r (c % 128))) *
    (1 - gth (a.p r c) * gth (a.p r c)) :=
  (k333.mulf ((r1 h).mulf (r276 h))).mulf (r19 h)
theorem r337 : T3 1 4096 1024 (val_main_v337 (F := Ideal) x0 x1 x2 x3 x4) fun r c => cC * (1 / 2 * (a.p r c * (a.d r c * mixed (a.V (c / 128)) (a.G (c / 128)) (a.ws (c / 128)) (a.bs (c / 128)) r (c % 128))) *
    (1 - gth (a.p r c) * gth (a.p r c))) := k336.mulf (r335 h)
theorem r340 : T3 1 4096 1024 (val_main_v340 (F := Ideal) x0 x1 x2 x3 x4) fun r c => cC * (1 / 2 * (a.p r c * (a.d r c * mixed (a.V (c / 128)) (a.G (c / 128)) (a.ws (c / 128)) (a.bs (c / 128)) r (c % 128))) *
    (1 - gth (a.p r c) * gth (a.p r c))) / 1000000 := (r337 h).hdivf k339 fun _ => by norm_num
theorem r344 : T3 1 4096 1024 (val_main_v344 (F := Ideal) x0 x1 x2 x3 x4) fun r c =>
    a.d r c * mixed (a.V (c / 128)) (a.G (c / 128)) (a.ws (c / 128)) (a.bs (c / 128)) r (c % 128) * dgelu (a.p r c) :=
  (((r332 h).addf (r337 h)).addf ((k341.mulf (r340 h)).mulf (r6 h))).congr fun i => gelu_back _ _

end Cert.Mixer.Ref
-- ==== Proof.Mixer.RefPool.lean ====
module

public import proofs.«01_k».proof.Proof.Mixer.RefHead
public import proofs.«01_k».proof.Proof.Mixer.Pool

@[expose] public section

/-! The reference's pooling part: what its operations hold. -/

namespace Cert.Mixer.Ref

open Idealize.ShloMosaic Idealize.ShloMosaic.TcCoe Finset
open Cert.ReferenceIdeal Cert.ReferenceIdeal.Read Cert.ReferenceIdeal.Gen

variable {x0 : FVec Ideal S4096x3072 .f32} {x1 : FVec Ideal S4096x2048 .f32} {x2 : FVec Ideal S1x8x128x128 .f32}
  {x3 : FVec Ideal S1x8x128 .f32} {x4 : FVec Ideal S1x1024 .f32} {x5 : FVec Ideal S1x4x256x256 .f32}
  {x6 : FVec Ideal S1x1024 .f32} {a : Inp}

/-- The window of a padded prefix sum: the prefix sum itself. -/
theorem prefix_window (f : ℕ → ℝ) (r : ℕ) (hr : r < 4096) :
    ∑ k ∈ range 4096, (if 4095 ≤ r + k ∧ r + k - 4095 < 4096 then f (r + k - 4095) else 0) = ∑ s ∈ range (r + 1), f s := by
  rw [← Finset.sum_filter]
  refine Finset.sum_nbij (fun k => r + k - 4095) ?_ ?_ ?_ ?_
  · intro k hk
    obtain ⟨hk, hc⟩ := Finset.mem_filter.mp hk
    have := Finset.mem_range.mp hk
    exact Finset.mem_range.mpr (by omega)
  · intro k hk k' hk' e
    obtain ⟨_, hc⟩ := Finset.mem_filter.mp (Finset.mem_coe.mp hk)
    obtain ⟨_, hc'⟩ := Finset.mem_filter.mp (Finset.mem_coe.mp hk')
    have e' : r + k - 4095 = r + k' - 4095 := e
    omega
  · intro s hs
    have := Finset.mem_range.mp (Finset.mem_coe.mp hs)
    exact ⟨4095 + s - r, Finset.mem_coe.mpr (Finset.mem_filter.mpr ⟨Finset.mem_range.mpr (by omega), by omega⟩),
      (by omega : r + (4095 + s - r) - 4095 = s)⟩
  · intro k _
    rfl

/-- A difference of prefix sums is a sum over a window. -/
theorem prefix_sub (f : ℕ → ℝ) (w r : ℕ) :
    ∑ s ∈ range (r + 1), f s - ∑ s ∈ range (r + 1 - w), f s = ∑ k ∈ range w, if k ≤ r then f (r - k) else 0 := by
  induction w with
  | zero => simp
  | succ w ih =>
    rw [Finset.sum_range_succ (n := w), ← ih]
    by_cases hw : w ≤ r
    · rw [if_pos hw, show r + 1 - w = (r + 1 - (w + 1)) + 1 by omega, Finset.sum_range_succ (n := r + 1 - (w + 1)), show r + 1 - (w + 1) = r - w by omega]
      ring
    · rw [if_neg hw, show r + 1 - w = r + 1 - (w + 1) by omega]
      ring

/-- The sum from a row on of differences at a distance is a sum over a window. -/
theorem suffix_sub (Q : ℕ → ℝ) (hQ : ∀ q, 4096 ≤ q → Q q = 0) (w r : ℕ) :
    ∑ k ∈ range 4096, (if 0 ≤ r + k ∧ r + k - 0 < 4096 then Q (r + k - 0) - Q (r + k - 0 + w) else 0) = ∑ k ∈ range w, Q (r + k) := by
  have e : ∀ k ∈ range 4096, (if 0 ≤ r + k ∧ r + k - 0 < 4096 then Q (r + k - 0) - Q (r + k - 0 + w) else 0) = Q (r + k) - Q (r + w + k) := fun k _ => by
    by_cases hc : r + k < 4096
    · rw [if_pos (by omega), Nat.sub_zero, show r + k + w = r + w + k by omega]
    · rw [if_neg (by omega), hQ _ (by omega), hQ (r + w + k) (by omega), sub_zero]
  rw [Finset.sum_congr rfl e]
  clear e
  induction w with
  | zero => simp
  | succ w ih =>
    rw [Finset.sum_range_succ (n := w), ← ih]
    have t : ∑ k ∈ range 4096, (Q (r + w + k) - Q (r + w + k + 1)) = Q (r + w) := by
      have := Finset.sum_range_sub' (fun k => Q (r + w + k)) 4096
      rw [hQ (r + w + 4096) (by omega), sub_zero] at this
      exact this
    rw [← t, ← Finset.sum_add_distrib]
    exact Finset.sum_congr rfl fun k _ => by rw [show r + (w + 1) + k = r + w + k + 1 by omega]; ring

theorem dpl_zero (D : ℕ → ℕ → ℝ) (P : ℕ → ℕ → ℝ) (S : ℕ → ℝ) (q c : ℕ) (hq : 4096 ≤ q) : dpl D P S q c = 0 := by
  unfold dpl dy
  exact Finset.sum_eq_zero fun d _ => by rw [if_neg (by omega)]; ring

/-- The gradient of a group's pooled values. -/
noncomputable def dpg (a : Inp) (g q c : ℕ) : ℝ := dpl (a.Db g) (a.wp g) (a.S g) q c
/-- The same over the rows' counts. -/
noncomputable def dpq (a : Inp) (g w q c : ℕ) : ℝ := dpg a g q c / cnt w q

theorem dpq_zero (g w q c : ℕ) (hq : 4096 ≤ q) : dpq a g w q c = 0 := by
  unfold dpq dpg
  rw [dpl_zero _ _ _ _ _ hq, zero_div]

theorem k90 : LF S1x1x4x256 (val_main_v90 (F := Ideal)) fun _ => 0 := fun _ => bits_zero
theorem k97 : LF S1x1x256 (val_main_v97 (F := Ideal)) fun _ => 0 := fun _ => bits_zero
theorem r106 : T3 1 4096 1 (val_main_v106 (F := Ideal)) fun r _ => cnt 2 r := fun i => by
  obtain ⟨i0, i1, i2⟩ := lt3 i
  rw [val_main_v106_apply, val_main_v105_apply]
  show (((Scalar.minsi (BitVec.ofNat 32 (i 1).val + BitVec.ofNat 32 1) (BitVec.ofNat 32 2)).toInt : ℝ) : EReal) = _
  rw [← BitVec.ofNat_add, minsi_ofNat _ _ (by omega) (by omega)]
  rfl
theorem r109 : T3 1 4096 256 (val_main_v109 (F := Ideal)) fun r _ => cnt 2 r := Lf.via (idx := idx_main_v109) (val_main_v109_apply (F := Ideal)) r106 fun _ => rfl
theorem k117 : LF S1x3x256 (val_main_v117 (F := Ideal)) fun _ => 0 := fun _ => bits_zero
theorem r126 : T3 1 4096 1 (val_main_v126 (F := Ideal)) fun r _ => cnt 4 r := fun i => by
  obtain ⟨i0, i1, i2⟩ := lt3 i
  rw [val_main_v126_apply, val_main_v125_apply]
  show (((Scalar.minsi (BitVec.ofNat 32 (i 1).val + BitVec.ofNat 32 1) (BitVec.ofNat 32 4)).toInt : ℝ) : EReal) = _
  rw [← BitVec.ofNat_add, minsi_ofNat _ _ (by omega) (by omega)]
  rfl
theorem r129 : T3 1 4096 256 (val_main_v129 (F := Ideal)) fun r _ => cnt 4 r := Lf.via (idx := idx_main_v129) (val_main_v129_apply (F := Ideal)) r126 fun _ => rfl
theorem k137 : LF S1x7x256 (val_main_v137 (F := Ideal)) fun _ => 0 := fun _ => bits_zero
theorem r146 : T3 1 4096 1 (val_main_v146 (F := Ideal)) fun r _ => cnt 8 r := fun i => by
  obtain ⟨i0, i1, i2⟩ := lt3 i
  rw [val_main_v146_apply, val_main_v145_apply]
  show (((Scalar.minsi (BitVec.ofNat 32 (i 1).val + BitVec.ofNat 32 1) (BitVec.ofNat 32 8)).toInt : ℝ) : EReal) = _
  rw [← BitVec.ofNat_add, minsi_ofNat _ _ (by omega) (by omega)]
  rfl
theorem r149 : T3 1 4096 256 (val_main_v149 (F := Ideal)) fun r _ => cnt 8 r := Lf.via (idx := idx_main_v149) (val_main_v149_apply (F := Ideal)) r146 fun _ => rfl
theorem k157 : LF S1x15x256 (val_main_v157 (F := Ideal)) fun _ => 0 := fun _ => bits_zero
theorem r166 : T3 1 4096 1 (val_main_v166 (F := Ideal)) fun r _ => cnt 16 r := fun i => by
  obtain ⟨i0, i1, i2⟩ := lt3 i
  rw [val_main_v166_apply, val_main_v165_apply]
  show (((Scalar.minsi (BitVec.ofNat 32 (i 1).val + BitVec.ofNat 32 1) (BitVec.ofNat 32 16)).toInt : ℝ) : EReal) = _
  rw [← BitVec.ofNat_add, minsi_ofNat _ _ (by omega) (by omega)]
  rfl
theorem r169 : T3 1 4096 256 (val_main_v169 (F := Ideal)) fun r _ => cnt 16 r := Lf.via (idx := idx_main_v169) (val_main_v169_apply (F := Ideal)) r166 fun _ => rfl

variable (h : Args a x0 x1 x2 x3 x4 x5 x6)
include h

theorem r49 : T3 1 4096 1024 (val_main_v49 (F := Ideal) x0) fun r c => a.p r (2048 + c) := by
  refine Lf.via (idx := idx_main_v49) (val_main_v49_apply (F := Ideal) x0) (r0 h) fun i => ?_
  obtain ⟨h0, h1, h2⟩ := lt3 i
  dsimp only [idx_main_v49] <;> exact cg2 a.p (by omega) (by omega)
theorem r85 : LF S4x256x256 (val_main_v85 (F := Ideal) x5) fun i => a.wp (i 0).val (i 1).val (i 2).val := by
  refine Lf.via (idx := idx_main_v85) (val_main_v85_apply (F := Ideal) x5) h.wp fun i => ?_
  obtain ⟨h0, h1, h2⟩ := lt3 i
  dsimp only [idx_main_v85] <;> exact cg3 a.wp (by omega) (by omega) (by omega)
theorem r86 : LF S1024 (val_main_v86 (F := Ideal) x6) fun i => a.ps (i 0).val := by
  refine Lf.via (idx := idx_main_v86) (val_main_v86_apply (F := Ideal) x6) h.ps fun i => ?_
  have h0 : (i 0).val < 1024 := (i 0).isLt
  dsimp only [idx_main_v86] <;> exact cg1 a.ps (by omega)
theorem r87 : T4 1 4096 4 256 (val_main_v87 (F := Ideal) x0) fun r g c => a.Z g r c := by
  refine Lf.via (idx := idx_main_v87) (val_main_v87_apply (F := Ideal) x0) (r49 h) fun i => ?_
  obtain ⟨h0, h1, h2, h3⟩ := lt4 i
  dsimp only [idx_main_v87]
  unfold Inp.Z
  exact cg2 (fun r c => a.p r c) (by omega) (by omega)
theorem r88 : T4 1 4096 4 256 (val_main_v88 (F := Ideal) x0) fun r g c => ∑ s ∈ range (r + 1), a.Z g s c :=
  Lf.congr (T4.win (r87 h) reduceWindows_S1x4096x4x256_S1x4096x4x256_w1s1p0_0_w4096s1p4095_0_w1s1p0_0_w1s1p0_0 h_S_ bits_zero)
    fun i => prefix_window (fun s => a.Z (i 2).val s (i 3).val) (i 1).val (i 1).isLt
theorem r91 : T4 1 4097 4 256 (val_main_v91 (F := Ideal) x0) fun r g c => ∑ s ∈ range r, a.Z g s c :=
  Lf.congr (T4.zcat k90 (r88 h) concatenates_S1x1x4x256_S1x4096x4x256_S1x4097x4x256_d1 rfl) fun i => by
    dsimp only
    by_cases hr : (i 1).val < 1
    · rw [if_pos hr, show (i 1).val = 0 by omega, Finset.sum_range_zero]
    · rw [if_neg hr, show (i 1).val - 1 + 1 = (i 1).val by omega]

theorem r94 : T4 1 4097 1 256 (val_main_v94 (F := Ideal) x0) fun r _ c => ∑ s ∈ range r, a.Z 0 s c := by
  refine Lf.via (idx := idx_main_v94) (val_main_v94_apply (F := Ideal) x0) (r91 h) fun i => ?_
  obtain ⟨h0, h1, h2, h3⟩ := lt4 i
  dsimp only [idx_main_v94] <;> exact cg3 (fun r g c => ∑ s ∈ range r, a.Z g s c) (by omega) (by omega) (by omega)
theorem r95 : T3 1 4097 256 (val_main_v95 (F := Ideal) x0) fun r c => ∑ s ∈ range r, a.Z 0 s c := by
  refine Lf.via (idx := idx_main_v95) (val_main_v95_apply (F := Ideal) x0) (r94 h) fun i => ?_
  obtain ⟨h0, h1, h2⟩ := lt3 i
  dsimp only [idx_main_v95] <;> exact cg2 (fun r c => ∑ s ∈ range r, a.Z 0 s c) (by omega) (by omega)
theorem r98 : T3 1 4095 256 (val_main_v98 (F := Ideal) x0) fun r c => ∑ s ∈ range r, a.Z 0 s c := by
  refine Lf.via (idx := idx_main_v98) (val_main_v98_apply (F := Ideal) x0) (r95 h) fun i => ?_
  obtain ⟨h0, h1, h2⟩ := lt3 i
  dsimp only [idx_main_v98] <;> exact cg2 (fun r c => ∑ s ∈ range r, a.Z 0 s c) (by omega) (by omega)
theorem r99 : T3 1 4096 256 (val_main_v99 (F := Ideal) x0) fun r c => ∑ s ∈ range (r + 1 - 2), a.Z 0 s c :=
  Lf.congr (T3.zcat k97 (r98 h) concatenates_S1x1x256_S1x4095x256_S1x4096x256_d1 rfl) fun i => by
    dsimp only
    by_cases hr : (i 1).val < 1
    · rw [if_pos hr, show (i 1).val + 1 - 2 = 0 by omega, Finset.sum_range_zero]
    · rw [if_neg hr, show (i 1).val - 1 = (i 1).val + 1 - 2 by omega]
theorem r107 : T3 1 4096 256 (val_main_v107 (F := Ideal) x0) fun r c => ∑ s ∈ range (r + 1), a.Z 0 s c := by
  refine Lf.via (idx := idx_main_v107) (val_main_v107_apply (F := Ideal) x0) (r95 h) fun i => ?_
  obtain ⟨h0, h1, h2⟩ := lt3 i
  dsimp only [idx_main_v107] <;> exact cg2 (fun r c => ∑ s ∈ range r, a.Z 0 s c) (by omega) (by omega)
theorem r110 : T3 1 4096 256 (val_main_v110 (F := Ideal) x0) fun r c => (∑ s ∈ range (r + 1), a.Z 0 s c - ∑ s ∈ range (r + 1 - 2), a.Z 0 s c) / cnt 2 r :=
  ((r107 h).subf (r99 h)).hdivf r109 fun _ => (cnt_pos _ (by norm_num) _).ne'
theorem r111 : T4 1 4096 1 256 (val_main_v111 (F := Ideal) x0) fun r _ c => a.Z 0 r c := by
  refine Lf.via (idx := idx_main_v111) (val_main_v111_apply (F := Ideal) x0) (r87 h) fun i => ?_
  obtain ⟨h0, h1, h2, h3⟩ := lt4 i
  dsimp only [idx_main_v111] <;> exact cg3 (fun r g c => a.Z g r c) (by omega) (by omega) (by omega)
theorem r112 : T3 1 4096 256 (val_main_v112 (F := Ideal) x0) fun r c => a.Z 0 r c := by
  refine Lf.via (idx := idx_main_v112) (val_main_v112_apply (F := Ideal) x0) (r111 h) fun i => ?_
  obtain ⟨h0, h1, h2⟩ := lt3 i
  dsimp only [idx_main_v112] <;> exact cg2 (fun r c => a.Z 0 r c) (by omega) (by omega)
theorem r113 : T3 1 4096 256 (val_main_v113 (F := Ideal) x0) fun r c => pooled 2 (a.Z 0) r c := ((r110 h).subf (r112 h)).congr fun i => by
  unfold pooled
  dsimp only
  rw [prefix_sub (fun s => a.Z 0 s (i 2).val)]
theorem r174 : T4 1 4096 1 256 (val_main_v174 (F := Ideal) x0) fun r _ c => pooled 2 (a.Z 0) r c := Lf.via (idx := idx_main_v174) (val_main_v174_apply (F := Ideal) x0) (r113 h) fun _ => rfl

theorem r114 : T4 1 4097 1 256 (val_main_v114 (F := Ideal) x0) fun r _ c => ∑ s ∈ range r, a.Z 1 s c := by
  refine Lf.via (idx := idx_main_v114) (val_main_v114_apply (F := Ideal) x0) (r91 h) fun i => ?_
  obtain ⟨h0, h1, h2, h3⟩ := lt4 i
  dsimp only [idx_main_v114] <;> exact cg3 (fun r g c => ∑ s ∈ range r, a.Z g s c) (by omega) (by omega) (by omega)
theorem r115 : T3 1 4097 256 (val_main_v115 (F := Ideal) x0) fun r c => ∑ s ∈ range r, a.Z 1 s c := by
  refine Lf.via (idx := idx_main_v115) (val_main_v115_apply (F := Ideal) x0) (r114 h) fun i => ?_
  obtain ⟨h0, h1, h2⟩ := lt3 i
  dsimp only [idx_main_v115] <;> exact cg2 (fun r c => ∑ s ∈ range r, a.Z 1 s c) (by omega) (by omega)
theorem r118 : T3 1 4093 256 (val_main_v118 (F := Ideal) x0) fun r c => ∑ s ∈ range r, a.Z 1 s c := by
  refine Lf.via (idx := idx_main_v118) (val_main_v118_apply (F := Ideal) x0) (r115 h) fun i => ?_
  obtain ⟨h0, h1, h2⟩ := lt3 i
  dsimp only [idx_main_v118] <;> exact cg2 (fun r c => ∑ s ∈ range r, a.Z 1 s c) (by omega) (by omega)
theorem r119 : T3 1 4096 256 (val_main_v119 (F := Ideal) x0) fun r c => ∑ s ∈ range (r + 1 - 4), a.Z 1 s c :=
  Lf.congr (T3.zcat k117 (r118 h) concatenates_S1x3x256_S1x4093x256_S1x4096x256_d1 rfl) fun i => by
    dsimp only
    by_cases hr : (i 1).val < 3
    · rw [if_pos hr, show (i 1).val + 1 - 4 = 0 by omega, Finset.sum_range_zero]
    · rw [if_neg hr, show (i 1).val - 3 = (i 1).val + 1 - 4 by omega]
theorem r127 : T3 1 4096 256 (val_main_v127 (F := Ideal) x0) fun r c => ∑ s ∈ range (r + 1), a.Z 1 s c := by
  refine Lf.via (idx := idx_main_v127) (val_main_v127_apply (F := Ideal) x0) (r115 h) fun i => ?_
  obtain ⟨h0, h1, h2⟩ := lt3 i
  dsimp only [idx_main_v127] <;> exact cg2 (fun r c => ∑ s ∈ range r, a.Z 1 s c) (by omega) (by omega)
theorem r130 : T3 1 4096 256 (val_main_v130 (F := Ideal) x0) fun r c => (∑ s ∈ range (r + 1), a.Z 1 s c - ∑ s ∈ range (r + 1 - 4), a.Z 1 s c) / cnt 4 r :=
  ((r127 h).subf (r119 h)).hdivf r129 fun _ => (cnt_pos _ (by norm_num) _).ne'
theorem r131 : T4 1 4096 1 256 (val_main_v131 (F := Ideal) x0) fun r _ c => a.Z 1 r c := by
  refine Lf.via (idx := idx_main_v131) (val_main_v131_apply (F := Ideal) x0) (r87 h) fun i => ?_
  obtain ⟨h0, h1, h2, h3⟩ := lt4 i
  dsimp only [idx_main_v131] <;> exact cg3 (fun r g c => a.Z g r c) (by omega) (by omega) (by omega)
theorem r132 : T3 1 4096 256 (val_main_v132 (F := Ideal) x0) fun r c => a.Z 1 r c := by
  refine Lf.via (idx := idx_main_v132) (val_main_v132_apply (F := Ideal) x0) (r131 h) fun i => ?_
  obtain ⟨h0, h1, h2⟩ := lt3 i
  dsimp only [idx_main_v132] <;> exact cg2 (fun r c => a.Z 1 r c) (by omega) (by omega)
theorem r133 : T3 1 4096 256 (val_main_v133 (F := Ideal) x0) fun r c => pooled 4 (a.Z 1) r c := ((r130 h).subf (r132 h)).congr fun i => by
  unfold pooled
  dsimp only
  rw [prefix_sub (fun s => a.Z 1 s (i 2).val)]
theorem r175 : T4 1 4096 1 256 (val_main_v175 (F := Ideal) x0) fun r _ c => pooled 4 (a.Z 1) r c := Lf.via (idx := idx_main_v175) (val_main_v175_apply (F := Ideal) x0) (r133 h) fun _ => rfl

theorem r134 : T4 1 4097 1 256 (val_main_v134 (F := Ideal) x0) fun r _ c => ∑ s ∈ range r, a.Z 2 s c := by
  refine Lf.via (idx := idx_main_v134) (val_main_v134_apply (F := Ideal) x0) (r91 h) fun i => ?_
  obtain ⟨h0, h1, h2, h3⟩ := lt4 i
  dsimp only [idx_main_v134] <;> exact cg3 (fun r g c => ∑ s ∈ range r, a.Z g s c) (by omega) (by omega) (by omega)
theorem r135 : T3 1 4097 256 (val_main_v135 (F := Ideal) x0) fun r c => ∑ s ∈ range r, a.Z 2 s c := by
  refine Lf.via (idx := idx_main_v135) (val_main_v135_apply (F := Ideal) x0) (r134 h) fun i => ?_
  obtain ⟨h0, h1, h2⟩ := lt3 i
  dsimp only [idx_main_v135] <;> exact cg2 (fun r c => ∑ s ∈ range r, a.Z 2 s c) (by omega) (by omega)
theorem r138 : T3 1 4089 256 (val_main_v138 (F := Ideal) x0) fun r c => ∑ s ∈ range r, a.Z 2 s c := by
  refine Lf.via (idx := idx_main_v138) (val_main_v138_apply (F := Ideal) x0) (r135 h) fun i => ?_
  obtain ⟨h0, h1, h2⟩ := lt3 i
  dsimp only [idx_main_v138] <;> exact cg2 (fun r c => ∑ s ∈ range r, a.Z 2 s c) (by omega) (by omega)
theorem r139 : T3 1 4096 256 (val_main_v139 (F := Ideal) x0) fun r c => ∑ s ∈ range (r + 1 - 8), a.Z 2 s c :=
  Lf.congr (T3.zcat k137 (r138 h) concatenates_S1x7x256_S1x4089x256_S1x4096x256_d1 rfl) fun i => by
    dsimp only
    by_cases hr : (i 1).val < 7
    · rw [if_pos hr, show (i 1).val + 1 - 8 = 0 by omega, Finset.sum_range_zero]
    · rw [if_neg hr, show (i 1).val - 7 = (i 1).val + 1 - 8 by omega]
theorem r147 : T3 1 4096 256 (val_main_v147 (F := Ideal) x0) fun r c => ∑ s ∈ range (r + 1), a.Z 2 s c := by
  refine Lf.via (idx := idx_main_v147) (val_main_v147_apply (F := Ideal) x0) (r135 h) fun i => ?_
  obtain ⟨h0, h1, h2⟩ := lt3 i
  dsimp only [idx_main_v147] <;> exact cg2 (fun r c => ∑ s ∈ range r, a.Z 2 s c) (by omega) (by omega)
theorem r150 : T3 1 4096 256 (val_main_v150 (F := Ideal) x0) fun r c => (∑ s ∈ range (r + 1), a.Z 2 s c - ∑ s ∈ range (r + 1 - 8), a.Z 2 s c) / cnt 8 r :=
  ((r147 h).subf (r139 h)).hdivf r149 fun _ => (cnt_pos _ (by norm_num) _).ne'
theorem r151 : T4 1 4096 1 256 (val_main_v151 (F := Ideal) x0) fun r _ c => a.Z 2 r c := by
  refine Lf.via (idx := idx_main_v151) (val_main_v151_apply (F := Ideal) x0) (r87 h) fun i => ?_
  obtain ⟨h0, h1, h2, h3⟩ := lt4 i
  dsimp only [idx_main_v151] <;> exact cg3 (fun r g c => a.Z g r c) (by omega) (by omega) (by omega)
theorem r152 : T3 1 4096 256 (val_main_v152 (F := Ideal) x0) fun r c => a.Z 2 r c := by
  refine Lf.via (idx := idx_main_v152) (val_main_v152_apply (F := Ideal) x0) (r151 h) fun i => ?_
  obtain ⟨h0, h1, h2⟩ := lt3 i
  dsimp only [idx_main_v152] <;> exact cg2 (fun r c => a.Z 2 r c) (by omega) (by omega)
theorem r153 : T3 1 4096 256 (val_main_v153 (F := Ideal) x0) fun r c => pooled 8 (a.Z 2) r c := ((r150 h).subf (r152 h)).congr fun i => by
  unfold pooled
  dsimp only
  rw [prefix_sub (fun s => a.Z 2 s (i 2).val)]
theorem r176 : T4 1 4096 1 256 (val_main_v176 (F := Ideal) x0) fun r _ c => pooled 8 (a.Z 2) r c := Lf.via (idx := idx_main_v176) (val_main_v176_apply (F := Ideal) x0) (r153 h) fun _ => rfl

theorem r154 : T4 1 4097 1 256 (val_main_v154 (F := Ideal) x0) fun r _ c => ∑ s ∈ range r, a.Z 3 s c := by
  refine Lf.via (idx := idx_main_v154) (val_main_v154_apply (F := Ideal) x0) (r91 h) fun i => ?_
  obtain ⟨h0, h1, h2, h3⟩ := lt4 i
  dsimp only [idx_main_v154] <;> exact cg3 (fun r g c => ∑ s ∈ range r, a.Z g s c) (by omega) (by omega) (by omega)
theorem r155 : T3 1 4097 256 (val_main_v155 (F := Ideal) x0) fun r c => ∑ s ∈ range r, a.Z 3 s c := by
  refine Lf.via (idx := idx_main_v155) (val_main_v155_apply (F := Ideal) x0) (r154 h) fun i => ?_
  obtain ⟨h0, h1, h2⟩ := lt3 i
  dsimp only [idx_main_v155] <;> exact cg2 (fun r c => ∑ s ∈ range r, a.Z 3 s c) (by omega) (by omega)
theorem r158 : T3 1 4081 256 (val_main_v158 (F := Ideal) x0) fun r c => ∑ s ∈ range r, a.Z 3 s c := by
  refine Lf.via (idx := idx_main_v158) (val_main_v158_apply (F := Ideal) x0) (r155 h) fun i => ?_
  obtain ⟨h0, h1, h2⟩ := lt3 i
  dsimp only [idx_main_v158] <;> exact cg2 (fun r c => ∑ s ∈ range r, a.Z 3 s c) (by omega) (by omega)
theorem r159 : T3 1 4096 256 (val_main_v159 (F := Ideal) x0) fun r c => ∑ s ∈ range (r + 1 - 16), a.Z 3 s c :=
  Lf.congr (T3.zcat k157 (r158 h) concatenates_S1x15x256_S1x4081x256_S1x4096x256_d1 rfl) fun i => by
    dsimp only
    by_cases hr : (i 1).val < 15
    · rw [if_pos hr, show (i 1).val + 1 - 16 = 0 by omega, Finset.sum_range_zero]
    · rw [if_neg hr, show (i 1).val - 15 = (i 1).val + 1 - 16 by omega]
theorem r167 : T3 1 4096 256 (val_main_v167 (F := Ideal) x0) fun r c => ∑ s ∈ range (r + 1), a.Z 3 s c := by
  refine Lf.via (idx := idx_main_v167) (val_main_v167_apply (F := Ideal) x0) (r155 h) fun i => ?_
  obtain ⟨h0, h1, h2⟩ := lt3 i
  dsimp only [idx_main_v167] <;> exact cg2 (fun r c => ∑ s ∈ range r, a.Z 3 s c) (by omega) (by omega)
theorem r170 : T3 1 4096 256 (val_main_v170 (F := Ideal) x0) fun r c => (∑ s ∈ range (r + 1), a.Z 3 s c - ∑ s ∈ range (r + 1 - 16), a.Z 3 s c) / cnt 16 r :=
  ((r167 h).subf (r159 h)).hdivf r169 fun _ => (cnt_pos _ (by norm_num) _).ne'
theorem r171 : T4 1 4096 1 256 (val_main_v171 (F := Ideal) x0) fun r _ c => a.Z 3 r c := by
  refine Lf.via (idx := idx_main_v171) (val_main_v171_apply (F := Ideal) x0) (r87 h) fun i => ?_
  obtain ⟨h0, h1, h2, h3⟩ := lt4 i
  dsimp only [idx_main_v171] <;> exact cg3 (fun r g c => a.Z g r c) (by omega) (by omega) (by omega)
theorem r172 : T3 1 4096 256 (val_main_v172 (F := Ideal) x0) fun r c => a.Z 3 r c := by
  refine Lf.via (idx := idx_main_v172) (val_main_v172_apply (F := Ideal) x0) (r171 h) fun i => ?_
  obtain ⟨h0, h1, h2⟩ := lt3 i
  dsimp only [idx_main_v172] <;> exact cg2 (fun r c => a.Z 3 r c) (by omega) (by omega)
theorem r173 : T3 1 4096 256 (val_main_v173 (F := Ideal) x0) fun r c => pooled 16 (a.Z 3) r c := ((r170 h).subf (r172 h)).congr fun i => by
  unfold pooled
  dsimp only
  rw [prefix_sub (fun s => a.Z 3 s (i 2).val)]
theorem r177 : T4 1 4096 1 256 (val_main_v177 (F := Ideal) x0) fun r _ c => pooled 16 (a.Z 3) r c := Lf.via (idx := idx_main_v177) (val_main_v177_apply (F := Ideal) x0) (r173 h) fun _ => rfl

theorem r178 : T4 1 4096 4 256 (val_main_v178 (F := Ideal) x0) fun r g c => pooled (Inp.wn g) (a.Z g) r c :=
  T4.cat4 (f := fun r g c => pooled (Inp.wn g) (a.Z g) r c) (r174 h) (r175 h) (r176 h) (r177 h)
    concatenates_S1x4096x1x256_S1x4096x1x256_S1x4096x1x256_S1x4096x1x256_S1x4096x4x256_d2
theorem r179 : LF S4x256x1x4096 (val_main_v179 (F := Ideal) x0 x5) fun i => ∑ c ∈ range 256,
    pooled (Inp.wn (i 0).val) (a.Z (i 0).val) (i 3).val c * a.wp (i 0).val c (i 1).val :=
  Lf.viaDot (val_main_v179_apply x0 x5) (r85 h) (r178 h) (fun i c => pooled (Inp.wn (i 0).val) (a.Z (i 0).val) (i 3).val c * a.wp (i 0).val c (i 1).val)
    fun i k => mul_comm _ _
theorem r180 : T4 1 4096 4 256 (val_main_v180 (F := Ideal) x0 x5) fun q g d => ∑ c ∈ range 256, pooled (Inp.wn g) (a.Z g) q c * a.wp g c d :=
  Lf.via (idx := idx_main_v180) (val_main_v180_apply (F := Ideal) x0 x5) (r179 h) fun _ => rfl
theorem r181 : T3 1 4096 1024 (val_main_v181 (F := Ideal) x0 x5) fun q d => ∑ c ∈ range 256, pooled (Inp.wn (d / 256)) (a.Z (d / 256)) q c * a.wp (d / 256) c (d % 256) :=
  by
  refine Lf.via (idx := idx_main_v181) (val_main_v181_apply (F := Ideal) x0 x5) (r180 h) fun i => ?_
  obtain ⟨h0, h1, h2⟩ := lt3 i
  dsimp only [idx_main_v181] <;> exact cg3 (fun q g d => ∑ c ∈ range 256, pooled (Inp.wn g) (a.Z g) q c * a.wp g c d) (by omega) (by omega) (by omega)
theorem r182 : LF S1x1x1024 (val_main_v182 (F := Ideal) x6) fun i => a.ps (i 2).val := Lf.via (idx := idx_main_v182) (val_main_v182_apply (F := Ideal) x6) (r86 h) fun _ => rfl
theorem r190 : T3 1 4096 1024 (val_main_v190 (F := Ideal) x0 x1 x5) fun q d => dps1 (Inp.wn (d / 256)) (a.Z (d / 256)) (a.Db (d / 256)) (a.wp (d / 256)) q (d % 256) :=
  ((r181 h).mulf (r189 h)).congr fun i => by
    unfold dps1 Inp.Db
    dsimp only
    rw [mul_comm, show 1024 + 256 * ((i 2).val / 256) + (i 2).val % 256 = 1024 + (i 2).val by omega]
theorem r191 : LF S1x1024 (val_main_v191 (F := Ideal) x0 x1 x5) fun i => a.dps 4096 (i 1).val :=
  Lf.viaSum (val_main_v191_apply x0 x1 x5) bits_zero (r190 h) (fun i q => dps1 (Inp.wn ((i 1).val / 256)) (a.Z ((i 1).val / 256)) (a.Db ((i 1).val / 256))
    (a.wp ((i 1).val / 256)) q ((i 1).val % 256)) fun _ _ => rfl
theorem r192 : LF S1x1x1024 (val_main_v192 (F := Ideal) x0 x1 x5) fun i => a.dps 4096 (i 2).val := by
  refine Lf.via (idx := idx_main_v192) (val_main_v192_apply (F := Ideal) x0 x1 x5) (r191 h) fun i => ?_
  obtain ⟨h0, h1, h2⟩ := lt3 i
  dsimp only [idx_main_v192] <;> exact cg1 (fun c => a.dps 4096 c) (by omega)
theorem r195 : LF S1024 (val_main_v195 (F := Ideal) x0 x1 x5) fun i => a.dps 4096 (i 0).val :=
  Lf.redOne (r192 h) reducesTo_S1x1x1024_S1024_d0_1 h_S_ bits_zero
    (fun j => ix3 (n0 := 1) (n1 := 1) (n2 := 1024) 0 0 (j 0))
    (fun j => funext fun q => Fin.ext (by match q with | ⟨0, _⟩ => rfl))
    (fun i => funext fun q => by
      match q with
      | ⟨0, _⟩ => exact (Subsingleton.elim (α := Fin 1) _ _)
      | ⟨1, _⟩ => exact (Subsingleton.elim (α := Fin 1) _ _)
      | ⟨2, _⟩ => rfl) fun _ => rfl
theorem r273 : LF S1x1024 (val_main_v273 (F := Ideal) x0 x1 x5) fun i => a.dps 4096 (i 1).val := Lf.via (idx := idx_main_v273) (val_main_v273_apply (F := Ideal) x0 x1 x5) (r195 h) fun _ => rfl

theorem r193 : T3 1 4096 1024 (val_main_v193 (F := Ideal) x6) fun _ c => a.ps c := Lf.via (idx := idx_main_v193) (val_main_v193_apply (F := Ideal) x6) (r182 h) fun _ => rfl
theorem r194 : T3 1 4096 1024 (val_main_v194 (F := Ideal) x1 x6) fun q c => a.d q (1024 + c) * a.ps c := (r189 h).mulf (r193 h)
theorem r196' : T4 1 4096 4 256 (val_main_v196 (F := Ideal) x1 x6) fun q g c => a.Db g q c * a.S g c := by
  refine Lf.via (idx := idx_main_v196) (val_main_v196_apply (F := Ideal) x1 x6) (r194 h) fun i => ?_
  obtain ⟨h0, h1, h2, h3⟩ := lt4 i
  dsimp only [idx_main_v196]
  unfold Inp.Db Inp.S
  exact congrArg₂ _ (cg2 (fun r c => a.d r c) (by omega) (by omega)) (cg1 (fun c => a.ps c) (by omega))
theorem r196 : T4 1 4096 4 256 (val_main_v196 (F := Ideal) x1 x6) fun q g c => dy (a.Db g) (a.S g) q c := (r196' h).congr fun i => by
  obtain ⟨h0, h1, h2, h3⟩ := lt4 i
  unfold dy
  dsimp only
  rw [if_pos h1]
theorem r197 : LF S4x256x1x4096 (val_main_v197 (F := Ideal) x1 x6) fun i => dy (a.Db (i 0).val) (a.S (i 0).val) (i 3).val (i 1).val := Lf.via (idx := idx_main_v197) (val_main_v197_apply (F := Ideal) x1 x6) (r196 h) fun _ => rfl
theorem r198 : LF S4x1x4096x256 (val_main_v198 (F := Ideal) x1 x5 x6) fun i => dpg a (i 0).val (i 2).val (i 3).val :=
  Lf.viaDot (val_main_v198_apply x1 x5 x6) (r197 h) (r85 h) (fun i d => dy (a.Db (i 0).val) (a.S (i 0).val) (i 2).val d * a.wp (i 0).val (i 3).val d) fun _ _ => rfl
theorem r199 : T4 1 4096 4 256 (val_main_v199 (F := Ideal) x1 x5 x6) fun q g c => dpg a g q c := Lf.via (idx := idx_main_v199) (val_main_v199_apply (F := Ideal) x1 x5 x6) (r198 h) fun _ => rfl
theorem r200 : LF S4x256x256 (val_main_v200 (F := Ideal) x0 x1 x6) fun i => a.dwp 4096 (i 0).val (i 2).val (i 1).val := fun i => by
  show Host.dotGeneral (F := Ideal) (φ₁ := .f32) (φ₂ := .f32) dot_S4x256x1x4096_S1x4096x4x256_S4x256x256_23_01_1_3_0_2 none (val_main_v197 (F := Ideal) x1 x6) (val_main_v178 (F := Ideal) x0) i = _
  simp only [Host.dotGeneral]
  rw [Ideal.dotGeneral_apply]
  refine sum_shape2 _ 4096 rfl rfl rfl _ (fun q => dwp1 (Inp.wn (i 0).val) (a.Z (i 0).val) (a.Db (i 0).val) (a.S (i 0).val) (i 2).val (i 1).val q) fun k => ?_
  rw [r197 h, r178 h, ← EReal.coe_mul]
  exact congrArg _ (mul_comm _ _)
theorem r201 : LF S4x256x256 (val_main_v201 (F := Ideal) x0 x1 x6) fun i => a.dwp 4096 (i 0).val (i 1).val (i 2).val := Lf.via (idx := idx_main_v201) (val_main_v201_apply (F := Ideal) x0 x1 x6) (r200 h) fun _ => rfl
theorem r274 : T4 1 4 256 256 (val_main_v274 (F := Ideal) x0 x1 x6) fun g c d => a.dwp 4096 g c d := Lf.via (idx := idx_main_v274) (val_main_v274_apply (F := Ideal) x0 x1 x6) (r201 h) fun _ => rfl
theorem r352 : LF S4x8x32x256 (val_main_v352 (F := Ideal) x0 x1 x6) fun i => a.dwp 4096 (i 0).val (32 * (i 1).val + (i 2).val) (i 3).val := by
  refine Lf.via (idx := idx_main_v352) (val_main_v352_apply (F := Ideal) x0 x1 x6) (r274 h) fun i => ?_
  obtain ⟨h0, h1, h2, h3⟩ := lt4 i
  dsimp only [idx_main_v352] <;> exact cg3 (fun g c d => a.dwp 4096 g c d) (by omega) (by omega) (by omega)
theorem r353 : LF S8x4x32x256 (val_main_v353 (F := Ideal) x0 x1 x6) fun i => a.dwp 4096 (i 1).val (32 * (i 0).val + (i 2).val) (i 3).val := Lf.via (idx := idx_main_v353) (val_main_v353_apply (F := Ideal) x0 x1 x6) (r352 h) fun _ => rfl

/-! The gradient of the pooled columns. -/

theorem r208 : T4 1 4096 1 256 (val_main_v208 (F := Ideal) x1 x5 x6) fun q _ c => dpg a 3 q c := by
  refine Lf.via (idx := idx_main_v208) (val_main_v208_apply (F := Ideal) x1 x5 x6) (r199 h) fun i => ?_
  obtain ⟨h0, h1, h2, h3⟩ := lt4 i
  dsimp only [idx_main_v208] <;> exact cg3 (fun q g c => dpg a g q c) (by omega) (by omega) (by omega)
theorem r209 : T3 1 4096 256 (val_main_v209 (F := Ideal) x1 x5 x6) fun q c => dpg a 3 q c := by
  refine Lf.via (idx := idx_main_v209) (val_main_v209_apply (F := Ideal) x1 x5 x6) (r208 h) fun i => ?_
  obtain ⟨h0, h1, h2⟩ := lt3 i
  dsimp only [idx_main_v209] <;> exact cg2 (fun q c => dpg a 3 q c) (by omega) (by omega)
theorem r210 : T3 1 4096 256 (val_main_v210 (F := Ideal) x1 x5 x6) fun q c => -dpg a 3 q c := (r209 h).hnegf
theorem r211 : T4 1 4096 1 256 (val_main_v211 (F := Ideal) x1 x5 x6) fun q _ c => -dpg a 3 q c := Lf.via (idx := idx_main_v211) (val_main_v211_apply (F := Ideal) x1 x5 x6) (r210 h) fun _ => rfl
theorem r212 : T4 1 4096 4 256 (val_main_v212 (F := Ideal) x1 x5 x6) fun q g c => if g = 3 then -dpg a 3 q c else 0 :=
  T4.pad2 (f := fun q c => -dpg a 3 q c) (r211 h) pads_S1x4096x1x256_S1x4096x4x256_000_000_300_000 h_S_ bits_zero
omit h in
theorem r213 : T3 1 4096 256 (val_main_v213 (F := Ideal)) fun q _ => cnt 16 q := Lf.via (idx := idx_main_v213) (val_main_v213_apply (F := Ideal)) r166 fun _ => rfl
theorem r214 : T3 1 4096 256 (val_main_v214 (F := Ideal) x1 x5 x6) fun q c => dpq a 3 16 q c := (r209 h).hdivf r213 fun _ => (cnt_pos _ (by norm_num) _).ne'
theorem r215 : T3 1 4096 256 (val_main_v215 (F := Ideal) x1 x5 x6) fun q c => -dpq a 3 16 q c := (r214 h).hnegf
theorem r216 : T3 1 4097 256 (val_main_v216 (F := Ideal) x1 x5 x6) fun q c => if 1 ≤ q ∧ q < 1 + 4096 then dpq a 3 16 (q - 1) c else 0 :=
  T3.pad1 (r214 h) pads_S1x4096x256_S1x4097x256_000_100_000 h_S_ bits_zero
theorem r218 : T3 1 4081 256 (val_main_v218 (F := Ideal) x1 x5 x6) fun q c => -dpq a 3 16 (q + 15) c := by
  refine Lf.via (idx := idx_main_v218) (val_main_v218_apply (F := Ideal) x1 x5 x6) (r215 h) fun i => ?_
  obtain ⟨h0, h1, h2⟩ := lt3 i
  dsimp only [idx_main_v218] <;> exact cg2 (fun q c => -dpq a 3 16 q c) (by omega) (by omega)
theorem r219 : T3 1 4097 256 (val_main_v219 (F := Ideal) x1 x5 x6) fun q c => -dpq a 3 16 (q + 15) c :=
  Lf.congr (T3.pad1 (lo := 0) (r218 h) pads_S1x4081x256_S1x4097x256_000_0160_000 h_S_ bits_zero) fun i => by
    dsimp only
    by_cases hc : (i 1).val < 4081
    · rw [if_pos (by omega), Nat.sub_zero]
    · rw [if_neg (by omega), dpq_zero _ _ _ _ (by omega), neg_zero]
theorem r220 : T3 1 4097 256 (val_main_v220 (F := Ideal) x1 x5 x6) fun q c => (if 1 ≤ q ∧ q < 1 + 4096 then dpq a 3 16 (q - 1) c else 0) + -dpq a 3 16 (q + 15) c :=
  (r216 h).addf (r219 h)
theorem r221 : T4 1 4097 1 256 (val_main_v221 (F := Ideal) x1 x5 x6) fun q _ c => (if 1 ≤ q ∧ q < 1 + 4096 then dpq a 3 16 (q - 1) c else 0) + -dpq a 3 16 (q + 15) c :=
  Lf.via (idx := idx_main_v221) (val_main_v221_apply (F := Ideal) x1 x5 x6) (r220 h) fun _ => rfl
theorem r222 : T4 1 4097 4 256 (val_main_v222 (F := Ideal) x1 x5 x6) fun q g c => if g = 3 then (if 1 ≤ q ∧ q < 1 + 4096 then dpq a 3 16 (q - 1) c else 0) + -dpq a 3 16 (q + 15) c else 0 :=
  T4.pad2 (f := fun q c => (if 1 ≤ q ∧ q < 1 + 4096 then dpq a 3 16 (q - 1) c else 0) + -dpq a 3 16 (q + 15) c) (r221 h) pads_S1x4097x1x256_S1x4097x4x256_000_000_300_000 h_S_ bits_zero

theorem r206 : T4 1 4096 1 256 (val_main_v206 (F := Ideal) x1 x5 x6) fun q _ c => dpg a 2 q c := by
  refine Lf.via (idx := idx_main_v206) (val_main_v206_apply (F := Ideal) x1 x5 x6) (r199 h) fun i => ?_
  obtain ⟨h0, h1, h2, h3⟩ := lt4 i
  dsimp only [idx_main_v206] <;> exact cg3 (fun q g c => dpg a g q c) (by omega) (by omega) (by omega)
theorem r207 : T3 1 4096 256 (val_main_v207 (F := Ideal) x1 x5 x6) fun q c => dpg a 2 q c := by
  refine Lf.via (idx := idx_main_v207) (val_main_v207_apply (F := Ideal) x1 x5 x6) (r206 h) fun i => ?_
  obtain ⟨h0, h1, h2⟩ := lt3 i
  dsimp only [idx_main_v207] <;> exact cg2 (fun q c => dpg a 2 q c) (by omega) (by omega)
theorem r223 : T3 1 4096 256 (val_main_v223 (F := Ideal) x1 x5 x6) fun q c => -dpg a 2 q c := (r207 h).hnegf
theorem r224 : T4 1 4096 1 256 (val_main_v224 (F := Ideal) x1 x5 x6) fun q _ c => -dpg a 2 q c := Lf.via (idx := idx_main_v224) (val_main_v224_apply (F := Ideal) x1 x5 x6) (r223 h) fun _ => rfl
theorem r225 : T4 1 4096 4 256 (val_main_v225 (F := Ideal) x1 x5 x6) fun q g c => if g = 2 then -dpg a 2 q c else 0 :=
  T4.pad2 (f := fun q c => -dpg a 2 q c) (r224 h) pads_S1x4096x1x256_S1x4096x4x256_000_000_210_000 h_S_ bits_zero
omit h in
theorem r227 : T3 1 4096 256 (val_main_v227 (F := Ideal)) fun q _ => cnt 8 q := Lf.via (idx := idx_main_v227) (val_main_v227_apply (F := Ideal)) r146 fun _ => rfl
theorem r228 : T3 1 4096 256 (val_main_v228 (F := Ideal) x1 x5 x6) fun q c => dpq a 2 8 q c := (r207 h).hdivf r227 fun _ => (cnt_pos _ (by norm_num) _).ne'
theorem r229 : T3 1 4096 256 (val_main_v229 (F := Ideal) x1 x5 x6) fun q c => -dpq a 2 8 q c := (r228 h).hnegf
theorem r230 : T3 1 4097 256 (val_main_v230 (F := Ideal) x1 x5 x6) fun q c => if 1 ≤ q ∧ q < 1 + 4096 then dpq a 2 8 (q - 1) c else 0 :=
  T3.pad1 (r228 h) pads_S1x4096x256_S1x4097x256_000_100_000 h_S_ bits_zero
theorem r232 : T3 1 4089 256 (val_main_v232 (F := Ideal) x1 x5 x6) fun q c => -dpq a 2 8 (q + 7) c := by
  refine Lf.via (idx := idx_main_v232) (val_main_v232_apply (F := Ideal) x1 x5 x6) (r229 h) fun i => ?_
  obtain ⟨h0, h1, h2⟩ := lt3 i
  dsimp only [idx_main_v232] <;> exact cg2 (fun q c => -dpq a 2 8 q c) (by omega) (by omega)
theorem r233 : T3 1 4097 256 (val_main_v233 (F := Ideal) x1 x5 x6) fun q c => -dpq a 2 8 (q + 7) c :=
  Lf.congr (T3.pad1 (lo := 0) (r232 h) pads_S1x4089x256_S1x4097x256_000_080_000 h_S_ bits_zero) fun i => by
    dsimp only
    by_cases hc : (i 1).val < 4089
    · rw [if_pos (by omega), Nat.sub_zero]
    · rw [if_neg (by omega), dpq_zero _ _ _ _ (by omega), neg_zero]
theorem r234 : T3 1 4097 256 (val_main_v234 (F := Ideal) x1 x5 x6) fun q c => (if 1 ≤ q ∧ q < 1 + 4096 then dpq a 2 8 (q - 1) c else 0) + -dpq a 2 8 (q + 7) c :=
  (r230 h).addf (r233 h)
theorem r235 : T4 1 4097 1 256 (val_main_v235 (F := Ideal) x1 x5 x6) fun q _ c => (if 1 ≤ q ∧ q < 1 + 4096 then dpq a 2 8 (q - 1) c else 0) + -dpq a 2 8 (q + 7) c :=
  Lf.via (idx := idx_main_v235) (val_main_v235_apply (F := Ideal) x1 x5 x6) (r234 h) fun _ => rfl
theorem r236 : T4 1 4097 4 256 (val_main_v236 (F := Ideal) x1 x5 x6) fun q g c => if g = 2 then (if 1 ≤ q ∧ q < 1 + 4096 then dpq a 2 8 (q - 1) c else 0) + -dpq a 2 8 (q + 7) c else 0 :=
  T4.pad2 (f := fun q c => (if 1 ≤ q ∧ q < 1 + 4096 then dpq a 2 8 (q - 1) c else 0) + -dpq a 2 8 (q + 7) c) (r235 h) pads_S1x4097x1x256_S1x4097x4x256_000_000_210_000 h_S_ bits_zero

theorem r204 : T4 1 4096 1 256 (val_main_v204 (F := Ideal) x1 x5 x6) fun q _ c => dpg a 1 q c := by
  refine Lf.via (idx := idx_main_v204) (val_main_v204_apply (F := Ideal) x1 x5 x6) (r199 h) fun i => ?_
  obtain ⟨h0, h1, h2, h3⟩ := lt4 i
  dsimp only [idx_main_v204] <;> exact cg3 (fun q g c => dpg a g q c) (by omega) (by omega) (by omega)
theorem r205 : T3 1 4096 256 (val_main_v205 (F := Ideal) x1 x5 x6) fun q c => dpg a 1 q c := by
  refine Lf.via (idx := idx_main_v205) (val_main_v205_apply (F := Ideal) x1 x5 x6) (r204 h) fun i => ?_
  obtain ⟨h0, h1, h2⟩ := lt3 i
  dsimp only [idx_main_v205] <;> exact cg2 (fun q c => dpg a 1 q c) (by omega) (by omega)
theorem r238 : T3 1 4096 256 (val_main_v238 (F := Ideal) x1 x5 x6) fun q c => -dpg a 1 q c := (r205 h).hnegf
theorem r239 : T4 1 4096 1 256 (val_main_v239 (F := Ideal) x1 x5 x6) fun q _ c => -dpg a 1 q c := Lf.via (idx := idx_main_v239) (val_main_v239_apply (F := Ideal) x1 x5 x6) (r238 h) fun _ => rfl
theorem r240 : T4 1 4096 4 256 (val_main_v240 (F := Ideal) x1 x5 x6) fun q g c => if g = 1 then -dpg a 1 q c else 0 :=
  T4.pad2 (f := fun q c => -dpg a 1 q c) (r239 h) pads_S1x4096x1x256_S1x4096x4x256_000_000_120_000 h_S_ bits_zero
omit h in
theorem r242 : T3 1 4096 256 (val_main_v242 (F := Ideal)) fun q _ => cnt 4 q := Lf.via (idx := idx_main_v242) (val_main_v242_apply (F := Ideal)) r126 fun _ => rfl
theorem r243 : T3 1 4096 256 (val_main_v243 (F := Ideal) x1 x5 x6) fun q c => dpq a 1 4 q c := (r205 h).hdivf r242 fun _ => (cnt_pos _ (by norm_num) _).ne'
theorem r244 : T3 1 4096 256 (val_main_v244 (F := Ideal) x1 x5 x6) fun q c => -dpq a 1 4 q c := (r243 h).hnegf
theorem r245 : T3 1 4097 256 (val_main_v245 (F := Ideal) x1 x5 x6) fun q c => if 1 ≤ q ∧ q < 1 + 4096 then dpq a 1 4 (q - 1) c else 0 :=
  T3.pad1 (r243 h) pads_S1x4096x256_S1x4097x256_000_100_000 h_S_ bits_zero
theorem r247 : T3 1 4093 256 (val_main_v247 (F := Ideal) x1 x5 x6) fun q c => -dpq a 1 4 (q + 3) c := by
  refine Lf.via (idx := idx_main_v247) (val_main_v247_apply (F := Ideal) x1 x5 x6) (r244 h) fun i => ?_
  obtain ⟨h0, h1, h2⟩ := lt3 i
  dsimp only [idx_main_v247] <;> exact cg2 (fun q c => -dpq a 1 4 q c) (by omega) (by omega)
theorem r248 : T3 1 4097 256 (val_main_v248 (F := Ideal) x1 x5 x6) fun q c => -dpq a 1 4 (q + 3) c :=
  Lf.congr (T3.pad1 (lo := 0) (r247 h) pads_S1x4093x256_S1x4097x256_000_040_000 h_S_ bits_zero) fun i => by
    dsimp only
    by_cases hc : (i 1).val < 4093
    · rw [if_pos (by omega), Nat.sub_zero]
    · rw [if_neg (by omega), dpq_zero _ _ _ _ (by omega), neg_zero]
theorem r249 : T3 1 4097 256 (val_main_v249 (F := Ideal) x1 x5 x6) fun q c => (if 1 ≤ q ∧ q < 1 + 4096 then dpq a 1 4 (q - 1) c else 0) + -dpq a 1 4 (q + 3) c :=
  (r245 h).addf (r248 h)
theorem r250 : T4 1 4097 1 256 (val_main_v250 (F := Ideal) x1 x5 x6) fun q _ c => (if 1 ≤ q ∧ q < 1 + 4096 then dpq a 1 4 (q - 1) c else 0) + -dpq a 1 4 (q + 3) c :=
  Lf.via (idx := idx_main_v250) (val_main_v250_apply (F := Ideal) x1 x5 x6) (r249 h) fun _ => rfl
theorem r251 : T4 1 4097 4 256 (val_main_v251 (F := Ideal) x1 x5 x6) fun q g c => if g = 1 then (if 1 ≤ q ∧ q < 1 + 4096 then dpq a 1 4 (q - 1) c else 0) + -dpq a 1 4 (q + 3) c else 0 :=
  T4.pad2 (f := fun q c => (if 1 ≤ q ∧ q < 1 + 4096 then dpq a 1 4 (q - 1) c else 0) + -dpq a 1 4 (q + 3) c) (r250 h) pads_S1x4097x1x256_S1x4097x4x256_000_000_120_000 h_S_ bits_zero

theorem r202 : T4 1 4096 1 256 (val_main_v202 (F := Ideal) x1 x5 x6) fun q _ c => dpg a 0 q c := by
  refine Lf.via (idx := idx_main_v202) (val_main_v202_apply (F := Ideal) x1 x5 x6) (r199 h) fun i => ?_
  obtain ⟨h0, h1, h2, h3⟩ := lt4 i
  dsimp only [idx_main_v202] <;> exact cg3 (fun q g c => dpg a g q c) (by omega) (by omega) (by omega)
theorem r203 : T3 1 4096 256 (val_main_v203 (F := Ideal) x1 x5 x6) fun q c => dpg a 0 q c := by
  refine Lf.via (idx := idx_main_v203) (val_main_v203_apply (F := Ideal) x1 x5 x6) (r202 h) fun i => ?_
  obtain ⟨h0, h1, h2⟩ := lt3 i
  dsimp only [idx_main_v203] <;> exact cg2 (fun q c => dpg a 0 q c) (by omega) (by omega)
theorem r253 : T3 1 4096 256 (val_main_v253 (F := Ideal) x1 x5 x6) fun q c => -dpg a 0 q c := (r203 h).hnegf
theorem r254 : T4 1 4096 1 256 (val_main_v254 (F := Ideal) x1 x5 x6) fun q _ c => -dpg a 0 q c := Lf.via (idx := idx_main_v254) (val_main_v254_apply (F := Ideal) x1 x5 x6) (r253 h) fun _ => rfl
theorem r255 : T4 1 4096 4 256 (val_main_v255 (F := Ideal) x1 x5 x6) fun q g c => if g = 0 then -dpg a 0 q c else 0 :=
  T4.pad2 (f := fun q c => -dpg a 0 q c) (r254 h) pads_S1x4096x1x256_S1x4096x4x256_000_000_030_000 h_S_ bits_zero
omit h in
theorem r257 : T3 1 4096 256 (val_main_v257 (F := Ideal)) fun q _ => cnt 2 q := Lf.via (idx := idx_main_v257) (val_main_v257_apply (F := Ideal)) r106 fun _ => rfl
theorem r258 : T3 1 4096 256 (val_main_v258 (F := Ideal) x1 x5 x6) fun q c => dpq a 0 2 q c := (r203 h).hdivf r257 fun _ => (cnt_pos _ (by norm_num) _).ne'
theorem r259 : T3 1 4096 256 (val_main_v259 (F := Ideal) x1 x5 x6) fun q c => -dpq a 0 2 q c := (r258 h).hnegf
theorem r260 : T3 1 4097 256 (val_main_v260 (F := Ideal) x1 x5 x6) fun q c => if 1 ≤ q ∧ q < 1 + 4096 then dpq a 0 2 (q - 1) c else 0 :=
  T3.pad1 (r258 h) pads_S1x4096x256_S1x4097x256_000_100_000 h_S_ bits_zero
theorem r262 : T3 1 4095 256 (val_main_v262 (F := Ideal) x1 x5 x6) fun q c => -dpq a 0 2 (q + 1) c := by
  refine Lf.via (idx := idx_main_v262) (val_main_v262_apply (F := Ideal) x1 x5 x6) (r259 h) fun i => ?_
  obtain ⟨h0, h1, h2⟩ := lt3 i
  dsimp only [idx_main_v262] <;> exact cg2 (fun q c => -dpq a 0 2 q c) (by omega) (by omega)
theorem r263 : T3 1 4097 256 (val_main_v263 (F := Ideal) x1 x5 x6) fun q c => -dpq a 0 2 (q + 1) c :=
  Lf.congr (T3.pad1 (lo := 0) (r262 h) pads_S1x4095x256_S1x4097x256_000_020_000 h_S_ bits_zero) fun i => by
    dsimp only
    by_cases hc : (i 1).val < 4095
    · rw [if_pos (by omega), Nat.sub_zero]
    · rw [if_neg (by omega), dpq_zero _ _ _ _ (by omega), neg_zero]
theorem r264 : T3 1 4097 256 (val_main_v264 (F := Ideal) x1 x5 x6) fun q c => (if 1 ≤ q ∧ q < 1 + 4096 then dpq a 0 2 (q - 1) c else 0) + -dpq a 0 2 (q + 1) c :=
  (r260 h).addf (r263 h)
theorem r265 : T4 1 4097 1 256 (val_main_v265 (F := Ideal) x1 x5 x6) fun q _ c => (if 1 ≤ q ∧ q < 1 + 4096 then dpq a 0 2 (q - 1) c else 0) + -dpq a 0 2 (q + 1) c :=
  Lf.via (idx := idx_main_v265) (val_main_v265_apply (F := Ideal) x1 x5 x6) (r264 h) fun _ => rfl
theorem r266 : T4 1 4097 4 256 (val_main_v266 (F := Ideal) x1 x5 x6) fun q g c => if g = 0 then (if 1 ≤ q ∧ q < 1 + 4096 then dpq a 0 2 (q - 1) c else 0) + -dpq a 0 2 (q + 1) c else 0 :=
  T4.pad2 (f := fun q c => (if 1 ≤ q ∧ q < 1 + 4096 then dpq a 0 2 (q - 1) c else 0) + -dpq a 0 2 (q + 1) c) (r265 h) pads_S1x4097x1x256_S1x4097x4x256_000_000_030_000 h_S_ bits_zero

theorem r256 : T4 1 4096 4 256 (val_main_v256 (F := Ideal) x1 x5 x6) fun q g c => -dpg a g q c :=
  ((((r212 h).addf (r225 h)).addf (r240 h)).addf (r255 h)).congr fun i => by
    obtain ⟨i0, i1, i2, i3⟩ := lt4 i
    dsimp only
    rcases (by omega : (i 2).val = 0 ∨ (i 2).val = 1 ∨ (i 2).val = 2 ∨ (i 2).val = 3) with e | e | e | e <;> rw [e] <;> norm_num
theorem r267 : T4 1 4097 4 256 (val_main_v267 (F := Ideal) x1 x5 x6) fun q g c => (if 1 ≤ q then dpq a g (Inp.wn g) (q - 1) c else 0) - dpq a g (Inp.wn g) (q + Inp.wn g - 1) c :=
  ((((r222 h).addf (r236 h)).addf (r251 h)).addf (r266 h)).congr fun i => by
    obtain ⟨i0, i1, i2, i3⟩ := lt4 i
    dsimp only
    have e1 : (1 ≤ (i 1).val ∧ (i 1).val < 1 + 4096) ↔ 1 ≤ (i 1).val := ⟨fun z => z.1, fun z => ⟨z, by omega⟩⟩
    simp only [e1]
    rcases (by omega : (i 2).val = 0 ∨ (i 2).val = 1 ∨ (i 2).val = 2 ∨ (i 2).val = 3) with e | e | e | e <;> rw [e] <;>
      norm_num [Inp.wn] <;> ring
theorem r269 : T4 1 4096 4 256 (val_main_v269 (F := Ideal) x1 x5 x6) fun q g c => dpq a g (Inp.wn g) q c - dpq a g (Inp.wn g) (q + Inp.wn g) c := by
  refine Lf.via (idx := idx_main_v269) (val_main_v269_apply (F := Ideal) x1 x5 x6) (r267 h) fun i => ?_
  obtain ⟨h0, h1, h2, h3⟩ := lt4 i
  dsimp only [idx_main_v269]
  rw [if_pos (by omega)]
  exact congrArg₂ _ (cg2 (dpq a (i 2).val (Inp.wn (i 2).val)) (by omega) (by omega)) (cg2 (dpq a (i 2).val (Inp.wn (i 2).val)) (by omega) (by omega))
theorem r270 : T4 1 4096 4 256 (val_main_v270 (F := Ideal) x1 x5 x6) fun q g c => ∑ k ∈ range (Inp.wn g), dpq a g (Inp.wn g) (q + k) c :=
  Lf.congr (T4.win (lo := 0) (r269 h) reduceWindows_S1x4096x4x256_S1x4096x4x256_w1s1p0_0_w4096s1p0_4095_w1s1p0_0_w1s1p0_0 h_S_ bits_zero)
    fun i => suffix_sub (fun q => dpq a (i 2).val (Inp.wn (i 2).val) q (i 3).val) (fun q hq => dpq_zero _ _ _ _ hq) _ _
theorem r271 : T4 1 4096 4 256 (val_main_v271 (F := Ideal) x1 x5 x6) fun q g c => dz (Inp.wn g) (a.Db g) (a.wp g) (a.S g) q c := ((r256 h).addf (r270 h)).congr fun i => by
  unfold dz dpq dpg
  ring
theorem r272 : T3 1 4096 1024 (val_main_v272 (F := Ideal) x1 x5 x6) fun q c => dz (Inp.wn (c / 256)) (a.Db (c / 256)) (a.wp (c / 256)) (a.S (c / 256)) q (c % 256) :=
  by
  refine Lf.via (idx := idx_main_v272) (val_main_v272_apply (F := Ideal) x1 x5 x6) (r271 h) fun i => ?_
  obtain ⟨h0, h1, h2⟩ := lt3 i
  dsimp only [idx_main_v272] <;> exact cg3 (fun q g c => dz (Inp.wn g) (a.Db g) (a.wp g) (a.S g) q c) (by omega) (by omega) (by omega)

/-! The gradient of the projection. -/

theorem r314 : T3 1 4096 3072 (val_main_v314 (F := Ideal) x1 x5 x6) fun q c => if 2048 ≤ c ∧ c < 2048 + 1024 then
    dz (Inp.wn ((c - 2048) / 256)) (a.Db ((c - 2048) / 256)) (a.wp ((c - 2048) / 256)) (a.S ((c - 2048) / 256)) q ((c - 2048) % 256) else 0 :=
  T3.pad2 (r272 h) pads_S1x4096x1024_S1x4096x3072_000_000_204800 h_S_ bits_zero
theorem r329 : T3 1 4096 3072 (val_main_v329 (F := Ideal) x0 x1 x2 x4) fun q c => if 1024 ≤ c ∧ c < 1024 + 1024 then
    core a q ((c - 1024) / 128) ((c - 1024) % 128) * dgelu (a.p q (1024 + (c - 1024))) else 0 :=
  T3.pad2 (r328 h) pads_S1x4096x1024_S1x4096x3072_000_000_102410240 h_S_ bits_zero
theorem r345 : T3 1 4096 3072 (val_main_v345 (F := Ideal) x0 x1 x2 x3 x4) fun q c => if 0 ≤ c ∧ c < 0 + 1024 then
    a.d q (c - 0) * mixed (a.V ((c - 0) / 128)) (a.G ((c - 0) / 128)) (a.ws ((c - 0) / 128)) (a.bs ((c - 0) / 128)) q ((c - 0) % 128) * dgelu (a.p q (c - 0)) else 0 :=
  T3.pad2 (r344 h) pads_S1x4096x1024_S1x4096x3072_000_000_020480 h_S_ bits_zero
theorem r346 : T3 1 4096 3072 (val_main_v346 (F := Ideal) x0 x1 x2 x3 x4 x5 x6) fun q c => a.dproj q c := (((r314 h).addf (r329 h)).addf (r345 h)).congr fun i => by
  obtain ⟨i0, i1, i2⟩ := lt3 i
  dsimp only
  unfold Inp.dproj
  by_cases h1 : (i 2).val < 1024
  · rw [if_neg (by omega), if_neg (by omega), if_pos (by omega), if_pos h1, zero_add, zero_add, Nat.sub_zero]
    unfold du Inp.Da Inp.U
    rw [show 128 * ((i 2).val / 128) + (i 2).val % 128 = (i 2).val by omega]
  by_cases h2 : (i 2).val < 2048
  · rw [if_neg (by omega), if_pos (by omega), if_neg (by omega), if_neg h1, if_pos h2, zero_add, add_zero]
    unfold dv core
    refine congrArg₂ _ rfl (congrArg dgelu ?_)
    unfold Inp.V
    rw [show 1024 + 128 * (((i 2).val - 1024) / 128) + ((i 2).val - 1024) % 128 = 1024 + ((i 2).val - 1024) by omega]
  · rw [if_pos (by omega), if_neg (by omega), if_neg (by omega), if_neg h1, if_neg h2, add_zero, add_zero]
theorem r347 : LF S4096x3072 (val_main_v347 (F := Ideal) x0 x1 x2 x3 x4 x5 x6) fun i => a.dproj (i 0).val (i 1).val := by
  refine Lf.via (idx := idx_main_v347) (val_main_v347_apply (F := Ideal) x0 x1 x2 x3 x4 x5 x6) (r346 h) fun i => ?_
  obtain ⟨h0, h1⟩ := lt2 i
  dsimp only [idx_main_v347] <;> exact cg2 (fun q c => a.dproj q c) (by omega) (by omega)
theorem r348 : Lf (φ := .bf16) (s := S4096x3072) (val_main_v348 (F := Ideal) x0 x1 x2 x3 x4 x5 x6) fun i => a.dproj (i 0).val (i 1).val := fun i => r347 h i

end Cert.Mixer.Ref
-- ==== Proof.Mixer.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Mixer.Final
public import proofs.«01_k».proof.Proof.Mixer.Finite
public import proofs.«01_k».proof.Proof.Mixer.RefPool
public import Idealize.ShloMosaic.Lib.Quiescent

/-! The claims about the mixer's backward call. -/

@[expose] public section

noncomputable section

namespace Cert.Mixer

open Idealize.ShloMosaic Idealize.ShloMosaic.TcCoe Idealize.SL.Sem Idealize.ShloMosaic.StableHlo

/-- The kernel as written ends, leaves its arguments and its semaphores. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The two named constants are the reals that their table gives them. -/
theorem preserves : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

/-- Of finite arguments the kernel and the reference compute the same six gradients over the reals. -/
theorem algebraic [Cert.Pre_all_finite.Facts] : Cert.algebraic_KernelIdeal_ReferenceIdeal_pre_all_finite := by
  intro m ρ m' ρ' hpre hagree
  refine ⟨_, _, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  obtain ⟨p0, p1, p2, p3, p4, p5, p6⟩ := hpre c
  obtain ⟨a, ha⟩ := exists_args _ _ _ _ _ _ _ p0 p1 p2 p3 p4 p5 p6
  have hb : Args a (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) := by
    rw [e0, e1, e2, e3, e4, e5, e6]; exact ha
  obtain ⟨h0, h1, h2, h3, h4, h5, hr⟩ := h c
  refine ⟨h0.trans ?_, h1.trans ?_, h2.trans ?_, h3.trans ?_, h4.trans ?_, h5.trans ?_, hr⟩
  · exact (Cert.ReferenceIdeal.Read.val_main_v348_eq (launchContents m' c)).trans
      (funext fun i => (Ref.r348 hb i).trans (final12 ha i).symm)
  · exact (Cert.ReferenceIdeal.Read.val_main_v349_eq (launchContents m' c)).trans
      (funext fun i => (Ref.r349 hb i).trans (final13 ha i).symm)
  · exact (Cert.ReferenceIdeal.Read.val_main_v351_eq (launchContents m' c)).trans
      (funext fun i => (Ref.r351 hb i).trans (final14 ha i).symm)
  · exact (Cert.ReferenceIdeal.Read.val_main_v311_eq (launchContents m' c)).trans
      (funext fun i => (Ref.r311 hb i).trans (final15 ha i).symm)
  · exact (Cert.ReferenceIdeal.Read.val_main_v273_eq (launchContents m' c)).trans
      (funext fun i => (Ref.r273 hb i).trans (final16 ha i).symm)
  · exact (Cert.ReferenceIdeal.Read.val_main_v353_eq (launchContents m' c)).trans
      (funext fun i => (Ref.r353 hb i).trans (final17 ha i).symm)

end Cert.Mixer

end
-- ==== Proof.Mlp.Product.lean ====
module

public import Idealize.ShloMosaic.PureOps.Ideal.Laws
public import Idealize.ShloMosaic.Lib.Pipeline.Value
public import Idealize.ShloMosaic.Lib.Pipeline.ReadBack
public import Idealize.ShloMosaic.Lib.KernelVsHost
public import Idealize.ShloMosaic.Lib.ValueIdx

/-! Products of matrices over the extended reals, whole and in blocks.

`E2 x f` says that the matrix `x` holds `f r c` in row `r` and column `c`. -/

@[expose] public section

noncomputable section

namespace Cert.Mlp

open Idealize.ShloMosaic Idealize.ShloMosaic.TcCoe Finset
open Idealize.ShloMosaic.ValueIdx (ix2 ix3 contrEquiv1 contrEquiv1_symm_val)

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- What one store of a whole block leaves. -/
theorem whole_store {sig : RefSig} {κ : Kind} {sp : Space} {S : Shape} {e : EltTy} {Val : EltTy → Type} [∀ e, Nonempty (Val e)]
    (v : View sig κ sp S e) (b : v.ty.Contents Val) {off : Fin S.rank → Nat} (h : off = fun _ => 0)
    (inb : ∀ a, off a + S.size a ≤ S.size a) (w : S.Idx → Val e) :
    v.read Val (v.writes Val b [(⟨Rect.unit off S.size inb, w⟩ : View.Piece Val S e)]) = w := by
  rw [View.read_writes_eq_canon _ _ _ fun y => ⟨_, List.mem_singleton_self _, ?_⟩, View.canon_unit_zero h]
  subst h
  show y ∈ (Rect.whole S).set
  rw [Rect.set_whole]
  exact Finset.mem_univ y

/-- What several stores leave, where each stores what `G` says. -/
theorem stores {sig : RefSig} {κ : Kind} {sp : Space} {S : Shape} {e : EltTy} {Val : EltTy → Type} [∀ e, Nonempty (Val e)]
    (v : View sig κ sp S e) (b : v.ty.Contents Val) {L : List (View.Piece Val S e)} (hc : ∀ y, ∃ p ∈ L, y ∈ p.1.set) {G : S.Idx → Val e}
    (h : View.PiecesOf G L) : v.read Val (v.writes Val b L) = G := by
  rw [View.read_writes_eq_canon _ _ _ hc]
  exact funext fun y => (congrArg (View.canon · y) (List.append_nil L).symm).trans (View.canon_append_of_piecesOf G [] L h y (hc y))

/-- What a load of a part reads after one store of the whole. -/
theorem load_part {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ fun y => ⟨_, List.mem_singleton_self _, ?_⟩, View.canon_unit_zero h]
  subst h
  show y ∈ (Rect.whole S).set
  rw [Rect.set_whole]
  exact Finset.mem_univ y

/-- A matrix that holds `f r c` in row `r` and column `c`. -/
def E2 {n m : ℕ} (x : (⟨2, ![n, m]⟩ : Shape).Idx → EReal) (f : ℕ → ℕ → EReal) : Prop :=
  ∀ i, x i = f (i 0).val (i 1).val

/-- Every matrix holds some function of the row and the column. -/
theorem exists_E2 {n m : ℕ} (x : (⟨2, ![n, m]⟩ : Shape).Idx → EReal) : ∃ f, E2 x f :=
  ⟨fun r c => if h : r < n ∧ c < m then x (ix2 ⟨r, h.1⟩ ⟨c, h.2⟩) else 0, fun i => by
    have hi : (i 0).val < n ∧ (i 1).val < m := ⟨(i 0).isLt, (i 1).isLt⟩
    dsimp only
    rw [dif_pos hi]
    refine congrArg x (funext fun a => ?_)
    fin_cases a <;> rfl⟩

/-- A block of a matrix: the rows from `p` on and the columns from `q` on. -/
theorem E2.block {n m n' m' : ℕ} {x : (⟨2, ![n, m]⟩ : Shape).Idx → EReal} {f : ℕ → ℕ → EReal} (h : E2 x f)
    {e : (⟨2, ![n', m']⟩ : Shape).Idx → (⟨2, ![n, m]⟩ : Shape).Idx} {p q : ℕ}
    (he : ∀ i, (e i 0).val = p + (i 0).val ∧ (e i 1).val = q + (i 1).val) : E2 (fun i => x (e i)) fun r c => f (p + r) (q + c) :=
  fun i => by
    dsimp only
    rw [h, (he i).1, (he i).2]

/-- An array that holds `f a r c` at the index `a`, `r`, `c`. -/
def E3 {l n m : ℕ} (x : (⟨3, ![l, n, m]⟩ : Shape).Idx → EReal) (f : ℕ → ℕ → ℕ → EReal) : Prop :=
  ∀ i, x i = f (i 0).val (i 1).val (i 2).val

/-- A matrix with a leading axis of one index. -/
theorem E2.to3 {n m : ℕ} {φ : FTy} {x : FVec Ideal ⟨2, ![n, m]⟩ φ} {f : ℕ → ℕ → EReal} (hx : E2 x f) (h) :
    E3 (shapeCast ⟨3, ![1, n, m]⟩ x h) fun _ r c => f r c := fun i => by
  have i0 : (i 0).val < 1 := (i 0).isLt
  refine (shapeCast_apply x h i (ix2 ⟨(i 1).val, (i 1).isLt⟩ ⟨(i 2).val, (i 2).isLt⟩) ?_).trans (hx _)
  rw [Shape.rowMajor_val_two, Shape.rowMajor_val_three]
  show (i 1).val * m + (i 2).val = ((i 0).val * n + (i 1).val) * m + (i 2).val
  rw [show (i 0).val = 0 by omega, Nat.zero_mul, Nat.zero_add]

/-- The one matrix of an array of matrices. -/
theorem E3.to2 {n m : ℕ} {φ : FTy} {x : FVec Ideal ⟨3, ![1, n, m]⟩ φ} {f : ℕ → ℕ → ℕ → EReal} (hx : E3 x f) (h) :
    E2 (shapeCast ⟨2, ![n, m]⟩ x h) (f 0) := fun i => by
  refine (shapeCast_apply x h i (ix3 0 (i 0) (i 1)) ?_).trans (hx _)
  rw [Shape.rowMajor_val_two, Shape.rowMajor_val_three]
  show (0 * n + (i 0).val) * m + (i 1).val = (i 0).val * m + (i 1).val
  rw [Nat.zero_mul, Nat.zero_add]

/-- A block of an array of matrices. -/
theorem E3.block {l n m l' n' m' : ℕ} {x : (⟨3, ![l, n, m]⟩ : Shape).Idx → EReal} {f : ℕ → ℕ → ℕ → EReal} (h : E3 x f)
    {e : (⟨3, ![l', n', m']⟩ : Shape).Idx → (⟨3, ![l, n, m]⟩ : Shape).Idx} {o p q : ℕ}
    (he : ∀ i, (e i 0).val = o + (i 0).val ∧ (e i 1).val = p + (i 1).val ∧ (e i 2).val = q + (i 2).val) :
    E3 (fun i => x (e i)) fun a r c => f (o + a) (p + r) (q + c) := fun i => by
  dsimp only
  rw [h, (he i).1, (he i).2.1, (he i).2.2]

/-- A matrix whose columns are laid out in groups of `m`. -/
theorem E2.groups {l n m w : ℕ} {φ : FTy} {x : FVec Ideal ⟨2, ![n, w]⟩ φ} {f : ℕ → ℕ → EReal} (hx : E2 x f) (hw : w = l * m) (h₁) (h₂) :
    E3 (transpose ⟨3, ![l, n, m]⟩ [1, 0, 2] (shapeCast ⟨3, ![n, l, m]⟩ x h₁) h₂) fun a r c => f r (a * m + c) := fun i => by
  have hlt : (i 0).val * m + (i 2).val < w := by
    have h0 : (i 0).val < l := (i 0).isLt
    have h2 : (i 2).val < m := (i 2).isLt
    calc (i 0).val * m + (i 2).val < (i 0).val * m + m := by omega
      _ = ((i 0).val + 1) * m := by rw [Nat.add_mul, Nat.one_mul]
      _ ≤ l * m := Nat.mul_le_mul_right _ h0
      _ = w := hw.symm
  refine (transpose_apply [1, 0, 2] _ h₂ i (ix3 (i 1) (i 0) (i 2)) fun b => ?_).trans ?_
  · match b with
    | ⟨0, _⟩ => rfl
    | ⟨1, _⟩ => rfl
    | ⟨2, _⟩ => rfl
  refine (shapeCast_apply x h₁ _ (ix2 (i 1) ⟨_, hlt⟩) ?_).trans (hx _)
  rw [Shape.rowMajor_val_two, Shape.rowMajor_val_three]
  show (i 1).val * w + ((i 0).val * m + (i 2).val) = ((i 1).val * l + (i 0).val) * m + (i 2).val
  rw [hw, Nat.add_mul, Nat.mul_assoc, Nat.add_assoc]

/-- Two neighbouring groups of columns, side by side. -/
theorem E2.beside {n m w q : ℕ} {φ : FTy} {x y : FVec Ideal ⟨2, ![n, m]⟩ φ} {f : ℕ → ℕ → EReal}
    (hx : E2 x fun r c => f r (q + c)) (hy : E2 y fun r c => f r (q + m + c)) (hw : w = 2 * m) (h) :
    E2 (concatenate ⟨2, ![n, w]⟩ 1 [⟨⟨2, ![n, m]⟩, x⟩, ⟨⟨2, ![n, m]⟩, y⟩] h) fun r c => f r (q + c) := fun i => by
  have i1 : (i 1).val < w := (i 1).isLt
  by_cases hc : (i 1).val < m
  · rw [concatenate_apply_piece 1 _ h i 0 (by simp) _ x rfl rfl 0 (by simp) (ix2 (i 0) ⟨(i 1).val, hc⟩)]
    · exact hx _
    · intro b hb; fin_cases b
      · rfl
      · exact absurd rfl hb
    · exact Nat.zero_add _
  · rw [concatenate_apply_piece 1 _ h i 1 (by simp) _ y rfl rfl m (by simp) (ix2 (i 0) ⟨(i 1).val - m, by omega⟩)]
    · refine (hy _).trans (congrArg (f (i 0).val) ?_)
      show q + m + ((i 1).val - m) = q + (i 1).val
      omega
    · intro b hb; fin_cases b
      · rfl
      · exact absurd rfl hb
    · exact Nat.add_sub_cancel' (Nat.le_of_not_lt hc)

theorem E2.congr {n m : ℕ} {x : (⟨2, ![n, m]⟩ : Shape).Idx → EReal} {f g : ℕ → ℕ → EReal} (hx : E2 x f)
    (e : ∀ r < n, ∀ c < m, f r c = g r c) : E2 x g :=
  fun i => (hx i).trans (e _ (i 0).isLt _ (i 1).isLt)

section Ops
variable {n m : ℕ} {φ : FTy} {x y : FVec Ideal ⟨2, ![n, m]⟩ φ} {f g : ℕ → ℕ → EReal}

theorem E2.addf (hx : E2 x f) (hy : E2 y g) : E2 (addf x y) fun r c => f r c + g r c := fun i => by
  show x i + y i = _
  rw [hx i, hy i]
theorem E2.mulf (hx : E2 x f) (hy : E2 y g) : E2 (mulf x y) fun r c => f r c * g r c := fun i => by
  show x i * y i = _
  rw [hx i, hy i]
theorem E2.truncf {ψ : FTy} (hx : E2 x f) (h : ψ.bits < φ.bits) : E2 (truncf ψ x h) f := fun i => hx i
theorem E2.extf {ψ : FTy} (hx : E2 x f) (h : φ.bits < ψ.bits) : E2 (extf ψ x h) f := fun i => hx i
theorem E2.cast_self (hx : E2 x f) (h) : E2 (shapeCast ⟨2, ![n, m]⟩ x h) f := fun i => by
  rw [shapeCast_apply x h i i rfl]
  exact hx i

end Ops

section Products
variable {φ₁ φ₂ : FTy} {M K N : ℕ} {f g : ℕ → ℕ → EReal}

/-- Columns times columns. -/
theorem E2.mm00 {a : FVec Ideal ⟨2, ![K, M]⟩ φ₁} {b : FVec Ideal ⟨2, ![K, N]⟩ φ₂} (ha : E2 a f) (hb : E2 b g) (prec) (wf) :
    E2 (matmul (⟨[0], [0], [1], [1], [], [], wf⟩ : DotDims ⟨2, ![K, M]⟩ ⟨2, ![K, N]⟩ ⟨2, ![M, N]⟩) prec a b
      (constant ⟨2, ![M, N]⟩ .f32 0x00000000#32)) fun r c => ∑ k ∈ range K, f k r * g k c := fun i => by
  refine (Ideal.matmul_constant_zero_apply _ prec a b i).trans ?_
  refine Eq.trans ?_ (Fin.sum_univ_eq_sum_range (fun k => f k (i 0).val * g k (i 1).val) K)
  rw [← Equiv.sum_comp (contrEquiv1 _ K rfl rfl).symm]
  exact Finset.sum_congr rfl fun k _ => by rw [ha, hb]; rfl

/-- Rows times columns. -/
theorem E2.mm10 {a : FVec Ideal ⟨2, ![M, K]⟩ φ₁} {b : FVec Ideal ⟨2, ![K, N]⟩ φ₂} (ha : E2 a f) (hb : E2 b g) (prec) (wf) :
    E2 (matmul (⟨[1], [0], [0], [1], [], [], wf⟩ : DotDims ⟨2, ![M, K]⟩ ⟨2, ![K, N]⟩ ⟨2, ![M, N]⟩) prec a b
      (constant ⟨2, ![M, N]⟩ .f32 0x00000000#32)) fun r c => ∑ k ∈ range K, f r k * g k c := fun i => by
  refine (Ideal.matmul_constant_zero_apply _ prec a b i).trans ?_
  refine Eq.trans ?_ (Fin.sum_univ_eq_sum_range (fun k => f (i 0).val k * g k (i 1).val) K)
  rw [← Equiv.sum_comp (contrEquiv1 _ K rfl rfl).symm]
  exact Finset.sum_congr rfl fun k _ => by rw [ha, hb]; rfl

/-- Rows times rows. -/
theorem E2.mm11 {a : FVec Ideal ⟨2, ![M, K]⟩ φ₁} {b : FVec Ideal ⟨2, ![N, K]⟩ φ₂} (ha : E2 a f) (hb : E2 b g) (prec) (wf) :
    E2 (matmul (⟨[1], [1], [0], [0], [], [], wf⟩ : DotDims ⟨2, ![M, K]⟩ ⟨2, ![N, K]⟩ ⟨2, ![M, N]⟩) prec a b
      (constant ⟨2, ![M, N]⟩ .f32 0x00000000#32)) fun r c => ∑ k ∈ range K, f r k * g c k := fun i => by
  refine (Ideal.matmul_constant_zero_apply _ prec a b i).trans ?_
  refine Eq.trans ?_ (Fin.sum_univ_eq_sum_range (fun k => f (i 0).val k * g (i 1).val k) K)
  rw [← Equiv.sum_comp (contrEquiv1 _ K rfl rfl).symm]
  exact Finset.sum_congr rfl fun k _ => by rw [ha, hb]; rfl

end Products

/-- The two halves, of `K` rows each, of two matrices, in the columns from `p` and from `q` on. -/
structure Halves {M K N : ℕ} (f g : ℕ → ℕ → EReal) (p q : ℕ) (x x' : (⟨2, ![K, M]⟩ : Shape).Idx → EReal)
    (y y' : (⟨2, ![K, N]⟩ : Shape).Idx → EReal) : Prop where
  x₀ : E2 x fun k r => f k (p + r)
  x₁ : E2 x' fun k r => f (K + k) (p + r)
  y₀ : E2 y fun k c => g k (q + c)
  y₁ : E2 y' fun k c => g (K + k) (q + c)

/-- Blocks number `s` and `s'` of the rows are the halves when `s` is 0 and `s'` is 1. -/
theorem Halves.of {M K N p q p' q' s s' : ℕ} {f g : ℕ → ℕ → EReal} {x x' : (⟨2, ![K, M]⟩ : Shape).Idx → EReal}
    {y y' : (⟨2, ![K, N]⟩ : Shape).Idx → EReal} (hx : E2 x fun k r => f (s * K + k) (p + r)) (hy : E2 y fun k c => g (s * K + k) (q + c))
    (hx' : E2 x' fun k r => f (s' * K + k) (p' + r)) (hy' : E2 y' fun k c => g (s' * K + k) (q' + c))
    (hs : s = 0) (hs' : s' = 1) (hp : p = p') (hq : q = q') : Halves f g p' q' x x' y y' := by
  subst hs hs' hp hq
  simp only [Nat.zero_mul, Nat.zero_add, Nat.one_mul] at hx hy hx' hy'
  exact ⟨hx, hx', hy, hy'⟩

/-- The product of the first halves, with the product of the second halves added, is the product over all rows. -/
theorem Halves.mm00 {φ₁ φ₂ : FTy} {M K N p q : ℕ} {f g : ℕ → ℕ → EReal} {x x' : FVec Ideal ⟨2, ![K, M]⟩ φ₁}
    {y y' : FVec Ideal ⟨2, ![K, N]⟩ φ₂} (h : Halves f g p q x x' y y') (prec prec') (wf wf') :
    E2 (addf
      (matmul (⟨[0], [0], [1], [1], [], [], wf⟩ : DotDims ⟨2, ![K, M]⟩ ⟨2, ![K, N]⟩ ⟨2, ![M, N]⟩) prec x y (constant ⟨2, ![M, N]⟩ .f32 0x00000000#32))
      (matmul (⟨[0], [0], [1], [1], [], [], wf'⟩ : DotDims ⟨2, ![K, M]⟩ ⟨2, ![K, N]⟩ ⟨2, ![M, N]⟩) prec' x' y' (constant ⟨2, ![M, N]⟩ .f32 0x00000000#32)))
      fun r c => ∑ k ∈ range (2 * K), f k (p + r) * g k (q + c) :=
  ((h.x₀.mm00 h.y₀ prec wf).addf (h.x₁.mm00 h.y₁ prec' wf')).congr fun r _ c _ => by
    rw [Nat.two_mul, Finset.sum_range_add]

/-- The two matrices of an array, loaded one after the other, hold the columns in order when they lie side by side. -/
theorem E3.joined {n m w q : ℕ} {φ : FTy} {y : FVec Ideal ⟨3, ![2, n, m]⟩ φ} {g : ℕ → ℕ → EReal}
    (hy : E3 y fun a r c => g r (q + (a * m + c))) (hw : w = 2 * m) (inb₀ inb₁) (h₀ h₁) (h) :
    E2 (concatenate ⟨2, ![n, w]⟩ 1
      [⟨⟨2, ![n, m]⟩, shapeCast (α := Ideal φ) ⟨2, ![n, m]⟩ (fun i => y ((Rect.unit (s := ⟨3, ![2, n, m]⟩) ![0, 0, 0] ![1, n, m] inb₀).idx i)) h₀⟩,
        ⟨⟨2, ![n, m]⟩, shapeCast (α := Ideal φ) ⟨2, ![n, m]⟩ (fun i => y ((Rect.unit (s := ⟨3, ![2, n, m]⟩) ![1, 0, 0] ![1, n, m] inb₁).idx i)) h₁⟩] h)
      fun r c => g r (q + c) := by
  have e₀ := hy.block (l' := 1) (n' := n) (m' := m) (e := (Rect.unit (s := ⟨3, ![2, n, m]⟩) ![0, 0, 0] ![1, n, m] inb₀).idx) (o := 0) (p := 0) (q := 0)
    fun i => ⟨show 0 + 1 * (i 0).val = _ by omega, show 0 + 1 * (i 1).val = _ by omega, show 0 + 1 * (i 2).val = _ by omega⟩
  have e₁ := hy.block (l' := 1) (n' := n) (m' := m) (e := (Rect.unit (s := ⟨3, ![2, n, m]⟩) ![1, 0, 0] ![1, n, m] inb₁).idx) (o := 1) (p := 0) (q := 0)
    fun i => ⟨show 1 + 1 * (i 0).val = _ by omega, show 0 + 1 * (i 1).val = _ by omega, show 0 + 1 * (i 2).val = _ by omega⟩
  refine E2.beside (φ := φ) ((E3.to2 (φ := φ) e₀ _).congr fun r _ c _ => ?_) ((E3.to2 (φ := φ) e₁ _).congr fun r _ c _ => ?_) hw _
  · simp only [Nat.zero_add, Nat.add_zero, Nat.zero_mul]
  · simp only [Nat.zero_add, Nat.add_zero, Nat.one_mul, Nat.add_assoc]

/-- A sum of products over the first `s K` columns, with the product over the next `K` added. -/
theorem E2.mm11_next {φ₁ φ₂ : FTy} {M K N p s : ℕ} {f g : ℕ → ℕ → EReal} {a : FVec Ideal ⟨2, ![M, N]⟩ .f32}
    {x : FVec Ideal ⟨2, ![M, K]⟩ φ₁} {y : FVec Ideal ⟨2, ![N, K]⟩ φ₂} (ha : E2 a fun r c => ∑ k ∈ range (s * K), f (p + r) k * g c k)
    (hx : E2 x fun r k => f (p + r) (s * K + k)) (hy : E2 y fun c k => g c (s * K + k)) (prec) (wf) :
    E2 (Idealize.ShloMosaic.addf a
      (matmul (⟨[1], [1], [0], [0], [], [], wf⟩ : DotDims ⟨2, ![M, K]⟩ ⟨2, ![N, K]⟩ ⟨2, ![M, N]⟩) prec x y (constant ⟨2, ![M, N]⟩ .f32 0x00000000#32)))
      fun r c => ∑ k ∈ range ((s + 1) * K), f (p + r) k * g c k :=
  (ha.addf (hx.mm11 hy prec wf)).congr fun r _ c _ => by
    rw [Nat.add_mul, Nat.one_mul, Finset.sum_range_add]

/-- Four points to a block: the first leaves the product over the first `K` columns, and each later one adds the next `K`. -/
theorem E2.four_points {N M W K : ℕ} {f g : ℕ → ℕ → EReal} {o : (n : ℕ) → n < N → (⟨2, ![M, W]⟩ : Shape).Idx → EReal}
    (h₀ : ∀ n hn, n % 4 = 0 → E2 (o n hn) fun r c => ∑ k ∈ range K, f (n / 4 * M + r) k * g c k)
    (h₁ : ∀ n hn hn', n % 4 ≠ 0 → (E2 (o (n - 1) hn') fun r c => ∑ k ∈ range (n % 4 * K), f (n / 4 * M + r) k * g c k) →
      E2 (o n hn) fun r c => ∑ k ∈ range ((n % 4 + 1) * K), f (n / 4 * M + r) k * g c k) (n : ℕ) (hn : n < N) :
    E2 (o n hn) fun r c => ∑ k ∈ range ((n % 4 + 1) * K), f (n / 4 * M + r) k * g c k := by
  have first n hn (h : n % 4 = 0) : E2 (o n hn) fun r c => ∑ k ∈ range ((n % 4 + 1) * K), f (n / 4 * M + r) k * g c k := by
    rw [h, Nat.zero_add, Nat.one_mul]
    exact h₀ n hn h
  induction n with
  | zero => exact first 0 hn rfl
  | succ n ih =>
    by_cases h : (n + 1) % 4 = 0
    · exact first _ hn h
    · have e := ih (by omega)
      rw [show n % 4 + 1 = (n + 1) % 4 by omega, show n / 4 = (n + 1) / 4 by omega] at e
      exact h₁ (n + 1) hn (by omega) h e

/-- A product given entry by entry. -/
theorem E2.viaDot {n m K : ℕ} {s u : Shape} {v : (⟨2, ![n, m]⟩ : Shape).Idx → EReal} {x : s.Idx → EReal} {y : u.Idx → EReal}
    {li : (⟨2, ![n, m]⟩ : Shape).Idx → Fin K → s.Idx} {ri : (⟨2, ![n, m]⟩ : Shape).Idx → Fin K → u.Idx} {p : ℕ → ℕ → ℕ → EReal}
    (ha : ∀ i, v i = ∑ k : Fin K, x (li i k) * y (ri i k)) (e : ∀ i k, x (li i k) * y (ri i k) = p (i 0).val (i 1).val k.val) :
    E2 v fun r c => ∑ k ∈ range K, p r c k := fun i =>
  (ha i).trans ((Finset.sum_congr rfl fun k _ => e i k).trans (Fin.sum_univ_eq_sum_range (fun k => p (i 0).val (i 1).val k) K))

end Cert.Mlp

end
-- ==== Proof.Mlp.Down.lean ====
module

public import proofs.«01_k».proof.Proof.Mlp.Product
public import proofs.«01_k».proof.Proof.Gen.KernelDownIdeal.Value

/-! The gradient of the weights that lead down from the hidden units: what the kernel leaves. -/

@[expose] public section

noncomputable section

namespace Cert.Mlp.Down

open Finset Idealize.ShloMosaic Idealize.ShloMosaic.TcCoe Idealize.SL.Sem Cert.KernelDownIdeal Cert.KernelDownIdeal.Gen

variable {m : (ℓ : Loc nD τ sig) → Buf (Elt Ideal) ℓ} {c : Dev nD} {f g : ℕ → ℕ → EReal}

/-- The first point of a pair leaves a product in the scratch. -/
theorem scratch (t : Fin cfg0.N) (ht : t.val % 2 = 0) : (outsAt0 m c t.val t.isLt).2 = k0_pay1 (iblk m c 0 t) (iblk m c 1 t) := by
  rw [outsAt0_A m c t ht (by omega) (by omega)]
  unfold sout0_A_0 kernelRun0_A
  dsimp only
  rw [whole_store _ _ hz2]
  simp only [View.readAt_eq_ld, Memref.IsWhole.read_unread, View.ld_unit_zero (S := S2048x1024) hz2, View.ld_unit_zero (S := S2048x2048) hz2]

/-- The second adds its own product and stores the sum. -/
theorem stored (t : Fin cfg0.N) (ht : t.val % 2 = 1) (ht' : t.val - 1 < cfg0.N) : (outsAt0 m c t.val t.isLt).1
    = k0_pay3 (k0_pay2 (k0_pay1 (iblk m c 0 ⟨t.val - 1, ht'⟩) (iblk m c 1 ⟨t.val - 1, ht'⟩)) (iblk m c 0 t) (iblk m c 1 t)) := by
  rw [outsAt0_B m c t (by omega) ht ht, ← scratch ⟨t.val - 1, ht'⟩ (show (t.val - 1) % 2 = 0 by omega)]
  unfold out0_B_2 kernelRun0_B
  dsimp only
  rw [whole_store _ _ hz2]
  sl_unfold_words
  rw [View.readCov_unit_zero (S := S1024x2048) _ hz2]
  simp only [View.readAt_eq_ld, Memref.IsWhole.read_unread, View.ld_unit_zero (S := S2048x1024) hz2,
    View.ld_unit_zero (S := S2048x2048) hz2, View.ld_unit_zero (S := S1024x2048) hz2]
  exact congrArg (fun s => k0_pay3 (k0_pay2 s _ _)) ((Memref.isWhole_whole cc0_scratch0).read_unread _)

/-- The stored sum is the product over both halves. -/
theorem sum {x x' : Vec Ideal S2048x1024 .bf16} {y y' : Vec Ideal S2048x2048 .bf16} {p q : ℕ} (h : Halves f g p q x x' y y') :
    E2 (k0_pay3 (k0_pay2 (k0_pay1 x y) x' y')) fun r c => ∑ k ∈ range 4096, f k (p + r) * g k (q + c) := by
  unfold k0_pay3 k0_pay2 k0_pay1
  simp only [shapeCast_self]
  exact (h.mm00 _ _ _ _).truncf _

theorem idx : ∀ t : Fin cfg0.N, win0_0.index t 0 = t.val % 2 ∧ win0_0.index t 1 = t.val / 2 ∧ win0_1.index t 0 = t.val % 2
    ∧ win0_1.index t 1 = 0 ∧ win0_2.index t 0 = t.val / 2 ∧ win0_2.index t 1 = 0 := by decide +kernel

/-- The result array holds the product of the two arrays, summed over the positions. -/
theorem final (hf : E2 (n := 4096) (m := 8192) (V m c main_v5) f) (hg : E2 (n := 4096) (m := 2048) (V m c main_v6) g) :
    E2 (n := 8192) (m := 2048) ((dats m 0 c).arrAt 2 cfg0.N) fun r c => ∑ k ∈ range 4096, f k r * g k c := by
  have b0 t : E2 (n := 2048) (m := 1024) (iblk m c 0 t) fun r c => f (t.val % 2 * 2048 + r) (t.val / 2 * 1024 + c) :=
    hf.block fun i => have hi := idx t
      ⟨show win0_0.index t 0 * 2048 + 1 * (i 0).val = _ by omega, show win0_0.index t 1 * 1024 + 1 * (i 1).val = _ by omega⟩
  have b1 t : E2 (n := 2048) (m := 2048) (iblk m c 1 t) fun r c => g (t.val % 2 * 2048 + r) (0 + c) :=
    hg.block fun i => have hi := idx t
      ⟨show win0_1.index t 0 * 2048 + 1 * (i 0).val = _ by omega, show win0_1.index t 1 * 2048 + 1 * (i 1).val = _ by omega⟩
  refine (dats m 0 c).arrAt_forall_of_cover 2 (fun i v => v = ∑ k ∈ range 4096, f k (i 0).val * g k (i 1).val) ?_
    fun i => (Value.covered_iff2 i).mpr ⟨Nat.zero_le _, (i 0).isLt, Nat.zero_le _, (i 1).isLt⟩
  intro t h y
  have ht := (flush0_2 t).mp h
  have hi := idx t
  rw [show (((cfg0.win 2).blk t).view.emb y 0).val = t.val / 2 * 1024 + (y 0).val from show win0_2.index t 0 * 1024 + 1 * (y 0).val = _ by omega,
    show (((cfg0.win 2).blk t).view.emb y 1).val = 0 + (y 1).val from show win0_2.index t 1 * 2048 + 1 * (y 1).val = _ by omega]
  refine (cast_eq _ _).trans ((congrFun ((Value.flushed2 m c t).trans (congrArg _ (stored t ht (by omega)))) y).trans ?_)
  exact sum (.of (b0 ⟨t.val - 1, by omega⟩) (b1 ⟨t.val - 1, by omega⟩) (b0 t) (b1 t) (show (t.val - 1) % 2 = 0 by omega) ht
    (show (t.val - 1) / 2 * 1024 = t.val / 2 * 1024 by omega) rfl) y

end Cert.Mlp.Down

end
-- ==== Proof.Mlp.DownClaims.lean ====
module

public import proofs.«01_k».proof.Defs
public import proofs.«01_k».proof.Proof.Mlp.Down
public import proofs.«01_k».proof.Proof.Gen.KernelDown.Frame
public import proofs.«01_k».proof.Proof.Gen.ReferenceDownIdeal.Run
public import proofs.«01_k».proof.Proof.Gen.ReferenceDownIdeal.Read
public import Idealize.ShloMosaic.Lib.Quiescent

/-! The claims of the gradient of the second weight matrix. -/

@[expose] public section

noncomputable section

namespace Cert.Mlp.Down

open Finset Idealize.ShloMosaic Idealize.ShloMosaic.TcCoe Idealize.SL.Sem

theorem frame_reference : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

theorem frames : Cert.quiescent_KernelDown ∧ Cert.quiescent_KernelDownIdeal ∧ Cert.quiescent_ReferenceDownIdeal :=
  ⟨fun m ρ _ => Cert.KernelDown.Gen.frame m ρ, fun m ρ _ => Cert.KernelDownIdeal.Gen.frame m ρ, frame_reference⟩

section Reference
open Cert.ReferenceDownIdeal Cert.ReferenceDownIdeal.Read
variable {x0 : FVec Ideal S4096x8192 .f32} {x2 : FVec Ideal S4096x2048 .f32} {f g : ℕ → ℕ → EReal}

/-- The reference's gradient: the same product. -/
theorem reference (hf : E2 (n := 4096) (m := 8192) (val_main_v4 (F := Ideal) x0) f) (hg : E2 (n := 4096) (m := 2048) x2 g) :
    E2 (n := 8192) (m := 2048) (val_main_v14 (F := Ideal) x0 x2) fun r c => ∑ k ∈ range 4096, f k r * g k c :=
  E2.viaDot (fun i => (val_main_v9_apply (F := Ideal) x0 x2 i).trans (val_main_v8_apply x0 x2 _))
    fun i k => by rw [hf, hg, mul_comm]

end Reference

/-- The kernel and the reference compute the same gradient. -/
theorem algebraic : Cert.algebraic_KernelDownIdeal_ReferenceDownIdeal := by
  intro m ρ m' ρ' _ hagree
  refine ⟨_, Cert.KernelDownIdeal.Value.run_blocks (F := Ideal) m ρ, ?_⟩
  refine (θ_run Cert.ReferenceDownIdeal.defs _ _).mono (fun _ h c => ⟨(h c).1.trans ?_, (h c).2⟩)
    (Cert.ReferenceDownIdeal.Value.run (F := Ideal) m' ρ')
  obtain ⟨e0, e1, e2⟩ := hagree c
  refine (Cert.ReferenceDownIdeal.Read.val_main_v14_eq (F := Ideal) _ _).trans ?_
  rw [e0, e2]
  obtain ⟨f, hf⟩ := exists_E2 (Cert.ReferenceDownIdeal.Read.val_main_v4 (F := Ideal) (m ((c.tc : Thread Cert.KernelDownIdeal.nD Cert.KernelDownIdeal.τ).loc Cert.KernelDownIdeal.main_arg0)))
  obtain ⟨g, hg⟩ := exists_E2 (m ((c.tc : Thread Cert.KernelDownIdeal.nD Cert.KernelDownIdeal.τ).loc Cert.KernelDownIdeal.main_arg2))
  exact funext fun i => (reference hf hg i).trans (final hf hg i).symm

end Cert.Mlp.Down

end
-- ==== Proof.Mlp.Act.lean ====
module

public import proofs.«01_k».proof.Proof.Mlp.Product
public import proofs.«01_k».proof.Proof.Gen.KernelActIdeal.Value

/-! The gradient of the activation's argument: what the kernel leaves. -/

@[expose] public section

noncomputable section

namespace Cert.Mlp.Act

open Finset Idealize.ShloMosaic Idealize.ShloMosaic.TcCoe Idealize.SL.Sem Cert.KernelActIdeal Cert.KernelActIdeal.Gen

/-- One point: the product of two blocks, each entry times the slope. -/
theorem point {x : Vec Ideal S1024x2048 .bf16} {y : Vec Ideal S2048x2048 .bf16} {s : Vec Ideal S1024x2048 .bf16}
    {f g h : ℕ → ℕ → EReal} (hx : E2 x f) (hy : E2 y g) (hs : E2 s h) :
    E2 (out0_3 x y s) fun r c => (∑ k ∈ range 2048, f r k * g c k) * h r c := by
  unfold out0_3
  rw [View.canon_unit_zero hz2]
  simp only [View.ld_unit_zero (S := S1024x2048) hz2, View.ld_unit_zero (S := S2048x2048) hz2]
  unfold k0_pay1
  simp only [shapeCast_self]
  exact ((hx.mm11 hy _ _).mulf (hs.extf _)).truncf _

variable {m : (ℓ : Loc nD τ sig) → Buf (Elt Ideal) ℓ} {c : Dev nD} {f g h : ℕ → ℕ → EReal}

theorem idx : ∀ t : Fin cfg0.N, win0_0.index t 0 = t.val / 4 ∧ win0_0.index t 1 = 0 ∧ win0_1.index t 0 = t.val % 4
    ∧ win0_1.index t 1 = 0 ∧ win0_2.index t 0 = t.val / 4 ∧ win0_2.index t 1 = t.val % 4
    ∧ win0_3.index t 0 = t.val / 4 ∧ win0_3.index t 1 = t.val % 4 := by decide +kernel

theorem cover (i : S4096x8192.Idx) : ∃ t : Fin cfg0.N, (cfg0.win 3).flush t = true ∧ i ∈ ((cfg0.win 3).blk t).view.set := by
  have i0 : (i 0).val < 4096 := (i 0).isLt
  have i1 : (i 1).val < 8192 := (i 1).isLt
  obtain ⟨t, ht⟩ : ∃ t : Fin cfg0.N, t.val = (i 0).val / 1024 * 4 + (i 1).val / 2048 := ⟨⟨_, show _ < 16 by omega⟩, rfl⟩
  have hi := idx t
  refine ⟨t, flush0_3 t, ?_⟩
  show i ∈ ((View.whole main_v8).slice (win0_3.rect t)).set
  rw [View.set_slice_whole, Rect.mem_set_unit]
  intro a
  match a with
  | ⟨0, _⟩ => exact show win0_3.index t 0 * 1024 ≤ (i 0).val ∧ (i 0).val < win0_3.index t 0 * 1024 + 1024 by omega
  | ⟨1, _⟩ => exact show win0_3.index t 1 * 2048 ≤ (i 1).val ∧ (i 1).val < win0_3.index t 1 * 2048 + 2048 by omega

/-- The result array. -/
theorem final (hf : E2 (n := 4096) (m := 2048) (V m c main_v6) f) (hg : E2 (n := 8192) (m := 2048) (V m c main_v7) g)
    (hs : E2 (n := 4096) (m := 8192) (V m c main_v5) h) :
    E2 (n := 4096) (m := 8192) ((dats m 0 c).arrAt 3 cfg0.N) fun r c => (∑ k ∈ range 2048, f r k * g c k) * h r c := by
  refine (dats m 0 c).arrAt_forall_of_cover 3
    (fun i v => v = (∑ k ∈ range 2048, f (i 0).val k * g (i 1).val k) * h (i 0).val (i 1).val) ?_ cover
  intro t _ y
  have hi := idx t
  rw [show (((cfg0.win 3).blk t).view.emb y 0).val = t.val / 4 * 1024 + (y 0).val from show win0_3.index t 0 * 1024 + 1 * (y 0).val = _ by omega,
    show (((cfg0.win 3).blk t).view.emb y 1).val = t.val % 4 * 2048 + (y 1).val from show win0_3.index t 1 * 2048 + 1 * (y 1).val = _ by omega]
  refine (cast_eq _ _).trans ((congrFun (Value.flushed3 m c t) y).trans ?_)
  have b0 : E2 (n := 1024) (m := 2048) (iblk m c 0 t) fun r c => f (t.val / 4 * 1024 + r) (0 + c) :=
    hf.block fun i => ⟨show win0_0.index t 0 * 1024 + 1 * (i 0).val = _ by omega, show win0_0.index t 1 * 2048 + 1 * (i 1).val = _ by omega⟩
  have b1 : E2 (n := 2048) (m := 2048) (iblk m c 1 t) fun r c => g (t.val % 4 * 2048 + r) (0 + c) :=
    hg.block fun i => ⟨show win0_1.index t 0 * 2048 + 1 * (i 0).val = _ by omega, show win0_1.index t 1 * 2048 + 1 * (i 1).val = _ by omega⟩
  have b2 : E2 (n := 1024) (m := 2048) (iblk m c 2 t) fun r c => h (t.val / 4 * 1024 + r) (t.val % 4 * 2048 + c) :=
    hs.block fun i => ⟨show win0_2.index t 0 * 1024 + 1 * (i 0).val = _ by omega, show win0_2.index t 1 * 2048 + 1 * (i 1).val = _ by omega⟩
  refine (point b0 b1 b2 y).trans ?_
  simp only [Nat.zero_add]

end Cert.Mlp.Act

end
-- ==== Proof.Mlp.ActClaims.lean ====
module

public import proofs.«01_k».proof.Defs
public import proofs.«01_k».proof.Proof.Mlp.Act
public import proofs.«01_k».proof.Proof.Gen.KernelAct.Frame
public import proofs.«01_k».proof.Proof.Gen.ReferenceActIdeal.Run
public import proofs.«01_k».proof.Proof.Gen.ReferenceActIdeal.Read
public import Idealize.ShloMosaic.Lib.Quiescent

/-! The claims of the gradient of the activation's argument. -/

@[expose] public section

noncomputable section

namespace Cert.Mlp.Act

open Finset Idealize.ShloMosaic Idealize.ShloMosaic.TcCoe Idealize.SL.Sem

theorem frame_reference : Cert.quiescent_ReferenceActIdeal := fun m ρ _ =>
  (θ_run Cert.ReferenceActIdeal.defs _ _).mono (fun r h => ⟨fun c => (h c).2,
      Idealize.ShloMosaic.sem_eq_zero_of_no_sems (by decide) r.2⟩)
    (Cert.ReferenceActIdeal.Value.run (F := Ideal) m ρ)

theorem frames : Cert.quiescent_KernelAct ∧ Cert.quiescent_KernelActIdeal ∧ Cert.quiescent_ReferenceActIdeal :=
  ⟨fun m ρ _ => Cert.KernelAct.Gen.frame m ρ, fun m ρ _ => Cert.KernelActIdeal.Gen.frame m ρ, frame_reference⟩

/-- Where the argument is not positive the slope is zero, so the choice between the product and zero is the product. -/
theorem choice (a p w : EReal) : Scalar.select (Ideal.cmp .ogt a 0) (p * (w * max a 0)) 0 = p * (w * max a 0) := by
  unfold Scalar.select
  by_cases h : 0 < a
  · rw [if_pos]
    simp [Ideal.cmp, h]
  · rw [max_eq_right (not_lt.mp h), mul_zero, mul_zero, ite_self]

section Reference
open Cert.ReferenceActIdeal Cert.ReferenceActIdeal.Read
variable {x0 : FVec Ideal S4096x8192 .f32} {x1 : FVec Ideal S8192x2048 .f32} {x2 : FVec Ideal S4096x2048 .f32} {f g h : ℕ → ℕ → EReal}

/-- The reference's gradient: the same product, each entry times the same slope. -/
theorem reference (hf : E2 (n := 4096) (m := 2048) x2 f) (hg : E2 (n := 8192) (m := 2048) x1 g)
    (hs : E2 (n := 4096) (m := 8192) (val_main_v6 (F := Ideal) x0) h) :
    E2 (n := 4096) (m := 8192) (val_main_v14 (F := Ideal) x0 x1 x2) fun r c => (∑ k ∈ range 2048, f r k * g c k) * h r c := by
  have e : E2 (n := 4096) (m := 8192) (val_main_v10 (F := Ideal) x1 x2) fun r c => ∑ k ∈ range 2048, f r k * g c k :=
    E2.viaDot (fun i => val_main_v10_apply x1 x2 i) fun i k => by rw [hf, hg]
  intro i
  have z1 := (val_main_v1_apply (F := Ideal) i).trans ((val_main_cst_apply _).trans Ideal.ofBits_zero_f32)
  have z2 := (val_main_v12_apply (F := Ideal) i).trans ((val_main_cst_2_apply _).trans Ideal.ofBits_zero_f32)
  have z3 := (val_main_call0_v0_apply (F := Ideal) i).trans ((val_main_call0_cst_apply _).trans Ideal.ofBits_zero_f32)
  have s : val_main_v6 (F := Ideal) x0 i = val_main_v5 (F := Ideal) i * max (x0 i) 0 := by
    rw [← z3]
    rfl
  have t := choice (x0 i) (val_main_v10 (F := Ideal) x1 x2 i) (val_main_v5 (F := Ideal) i)
  rw [← s] at t
  refine Eq.trans ?_ (t.trans (congrArg₂ (· * ·) (e i) (hs i)))
  show Scalar.select (Ideal.cmp .ogt (x0 i) (val_main_v1 (F := Ideal) i)) _ (val_main_v12 (F := Ideal) i) = _
  rw [z1, z2]
  rfl

end Reference

/-- The kernel and the reference compute the same gradient. -/
theorem algebraic : Cert.algebraic_KernelActIdeal_ReferenceActIdeal := by
  intro m ρ m' ρ' _ hagree
  refine ⟨_, Cert.KernelActIdeal.Value.run_blocks (F := Ideal) m ρ, ?_⟩
  refine (θ_run Cert.ReferenceActIdeal.defs _ _).mono (fun _ h c => ⟨(h c).1.trans ?_, (h c).2⟩)
    (Cert.ReferenceActIdeal.Value.run (F := Ideal) m' ρ')
  obtain ⟨e0, e1, e2⟩ := hagree c
  refine (Cert.ReferenceActIdeal.Read.val_main_v14_eq (F := Ideal) _ _ _).trans ?_
  rw [e0, e1, e2]
  obtain ⟨f, hf⟩ := exists_E2 (m ((c.tc : Thread Cert.KernelActIdeal.nD Cert.KernelActIdeal.τ).loc Cert.KernelActIdeal.main_arg2))
  obtain ⟨g, hg⟩ := exists_E2 (m ((c.tc : Thread Cert.KernelActIdeal.nD Cert.KernelActIdeal.τ).loc Cert.KernelActIdeal.main_arg1))
  obtain ⟨s, hs⟩ := exists_E2 (Cert.ReferenceActIdeal.Read.val_main_v6 (F := Ideal) (m ((c.tc : Thread Cert.KernelActIdeal.nD Cert.KernelActIdeal.τ).loc Cert.KernelActIdeal.main_arg0)))
  exact funext fun i => (reference hf hg hs i).trans (final hf hg hs i).symm

end Cert.Mlp.Act

end
-- ==== Proof.Mlp.Up.lean ====
module

public import proofs.«01_k».proof.Proof.Mlp.Product
public import proofs.«01_k».proof.Proof.Gen.KernelUpIdeal.Value

/-! The gradient of the weights that lead up to the hidden units: what the kernel leaves. -/

@[expose] public section

noncomputable section

namespace Cert.Mlp.Up

open Finset Idealize.ShloMosaic Idealize.ShloMosaic.TcCoe Idealize.SL.Sem Cert.KernelUpIdeal Cert.KernelUpIdeal.Gen

variable {m : (ℓ : Loc nD τ sig) → Buf (Elt Ideal) ℓ} {c : Dev nD} {f g : ℕ → ℕ → EReal}

/-- The first point of a pair leaves a product in the scratch. -/
theorem scratch (t : Fin cfg0.N) (ht : t.val % 2 = 0) : (outsAt0 m c t.val t.isLt).2 = k0_pay1 (iblk m c 0 t) (iblk m c 1 t) := by
  rw [outsAt0_A m c t ht (by omega) (by omega)]
  unfold sout0_A_0 kernelRun0_A
  dsimp only
  rw [whole_store _ _ hz2]
  simp only [View.readAt_eq_ld, Memref.IsWhole.read_unread, View.ld_unit_zero (S := S2048x2048) hz2, View.ld_unit_zero (S := S2048x1024) hz2]

/-- The second adds its own product and stores the sum, as one of the result's eight matrices. -/
theorem stored (t : Fin cfg0.N) (ht : t.val % 2 = 1) (ht' : t.val - 1 < cfg0.N) : (outsAt0 m c t.val t.isLt).1
    = k0_pay3 (k0_pay2 (k0_pay1 (iblk m c 0 ⟨t.val - 1, ht'⟩) (iblk m c 1 ⟨t.val - 1, ht'⟩)) (iblk m c 0 t) (iblk m c 1 t)) := by
  rw [outsAt0_B m c t (by omega) ht ht, ← scratch ⟨t.val - 1, ht'⟩ (show (t.val - 1) % 2 = 0 by omega)]
  unfold out0_B_2 kernelRun0_B
  dsimp only
  rw [whole_store _ _ hz3]
  sl_unfold_words
  rw [View.readCov_unit_zero (S := S2048x1024) _ hz2]
  simp only [View.readAt_eq_ld, Memref.IsWhole.read_unread, View.ld_unit_zero (S := S2048x2048) hz2, View.ld_unit_zero (S := S2048x1024) hz2]
  exact congrArg (fun s => k0_pay3 (k0_pay2 s _ _)) ((Memref.isWhole_whole cc0_scratch0).read_unread _)

/-- The stored sum is the product over both halves. -/
theorem sum {x x' : Vec Ideal S2048x2048 .bf16} {y y' : Vec Ideal S2048x1024 .bf16} {p q : ℕ} (h : Halves f g p q x x' y y') :
    E3 (k0_pay3 (k0_pay2 (k0_pay1 x y) x' y')) fun _ r c => ∑ k ∈ range 4096, f k (p + r) * g k (q + c) := by
  unfold k0_pay3 k0_pay2 k0_pay1
  simp only [shapeCast_self]
  exact ((h.mm00 _ _ _ _).truncf _).to3 _

theorem idx : ∀ t : Fin cfg0.N, win0_0.index t 0 = t.val % 2 ∧ win0_0.index t 1 = 0 ∧ win0_1.index t 0 = t.val % 2
    ∧ win0_1.index t 1 = t.val / 2 ∧ win0_2.index t 0 = t.val / 2 ∧ win0_2.index t 1 = 0 ∧ win0_2.index t 2 = 0 := by decide +kernel

/-- The result array holds the product of the two arrays, summed over the positions, its columns in eight groups. -/
theorem final (hf : E2 (n := 4096) (m := 2048) (V m c main_v0) f) (hg : E2 (n := 4096) (m := 8192) (V m c main_v1) g) :
    E3 (l := 8) (n := 2048) (m := 1024) ((dats m 0 c).arrAt 2 cfg0.N) fun a r c => ∑ k ∈ range 4096, f k r * g k (a * 1024 + c) := by
  have b0 t : E2 (n := 2048) (m := 2048) (iblk m c 0 t) fun r c => f (t.val % 2 * 2048 + r) (0 + c) :=
    hf.block fun i => have hi := idx t
      ⟨show win0_0.index t 0 * 2048 + 1 * (i 0).val = _ by omega, show win0_0.index t 1 * 2048 + 1 * (i 1).val = _ by omega⟩
  have b1 t : E2 (n := 2048) (m := 1024) (iblk m c 1 t) fun r c => g (t.val % 2 * 2048 + r) (t.val / 2 * 1024 + c) :=
    hg.block fun i => have hi := idx t
      ⟨show win0_1.index t 0 * 2048 + 1 * (i 0).val = _ by omega, show win0_1.index t 1 * 1024 + 1 * (i 1).val = _ by omega⟩
  refine (dats m 0 c).arrAt_forall_of_cover 2
    (fun i v => v = ∑ k ∈ range 4096, f k (i 1).val * g k ((i 0).val * 1024 + (i 2).val)) ?_
    fun i => (Value.covered_iff2 i).mpr ⟨Nat.zero_le _, (i 0).isLt, Nat.zero_le _, (i 1).isLt, Nat.zero_le _, (i 2).isLt⟩
  intro t h y
  have ht := (flush0_2 t).mp h
  have hi := idx t
  have y0 : (y 0).val < 1 := (y 0).isLt
  rw [show (((cfg0.win 2).blk t).view.emb y 0).val = t.val / 2 from show win0_2.index t 0 * 1 + 1 * (y 0).val = _ by omega,
    show (((cfg0.win 2).blk t).view.emb y 1).val = 0 + (y 1).val from show win0_2.index t 1 * 2048 + 1 * (y 1).val = _ by omega,
    show (((cfg0.win 2).blk t).view.emb y 2).val = (y 2).val from show win0_2.index t 2 * 1024 + 1 * (y 2).val = _ by omega]
  refine (cast_eq _ _).trans ((congrFun ((Value.flushed2 m c t).trans (congrArg _ (stored t ht (by omega)))) y).trans ?_)
  exact sum (.of (b0 ⟨t.val - 1, by omega⟩) (b1 ⟨t.val - 1, by omega⟩) (b0 t) (b1 t) (show (t.val - 1) % 2 = 0 by omega) ht rfl
    (show (t.val - 1) / 2 * 1024 = t.val / 2 * 1024 by omega)) y

end Cert.Mlp.Up

end
-- ==== Proof.Mlp.UpClaims.lean ====
module

public import proofs.«01_k».proof.Defs
public import proofs.«01_k».proof.Proof.Mlp.Up
public import proofs.«01_k».proof.Proof.Gen.KernelUp.Frame
public import proofs.«01_k».proof.Proof.Gen.ReferenceUpIdeal.Run
public import proofs.«01_k».proof.Proof.Gen.ReferenceUpIdeal.Read
public import Idealize.ShloMosaic.Lib.Quiescent

/-! The claims of the gradient of the first weight matrix. -/

@[expose] public section

noncomputable section

namespace Cert.Mlp.Up

open Finset Idealize.ShloMosaic Idealize.ShloMosaic.TcCoe Idealize.SL.Sem

theorem frame_reference : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

theorem frames : Cert.quiescent_KernelUp ∧ Cert.quiescent_KernelUpIdeal ∧ Cert.quiescent_ReferenceUpIdeal :=
  ⟨fun m ρ _ => Cert.KernelUp.Gen.frame m ρ, fun m ρ _ => Cert.KernelUpIdeal.Gen.frame m ρ, frame_reference⟩

section Reference
open Cert.ReferenceUpIdeal Cert.ReferenceUpIdeal.Read
variable {x0 : FVec Ideal S4096x2048 .f32} {x2 : FVec Ideal S4096x8192 .f32} {f g : ℕ → ℕ → EReal}

/-- The reference's gradient: the same product, in groups of columns. -/
theorem reference (hf : E2 (n := 4096) (m := 2048) x0 f) (hg : E2 (n := 4096) (m := 8192) x2 g) :
    E3 (l := 8) (n := 2048) (m := 1024) (val_main_v6 (F := Ideal) x0 x2) fun a r c => ∑ k ∈ range 4096, f k r * g k (a * 1024 + c) :=
  have e : E2 (n := 2048) (m := 8192) (val_main_v2 (F := Ideal) x0 x2) fun r c => ∑ k ∈ range 4096, f k r * g k c :=
    E2.viaDot (fun i => (val_main_v2_apply (F := Ideal) x0 x2 i).trans (val_main_v1_apply x0 x2 _))
      fun i k => by rw [hf, hg, mul_comm]
  e.groups (φ := .f32) (l := 8) (m := 1024) rfl _ _

end Reference

/-- The kernel and the reference compute the same gradient. -/
theorem algebraic : Cert.algebraic_KernelUpIdeal_ReferenceUpIdeal := by
  intro m ρ m' ρ' _ hagree
  refine ⟨_, Cert.KernelUpIdeal.Value.run_blocks (F := Ideal) m ρ, ?_⟩
  refine (θ_run Cert.ReferenceUpIdeal.defs _ _).mono (fun _ h c => ⟨(h c).1.trans ?_, (h c).2⟩)
    (Cert.ReferenceUpIdeal.Value.run (F := Ideal) m' ρ')
  obtain ⟨e0, e1, e2⟩ := hagree c
  refine (Cert.ReferenceUpIdeal.Read.val_main_v6_eq (F := Ideal) _ _).trans ?_
  rw [e0, e2]
  obtain ⟨f, hf⟩ := exists_E2 (m ((c.tc : Thread Cert.KernelUpIdeal.nD Cert.KernelUpIdeal.τ).loc Cert.KernelUpIdeal.main_arg0))
  obtain ⟨g, hg⟩ := exists_E2 (m ((c.tc : Thread Cert.KernelUpIdeal.nD Cert.KernelUpIdeal.τ).loc Cert.KernelUpIdeal.main_arg2))
  exact funext fun i => (reference hf hg i).trans (final hf hg i).symm

end Cert.Mlp.Up

end
-- ==== Proof.Mlp.Dh2.lean ====
module

public import proofs.«01_k».proof.Proof.Mlp.Product
public import proofs.«01_k».proof.Proof.Gen.KernelDh2Ideal.Value

/-! The gradient that leads back from the hidden units' arguments: what the kernel leaves. -/

@[expose] public section

noncomputable section

namespace Cert.Mlp.Dh2

open Finset Idealize.ShloMosaic Idealize.ShloMosaic.TcCoe Idealize.SL.Sem Cert.KernelDh2Ideal Cert.KernelDh2Ideal.Gen

section Point
variable {x : Vec Ideal S1024x2048 .bf16} {y : Vec Ideal S2x2048x1024 .bf16} {a : Vec Ideal S1024x2048 .f32} {f g : ℕ → ℕ → EReal} {p s : ℕ}

/-- The two matrices of a block of the weights. -/
abbrev left (y : Vec Ideal S2x2048x1024 .bf16) : Vec Ideal S1x2048x1024 .bf16 :=
  View.ld (Val := Elt Ideal) (e' := .bf16) y (Rect.unit (s := S2x2048x1024) ![0, 0, 0] S1x2048x1024.size inb_S2x2048x1024_S1x2048x1024_0_0_0)
abbrev right (y : Vec Ideal S2x2048x1024 .bf16) : Vec Ideal S1x2048x1024 .bf16 :=
  View.ld (Val := Elt Ideal) (e' := .bf16) y (Rect.unit (s := S2x2048x1024) ![1, 0, 0] S1x2048x1024.size inb_S2x2048x1024_S1x2048x1024_1_0_0)

/-- The first of four points: a product over a quarter of the hidden units. -/
theorem pay1 (hx : E2 x fun r k => f (p + r) k) (hy : E3 (l := 2) (n := 2048) (m := 1024) y fun a r c => g r (a * 1024 + c)) :
    E2 (k0_pay1 (left y) (right y) x) fun r c => ∑ k ∈ range 2048, f (p + r) k * g c k := by
  replace hy : E3 (l := 2) (n := 2048) (m := 1024) y fun a r c => g r (0 + (a * 1024 + c)) := by simpa only [Nat.zero_add] using hy
  unfold k0_pay1
  simp only [shapeCast_self]
  exact hx.mm11 ((hy.joined (φ := .bf16) rfl _ _ _ _ _).congr fun r _ c _ => congrArg (g r) (Nat.zero_add c)) _ _

/-- A later point adds the next quarter's. -/
theorem pay2 (ha : E2 a fun r c => ∑ k ∈ range (s * 2048), f (p + r) k * g c k) (hx : E2 x fun r k => f (p + r) (s * 2048 + k))
    (hy : E3 (l := 2) (n := 2048) (m := 1024) y fun a r c => g r (s * 2048 + (a * 1024 + c))) :
    E2 (k0_pay2 a (left y) (right y) x) fun r c => ∑ k ∈ range ((s + 1) * 2048), f (p + r) k * g c k := by
  unfold k0_pay2
  simp only [shapeCast_self]
  exact ha.mm11_next hx (hy.joined (φ := .bf16) rfl _ _ _ _ _) _ _

end Point

variable {m : (ℓ : Loc nD τ sig) → Buf (Elt Ideal) ℓ} {c : Dev nD} {f g : ℕ → ℕ → EReal}

theorem out_first (t : Fin cfg0.N) (ht : t.val % 4 = 0) :
    outsAt0 m c t.val t.isLt = k0_pay1 (left (iblk m c 1 t)) (right (iblk m c 1 t)) (iblk m c 0 t) := by
  rw [outsAt0_A m c t ht (by omega)]
  unfold out0_A_2 kernelRun0_A
  dsimp only
  rw [whole_store _ _ hz2]
  simp only [View.readAt_eq_ld, Memref.IsWhole.read_unread, View.ld_unit_zero (S := S1024x2048) hz2]

theorem out_next (t : Fin cfg0.N) (ht : ¬t.val % 4 = 0) (ht' : t.val - 1 < cfg0.N) : outsAt0 m c t.val t.isLt
    = k0_pay2 (outsAt0 m c (t.val - 1) ht') (left (iblk m c 1 t)) (right (iblk m c 1 t)) (iblk m c 0 t) := by
  rw [outsAt0_B m c t ht (by omega)]
  unfold out0_B_2 kernelRun0_B
  dsimp only
  rw [whole_store _ _ hz2]
  simp only [View.readAt_eq_ld, Memref.IsWhole.read_unread, View.ld_unit_zero (S := S1024x2048) hz2]

theorem idx : ∀ t : Fin cfg0.N, win0_0.index t 0 = t.val / 4 ∧ win0_0.index t 1 = t.val % 4 ∧ win0_1.index t 0 = t.val % 4
    ∧ win0_1.index t 1 = 0 ∧ win0_1.index t 2 = 0 ∧ win0_2.index t 0 = t.val / 4 ∧ win0_2.index t 1 = 0 := by decide +kernel

theorem cover (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  obtain ⟨t, ht⟩ : ∃ t : Fin cfg0.N, t.val = (i 0).val / 1024 * 4 + 3 := ⟨⟨_, show _ < 16 by omega⟩, rfl⟩
  have hi := idx t
  refine ⟨t, (flush0_2 t).mpr (by omega), ?_⟩
  show i ∈ ((View.whole main_v4).slice (win0_2.rect t)).set
  rw [View.set_slice_whole, Rect.mem_set_unit]
  intro a
  match a with
  | ⟨0, _⟩ => exact show win0_2.index t 0 * 1024 ≤ (i 0).val ∧ (i 0).val < win0_2.index t 0 * 1024 + 1024 by omega
  | ⟨1, _⟩ => exact show win0_2.index t 1 * 2048 ≤ (i 1).val ∧ (i 1).val < win0_2.index t 1 * 2048 + 2048 by omega

section Sums
variable (hf : E2 (n := 4096) (m := 8192) (V m c main_v3) f)
  (hg : E3 (l := 8) (n := 2048) (m := 1024) (V m c main_v2) fun a r c => g r (a * 1024 + c))
include hf hg

/-- What the result's block holds after each point. -/
theorem held (n : ℕ) (hn : n < cfg0.N) : E2 (n := 1024) (m := 2048) (outsAt0 m c n hn)
    fun r c => ∑ k ∈ range ((n % 4 + 1) * 2048), f (n / 4 * 1024 + r) k * g c k := by
  have b0 t : E2 (n := 1024) (m := 2048) (iblk m c 0 t) fun r k => f (t.val / 4 * 1024 + r) (t.val % 4 * 2048 + k) :=
    hf.block fun i => have hi := idx t
      ⟨show win0_0.index t 0 * 1024 + 1 * (i 0).val = _ by omega, show win0_0.index t 1 * 2048 + 1 * (i 1).val = _ by omega⟩
  have b1 t : E3 (l := 2) (n := 2048) (m := 1024) (iblk m c 1 t) fun a r k => g r (t.val % 4 * 2048 + (a * 1024 + k)) := fun i => by
    have hi := idx t
    refine ((hg.block (o := t.val % 4 * 2) (p := 0) (q := 0) fun i => ⟨show win0_1.index t 0 * 2 + 1 * (i 0).val = _ by omega,
      show win0_1.index t 1 * 2048 + 1 * (i 1).val = _ by omega, show win0_1.index t 2 * 1024 + 1 * (i 2).val = _ by omega⟩) i).trans ?_
    exact congrArg₂ g (Nat.zero_add _) (by omega)
  refine E2.four_points (fun n hn h => ?_) (fun n hn hn' h e => ?_) n hn
  · have x := b0 ⟨n, hn⟩
    have y := b1 ⟨n, hn⟩
    simp only [h, Nat.zero_mul, Nat.zero_add] at x y
    rw [out_first ⟨n, hn⟩ h]
    exact pay1 x y
  · rw [out_next ⟨n, hn⟩ h hn']
    exact pay2 e (b0 ⟨n, hn⟩) (b1 ⟨n, hn⟩)

/-- The result array holds the rows' products with the weights' rows. -/
theorem final : E2 (n := 4096) (m := 2048) ((dats m 0 c).arrAt 2 cfg0.N) fun r c => ∑ k ∈ range 8192, f r k * g c k := by
  refine (dats m 0 c).arrAt_forall_of_cover 2 (fun i v => v = ∑ k ∈ range 8192, f (i 0).val k * g (i 1).val k) ?_ cover
  intro t h y
  have ht := (flush0_2 t).mp h
  have hi := idx t
  rw [show (((cfg0.win 2).blk t).view.emb y 0).val = t.val / 4 * 1024 + (y 0).val from show win0_2.index t 0 * 1024 + 1 * (y 0).val = _ by omega,
    show (((cfg0.win 2).blk t).view.emb y 1).val = (y 1).val from show win0_2.index t 1 * 2048 + 1 * (y 1).val = _ by omega]
  refine (cast_eq _ _).trans ((congrFun (Value.flushed2 m c t) y).trans ?_)
  have e := held hf hg t.val t.isLt
  rw [ht] at e
  exact e y

end Sums

end Cert.Mlp.Dh2

end
-- ==== Proof.Mlp.Dh2Claims.lean ====
module

public import proofs.«01_k».proof.Defs
public import proofs.«01_k».proof.Proof.Mlp.Dh2
public import proofs.«01_k».proof.Proof.Gen.KernelDh2.Frame
public import proofs.«01_k».proof.Proof.Gen.ReferenceDh2Ideal.Run
public import proofs.«01_k».proof.Proof.Gen.ReferenceDh2Ideal.Read
public import Idealize.ShloMosaic.Lib.Quiescent

/-! The claims of the gradient that leads back from the activation's argument. -/

@[expose] public section

noncomputable section

namespace Cert.Mlp.Dh2

open Finset Idealize.ShloMosaic Idealize.ShloMosaic.TcCoe Idealize.SL.Sem

theorem frame_reference : Cert.quiescent_ReferenceDh2Ideal := fun m ρ _ =>
  (θ_run Cert.ReferenceDh2Ideal.defs _ _).mono (fun r h => ⟨fun c => (h c).2,
      Idealize.ShloMosaic.sem_eq_zero_of_no_sems (by decide) r.2⟩)
    (Cert.ReferenceDh2Ideal.Value.run (F := Ideal) m ρ)

theorem frames : Cert.quiescent_KernelDh2 ∧ Cert.quiescent_KernelDh2Ideal ∧ Cert.quiescent_ReferenceDh2Ideal :=
  ⟨fun m ρ _ => Cert.KernelDh2.Gen.frame m ρ, fun m ρ _ => Cert.KernelDh2Ideal.Gen.frame m ρ, frame_reference⟩

section Reference
open Cert.ReferenceDh2Ideal Cert.ReferenceDh2Ideal.Read

/-- The reference's gradient: the same product. -/
theorem reference {x1 : FVec Ideal S2048x8192 .f32} {x2 : FVec Ideal S4096x8192 .f32} {f g : ℕ → ℕ → EReal}
    (hf : E2 (n := 4096) (m := 8192) x2 f) (hg : E2 (n := 2048) (m := 8192) x1 g) :
    E2 (n := 4096) (m := 2048) (val_main_v3 (F := Ideal) x1 x2) fun r c => ∑ k ∈ range 8192, f r k * g c k :=
  E2.viaDot (fun i => val_main_v3_apply x1 x2 i) fun i k => by rw [hf, hg]

end Reference

/-- The kernel and the reference compute the same gradient. -/
theorem algebraic : Cert.algebraic_KernelDh2Ideal_ReferenceDh2Ideal := by
  intro m ρ m' ρ' _ hagree
  refine ⟨_, Cert.KernelDh2Ideal.Value.run_blocks (F := Ideal) m ρ, ?_⟩
  refine (θ_run Cert.ReferenceDh2Ideal.defs _ _).mono (fun _ h c => ⟨(h c).1.trans ?_, (h c).2⟩)
    (Cert.ReferenceDh2Ideal.Value.run (F := Ideal) m' ρ')
  obtain ⟨e0, e1, e2⟩ := hagree c
  refine (Cert.ReferenceDh2Ideal.Read.val_main_v3_eq (F := Ideal) _ _).trans ?_
  rw [e1, e2]
  obtain ⟨f, hf⟩ := exists_E2 (m ((c.tc : Thread Cert.KernelDh2Ideal.nD Cert.KernelDh2Ideal.τ).loc Cert.KernelDh2Ideal.main_arg2))
  obtain ⟨g, hg⟩ := exists_E2 (m ((c.tc : Thread Cert.KernelDh2Ideal.nD Cert.KernelDh2Ideal.τ).loc Cert.KernelDh2Ideal.main_arg1))
  exact funext fun i => (reference hf hg i).trans (final hf (hg.groups (φ := .f32) (l := 8) (m := 1024) rfl _ _) i).symm

end Cert.Mlp.Dh2

end
-- ==== Proof.Mlp.In.lean ====
module

public import proofs.«01_k».proof.Proof.Mlp.Product
public import proofs.«01_k».proof.Proof.Gen.KernelInIdeal.Value

/-! The gradient of the input projection's weights: what the kernel leaves. -/

@[expose] public section

noncomputable section

namespace Cert.Mlp.In

open Finset Idealize.ShloMosaic Idealize.ShloMosaic.TcCoe Idealize.SL.Sem Cert.KernelInIdeal Cert.KernelInIdeal.Gen

variable {m : (ℓ : Loc nD τ sig) → Buf (Elt Ideal) ℓ} {c : Dev nD} {f g : ℕ → ℕ → EReal}

/-- The first point of a pair leaves a product in the scratch. -/
theorem scratch (t : Fin cfg0.N) (ht : t.val % 2 = 0) : (outsAt0 m c t.val t.isLt).2 = k0_pay1 (iblk m c 0 t) (iblk m c 1 t) := by
  rw [outsAt0_A m c t ht (by omega) (by omega)]
  unfold sout0_A_0 kernelRun0_A
  dsimp only
  rw [whole_store _ _ hz2]
  simp only [View.readAt_eq_ld, Memref.IsWhole.read_unread, View.ld_unit_zero (S := S2048x2048) hz2, View.ld_unit_zero (S := S2048x768) hz2]

/-- The sum over both halves is the product. -/
theorem sum {x x' : Vec Ideal S2048x2048 .bf16} {y y' : Vec Ideal S2048x768 .bf16} {p q : ℕ} (h : Halves f g p q x x' y y') :
    E2 (k0_pay2 (k0_pay1 x y) x' y') fun r c => ∑ k ∈ range 4096, f k (p + r) * g k (q + c) := by
  unfold k0_pay2 k0_pay1
  simp only [shapeCast_self]
  exact h.mm00 _ _ _ _

theorem half3 {x : Vec Ideal S2048x384 .f32} (hx : E2 x f) : E3 (k0_pay3 x) fun _ => f := (hx.truncf _).to3 _

theorem half4 {x : Vec Ideal S2048x384 .f32} (hx : E2 x f) : E3 (k0_pay4 x) fun _ => f := (hx.truncf _).to3 _

/-- The second adds its own product and stores the sum as two of the result's eight matrices, half of the columns in each. -/
theorem stored (t : Fin cfg0.N) (ht : t.val % 2 = 1) (ht' : t.val - 1 < cfg0.N) {h : ℕ → ℕ → EReal}
    (hs : E2 (k0_pay2 (k0_pay1 (iblk m c 0 ⟨t.val - 1, ht'⟩) (iblk m c 1 ⟨t.val - 1, ht'⟩)) (iblk m c 0 t) (iblk m c 1 t)) h) :
    E3 (l := 2) (n := 2048) (m := 384) (outsAt0 m c t.val t.isLt).1 fun a r c => h r (a * 384 + c) := by
  rw [outsAt0_B m c t (by omega) ht ht]
  dsimp only
  rw [← scratch ⟨t.val - 1, ht'⟩ (show (t.val - 1) % 2 = 0 by omega)] at hs
  unfold out0_B_2
  refine fun i => congrFun (stores (Val := Elt Ideal) _ _ (cover0_B_2 (F := Ideal) c (grid0.coords t) (ms0_0 t) (hs0_0 t) (ms0_1 t)
    (hs0_1 t) (ms0_2 t) (hs0_2 t) scM0_0 (Memref.isWhole_whole _) _ _ _ (iblk m c 0 t) (iblk m c 1 t) _) (G := fun i : S2x2048x384.Idx => h (i 1).val ((i 0).val * 384 + (i 2).val)) ?_) i
  unfold kernelRun0_B
  dsimp only
  sl_unfold_words
  simp only [load_part (S := S2048x768) _ hz2]
  simp only [View.readAt_eq_ld, Memref.IsWhole.read_unread, View.ld_unit_zero (S := S2048x2048) hz2,
    View.ld_unit_zero (S := S2048x768) hz2]
  have hs' := (congrArg (fun s => E2 (k0_pay2 s (iblk m c 0 t) (iblk m c 1 t)) h)
    ((Memref.isWhole_whole cc0_scratch0).read_unread (Val := Elt Ideal) (outsAt0 m c (t.val - 1) ht').2)).mpr hs
  refine ⟨fun x => ?_, fun x => ?_, trivial⟩
  · have x0 : (x 0).val < 1 := (x 0).isLt
    refine (half4 (hs'.block (p := 0) (q := 384) fun i => ⟨?_, ?_⟩) x).trans ?_
    · show 0 + 1 * (i 0).val = _
      omega
    · show 384 + 1 * (i 1).val = _
      omega
    · exact congrArg₂ h (show 0 + (x 1).val = 0 + 1 * (x 1).val by omega)
        (show 384 + (x 2).val = (1 + 1 * (x 0).val) * 384 + (0 + 1 * (x 2).val) by omega)
  · have x0 : (x 0).val < 1 := (x 0).isLt
    refine (half3 (hs'.block (p := 0) (q := 0) fun i => ⟨?_, ?_⟩) x).trans ?_
    · show 0 + 1 * (i 0).val = _
      omega
    · show 0 + 1 * (i 1).val = _
      omega
    · exact congrArg₂ h (show 0 + (x 1).val = 0 + 1 * (x 1).val by omega)
        (show 0 + (x 2).val = (0 + 1 * (x 0).val) * 384 + (0 + 1 * (x 2).val) by omega)

theorem idx : ∀ t : Fin cfg0.N, win0_0.index t 0 = t.val % 2 ∧ win0_0.index t 1 = 0 ∧ win0_1.index t 0 = t.val % 2
    ∧ win0_1.index t 1 = t.val / 2 ∧ win0_2.index t 0 = t.val / 2 ∧ win0_2.index t 1 = 0 ∧ win0_2.index t 2 = 0 := by decide +kernel

/-- The result array holds the product of the two arrays, summed over the positions, its columns in eight groups. -/
theorem final (hf : E2 (n := 4096) (m := 2048) (V m c main_v0) f) (hg : E2 (n := 4096) (m := 3072) (V m c main_v1) g) :
    E3 (l := 8) (n := 2048) (m := 384) ((dats m 0 c).arrAt 2 cfg0.N) fun a r c => ∑ k ∈ range 4096, f k r * g k (a * 384 + c) := by
  have b0 t : E2 (n := 2048) (m := 2048) (iblk m c 0 t) fun r c => f (t.val % 2 * 2048 + r) (0 + c) :=
    hf.block fun i => have hi := idx t
      ⟨show win0_0.index t 0 * 2048 + 1 * (i 0).val = _ by omega, show win0_0.index t 1 * 2048 + 1 * (i 1).val = _ by omega⟩
  have b1 t : E2 (n := 2048) (m := 768) (iblk m c 1 t) fun r c => g (t.val % 2 * 2048 + r) (t.val / 2 * 768 + c) :=
    hg.block fun i => have hi := idx t
      ⟨show win0_1.index t 0 * 2048 + 1 * (i 0).val = _ by omega, show win0_1.index t 1 * 768 + 1 * (i 1).val = _ by omega⟩
  refine (dats m 0 c).arrAt_forall_of_cover 2
    (fun i v => v = ∑ k ∈ range 4096, f k (i 1).val * g k ((i 0).val * 384 + (i 2).val)) ?_
    fun i => (Value.covered_iff2 i).mpr ⟨Nat.zero_le _, (i 0).isLt, Nat.zero_le _, (i 1).isLt, Nat.zero_le _, (i 2).isLt⟩
  intro t h y
  have ht := (flush0_2 t).mp h
  have hi := idx t
  have y0 : (y 0).val < 2 := (y 0).isLt
  rw [show (((cfg0.win 2).blk t).view.emb y 0).val = t.val / 2 * 2 + (y 0).val from show win0_2.index t 0 * 2 + 1 * (y 0).val = _ by omega,
    show (((cfg0.win 2).blk t).view.emb y 1).val = 0 + (y 1).val from show win0_2.index t 1 * 2048 + 1 * (y 1).val = _ by omega,
    show (((cfg0.win 2).blk t).view.emb y 2).val = (y 2).val from show win0_2.index t 2 * 384 + 1 * (y 2).val = _ by omega,
    show (t.val / 2 * 2 + (y 0).val) * 384 + (y 2).val = t.val / 2 * 768 + ((y 0).val * 384 + (y 2).val) by omega]
  refine (cast_eq _ _).trans ((congrFun (Value.flushed2 m c t) y).trans ?_)
  exact stored t ht (by omega) (sum (.of (b0 ⟨t.val - 1, by omega⟩) (b1 ⟨t.val - 1, by omega⟩) (b0 t) (b1 t)
    (show (t.val - 1) % 2 = 0 by omega) ht rfl (show (t.val - 1) / 2 * 768 = t.val / 2 * 768 by omega))) y

end Cert.Mlp.In

end
-- ==== Proof.Mlp.InClaims.lean ====
module

public import proofs.«01_k».proof.Defs
public import proofs.«01_k».proof.Proof.Mlp.In
public import proofs.«01_k».proof.Proof.Gen.KernelIn.Frame
public import proofs.«01_k».proof.Proof.Gen.ReferenceInIdeal.Run
public import proofs.«01_k».proof.Proof.Gen.ReferenceInIdeal.Read
public import Idealize.ShloMosaic.Lib.Quiescent

/-! The claims of the gradient of the input weights. -/

@[expose] public section

noncomputable section

namespace Cert.Mlp.In

open Finset Idealize.ShloMosaic Idealize.ShloMosaic.TcCoe Idealize.SL.Sem

theorem frame_reference : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

theorem frames : Cert.quiescent_KernelIn ∧ Cert.quiescent_KernelInIdeal ∧ Cert.quiescent_ReferenceInIdeal :=
  ⟨fun m ρ _ => Cert.KernelIn.Gen.frame m ρ, fun m ρ _ => Cert.KernelInIdeal.Gen.frame m ρ, frame_reference⟩

section Reference
open Cert.ReferenceInIdeal Cert.ReferenceInIdeal.Read
variable {x0 : FVec Ideal S4096x2048 .f32} {x2 : FVec Ideal S4096x3072 .f32} {f g : ℕ → ℕ → EReal}

/-- The reference's gradient: the same product, in groups of columns. -/
theorem reference (hf : E2 (n := 4096) (m := 2048) x0 f) (hg : E2 (n := 4096) (m := 3072) x2 g) :
    E3 (l := 8) (n := 2048) (m := 384) (val_main_v6 (F := Ideal) x0 x2) fun a r c => ∑ k ∈ range 4096, f k r * g k (a * 384 + c) :=
  have e : E2 (n := 2048) (m := 3072) (val_main_v2 (F := Ideal) x0 x2) fun r c => ∑ k ∈ range 4096, f k r * g k c :=
    E2.viaDot (fun i => (val_main_v2_apply (F := Ideal) x0 x2 i).trans (val_main_v1_apply x0 x2 _))
      fun i k => by rw [hf, hg, mul_comm]
  e.groups (φ := .f32) (l := 8) (m := 384) rfl _ _

end Reference

/-- The kernel and the reference compute the same gradient. -/
theorem algebraic : Cert.algebraic_KernelInIdeal_ReferenceInIdeal := by
  intro m ρ m' ρ' _ hagree
  refine ⟨_, Cert.KernelInIdeal.Value.run_blocks (F := Ideal) m ρ, ?_⟩
  refine (θ_run Cert.ReferenceInIdeal.defs _ _).mono (fun _ h c => ⟨(h c).1.trans ?_, (h c).2⟩)
    (Cert.ReferenceInIdeal.Value.run (F := Ideal) m' ρ')
  obtain ⟨e0, e1, e2⟩ := hagree c
  refine (Cert.ReferenceInIdeal.Read.val_main_v6_eq (F := Ideal) _ _).trans ?_
  rw [e0, e2]
  obtain ⟨f, hf⟩ := exists_E2 (m ((c.tc : Thread Cert.KernelInIdeal.nD Cert.KernelInIdeal.τ).loc Cert.KernelInIdeal.main_arg0))
  obtain ⟨g, hg⟩ := exists_E2 (m ((c.tc : Thread Cert.KernelInIdeal.nD Cert.KernelInIdeal.τ).loc Cert.KernelInIdeal.main_arg2))
  exact funext fun i => (reference hf hg i).trans (final hf hg i).symm

end Cert.Mlp.In

end
-- ==== Proof.Mlp.Dh1.lean ====
module

public import proofs.«01_k».proof.Proof.Mlp.Product
public import proofs.«01_k».proof.Proof.Gen.KernelDh1Ideal.Value

/-! The gradient that leads back from the mixers' arguments: what the kernel leaves. -/

@[expose] public section

noncomputable section

namespace Cert.Mlp.Dh1

open Finset Idealize.ShloMosaic Idealize.ShloMosaic.TcCoe Idealize.SL.Sem Cert.KernelDh1Ideal Cert.KernelDh1Ideal.Gen

section Point
variable {x : Vec Ideal S1024x768 .bf16} {y : Vec Ideal S2x2048x384 .bf16} {a : Vec Ideal S1024x2048 .f32} {f g : ℕ → ℕ → EReal} {p s : ℕ}

/-- The two matrices of a block of the weights. -/
abbrev left (y : Vec Ideal S2x2048x384 .bf16) : Vec Ideal S1x2048x384 .bf16 :=
  View.ld (Val := Elt Ideal) (e' := .bf16) y (Rect.unit (s := S2x2048x384) ![0, 0, 0] S1x2048x384.size inb_S2x2048x384_S1x2048x384_0_0_0)
abbrev right (y : Vec Ideal S2x2048x384 .bf16) : Vec Ideal S1x2048x384 .bf16 :=
  View.ld (Val := Elt Ideal) (e' := .bf16) y (Rect.unit (s := S2x2048x384) ![1, 0, 0] S1x2048x384.size inb_S2x2048x384_S1x2048x384_1_0_0)

/-- The first of four points: a product over a quarter of the columns. -/
theorem pay1 (hx : E2 x fun r k => f (p + r) k) (hy : E3 (l := 2) (n := 2048) (m := 384) y fun a r c => g r (a * 384 + c)) :
    E2 (k0_pay1 (left y) (right y) x) fun r c => ∑ k ∈ range 768, f (p + r) k * g c k := by
  replace hy : E3 (l := 2) (n := 2048) (m := 384) y fun a r c => g r (0 + (a * 384 + c)) := by simpa only [Nat.zero_add] using hy
  unfold k0_pay1
  simp only [shapeCast_self]
  exact hx.mm11 ((hy.joined (φ := .bf16) rfl _ _ _ _ _).congr fun r _ c _ => congrArg (g r) (Nat.zero_add c)) _ _

/-- A later point adds the next quarter's. -/
theorem pay2 (ha : E2 a fun r c => ∑ k ∈ range (s * 768), f (p + r) k * g c k) (hx : E2 x fun r k => f (p + r) (s * 768 + k))
    (hy : E3 (l := 2) (n := 2048) (m := 384) y fun a r c => g r (s * 768 + (a * 384 + c))) :
    E2 (k0_pay2 a (left y) (right y) x) fun r c => ∑ k ∈ range ((s + 1) * 768), f (p + r) k * g c k := by
  unfold k0_pay2
  simp only [shapeCast_self]
  exact ha.mm11_next hx (hy.joined (φ := .bf16) rfl _ _ _ _ _) _ _

end Point

variable {m : (ℓ : Loc nD τ sig) → Buf (Elt Ideal) ℓ} {c : Dev nD} {f g : ℕ → ℕ → EReal}

theorem out_first (t : Fin cfg0.N) (ht : t.val % 4 = 0) :
    outsAt0 m c t.val t.isLt = k0_pay1 (left (iblk m c 1 t)) (right (iblk m c 1 t)) (iblk m c 0 t) := by
  rw [outsAt0_A m c t ht (by omega)]
  unfold out0_A_2 kernelRun0_A
  dsimp only
  rw [whole_store _ _ hz2]
  simp only [View.readAt_eq_ld, Memref.IsWhole.read_unread, View.ld_unit_zero (S := S1024x768) hz2]

theorem out_next (t : Fin cfg0.N) (ht : ¬t.val % 4 = 0) (ht' : t.val - 1 < cfg0.N) : outsAt0 m c t.val t.isLt
    = k0_pay2 (outsAt0 m c (t.val - 1) ht') (left (iblk m c 1 t)) (right (iblk m c 1 t)) (iblk m c 0 t) := by
  rw [outsAt0_B m c t ht (by omega)]
  unfold out0_B_2 kernelRun0_B
  dsimp only
  rw [whole_store _ _ hz2]
  simp only [View.readAt_eq_ld, Memref.IsWhole.read_unread, View.ld_unit_zero (S := S1024x768) hz2, View.ld_unit_zero (S := S1024x2048) hz2]

theorem idx : ∀ t : Fin cfg0.N, win0_0.index t 0 = t.val / 4 ∧ win0_0.index t 1 = t.val % 4 ∧ win0_1.index t 0 = t.val % 4
    ∧ win0_1.index t 1 = 0 ∧ win0_1.index t 2 = 0 ∧ win0_2.index t 0 = t.val / 4 ∧ win0_2.index t 1 = 0 := by decide +kernel

theorem cover (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  obtain ⟨t, ht⟩ : ∃ t : Fin cfg0.N, t.val = (i 0).val / 1024 * 4 + 3 := ⟨⟨_, show _ < 16 by omega⟩, rfl⟩
  have hi := idx t
  refine ⟨t, (flush0_2 t).mpr (by omega), ?_⟩
  show i ∈ ((View.whole main_v4).slice (win0_2.rect t)).set
  rw [View.set_slice_whole, Rect.mem_set_unit]
  intro a
  match a with
  | ⟨0, _⟩ => exact show win0_2.index t 0 * 1024 ≤ (i 0).val ∧ (i 0).val < win0_2.index t 0 * 1024 + 1024 by omega
  | ⟨1, _⟩ => exact show win0_2.index t 1 * 2048 ≤ (i 1).val ∧ (i 1).val < win0_2.index t 1 * 2048 + 2048 by omega

section Sums
variable (hf : E2 (n := 4096) (m := 3072) (V m c main_v3) f)
  (hg : E3 (l := 8) (n := 2048) (m := 384) (V m c main_v2) fun a r c => g r (a * 384 + c))
include hf hg

/-- What the result's block holds after each point. -/
theorem held (n : ℕ) (hn : n < cfg0.N) : E2 (n := 1024) (m := 2048) (outsAt0 m c n hn)
    fun r c => ∑ k ∈ range ((n % 4 + 1) * 768), f (n / 4 * 1024 + r) k * g c k := by
  have b0 t : E2 (n := 1024) (m := 768) (iblk m c 0 t) fun r k => f (t.val / 4 * 1024 + r) (t.val % 4 * 768 + k) :=
    hf.block fun i => have hi := idx t
      ⟨show win0_0.index t 0 * 1024 + 1 * (i 0).val = _ by omega, show win0_0.index t 1 * 768 + 1 * (i 1).val = _ by omega⟩
  have b1 t : E3 (l := 2) (n := 2048) (m := 384) (iblk m c 1 t) fun a r k => g r (t.val % 4 * 768 + (a * 384 + k)) := fun i => by
    have hi := idx t
    refine ((hg.block (o := t.val % 4 * 2) (p := 0) (q := 0) fun i => ⟨show win0_1.index t 0 * 2 + 1 * (i 0).val = _ by omega,
      show win0_1.index t 1 * 2048 + 1 * (i 1).val = _ by omega, show win0_1.index t 2 * 384 + 1 * (i 2).val = _ by omega⟩) i).trans ?_
    exact congrArg₂ g (Nat.zero_add _) (by omega)
  refine E2.four_points (fun n hn h => ?_) (fun n hn hn' h e => ?_) n hn
  · have x := b0 ⟨n, hn⟩
    have y := b1 ⟨n, hn⟩
    simp only [h, Nat.zero_mul, Nat.zero_add] at x y
    rw [out_first ⟨n, hn⟩ h]
    exact pay1 x y
  · rw [out_next ⟨n, hn⟩ h hn']
    exact pay2 e (b0 ⟨n, hn⟩) (b1 ⟨n, hn⟩)

/-- The result array holds the rows' products with the weights' rows. -/
theorem final : E2 (n := 4096) (m := 2048) ((dats m 0 c).arrAt 2 cfg0.N) fun r c => ∑ k ∈ range 3072, f r k * g c k := by
  refine (dats m 0 c).arrAt_forall_of_cover 2 (fun i v => v = ∑ k ∈ range 3072, f (i 0).val k * g (i 1).val k) ?_ cover
  intro t h y
  have ht := (flush0_2 t).mp h
  have hi := idx t
  rw [show (((cfg0.win 2).blk t).view.emb y 0).val = t.val / 4 * 1024 + (y 0).val from show win0_2.index t 0 * 1024 + 1 * (y 0).val = _ by omega,
    show (((cfg0.win 2).blk t).view.emb y 1).val = (y 1).val from show win0_2.index t 1 * 2048 + 1 * (y 1).val = _ by omega]
  refine (cast_eq _ _).trans ((congrFun (Value.flushed2 m c t) y).trans ?_)
  have e := held hf hg t.val t.isLt
  rw [ht] at e
  exact e y

end Sums

end Cert.Mlp.Dh1

end
-- ==== Proof.Mlp.Dh1Claims.lean ====
module

public import proofs.«01_k».proof.Defs
public import proofs.«01_k».proof.Proof.Mlp.Dh1
public import proofs.«01_k».proof.Proof.Gen.KernelDh1.Frame
public import proofs.«01_k».proof.Proof.Gen.ReferenceDh1Ideal.Run
public import proofs.«01_k».proof.Proof.Gen.ReferenceDh1Ideal.Read
public import Idealize.ShloMosaic.Lib.Quiescent

/-! The claims of the gradient that leads back from the mixers' arguments. -/

@[expose] public section

noncomputable section

namespace Cert.Mlp.Dh1

open Finset Idealize.ShloMosaic Idealize.ShloMosaic.TcCoe Idealize.SL.Sem

theorem frame_reference : Cert.quiescent_ReferenceDh1Ideal := fun m ρ _ =>
  (θ_run Cert.ReferenceDh1Ideal.defs _ _).mono (fun r h => ⟨fun c => (h c).2,
      Idealize.ShloMosaic.sem_eq_zero_of_no_sems (by decide) r.2⟩)
    (Cert.ReferenceDh1Ideal.Value.run (F := Ideal) m ρ)

theorem frames : Cert.quiescent_KernelDh1 ∧ Cert.quiescent_KernelDh1Ideal ∧ Cert.quiescent_ReferenceDh1Ideal :=
  ⟨fun m ρ _ => Cert.KernelDh1.Gen.frame m ρ, fun m ρ _ => Cert.KernelDh1Ideal.Gen.frame m ρ, frame_reference⟩

section Reference
open Cert.ReferenceDh1Ideal Cert.ReferenceDh1Ideal.Read

/-- The reference's gradient: the same product. -/
theorem reference {x1 : FVec Ideal S2048x3072 .f32} {x2 : FVec Ideal S4096x3072 .f32} {f g : ℕ → ℕ → EReal}
    (hf : E2 (n := 4096) (m := 3072) x2 f) (hg : E2 (n := 2048) (m := 3072) x1 g) :
    E2 (n := 4096) (m := 2048) (val_main_v3 (F := Ideal) x1 x2) fun r c => ∑ k ∈ range 3072, f r k * g c k :=
  E2.viaDot (fun i => val_main_v3_apply x1 x2 i) fun i k => by rw [hf, hg]

end Reference

/-- The kernel and the reference compute the same gradient. -/
theorem algebraic : Cert.algebraic_KernelDh1Ideal_ReferenceDh1Ideal := by
  intro m ρ m' ρ' _ hagree
  refine ⟨_, Cert.KernelDh1Ideal.Value.run_blocks (F := Ideal) m ρ, ?_⟩
  refine (θ_run Cert.ReferenceDh1Ideal.defs _ _).mono (fun _ h c => ⟨(h c).1.trans ?_, (h c).2⟩)
    (Cert.ReferenceDh1Ideal.Value.run (F := Ideal) m' ρ')
  obtain ⟨e0, e1, e2⟩ := hagree c
  refine (Cert.ReferenceDh1Ideal.Read.val_main_v3_eq (F := Ideal) _ _).trans ?_
  rw [e1, e2]
  obtain ⟨f, hf⟩ := exists_E2 (m ((c.tc : Thread Cert.KernelDh1Ideal.nD Cert.KernelDh1Ideal.τ).loc Cert.KernelDh1Ideal.main_arg2))
  obtain ⟨g, hg⟩ := exists_E2 (m ((c.tc : Thread Cert.KernelDh1Ideal.nD Cert.KernelDh1Ideal.τ).loc Cert.KernelDh1Ideal.main_arg1))
  exact funext fun i => (reference hf hg i).trans (final hf (hg.groups (φ := .f32) (l := 8) (m := 384) rfl _ _) i).symm

end Cert.Mlp.Dh1

end
-- ==== Proof.Mlp.Out.lean ====
module

public import proofs.«01_k».proof.Proof.Mlp.Product
public import proofs.«01_k».proof.Proof.Gen.KernelOutIdeal.Value

/-! The gradient of the output projection's weights: what the kernel leaves. -/

@[expose] public section

noncomputable section

namespace Cert.Mlp.Out

open Finset Idealize.ShloMosaic Idealize.ShloMosaic.TcCoe Idealize.SL.Sem Cert.KernelOutIdeal Cert.KernelOutIdeal.Gen

variable {m : (ℓ : Loc nD τ sig) → Buf (Elt Ideal) ℓ} {c : Dev nD} {f g : ℕ → ℕ → EReal}

/-- The first point of a pair leaves a product in the scratch. -/
theorem scratch (t : Fin cfg0.N) (ht : t.val % 2 = 0) : (outsAt0 m c t.val t.isLt).2 = k0_pay1 (iblk m c 0 t) (iblk m c 1 t) := by
  rw [outsAt0_A m c t ht (by omega) (by omega)]
  unfold sout0_A_0 kernelRun0_A
  dsimp only
  rw [whole_store _ _ hz2]
  simp only [View.readAt_eq_ld, Memref.IsWhole.read_unread, View.ld_unit_zero (S := S2048x2048) hz2, View.ld_unit_zero (S := S2048x1024) hz2]

/-- The second adds its own product and stores the sum. -/
theorem stored (t : Fin cfg0.N) (ht : t.val % 2 = 1) (ht' : t.val - 1 < cfg0.N) : (outsAt0 m c t.val t.isLt).1
    = k0_pay3 (k0_pay2 (k0_pay1 (iblk m c 0 ⟨t.val - 1, ht'⟩) (iblk m c 1 ⟨t.val - 1, ht'⟩)) (iblk m c 0 t) (iblk m c 1 t)) := by
  rw [outsAt0_B m c t (by omega) ht ht, ← scratch ⟨t.val - 1, ht'⟩ (show (t.val - 1) % 2 = 0 by omega)]
  unfold out0_B_2 kernelRun0_B
  dsimp only
  rw [whole_store _ _ hz2]
  sl_unfold_words
  rw [View.readCov_unit_zero (S := S2048x1024) _ hz2]
  simp only [View.readAt_eq_ld, Memref.IsWhole.read_unread, View.ld_unit_zero (S := S2048x2048) hz2, View.ld_unit_zero (S := S2048x1024) hz2]
  exact congrArg (fun s => k0_pay3 (k0_pay2 s _ _)) ((Memref.isWhole_whole cc0_scratch0).read_unread _)

/-- The stored sum is the product over both halves. -/
theorem sum {x x' : Vec Ideal S2048x2048 .bf16} {y y' : Vec Ideal S2048x1024 .bf16} {p q : ℕ} (h : Halves f g p q x x' y y') :
    E2 (k0_pay3 (k0_pay2 (k0_pay1 x y) x' y')) fun r c => ∑ k ∈ range 4096, f k (p + r) * g k (q + c) := by
  unfold k0_pay3 k0_pay2 k0_pay1
  simp only [shapeCast_self]
  exact (h.mm00 _ _ _ _).truncf _

theorem idx : ∀ t : Fin cfg0.N, win0_0.index t 0 = t.val % 2 ∧ win0_0.index t 1 = 0 ∧ win0_1.index t 0 = t.val % 2
    ∧ win0_1.index t 1 = t.val / 2 ∧ win0_2.index t 0 = 0 ∧ win0_2.index t 1 = t.val / 2 := by decide +kernel

/-- The result array holds the product of the two arrays, summed over the positions. -/
theorem final (hf : E2 (n := 4096) (m := 2048) (V m c main_v0) f) (hg : E2 (n := 4096) (m := 2048) (V m c main_v1) g) :
    E2 (n := 2048) (m := 2048) ((dats m 0 c).arrAt 2 cfg0.N) fun r c => ∑ k ∈ range 4096, f k r * g k c := by
  have b0 t : E2 (n := 2048) (m := 2048) (iblk m c 0 t) fun r c => f (t.val % 2 * 2048 + r) (0 + c) :=
    hf.block fun i => have hi := idx t
      ⟨show win0_0.index t 0 * 2048 + 1 * (i 0).val = _ by omega, show win0_0.index t 1 * 2048 + 1 * (i 1).val = _ by omega⟩
  have b1 t : E2 (n := 2048) (m := 1024) (iblk m c 1 t) fun r c => g (t.val % 2 * 2048 + r) (t.val / 2 * 1024 + c) :=
    hg.block fun i => have hi := idx t
      ⟨show win0_1.index t 0 * 2048 + 1 * (i 0).val = _ by omega, show win0_1.index t 1 * 1024 + 1 * (i 1).val = _ by omega⟩
  refine (dats m 0 c).arrAt_forall_of_cover 2 (fun i v => v = ∑ k ∈ range 4096, f k (i 0).val * g k (i 1).val) ?_
    fun i => (Value.covered_iff2 i).mpr ⟨Nat.zero_le _, (i 0).isLt, Nat.zero_le _, (i 1).isLt⟩
  intro t h y
  have ht := (flush0_2 t).mp h
  have hi := idx t
  rw [show (((cfg0.win 2).blk t).view.emb y 0).val = 0 + (y 0).val from show win0_2.index t 0 * 2048 + 1 * (y 0).val = _ by omega,
    show (((cfg0.win 2).blk t).view.emb y 1).val = t.val / 2 * 1024 + (y 1).val from show win0_2.index t 1 * 1024 + 1 * (y 1).val = _ by omega]
  refine (cast_eq _ _).trans ((congrFun ((Value.flushed2 m c t).trans (congrArg _ (stored t ht (by omega)))) y).trans ?_)
  exact sum (.of (b0 ⟨t.val - 1, by omega⟩) (b1 ⟨t.val - 1, by omega⟩) (b0 t) (b1 t) (show (t.val - 1) % 2 = 0 by omega) ht rfl
    (show (t.val - 1) / 2 * 1024 = t.val / 2 * 1024 by omega)) y

end Cert.Mlp.Out

end
-- ==== Proof.Mlp.OutClaims.lean ====
module

public import proofs.«01_k».proof.Defs
public import proofs.«01_k».proof.Proof.Mlp.Out
public import proofs.«01_k».proof.Proof.Gen.KernelOut.Frame
public import proofs.«01_k».proof.Proof.Gen.ReferenceOutIdeal.Run
public import proofs.«01_k».proof.Proof.Gen.ReferenceOutIdeal.Read
public import Idealize.ShloMosaic.Lib.Quiescent

/-! The claims of the gradient of the output weights. -/

@[expose] public section

noncomputable section

namespace Cert.Mlp.Out

open Finset Idealize.ShloMosaic Idealize.ShloMosaic.TcCoe Idealize.SL.Sem

theorem frame_reference : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

theorem frames : Cert.quiescent_KernelOut ∧ Cert.quiescent_KernelOutIdeal ∧ Cert.quiescent_ReferenceOutIdeal :=
  ⟨fun m ρ _ => Cert.KernelOut.Gen.frame m ρ, fun m ρ _ => Cert.KernelOutIdeal.Gen.frame m ρ, frame_reference⟩

section Reference
open Cert.ReferenceOutIdeal Cert.ReferenceOutIdeal.Read

/-- The reference's gradient: the same product. -/
theorem reference {x0 x2 : FVec Ideal S4096x2048 .f32} {f g : ℕ → ℕ → EReal} (hf : E2 (n := 4096) (m := 2048) x0 f)
    (hg : E2 (n := 4096) (m := 2048) x2 g) :
    E2 (n := 2048) (m := 2048) (val_main_v4 (F := Ideal) x0 x2) fun r c => ∑ k ∈ range 4096, f k r * g k c :=
  E2.viaDot (fun i => (val_main_v2_apply (F := Ideal) x0 x2 i).trans (val_main_v1_apply x0 x2 _))
    fun i k => by rw [hf, hg, mul_comm]

end Reference

/-- The kernel and the reference compute the same gradient. -/
theorem algebraic : Cert.algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨(h c).1.trans ?_, (h c).2⟩)
    (Cert.ReferenceOutIdeal.Value.run (F := Ideal) m' ρ')
  obtain ⟨e0, e1, e2⟩ := hagree c
  refine (Cert.ReferenceOutIdeal.Read.val_main_v4_eq (F := Ideal) _ _).trans ?_
  rw [e0, e2]
  obtain ⟨f, hf⟩ := exists_E2 (m ((c.tc : Thread Cert.KernelOutIdeal.nD Cert.KernelOutIdeal.τ).loc Cert.KernelOutIdeal.main_arg0))
  obtain ⟨g, hg⟩ := exists_E2 (m ((c.tc : Thread Cert.KernelOutIdeal.nD Cert.KernelOutIdeal.τ).loc Cert.KernelOutIdeal.main_arg2))
  exact funext fun i => (reference hf hg i).trans (final hf hg i).symm

end Cert.Mlp.Out

end
-- ==== Proof.Mlp.Dmixed.lean ====
module

public import proofs.«01_k».proof.Proof.Mlp.Product
public import proofs.«01_k».proof.Proof.Gen.KernelDmixedIdeal.Value

/-! The gradient of the mixers' results: what the kernel leaves. -/

@[expose] public section

noncomputable section

namespace Cert.Mlp.Dmixed

open Finset Idealize.ShloMosaic Idealize.ShloMosaic.TcCoe Idealize.SL.Sem Cert.KernelDmixedIdeal Cert.KernelDmixedIdeal.Gen

/-- One point: the product of two blocks. -/
theorem point {x y : Vec Ideal S1024x2048 .bf16} {f g : ℕ → ℕ → EReal} (hx : E2 x f) (hy : E2 y g) :
    E2 (out0_2 x y) fun r c => ∑ k ∈ range 2048, f r k * g c k := by
  unfold out0_2
  rw [View.canon_unit_zero hz2]
  simp only [View.ld_unit_zero (S := S1024x2048) hz2]
  unfold k0_pay1
  simp only [shapeCast_self]
  exact hx.mm11 hy _ _

variable {m : (ℓ : Loc nD τ sig) → Buf (Elt Ideal) ℓ} {c : Dev nD} {f g : ℕ → ℕ → EReal}

theorem idx : ∀ t : Fin cfg0.N, win0_0.index t 0 = t.val / 2 ∧ win0_0.index t 1 = 0 ∧ win0_1.index t 0 = t.val % 2
    ∧ win0_1.index t 1 = 0 ∧ win0_2.index t 0 = t.val / 2 ∧ win0_2.index t 1 = t.val % 2 := by decide +kernel

theorem cover (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  obtain ⟨t, ht⟩ : ∃ t : Fin cfg0.N, t.val = (i 0).val / 1024 * 2 + (i 1).val / 1024 := ⟨⟨_, show _ < 8 by omega⟩, rfl⟩
  have hi := idx t
  refine ⟨t, flush0_2 t, ?_⟩
  show i ∈ ((View.whole main_v2).slice (win0_2.rect t)).set
  rw [View.set_slice_whole, Rect.mem_set_unit]
  intro a
  match a with
  | ⟨0, _⟩ => exact show win0_2.index t 0 * 1024 ≤ (i 0).val ∧ (i 0).val < win0_2.index t 0 * 1024 + 1024 by omega
  | ⟨1, _⟩ => exact show win0_2.index t 1 * 1024 ≤ (i 1).val ∧ (i 1).val < win0_2.index t 1 * 1024 + 1024 by omega

/-- The result array holds the rows' products with the weights' rows. -/
theorem final (hf : E2 (n := 4096) (m := 2048) (V m c main_v0) f) (hg : E2 (n := 2048) (m := 2048) (V m c main_v1) g) :
    E2 (n := 4096) (m := 2048) ((dats m 0 c).arrAt 2 cfg0.N) fun r c => ∑ k ∈ range 2048, f r k * g c k := by
  refine (dats m 0 c).arrAt_forall_of_cover 2 (fun i v => v = ∑ k ∈ range 2048, f (i 0).val k * g (i 1).val k) ?_ cover
  intro t _ y
  have hi := idx t
  rw [show (((cfg0.win 2).blk t).view.emb y 0).val = t.val / 2 * 1024 + (y 0).val from show win0_2.index t 0 * 1024 + 1 * (y 0).val = _ by omega,
    show (((cfg0.win 2).blk t).view.emb y 1).val = t.val % 2 * 1024 + (y 1).val from show win0_2.index t 1 * 1024 + 1 * (y 1).val = _ by omega]
  refine (cast_eq _ _).trans ((congrFun (Value.flushed2 m c t) y).trans ?_)
  have b0 : E2 (n := 1024) (m := 2048) (iblk m c 0 t) fun r c => f (t.val / 2 * 1024 + r) (0 + c) :=
    hf.block fun i => ⟨show win0_0.index t 0 * 1024 + 1 * (i 0).val = _ by omega, show win0_0.index t 1 * 2048 + 1 * (i 1).val = _ by omega⟩
  have b1 : E2 (n := 1024) (m := 2048) (iblk m c 1 t) fun r c => g (t.val % 2 * 1024 + r) (0 + c) :=
    hg.block fun i => ⟨show win0_1.index t 0 * 1024 + 1 * (i 0).val = _ by omega, show win0_1.index t 1 * 2048 + 1 * (i 1).val = _ by omega⟩
  refine (point b0 b1 y).trans ?_
  simp only [Nat.zero_add]

end Cert.Mlp.Dmixed

end
-- ==== Proof.Mlp.DmixedClaims.lean ====
module

public import proofs.«01_k».proof.Defs
public import proofs.«01_k».proof.Proof.Mlp.Dmixed
public import proofs.«01_k».proof.Proof.Gen.KernelDmixed.Frame
public import proofs.«01_k».proof.Proof.Gen.ReferenceDmixedIdeal.Run
public import proofs.«01_k».proof.Proof.Gen.ReferenceDmixedIdeal.Read
public import Idealize.ShloMosaic.Lib.Quiescent

/-! The claims of the gradient of the mixers' results. -/

@[expose] public section

noncomputable section

namespace Cert.Mlp.Dmixed

open Finset Idealize.ShloMosaic Idealize.ShloMosaic.TcCoe Idealize.SL.Sem

theorem frame_reference : Cert.quiescent_ReferenceDmixedIdeal := fun m ρ _ =>
  (θ_run Cert.ReferenceDmixedIdeal.defs _ _).mono (fun r h => ⟨fun c => (h c).2,
      Idealize.ShloMosaic.sem_eq_zero_of_no_sems (by decide) r.2⟩)
    (Cert.ReferenceDmixedIdeal.Value.run (F := Ideal) m ρ)

theorem frames : Cert.quiescent_KernelDmixed ∧ Cert.quiescent_KernelDmixedIdeal ∧ Cert.quiescent_ReferenceDmixedIdeal :=
  ⟨fun m ρ _ => Cert.KernelDmixed.Gen.frame m ρ, fun m ρ _ => Cert.KernelDmixedIdeal.Gen.frame m ρ, frame_reference⟩

section Reference
open Cert.ReferenceDmixedIdeal Cert.ReferenceDmixedIdeal.Read

/-- The reference's gradient: the same product. -/
theorem reference {x1 : FVec Ideal S2048x2048 .f32} {x2 : FVec Ideal S4096x2048 .f32} {f g : ℕ → ℕ → EReal}
    (hf : E2 (n := 4096) (m := 2048) x2 f) (hg : E2 (n := 2048) (m := 2048) x1 g) :
    E2 (n := 4096) (m := 2048) (val_main_v3 (F := Ideal) x1 x2) fun r c => ∑ k ∈ range 2048, f r k * g c k :=
  E2.viaDot (fun i => val_main_v3_apply x1 x2 i) fun i k => by rw [hf, hg]

end Reference

/-- The kernel and the reference compute the same gradient. -/
theorem algebraic : Cert.algebraic_KernelDmixedIdeal_ReferenceDmixedIdeal := by
  intro m ρ m' ρ' _ hagree
  refine ⟨_, Cert.KernelDmixedIdeal.Value.run_blocks (F := Ideal) m ρ, ?_⟩
  refine (θ_run Cert.ReferenceDmixedIdeal.defs _ _).mono (fun _ h c => ⟨(h c).1.trans ?_, (h c).2⟩)
    (Cert.ReferenceDmixedIdeal.Value.run (F := Ideal) m' ρ')
  obtain ⟨e0, e1, e2⟩ := hagree c
  refine (Cert.ReferenceDmixedIdeal.Read.val_main_v3_eq (F := Ideal) _ _).trans ?_
  rw [e1, e2]
  obtain ⟨f, hf⟩ := exists_E2 (m ((c.tc : Thread Cert.KernelDmixedIdeal.nD Cert.KernelDmixedIdeal.τ).loc Cert.KernelDmixedIdeal.main_arg2))
  obtain ⟨g, hg⟩ := exists_E2 (m ((c.tc : Thread Cert.KernelDmixedIdeal.nD Cert.KernelDmixedIdeal.τ).loc Cert.KernelDmixedIdeal.main_arg1))
  exact funext fun i => (reference hf hg i).trans (final hf hg i).symm

end Cert.Mlp.Dmixed

end
-- ==== Proof.Mlp.Rms.lean ====
module

public import proofs.«01_k».proof.Proof.Mlp.Product
public import proofs.«01_k».proof.Proof.Mixer.Consts
public import Idealize.ShloMosaic.Lib.Pointwise.Reduce

/-! The gradient through a root-mean-square norm over 2048 columns, over the extended reals.

`x` is the norm's input, `q` the gradient of its output times the gain, `e` the gradient that reaches the input besides.
No entry has to be finite. -/

@[expose] public section

noncomputable section

namespace Cert.Mlp

open Idealize.ShloMosaic Idealize.ShloMosaic.TcCoe Finset
open Cert.Mixer (cEps cEps_pos bits_eps bits_zero)

theorem bits_2048 : Ideal.ofBits .f32 0x45000000#32 = ((2048 : ℝ) : EReal) := by
  simp [Ideal.ofBits, Ideal.ieee, -EReal.coe_mul]; norm_num

/-- The mean square of row `r`, with the small number added. -/
def ms (x : ℕ → ℕ → EReal) (r : ℕ) : EReal := Ideal.div (∑ k ∈ range 2048, x r k * x r k) (2048 : ℝ) + (cEps : ℝ)
/-- One over its root. -/
def ir (x : ℕ → ℕ → EReal) (r : ℕ) : EReal := Ideal.rsqrt (ms x r)
/-- The gradient of the norm's input, as the kernel computes it. -/
def back (x q e : ℕ → ℕ → EReal) (r c : ℕ) : EReal :=
  e r c + ir x r * (q r c - x r c * ir x r * Ideal.div (∑ k ∈ range 2048, q r k * (x r k * ir x r)) (2048 : ℝ))

section Ops
variable {n m : ℕ} {φ : FTy} {f g : ℕ → ℕ → EReal}

theorem E2.subf {x y : FVec Ideal ⟨2, ![n, m]⟩ φ} (hx : E2 x f) (hy : E2 y g) : E2 (subf x y) fun r c => f r c - g r c := fun i => by
  show x i - y i = _
  rw [hx i, hy i]
/-- Every entry divided by one number. -/
theorem E2.divc {x : FVec Ideal ⟨2, ![n, m]⟩ φ} (hx : E2 x f) {b : Ideal φ} {v : EReal} (hb : (b : EReal) = v) :
    E2 (divf x (broadcast ⟨2, ![n, m]⟩ b)) fun r c => Ideal.div (f r c) v := fun i => by
  show Ideal.div (x i) b = _
  rw [hx i, hb]
/-- One number added to every entry. -/
theorem E2.addc {x : FVec Ideal ⟨2, ![n, m]⟩ φ} (hx : E2 x f) {b : Ideal φ} {v : EReal} (hb : (b : EReal) = v) :
    E2 (Idealize.ShloMosaic.addf x (broadcast ⟨2, ![n, m]⟩ b)) fun r c => f r c + v := fun i => by
  show x i + b = _
  rw [hx i, hb]
theorem E2.rsqrt {x : FVec Ideal ⟨2, ![n, m]⟩ φ} (hx : E2 x f) : E2 (rsqrt x) fun r c => Ideal.rsqrt (f r c) := fun i => by
  show Ideal.rsqrt (x i) = _
  rw [hx i]
theorem E2.bcastCol {x : FVec Ideal ⟨2, ![n, 1]⟩ φ} (hx : E2 x f) (h) (hn : n ≠ 1) :
    E2 (broadcastTo ⟨2, ![n, m]⟩ x h) fun r _ => f r 0 := fun i => by
  rw [broadcastTo_apply x h i (ix2 (i 0) 0)]
  · exact hx _
  · intro a
    fin_cases a
    · simp [hn]
    · simp
theorem E2.bcastRow {x : FVec Ideal ⟨2, ![1, m]⟩ φ} (hx : E2 x f) (h) (hm : m ≠ 1) :
    E2 (broadcastTo ⟨2, ![n, m]⟩ x h) fun _ c => f 0 c := fun i => by
  rw [broadcastTo_apply x h i (ix2 0 (i 1))]
  · exact hx _
  · intro a
    fin_cases a
    · simp
    · simp [hm]
/-- The row sums, as a column. -/
theorem E2.rowSum {x : FVec Ideal ⟨2, ![n, m]⟩ .f32} (hx : E2 x f) (h hf ha hc) :
    E2 (shapeCast ⟨2, ![n, 1]⟩ (multiReduction .add [1] ⟨1, ![n]⟩ x 0x00000000#32 h hf ha) hc)
      fun r _ => ∑ c ∈ range m, f r c := fun i => by
  rw [shapeCast_apply _ hc i (fun a => match a with | ⟨0, _⟩ => i 0), multiReduction_add_apply, Ideal.reduceAdd_def, Ideal.reduceAdd_r2_a1]
  · exact (Finset.sum_congr rfl fun k _ => hx _).trans (Fin.sum_univ_eq_sum_range (fun k => f (i 0).val k) m)
  · have : (i 1).val = 0 := by have := (i 1).isLt; simp at this; omega
    rw [Shape.rowMajor_val_one, Shape.rowMajor_val_two]
    simp [this]
    try rfl
/-- The column sums, as a row. -/
theorem E2.colSum {x : FVec Ideal ⟨2, ![n, m]⟩ .f32} (hx : E2 x f) (h hf ha hc) :
    E2 (shapeCast ⟨2, ![1, m]⟩ (multiReduction .add [0] ⟨1, ![m]⟩ x 0x00000000#32 h hf ha) hc)
      fun _ c => ∑ r ∈ range n, f r c := fun i => by
  rw [shapeCast_apply _ hc i (fun a => match a with | ⟨0, _⟩ => i 1), multiReduction_add_apply, Ideal.reduceAdd_def, Ideal.reduceAdd_r2_a0]
  · exact (Finset.sum_congr rfl fun k _ => hx _).trans (Fin.sum_univ_eq_sum_range (fun k => f k (i 1).val) n)
  · have : (i 0).val = 0 := by have := (i 0).isLt; simp at this; omega
    rw [Shape.rowMajor_val_one, Shape.rowMajor_val_two]
    simp [this]
    try rfl

end Ops

/-! ### What the kernels' bodies compute -/

section Kernel
variable {n : ℕ} {x q : FVec Ideal ⟨2, ![n, 2048]⟩ .f32} {f g e : ℕ → ℕ → EReal}

/-- One over the root of a row's mean square. -/
theorem E2.inv (hx : E2 x f) (h hf ha hc) :
    E2 (Idealize.ShloMosaic.rsqrt (Idealize.ShloMosaic.addf (divf (shapeCast ⟨2, ![n, 1]⟩ (multiReduction .add [1] ⟨1, ![n]⟩
      (Idealize.ShloMosaic.mulf x x) 0x00000000#32 h hf ha) hc) (broadcast ⟨2, ![n, 1]⟩ (Scalar.ofBits (F := Ideal) .f32 0x45000000#32)))
      (broadcast ⟨2, ![n, 1]⟩ (Scalar.ofBits (F := Ideal) .f32 0x358637BD#32)))) fun r _ => ir f r :=
  ((((hx.mulf hx).rowSum h hf ha hc).divc bits_2048).addc bits_eps).rsqrt

/-- The row's entries times it. -/
theorem E2.normed {v : FVec Ideal ⟨2, ![n, 1]⟩ .f32} (hx : E2 x f) (hv : E2 v fun r _ => ir f r) (h) (hn : n ≠ 1) :
    E2 (Idealize.ShloMosaic.mulf x (broadcastTo ⟨2, ![n, 2048]⟩ v h)) fun r c => f r c * ir f r := hx.mulf (hv.bcastCol h hn)

/-- The gradient of the norm's input, less the gradient that reaches it besides. -/
theorem E2.slope {v : FVec Ideal ⟨2, ![n, 1]⟩ .f32} {w : FVec Ideal ⟨2, ![n, 2048]⟩ .f32} (hq : E2 q g) (hv : E2 v fun r _ => ir f r)
    (hw : E2 w fun r c => f r c * ir f r) (hn : n ≠ 1) (h hf ha hc hb hb') :
    E2 (Idealize.ShloMosaic.mulf (broadcastTo ⟨2, ![n, 2048]⟩ v hb) (Idealize.ShloMosaic.subf q (Idealize.ShloMosaic.mulf w
      (broadcastTo ⟨2, ![n, 2048]⟩ (divf (shapeCast ⟨2, ![n, 1]⟩ (multiReduction .add [1] ⟨1, ![n]⟩ (Idealize.ShloMosaic.mulf q w)
        0x00000000#32 h hf ha) hc) (broadcast ⟨2, ![n, 1]⟩ (Scalar.ofBits (F := Ideal) .f32 0x45000000#32))) hb'))))
      fun r c => ir f r * (g r c - f r c * ir f r * Ideal.div (∑ k ∈ range 2048, g r k * (f r k * ir f r)) (2048 : ℝ)) :=
  (hv.bcastCol hb hn).mulf (hq.subf (hw.mulf ((((hq.mulf hw).rowSum h hf ha hc).divc bits_2048).bcastCol hb' hn)))

/-- A row of sums with one more block's column sums added. -/
theorem E2.gain {w d : FVec Ideal ⟨2, ![n, 2048]⟩ .f32} {a : FVec Ideal ⟨2, ![1, 2048]⟩ .f32} {s : ℕ → EReal} (ha : E2 a fun _ c => s c)
    (hd : E2 d g) (hw : E2 w e) (h hf hh hc hc') :
    E2 (Idealize.ShloMosaic.addf (shapeCast ⟨2, ![1, 2048]⟩ a hc') (shapeCast ⟨2, ![1, 2048]⟩ (multiReduction .add [0] ⟨1, ![2048]⟩
      (Idealize.ShloMosaic.mulf d w) 0x00000000#32 h hf hh) hc)) fun _ c => s c + ∑ r ∈ range n, g r c * e r c :=
  (E2.cast_self (φ := .f32) ha hc').addf ((hd.mulf hw).colSum h hf hh hc)

end Kernel

/-- The rows from `p` on have the same means, -/
theorem ir_rows (x : ℕ → ℕ → EReal) (p r : ℕ) : ir (fun r c => x (p + r) c) r = ir x (p + r) := rfl

/-- and so the same slope. -/
theorem back_rows (x d e : ℕ → ℕ → EReal) (g : ℕ → EReal) (p r c : ℕ) :
    back (fun r c => x (p + r) (0 + c)) (fun r c => d (p + r) (0 + c) * g (0 + c)) (fun r c => e (p + r) (0 + c)) r c
      = back x (fun r c => d r c * g c) e (p + r) c := by
  simp only [back, Nat.zero_add, ir_rows]

/-- A vector, as the one row of a matrix. -/
theorem E2.row {m : ℕ} {φ : FTy} {x : FVec Ideal ⟨1, ![m]⟩ φ} {g : ℕ → EReal} (hx : ∀ i, x i = g (i 0).val) (h) :
    E2 (shapeCast ⟨2, ![1, m]⟩ x h) fun _ c => g c := fun i => by
  have i0 : (i 0).val < 1 := (i 0).isLt
  refine (shapeCast_apply x h i (fun a => match a with | ⟨0, _⟩ => i 1) ?_).trans (hx _)
  rw [Shape.rowMajor_val_one, Shape.rowMajor_val_two]
  show (i 1).val = (i 0).val * m + (i 1).val
  rw [show (i 0).val = 0 by omega, Nat.zero_mul, Nat.zero_add]

/-- Every vector is given by a function of its index. -/
theorem exists_row {m : ℕ} (x : (⟨1, ![m]⟩ : Shape).Idx → EReal) : ∃ g : ℕ → EReal, ∀ i, x i = g (i 0).val :=
  ⟨fun k => if h : k < m then x (fun a => match a with | ⟨0, _⟩ => ⟨k, h⟩) else 0, fun i => by
    have hi : (i 0).val < m := (i 0).isLt
    dsimp only
    rw [dif_pos hi]
    refine congrArg x (funext fun a => ?_)
    fin_cases a
    rfl⟩

/-- What is left by a store of the whole that comes after others. -/
theorem last_store {sig : RefSig} {κ : Kind} {sp : Space} {S : Shape} {e : EltTy} {Val : EltTy → Type} [∀ e, Nonempty (Val e)]
    (v : View sig κ sp S e) (b : v.ty.Contents Val) {off : Fin S.rank → Nat} (h : off = fun _ => 0)
    (inb : ∀ a, off a + S.size a ≤ S.size a) (w : S.Idx → Val e) (L : List (View.Piece Val S e)) :
    v.read Val (v.writes Val b ((⟨Rect.unit off S.size inb, w⟩ : View.Piece Val S e) :: L)) = w := by
  rw [View.read_writes_eq_canon _ _ _ fun y => ⟨_, List.mem_cons_self, View.mem_set_unit_zero h inb y⟩, View.canon_cons_unit_zero h]

/-- The points of a grid, each adding a block of `K` rows to the sums that the one before it left. -/
theorem E2.points {N n m K : ℕ} {f : ℕ → ℕ → EReal} {o : (t : ℕ) → t < N → (⟨2, ![n, m]⟩ : Shape).Idx → EReal}
    (h₀ : ∀ h, E2 (o 0 h) fun _ c => ∑ r ∈ range K, f r c)
    (h₁ : ∀ t h h', t ≠ 0 → (E2 (o (t - 1) h') fun _ c => ∑ r ∈ range (t * K), f r c) →
      E2 (o t h) fun _ c => ∑ r ∈ range (t * K), f r c + ∑ r ∈ range K, f (t * K + r) c) (t : ℕ) (h : t < N) :
    E2 (o t h) fun _ c => ∑ r ∈ range ((t + 1) * K), f r c := by
  induction t with
  | zero =>
    rw [Nat.zero_add, Nat.one_mul]
    exact h₀ h
  | succ t ih =>
    refine (h₁ (t + 1) h (by omega) (by omega) (ih (by omega))).congr fun _ _ c _ => ?_
    rw [Nat.add_mul (t + 1) 1 K, Nat.one_mul, Finset.sum_range_add]

/-! ### The same gradient as autodiff writes it -/

/-- A mean square is infinite, or it is a positive real. -/
theorem ms_cases (x : ℕ → ℕ → EReal) (r : ℕ) : ms x r = ⊤ ∨ ∃ v : ℝ, 0 < v ∧ ms x r = (v : EReal) := by
  have sq : ∀ y : EReal, 0 ≤ y * y := fun y => by
    rcases le_total 0 y with h | h
    · exact mul_nonneg h h
    · exact (neg_mul_neg y y) ▸ mul_nonneg (EReal.neg_nonneg.mpr h) (EReal.neg_nonneg.mpr h)
  have hs : 0 ≤ Ideal.div (∑ k ∈ range 2048, x r k * x r k) (2048 : ℝ) := by
    rw [Ideal.div_coe (by norm_num)]
    exact mul_nonneg (Finset.sum_nonneg fun k _ => sq _) (EReal.coe_nonneg.mpr (by norm_num))
  unfold ms
  generalize Ideal.div (∑ k ∈ range 2048, x r k * x r k) (2048 : ℝ) = s at hs ⊢
  induction s with
  | bot => simp at hs
  | top => exact .inl (EReal.top_add_coe _)
  | coe s => exact .inr ⟨s + cEps, add_pos_of_nonneg_of_pos (EReal.coe_nonneg.mp hs) cEps_pos, (EReal.coe_add _ _).symm⟩

/-- A nonnegative real times a sum is the sum of the products. -/
theorem coe_mul_sum {ρ : ℝ} (h : 0 ≤ ρ) (s : Finset ℕ) (F : ℕ → EReal) : (ρ : EReal) * ∑ k ∈ s, F k = ∑ k ∈ s, (ρ : EReal) * F k := by
  induction s using Finset.induction_on with
  | empty => rw [Finset.sum_empty, Finset.sum_empty, mul_zero]
  | insert a s ha ih => rw [Finset.sum_insert ha, Finset.sum_insert ha, EReal.left_distrib_of_nonneg_of_ne_top (EReal.coe_nonneg.mpr h) (EReal.coe_ne_top _), ih]

theorem twice (y : EReal) : y + y = ((2 : ℝ) : EReal) * y := by
  rw [show (2 : ℝ) = 1 + 1 by norm_num, EReal.coe_add, EReal.right_distrib_of_nonneg (by simp) (by simp), EReal.coe_one, one_mul]

/-- Autodiff's form: the derivative of one over the root, through the mean, reaches each of a square's two factors. -/
theorem back_eq (x q e : ℕ → ℕ → EReal) (r c : ℕ) :
    back x q e r c = e r c + q r c * ir x r
      + x r c * Ideal.div ((∑ k ∈ range 2048, x r k * q r k) * (((-(1 / 2) : ℝ) : EReal) * Ideal.div (ir x r) (ms x r))) (2048 : ℝ)
      + Ideal.div ((∑ k ∈ range 2048, x r k * q r k) * (((-(1 / 2) : ℝ) : EReal) * Ideal.div (ir x r) (ms x r))) (2048 : ℝ) * x r c := by
  unfold back
  rcases ms_cases x r with h | ⟨v, hv, h⟩
  · have hi : ir x r = 0 := by rw [ir, h, Ideal.rsqrt_top]
    have hd : Ideal.div (0 : EReal) ⊤ = 0 := by simp [Ideal.div]
    simp only [hi, h, hd, mul_zero, zero_mul, add_zero, Ideal.div_coe (show (2048 : ℝ) ≠ 0 by norm_num)]
  · have hp := Real.sqrt_pos.mpr hv
    obtain ⟨ρ, hρ, hi, hv'⟩ : ∃ ρ : ℝ, 0 < ρ ∧ ir x r = (ρ : EReal) ∧ ρ * (1 / v) = ρ * ρ * ρ :=
      ⟨(Real.sqrt v)⁻¹, inv_pos.mpr hp, by rw [ir, h, Ideal.rsqrt_coe, if_neg hv.le.not_gt, if_neg hv.ne'], by
        rw [one_div, mul_assoc, ← mul_inv √v √v, Real.mul_self_sqrt hv.le]⟩
    rw [hi, h, Ideal.div_coe hv.ne', Ideal.div_coe (by norm_num), Ideal.div_coe (by norm_num), ← EReal.coe_mul ρ, hv']
    have hT : ∑ k ∈ range 2048, q r k * (x r k * (ρ : EReal)) = (ρ : EReal) * ∑ k ∈ range 2048, x r k * q r k := by
      rw [coe_mul_sum hρ.le]
      exact Finset.sum_congr rfl fun k _ => by ac_rfl
    rw [hT, sub_eq_add_neg, EReal.left_distrib_of_nonneg_of_ne_top (EReal.coe_nonneg.mpr hρ.le) (EReal.coe_ne_top _)]
    generalize ∑ k ∈ range 2048, x r k * q r k = T
    rw [add_assoc, add_assoc, mul_comm (q r c) (ρ : EReal)]
    congr 2
    have half : T * (((-(1 / 2) : ℝ) : EReal) * ((ρ * ρ * ρ : ℝ) : EReal)) * ((1 / 2048 : ℝ) : EReal)
        = (((-(1 / 4096) * (ρ * ρ * ρ) : ℝ)) : EReal) * T := by
      rw [mul_comm T, mul_assoc, mul_comm T, ← mul_assoc, ← EReal.coe_mul, ← EReal.coe_mul]
      congr 2
      ring
    rw [half, mul_comm _ (x r c), twice]
    refine Eq.trans (b := ((-(1 / 2048) * (ρ * ρ * ρ) : ℝ) : EReal) * (x r c * T)) ?_ ?_
    · simp only [EReal.coe_mul, EReal.coe_neg, neg_mul, mul_neg]
      ac_rfl
    · rw [show (-(1 / 2048) * (ρ * ρ * ρ) : ℝ) = 2 * (-(1 / 4096) * (ρ * ρ * ρ)) by ring, EReal.coe_mul 2]
      ac_rfl

end Cert.Mlp

end
-- ==== Proof.Mlp.Norm.lean ====
module

public import proofs.«01_k».proof.Proof.Mlp.Rms
public import proofs.«01_k».proof.Proof.Gen.KernelNormIdeal.Value

/-! The gradient through the mixers' norm: what the kernel leaves. -/

@[expose] public section

noncomputable section

namespace Cert.Mlp.Norm

open Finset Idealize.ShloMosaic Idealize.ShloMosaic.TcCoe Idealize.SL.Sem Cert.KernelNormIdeal Cert.KernelNormIdeal.Gen

/-! ### The body's values -/

section Body
variable {x d e : Vec Ideal S256x2048 .f32} {g s : Vec Ideal S1x2048 .f32} {fx fd fe : ℕ → ℕ → EReal} {fg fs : ℕ → EReal}

theorem column (hx : E2 x fx) : E2 (k0_pay3 x) fun r _ => ir fx r := hx.inv _ _ _ _

theorem normed (hx : E2 x fx) : E2 (k0_pay4 x) fun r c => fx r c * ir fx r := E2.normed hx (column hx) _ (by decide)

/-- The input's gradient. -/
theorem input (hx : E2 x fx) (hd : E2 d fd) (he : E2 e fe) (hg : E2 g fun _ c => fg c) :
    E2 (k0_pay1 e (k0_pay6 x d g)) (back fx (fun r c => fd r c * fg c) fe) :=
  E2.addf (φ := .f32) he (E2.slope (E2.mulf (φ := .f32) hd (E2.bcastRow (φ := .f32) (E2.cast_self (φ := .f32) hg _) _ (by decide))) (column hx) (normed hx) (by decide) _ _ _ _ _ _)

/-- The gain's gradient: a block's sums added to those so far. -/
theorem gain (hs : E2 s fun _ c => fs c) (hx : E2 x fx) (hd : E2 d fd) :
    E2 (k0_pay5 x d s) fun _ c => fs c + ∑ r ∈ range 256, fd r c * (fx r c * ir fx r) := E2.gain hs hd (normed hx) _ _ _ _ _

end Body

variable {m : (ℓ : Loc nD τ sig) → Buf (Elt Ideal) ℓ} {c : Dev nD} {fx fd fe : ℕ → ℕ → EReal} {fg : ℕ → EReal}

/-! ### What a point stores -/

theorem first_row (t : Fin cfg0.N) (ht : t.val % 16 = 0) : (outsAt0 m c t.val t.isLt).2
    = k0_pay5 (iblk m c 1 t) (iblk m c 0 t) (k0_pay2 (F := Ideal)) := by
  rw [outsAt0_A m c t ht]
  unfold out0_A_5 kernelRun0_A
  dsimp only
  rw [last_store _ _ hz2]
  sl_unfold_words
  rw [View.readCov_unit_zero (S := S1x2048) _ hz2]
  simp only [View.readAt_eq_ld, Memref.IsWhole.read_unread, View.ld_unit_zero (S := S256x2048) hz2]

theorem next_row (t : Fin cfg0.N) (ht : t.val % 16 ≠ 0) (ht' : t.val - 1 < cfg0.N) : (outsAt0 m c t.val t.isLt).2
    = k0_pay5 (iblk m c 1 t) (iblk m c 0 t) (outsAt0 m c (t.val - 1) ht').2 := by
  rw [outsAt0_B m c t ht]
  unfold out0_B_5 kernelRun0_B
  dsimp only
  rw [whole_store _ _ hz2]
  simp only [View.readAt_eq_ld, Memref.IsWhole.read_unread, View.ld_unit_zero (S := S256x2048) hz2, View.ld_unit_zero (S := S1x2048) hz2]

theorem stored (t : Fin cfg0.N) : (outsAt0 m c t.val t.isLt).1
    = k0_pay1 (iblk m c 2 t) (k0_pay6 (iblk m c 1 t) (iblk m c 0 t) (iblk m c 3 t)) := by
  by_cases ht : t.val % 16 = 0
  · rw [outsAt0_A m c t ht]
    unfold out0_A_4 kernelRun0_A
    dsimp only
    rw [whole_store _ _ hz2]
    sl_unfold_words
    simp only [View.readAt_eq_ld, Memref.IsWhole.read_unread, View.ld_unit_zero (S := S256x2048) hz2, View.ld_unit_zero (S := S1x2048) hz2]
  · rw [outsAt0_B m c t ht]
    unfold out0_B_4 kernelRun0_B
    dsimp only
    rw [whole_store _ _ hz2]
    sl_unfold_words
    simp only [View.readAt_eq_ld, Memref.IsWhole.read_unread, View.ld_unit_zero (S := S256x2048) hz2, View.ld_unit_zero (S := S1x2048) hz2]

/-! ### The results -/

theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0 := by decide +kernel

section Blocks
variable (t : Fin cfg0.N)

theorem block0 (h : E2 (n := 4096) (m := 2048) (V m c main_arg2) fd) :
    E2 (n := 256) (m := 2048) (iblk m c 0 t) fun r c => fd (t.val * 256 + r) (0 + c) := h.block fun i => have hi := idx t
  ⟨show win0_0.index t 0 * 256 + 1 * (i 0).val = _ by omega, show win0_0.index t 1 * 2048 + 1 * (i 1).val = _ by omega⟩

theorem block1 (h : E2 (n := 4096) (m := 2048) (V m c main_arg0) fx) :
    E2 (n := 256) (m := 2048) (iblk m c 1 t) fun r c => fx (t.val * 256 + r) (0 + c) := h.block fun i => have hi := idx t
  ⟨show win0_1.index t 0 * 256 + 1 * (i 0).val = _ by omega, show win0_1.index t 1 * 2048 + 1 * (i 1).val = _ by omega⟩

theorem block2 (h : E2 (n := 4096) (m := 2048) (V m c main_arg3) fe) :
    E2 (n := 256) (m := 2048) (iblk m c 2 t) fun r c => fe (t.val * 256 + r) (0 + c) := h.block fun i => have hi := idx t
  ⟨show win0_2.index t 0 * 256 + 1 * (i 0).val = _ by omega, show win0_2.index t 1 * 2048 + 1 * (i 1).val = _ by omega⟩

theorem block3 (h : E2 (n := 1) (m := 2048) (V m c main_v0) fun _ c => fg c) :
    E2 (n := 1) (m := 2048) (iblk m c 3 t) fun _ c => fg (0 + c) := (h.block (p := 0) (q := 0) fun i => have hi := idx t
  ⟨show win0_3.index t 0 * 1 + 1 * (i 0).val = _ by omega, show win0_3.index t 1 * 2048 + 1 * (i 1).val = _ by omega⟩)

end Blocks

theorem zeros : E2 (n := 1) (m := 2048) (k0_pay2 (F := Ideal)) fun _ _ => 0 := fun _ => Cert.Mixer.bits_zero

/-- The sums of the blocks so far. -/
theorem held (hx : E2 (n := 4096) (m := 2048) (V m c main_arg0) fx) (hd : E2 (n := 4096) (m := 2048) (V m c main_arg2) fd) (t : ℕ)
    (h : t < cfg0.N) : E2 (n := 1) (m := 2048) (outsAt0 m c t h).2 fun _ c => ∑ r ∈ range ((t + 1) * 256), fd r c * (fx r c * ir fx r) := by
  refine E2.points (N := 16) (n := 1) (K := 256) (f := fun r c => fd r c * (fx r c * ir fx r)) (o := fun t h => (outsAt0 m c t h).2)
    (fun h => ?_) (fun t h h' ht e => ?_) t h
  · rw [first_row ⟨0, h⟩ rfl]
    refine (gain zeros (block1 ⟨0, h⟩ hx) (block0 ⟨0, h⟩ hd)).congr fun _ _ c _ => ?_
    simp only [ir_rows, Nat.zero_add, Nat.zero_mul, zero_add]
  · rw [next_row ⟨t, h⟩ (show t % 16 ≠ 0 by omega) h']
    refine (gain e (block1 ⟨t, h⟩ hx) (block0 ⟨t, h⟩ hd)).congr fun _ _ c _ => ?_
    simp only [ir_rows, Nat.zero_add]

/-- The input's gradient. -/
theorem final4 (hx : E2 (n := 4096) (m := 2048) (V m c main_arg0) fx) (hd : E2 (n := 4096) (m := 2048) (V m c main_arg2) fd)
    (he : E2 (n := 4096) (m := 2048) (V m c main_arg3) fe) (hg : E2 (n := 1) (m := 2048) (V m c main_v0) fun _ c => fg c) :
    E2 (n := 4096) (m := 2048) ((dats m 0 c).arrAt 4 cfg0.N) (back fx (fun r c => fd r c * fg c) fe) := by
  refine (dats m 0 c).arrAt_forall_of_cover 4 (fun i v => v = back fx (fun r c => fd r c * fg c) fe (i 0).val (i 1).val) ?_ fun i => ?_
  · intro t _ y
    have hi := idx t
    rw [show (((cfg0.win 4).blk t).view.emb y 0).val = t.val * 256 + (y 0).val from show win0_4.index t 0 * 256 + 1 * (y 0).val = _ by omega,
      show (((cfg0.win 4).blk t).view.emb y 1).val = (y 1).val from show win0_4.index t 1 * 2048 + 1 * (y 1).val = _ by omega]
    refine (cast_eq _ _).trans ((congrFun ((Value.flushed4 m c t).trans (congrArg _ (stored t))) y).trans ?_)
    exact (input (block1 t hx) (block0 t hd) (block2 t he) (block3 t hg) y).trans (back_rows ..)
  · have i0 : (i 0).val < 4096 := (i 0).isLt
    have i1 : (i 1).val < 2048 := (i 1).isLt
    obtain ⟨t, ht⟩ : ∃ t : Fin cfg0.N, t.val = (i 0).val / 256 := ⟨⟨_, show _ < 16 by omega⟩, rfl⟩
    have hi := idx t
    refine ⟨t, flush0_4 t, ?_⟩
    show i ∈ ((View.whole main_v1_0).slice (win0_4.rect t)).set
    rw [View.set_slice_whole, Rect.mem_set_unit]
    intro a
    match a with
    | ⟨0, _⟩ => exact show win0_4.index t 0 * 256 ≤ (i 0).val ∧ (i 0).val < win0_4.index t 0 * 256 + 256 by omega
    | ⟨1, _⟩ => exact show win0_4.index t 1 * 2048 ≤ (i 1).val ∧ (i 1).val < win0_4.index t 1 * 2048 + 2048 by omega

/-- The gain's gradient. -/
theorem final5 (hx : E2 (n := 4096) (m := 2048) (V m c main_arg0) fx) (hd : E2 (n := 4096) (m := 2048) (V m c main_arg2) fd) :
    E2 (n := 1) (m := 2048) ((dats m 0 c).arrAt 5 cfg0.N) fun _ c => ∑ r ∈ range 4096, fd r c * (fx r c * ir fx r) := by
  refine (dats m 0 c).arrAt_forall_of_cover 5 (fun i v => v = ∑ r ∈ range 4096, fd r (i 1).val * (fx r (i 1).val * ir fx r)) ?_ fun i => ?_
  · intro t h y
    have ht := (flush0_5 t).mp h
    have hi := idx t
    rw [show (((cfg0.win 5).blk t).view.emb y 1).val = (y 1).val from show win0_5.index t 1 * 2048 + 1 * (y 1).val = _ by omega]
    refine (cast_eq _ _).trans ((congrFun (Value.flushed5 m c t) y).trans ((held hx hd t.val t.isLt y).trans ?_))
    rw [show t.val = 15 from by have hN : t.val < 16 := t.isLt; omega]
  · have i0 : (i 0).val < 1 := (i 0).isLt
    have i1 : (i 1).val < 2048 := (i 1).isLt
    obtain ⟨t, ht⟩ : ∃ t : Fin cfg0.N, t.val = 15 := ⟨⟨_, show 15 < 16 by omega⟩, rfl⟩
    have hi := idx t
    refine ⟨t, (flush0_5 t).mpr (by omega), ?_⟩
    show i ∈ ((View.whole main_v1_1).slice (win0_5.rect t)).set
    rw [View.set_slice_whole, Rect.mem_set_unit]
    intro a
    match a with
    | ⟨0, _⟩ => exact show win0_5.index t 0 * 1 ≤ (i 0).val ∧ (i 0).val < win0_5.index t 0 * 1 + 1 by omega
    | ⟨1, _⟩ => exact show win0_5.index t 1 * 2048 ≤ (i 1).val ∧ (i 1).val < win0_5.index t 1 * 2048 + 2048 by omega

end Cert.Mlp.Norm

end
-- ==== Proof.Mlp.NormReference.lean ====
module

public import proofs.«01_k».proof.Proof.Mlp.Rms
public import proofs.«01_k».proof.Proof.Gen.ReferenceNormIdeal.Read

/-! The gradients through a norm that autodiff gives: what the reference's operations hold. -/

@[expose] public section

noncomputable section

namespace Cert.Mlp.NormReference

open Finset Idealize.ShloMosaic Idealize.ShloMosaic.TcCoe Cert.ReferenceNormIdeal Cert.ReferenceNormIdeal.Read
open Cert.Mixer (bits_eps bits_zero bits_neg_half)

variable {x0 x2 x3 : FVec Ideal S4096x2048 .f32} {x1 : FVec Ideal S2048 .f32} {x d e : ℕ → ℕ → EReal} {g : ℕ → EReal}

/-- A sum that starts from the word of zero. -/
theorem from_zero {K : ℕ} {z : EReal} {F : Fin K → EReal} {f : ℕ → EReal} (hz : z = ((0 : ℝ) : EReal)) (h : ∀ k, F k = f k.val) :
    z + ∑ k, F k = ∑ k ∈ range K, f k := by
  rw [hz, EReal.coe_zero, zero_add, ← Fin.sum_univ_eq_sum_range]
  exact Finset.sum_congr rfl fun k _ => h k

theorem squares (hx : E2 (n := 4096) (m := 2048) x0 x) (i : S4096.Idx) :
    val_main_v1 (F := Ideal) x0 i = ∑ k ∈ range 2048, x (i 0).val k * x (i 0).val k :=
  (val_main_v1_apply x0 i).trans (from_zero (f := fun k => x (i 0).val k * x (i 0).val k) bits_zero fun k => congrArg₂ (· * ·) (hx _) (hx _))

theorem mean (hx : E2 (n := 4096) (m := 2048) x0 x) (i : S4096x1.Idx) : val_main_v6 (F := Ideal) x0 i = ms x (i 0).val := by
  rw [val_main_v6_apply, val_main_v4_apply, val_main_v2_apply, squares hx]
  exact congrArg₂ (· + ·) (congrArg (Ideal.div _) bits_2048) bits_eps

theorem root (hx : E2 (n := 4096) (m := 2048) x0 x) (i : S4096x1.Idx) : val_main_v7 (F := Ideal) x0 i = ir x (i 0).val :=
  congrArg Ideal.rsqrt (mean hx i)

theorem normed (hx : E2 (n := 4096) (m := 2048) x0 x) :
    E2 (n := 4096) (m := 2048) (val_main_v12 (F := Ideal) x0) fun r c => x r c * ir x r := fun i => by
  rw [val_main_v12_apply, val_main_v11_apply]
  exact congrArg₂ (· * ·) (hx i) (root hx _)

theorem gained (hd : E2 (n := 4096) (m := 2048) x2 d) (hg : ∀ i, x1 i = g (i 0).val) :
    E2 (n := 4096) (m := 2048) (val_main_v20 (F := Ideal) x1 x2) fun r c => d r c * g c := fun i => by
  rw [val_main_v20_apply, val_main_v19_apply, val_main_v13_apply]
  exact congrArg₂ (· * ·) (hd i) (hg _)

/-- The gain's gradient, as a row. -/
theorem gain (hx : E2 (n := 4096) (m := 2048) x0 x) (hd : E2 (n := 4096) (m := 2048) x2 d) :
    E2 (n := 1) (m := 2048) (val_main_v37 (F := Ideal) x0 x2) fun _ c => ∑ r ∈ range 4096, d r c * (x r c * ir x r) := fun i => by
  rw [val_main_v37_apply, val_main_v21_apply]
  refine (from_zero (f := fun _ => ∑ r ∈ range 4096, d r (i 1).val * (x r (i 1).val * ir x r)) bits_zero fun k => ?_).trans (Finset.sum_range_one _)
  rw [val_main_v18_apply, val_main_v17_apply]
  refine from_zero (f := fun r => d r (i 1).val * (x r (i 1).val * ir x r)) bits_zero fun r => ?_
  rw [val_main_v16_apply]
  refine (congrArg₂ (· * ·) (normed hx _) (hd _)).trans ?_
  have hk : k.val < 1 := k.isLt
  have hi : (i 0).val < 1 := (i 0).isLt
  show x r.val (k.val * 2048 + ((i 0).val * 2048 + (i 1).val)) * ir x r.val * d r.val (k.val * 2048 + ((i 0).val * 2048 + (i 1).val)) = _
  rw [show k.val * 2048 + ((i 0).val * 2048 + (i 1).val) = (i 1).val by omega]
  exact mul_comm _ _

theorem dots (hx : E2 (n := 4096) (m := 2048) x0 x) (hd : E2 (n := 4096) (m := 2048) x2 d) (hg : ∀ i, x1 i = g (i 0).val) (i : S4096.Idx) :
    val_main_v23 (F := Ideal) x0 x1 x2 i = ∑ k ∈ range 2048, x (i 0).val k * (d (i 0).val k * g k) :=
  (val_main_v23_apply x0 x1 x2 i).trans (from_zero (f := fun k => x (i 0).val k * (d (i 0).val k * g k)) bits_zero fun k =>
    congrArg₂ (· * ·) (hx _) (gained hd hg _))

/-- The gradient that goes through the mean, for one of the two factors of a square. -/
def mid (x q : ℕ → ℕ → EReal) (r : ℕ) : EReal :=
  Ideal.div ((∑ k ∈ range 2048, x r k * q r k) * (((-(1 / 2) : ℝ) : EReal) * Ideal.div (ir x r) (ms x r))) (2048 : ℝ)

theorem through (hx : E2 (n := 4096) (m := 2048) x0 x) (hd : E2 (n := 4096) (m := 2048) x2 d) (hg : ∀ i, x1 i = g (i 0).val)
    (i : S4096x2048.Idx) : val_main_v32 (F := Ideal) x0 x1 x2 i = mid x (fun r c => d r c * g c) (i 0).val := by
  rw [val_main_v32_apply, val_main_v31_apply]
  refine (from_zero (f := fun _ => mid x (fun r c => d r c * g c) (i 0).val) bits_zero fun k => ?_).trans (Finset.sum_range_one _)
  rw [val_main_v30_apply, val_main_v28_apply, val_main_v24_apply, val_main_v10_apply, val_main_v8_apply, dots hx hd hg, root hx, mean hx]
  refine congrArg₂ Ideal.div ?_ bits_2048
  show _ * (Ideal.ofBits .f32 0xBF000000#32 * Ideal.div (ir x (i 0).val) (ms x (i 0).val)) = _
  rw [bits_neg_half]
  have hk : k.val < 1 := k.isLt
  show (∑ k' ∈ range 2048, x ((i 0).val * 1 + k.val) k' * (d ((i 0).val * 1 + k.val) k' * g k')) * _ = _
  rw [show (i 0).val * 1 + k.val = (i 0).val by omega]

/-- The input's gradient. -/
theorem input (hx : E2 (n := 4096) (m := 2048) x0 x) (hd : E2 (n := 4096) (m := 2048) x2 d) (he : E2 (n := 4096) (m := 2048) x3 e)
    (hg : ∀ i, x1 i = g (i 0).val) : E2 (n := 4096) (m := 2048) (val_main_v36 (F := Ideal) x0 x1 x2 x3) (back x (fun r c => d r c * g c) e) :=
  fun i => by
  rw [val_main_v36_apply, val_main_v34_apply, val_main_v27_apply, val_main_v26_apply, val_main_v25_apply, val_main_v33_apply, val_main_v35_apply,
    through hx hd hg i, gained hd hg i, root hx, hx i, he i]
  exact (back_eq x (fun r c => d r c * g c) e (i 0).val (i 1).val).symm

end Cert.Mlp.NormReference

end
-- ==== Proof.Mlp.NormClaims.lean ====
module

public import proofs.«01_k».proof.Defs
public import proofs.«01_k».proof.Proof.Mlp.Norm
public import proofs.«01_k».proof.Proof.Mlp.NormReference
public import proofs.«01_k».proof.Proof.Gen.KernelNorm.Frame
public import proofs.«01_k».proof.Proof.Gen.ReferenceNormIdeal.Run
public import Idealize.ShloMosaic.Lib.Quiescent

/-! The claims of the gradient through the mixers' norm. -/

@[expose] public section

noncomputable section

namespace Cert.Mlp.Norm

open Finset Idealize.ShloMosaic Idealize.ShloMosaic.TcCoe Idealize.SL.Sem

theorem frame_reference : Cert.quiescent_ReferenceNormIdeal := fun m ρ _ =>
  (θ_run Cert.ReferenceNormIdeal.defs _ _).mono (fun r h => ⟨fun c => (h c).2.2,
      Idealize.ShloMosaic.sem_eq_zero_of_no_sems (by decide) r.2⟩)
    (Cert.ReferenceNormIdeal.Value.run (F := Ideal) m ρ)

theorem frames : Cert.quiescent_KernelNorm ∧ Cert.quiescent_KernelNormIdeal ∧ Cert.quiescent_ReferenceNormIdeal :=
  ⟨fun m ρ _ => Cert.KernelNorm.Gen.frame m ρ, fun m ρ _ => Cert.KernelNormIdeal.Gen.frame m ρ, frame_reference⟩

/-- The kernel and the reference compute the same two gradients. -/
theorem algebraic : Cert.algebraic_KernelNormIdeal_ReferenceNormIdeal := by
  intro m ρ m' ρ' _ hagree
  refine ⟨_, _, Cert.KernelNormIdeal.Value.run_blocks (F := Ideal) m ρ, ?_⟩
  refine (θ_run Cert.ReferenceNormIdeal.defs _ _).mono (fun _ h c => ?_) (Cert.ReferenceNormIdeal.Value.run (F := Ideal) m' ρ')
  obtain ⟨e0, e1, e2, e3⟩ := hagree c
  obtain ⟨x, hx⟩ := exists_E2 (m ((c.tc : Thread Cert.KernelNormIdeal.nD Cert.KernelNormIdeal.τ).loc Cert.KernelNormIdeal.main_arg0))
  obtain ⟨g, hg⟩ := exists_row (m ((c.tc : Thread Cert.KernelNormIdeal.nD Cert.KernelNormIdeal.τ).loc Cert.KernelNormIdeal.main_arg1))
  obtain ⟨d, hd⟩ := exists_E2 (m ((c.tc : Thread Cert.KernelNormIdeal.nD Cert.KernelNormIdeal.τ).loc Cert.KernelNormIdeal.main_arg2))
  obtain ⟨e, he⟩ := exists_E2 (m ((c.tc : Thread Cert.KernelNormIdeal.nD Cert.KernelNormIdeal.τ).loc Cert.KernelNormIdeal.main_arg3))
  refine ⟨(h c).1.trans ?_, (h c).2.1.trans ?_, (h c).2.2⟩
  · refine (Cert.ReferenceNormIdeal.Read.val_main_v36_eq (F := Ideal) _ _ _ _).trans ?_
    rw [e0, e1, e2, e3]
    exact funext fun i => (NormReference.input hx hd he hg i).trans (final4 hx hd he (E2.row (φ := .f32) hg _) i).symm
  · refine (Cert.ReferenceNormIdeal.Read.val_main_v37_eq (F := Ideal) _ _).trans ?_
    rw [e0, e2]
    exact funext fun i => (NormReference.gain hx hd i).trans (final5 hx hd i).symm

end Cert.Mlp.Norm

end
-- ==== Proof.Mlp.Ffn.lean ====
module

public import proofs.«01_k».proof.Proof.Mlp.Norm
public import proofs.«01_k».proof.Proof.Gen.KernelFfnIdeal.Value

/-! The gradient through the feed-forward's norm: what the kernel leaves. Its body computes what the mixers' norm's body does, and stores the
input's gradient a second time, rounded. -/

@[expose] public section

noncomputable section

namespace Cert.Mlp.Ffn

open Finset Idealize.ShloMosaic Idealize.ShloMosaic.TcCoe Idealize.SL.Sem Cert.KernelFfnIdeal Cert.KernelFfnIdeal.Gen

/-! ### The body's values -/

section Body
variable {x d e : Vec Ideal S256x2048 .f32} {g s : Vec Ideal S1x2048 .f32} {fx fd fe : ℕ → ℕ → EReal} {fg fs : ℕ → EReal}

theorem input (hx : E2 x fx) (hd : E2 d fd) (he : E2 e fe) (hg : E2 g fun _ c => fg c) :
    E2 (k0_pay1 e (k0_pay7 x d g)) (back fx (fun r c => fd r c * fg c) fe) := Norm.input hx hd he hg

theorem gain (hs : E2 s fun _ c => fs c) (hx : E2 x fx) (hd : E2 d fd) :
    E2 (k0_pay6 x d s) fun _ c => fs c + ∑ r ∈ range 256, fd r c * (fx r c * ir fx r) := Norm.gain hs hx hd

end Body

variable {m : (ℓ : Loc nD τ sig) → Buf (Elt Ideal) ℓ} {c : Dev nD} {fx fd fe : ℕ → ℕ → EReal} {fg : ℕ → EReal}

/-! ### What a point stores -/

theorem first_row (t : Fin cfg0.N) (ht : t.val % 16 = 0) : (outsAt0 m c t.val t.isLt).2.2
    = k0_pay6 (iblk m c 1 t) (iblk m c 0 t) (k0_pay3 (F := Ideal)) := by
  rw [outsAt0_A m c t ht]
  unfold out0_A_6 kernelRun0_A
  dsimp only
  rw [last_store _ _ hz2]
  sl_unfold_words
  rw [View.readCov_unit_zero (S := S1x2048) _ hz2]
  simp only [View.readAt_eq_ld, Memref.IsWhole.read_unread, View.ld_unit_zero (S := S256x2048) hz2]

theorem next_row (t : Fin cfg0.N) (ht : t.val % 16 ≠ 0) (ht' : t.val - 1 < cfg0.N) : (outsAt0 m c t.val t.isLt).2.2
    = k0_pay6 (iblk m c 1 t) (iblk m c 0 t) (outsAt0 m c (t.val - 1) ht').2.2 := by
  rw [outsAt0_B m c t ht]
  unfold out0_B_6 kernelRun0_B
  dsimp only
  rw [whole_store _ _ hz2]
  simp only [View.readAt_eq_ld, Memref.IsWhole.read_unread, View.ld_unit_zero (S := S256x2048) hz2, View.ld_unit_zero (S := S1x2048) hz2]

theorem stored (t : Fin cfg0.N) :
    (outsAt0 m c t.val t.isLt).1 = k0_pay1 (iblk m c 2 t) (k0_pay7 (iblk m c 1 t) (iblk m c 0 t) (iblk m c 3 t))
    ∧ (outsAt0 m c t.val t.isLt).2.1 = k0_pay2 (iblk m c 2 t) (k0_pay7 (iblk m c 1 t) (iblk m c 0 t) (iblk m c 3 t)) := by
  by_cases ht : t.val % 16 = 0
  · rw [outsAt0_A m c t ht]
    unfold out0_A_4 out0_A_5 kernelRun0_A
    dsimp only
    rw [whole_store _ _ hz2, whole_store _ _ hz2]
    sl_unfold_words
    simp only [View.readAt_eq_ld, Memref.IsWhole.read_unread, View.ld_unit_zero (S := S256x2048) hz2, View.ld_unit_zero (S := S1x2048) hz2,
      and_self]
  · rw [outsAt0_B m c t ht]
    unfold out0_B_4 out0_B_5 kernelRun0_B
    dsimp only
    rw [whole_store _ _ hz2, whole_store _ _ hz2]
    sl_unfold_words
    simp only [View.readAt_eq_ld, Memref.IsWhole.read_unread, View.ld_unit_zero (S := S256x2048) hz2, View.ld_unit_zero (S := S1x2048) hz2,
      and_self]

/-! ### The results -/

theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = 0 ∧ win0_6.index t 1 = 0 := by decide +kernel

section Blocks
variable (t : Fin cfg0.N)

theorem block0 (h : E2 (n := 4096) (m := 2048) (V m c main_arg2) fd) :
    E2 (n := 256) (m := 2048) (iblk m c 0 t) fun r c => fd (t.val * 256 + r) (0 + c) := h.block fun i => have hi := idx t
  ⟨show win0_0.index t 0 * 256 + 1 * (i 0).val = _ by omega, show win0_0.index t 1 * 2048 + 1 * (i 1).val = _ by omega⟩

theorem block1 (h : E2 (n := 4096) (m := 2048) (V m c main_arg0) fx) :
    E2 (n := 256) (m := 2048) (iblk m c 1 t) fun r c => fx (t.val * 256 + r) (0 + c) := h.block fun i => have hi := idx t
  ⟨show win0_1.index t 0 * 256 + 1 * (i 0).val = _ by omega, show win0_1.index t 1 * 2048 + 1 * (i 1).val = _ by omega⟩

theorem point (hx : E2 (n := 4096) (m := 2048) (V m c main_arg0) fx) (hd : E2 (n := 4096) (m := 2048) (V m c main_arg2) fd)
    (he : E2 (n := 4096) (m := 2048) (V m c main_arg3) fe) (hg : E2 (n := 1) (m := 2048) (V m c main_v0) fun _ c => fg c) :
    E2 (n := 256) (m := 2048) (k0_pay1 (iblk m c 2 t) (k0_pay7 (iblk m c 1 t) (iblk m c 0 t) (iblk m c 3 t)))
      fun r c => back fx (fun r c => fd r c * fg c) fe (t.val * 256 + r) c := by
  have hi := idx t
  have b2 : E2 (n := 256) (m := 2048) (iblk m c 2 t) fun r c => fe (t.val * 256 + r) (0 + c) := he.block fun i =>
    ⟨show win0_2.index t 0 * 256 + 1 * (i 0).val = _ by omega, show win0_2.index t 1 * 2048 + 1 * (i 1).val = _ by omega⟩
  have b3 : E2 (n := 1) (m := 2048) (iblk m c 3 t) fun _ c => fg (0 + c) := hg.block (p := 0) (q := 0) fun i =>
    ⟨show win0_3.index t 0 * 1 + 1 * (i 0).val = _ by omega, show win0_3.index t 1 * 2048 + 1 * (i 1).val = _ by omega⟩
  exact (input (block1 t hx) (block0 t hd) b2 b3).congr fun _ _ _ _ => back_rows ..

end Blocks

/-- The sums of the blocks so far. -/
theorem held (hx : E2 (n := 4096) (m := 2048) (V m c main_arg0) fx) (hd : E2 (n := 4096) (m := 2048) (V m c main_arg2) fd) (t : ℕ)
    (h : t < cfg0.N) : E2 (n := 1) (m := 2048) (outsAt0 m c t h).2.2 fun _ c => ∑ r ∈ range ((t + 1) * 256), fd r c * (fx r c * ir fx r) := by
  refine E2.points (N := 16) (n := 1) (K := 256) (f := fun r c => fd r c * (fx r c * ir fx r)) (o := fun t h => (outsAt0 m c t h).2.2)
    (fun h => ?_) (fun t h h' ht e => ?_) t h
  · rw [first_row ⟨0, h⟩ rfl]
    refine (gain Norm.zeros (block1 ⟨0, h⟩ hx) (block0 ⟨0, h⟩ hd)).congr fun _ _ c _ => ?_
    simp only [ir_rows, Nat.zero_add, Nat.zero_mul, zero_add]
  · rw [next_row ⟨t, h⟩ (show t % 16 ≠ 0 by omega) h']
    refine (gain e (block1 ⟨t, h⟩ hx) (block0 ⟨t, h⟩ hd)).congr fun _ _ c _ => ?_
    simp only [ir_rows, Nat.zero_add]

/-- Blocks of 256 whole rows cover the rows. -/
theorem rows (i : S4096x2048.Idx) : ∃ t : Fin cfg0.N, ∀ a : Fin 2,
    (![t.val * 256, 0] : Fin 2 → ℕ) a ≤ (i a).val ∧ (i a).val < (![t.val * 256, 0] : Fin 2 → ℕ) a + S256x2048.size a := by
  have i0 : (i 0).val < 4096 := (i 0).isLt
  have i1 : (i 1).val < 2048 := (i 1).isLt
  obtain ⟨t, ht⟩ : ∃ t : Fin cfg0.N, t.val = (i 0).val / 256 := ⟨⟨_, show _ < 16 by omega⟩, rfl⟩
  refine ⟨t, fun a => ?_⟩
  match a with
  | ⟨0, _⟩ => exact show t.val * 256 ≤ (i 0).val ∧ (i 0).val < t.val * 256 + 256 by omega
  | ⟨1, _⟩ => exact show 0 ≤ (i 1).val ∧ (i 1).val < 0 + 2048 by omega

section Input
variable (hx : E2 (n := 4096) (m := 2048) (V m c main_arg0) fx) (hd : E2 (n := 4096) (m := 2048) (V m c main_arg2) fd)
  (he : E2 (n := 4096) (m := 2048) (V m c main_arg3) fe) (hg : E2 (n := 1) (m := 2048) (V m c main_v0) fun _ c => fg c)
include hx hd he hg

/-- The input's gradient, -/
theorem final4 : E2 (n := 4096) (m := 2048) ((dats m 0 c).arrAt 4 cfg0.N) (back fx (fun r c => fd r c * fg c) fe) := by
  refine (dats m 0 c).arrAt_forall_of_cover 4 (fun i v => v = back fx (fun r c => fd r c * fg c) fe (i 0).val (i 1).val) ?_ fun i => ?_
  · intro t _ y
    have hi := idx t
    rw [show (((cfg0.win 4).blk t).view.emb y 0).val = t.val * 256 + (y 0).val from show win0_4.index t 0 * 256 + 1 * (y 0).val = _ by omega,
      show (((cfg0.win 4).blk t).view.emb y 1).val = (y 1).val from show win0_4.index t 1 * 2048 + 1 * (y 1).val = _ by omega]
    exact (cast_eq _ _).trans ((congrFun ((Value.flushed4 m c t).trans (congrArg _ (stored t).1)) y).trans (point t hx hd he hg y))
  · obtain ⟨t, ht⟩ := rows i
    have hi := idx t
    refine ⟨t, flush0_4 t, ?_⟩
    show i ∈ ((View.whole main_v1_0).slice (win0_4.rect t)).set
    rw [View.set_slice_whole, Rect.mem_set_unit]
    intro a
    match a with
    | ⟨0, _⟩ => exact show win0_4.index t 0 * 256 ≤ _ ∧ _ < win0_4.index t 0 * 256 + 256 from hi.2.2.2.2.2.2.2.2.1 ▸ ht 0
    | ⟨1, _⟩ => exact show win0_4.index t 1 * 2048 ≤ _ ∧ _ < win0_4.index t 1 * 2048 + 2048 from hi.2.2.2.2.2.2.2.2.2.1 ▸ ht 1

/-- and the same, rounded. -/
theorem final5 : E2 (n := 4096) (m := 2048) ((dats m 0 c).arrAt 5 cfg0.N) (back fx (fun r c => fd r c * fg c) fe) := by
  refine (dats m 0 c).arrAt_forall_of_cover 5 (fun i v => v = back fx (fun r c => fd r c * fg c) fe (i 0).val (i 1).val) ?_ fun i => ?_
  · intro t _ y
    have hi := idx t
    rw [show (((cfg0.win 5).blk t).view.emb y 0).val = t.val * 256 + (y 0).val from show win0_5.index t 0 * 256 + 1 * (y 0).val = _ by omega,
      show (((cfg0.win 5).blk t).view.emb y 1).val = (y 1).val from show win0_5.index t 1 * 2048 + 1 * (y 1).val = _ by omega]
    exact (cast_eq _ _).trans ((congrFun ((Value.flushed5 m c t).trans (congrArg _ (stored t).2)) y).trans
      ((E2.truncf (point t hx hd he hg) _) y))
  · obtain ⟨t, ht⟩ := rows i
    have hi := idx t
    refine ⟨t, flush0_5 t, ?_⟩
    show i ∈ ((View.whole main_v1_1).slice (win0_5.rect t)).set
    rw [View.set_slice_whole, Rect.mem_set_unit]
    intro a
    match a with
    | ⟨0, _⟩ => exact show win0_5.index t 0 * 256 ≤ _ ∧ _ < win0_5.index t 0 * 256 + 256 from hi.2.2.2.2.2.2.2.2.2.2.1 ▸ ht 0
    | ⟨1, _⟩ => exact show win0_5.index t 1 * 2048 ≤ _ ∧ _ < win0_5.index t 1 * 2048 + 2048 from hi.2.2.2.2.2.2.2.2.2.2.2.1 ▸ ht 1

end Input

/-- The gain's gradient. -/
theorem final6 (hx : E2 (n := 4096) (m := 2048) (V m c main_arg0) fx) (hd : E2 (n := 4096) (m := 2048) (V m c main_arg2) fd) :
    E2 (n := 1) (m := 2048) ((dats m 0 c).arrAt 6 cfg0.N) fun _ c => ∑ r ∈ range 4096, fd r c * (fx r c * ir fx r) := by
  refine (dats m 0 c).arrAt_forall_of_cover 6 (fun i v => v = ∑ r ∈ range 4096, fd r (i 1).val * (fx r (i 1).val * ir fx r)) ?_ fun i => ?_
  · intro t h y
    have ht := (flush0_6 t).mp h
    have hi := idx t
    rw [show (((cfg0.win 6).blk t).view.emb y 1).val = (y 1).val from show win0_6.index t 1 * 2048 + 1 * (y 1).val = _ by omega]
    refine (cast_eq _ _).trans ((congrFun (Value.flushed6 m c t) y).trans ((held hx hd t.val t.isLt y).trans ?_))
    rw [show t.val = 15 from by have hN : t.val < 16 := t.isLt; omega]
  · have i0 : (i 0).val < 1 := (i 0).isLt
    have i1 : (i 1).val < 2048 := (i 1).isLt
    obtain ⟨t, ht⟩ : ∃ t : Fin cfg0.N, t.val = 15 := ⟨⟨_, show 15 < 16 by omega⟩, rfl⟩
    have hi := idx t
    refine ⟨t, (flush0_6 t).mpr (by omega), ?_⟩
    show i ∈ ((View.whole main_v1_2).slice (win0_6.rect t)).set
    rw [View.set_slice_whole, Rect.mem_set_unit]
    intro a
    match a with
    | ⟨0, _⟩ => exact show win0_6.index t 0 * 1 ≤ (i 0).val ∧ (i 0).val < win0_6.index t 0 * 1 + 1 by omega
    | ⟨1, _⟩ => exact show win0_6.index t 1 * 2048 ≤ (i 1).val ∧ (i 1).val < win0_6.index t 1 * 2048 + 2048 by omega

end Cert.Mlp.Ffn

end
-- ==== Proof.Mlp.FfnClaims.lean ====
module

public import proofs.«01_k».proof.Defs
public import proofs.«01_k».proof.Proof.Mlp.Ffn
public import proofs.«01_k».proof.Proof.Mlp.NormReference
public import proofs.«01_k».proof.Proof.Gen.KernelFfn.Frame
public import proofs.«01_k».proof.Proof.Gen.ReferenceFfnIdeal.Run
public import proofs.«01_k».proof.Proof.Gen.ReferenceFfnIdeal.Read
public import Idealize.ShloMosaic.Lib.Quiescent

/-! The claims of the gradient through the feed-forward's norm. -/

@[expose] public section

noncomputable section

namespace Cert.Mlp.Ffn

open Finset Idealize.ShloMosaic Idealize.ShloMosaic.TcCoe Idealize.SL.Sem

theorem frame_reference : Cert.quiescent_ReferenceFfnIdeal := fun m ρ _ =>
  (θ_run Cert.ReferenceFfnIdeal.defs _ _).mono (fun r h => ⟨fun c => (h c).2.2.2,
      Idealize.ShloMosaic.sem_eq_zero_of_no_sems (by decide) r.2⟩)
    (Cert.ReferenceFfnIdeal.Value.run (F := Ideal) m ρ)

theorem frames : Cert.quiescent_KernelFfn ∧ Cert.quiescent_KernelFfnIdeal ∧ Cert.quiescent_ReferenceFfnIdeal :=
  ⟨fun m ρ _ => Cert.KernelFfn.Gen.frame m ρ, fun m ρ _ => Cert.KernelFfnIdeal.Gen.frame m ρ, frame_reference⟩

section Reference
open Cert.ReferenceFfnIdeal Cert.ReferenceFfnIdeal.Read

variable {x0 x2 x3 : FVec Ideal S4096x2048 .f32} {x1 : FVec Ideal S2048 .f32} {x d e : ℕ → ℕ → EReal} {g : ℕ → EReal}

/-- The reference's gradients are those of the mixers' norm. -/
theorem reference_input (hx : E2 (n := 4096) (m := 2048) x0 x) (hd : E2 (n := 4096) (m := 2048) x2 d) (he : E2 (n := 4096) (m := 2048) x3 e)
    (hg : ∀ i, x1 i = g (i 0).val) : E2 (n := 4096) (m := 2048) (val_main_v36 (F := Ideal) x0 x1 x2 x3) (back x (fun r c => d r c * g c) e) :=
  NormReference.input hx hd he hg

theorem reference_gain (hx : E2 (n := 4096) (m := 2048) x0 x) (hd : E2 (n := 4096) (m := 2048) x2 d) :
    E2 (n := 1) (m := 2048) (val_main_v38 (F := Ideal) x0 x2) fun _ c => ∑ r ∈ range 4096, d r c * (x r c * ir x r) :=
  NormReference.gain hx hd

end Reference

/-- The kernel and the reference compute the same three results. -/
theorem algebraic : Cert.algebraic_KernelFfnIdeal_ReferenceFfnIdeal := by
  intro m ρ m' ρ' _ hagree
  refine ⟨_, _, _, Cert.KernelFfnIdeal.Value.run_blocks (F := Ideal) m ρ, ?_⟩
  refine (θ_run Cert.ReferenceFfnIdeal.defs _ _).mono (fun _ h c => ?_) (Cert.ReferenceFfnIdeal.Value.run (F := Ideal) m' ρ')
  obtain ⟨e0, e1, e2, e3⟩ := hagree c
  obtain ⟨x, hx⟩ := exists_E2 (m ((c.tc : Thread Cert.KernelFfnIdeal.nD Cert.KernelFfnIdeal.τ).loc Cert.KernelFfnIdeal.main_arg0))
  obtain ⟨g, hg⟩ := exists_row (m ((c.tc : Thread Cert.KernelFfnIdeal.nD Cert.KernelFfnIdeal.τ).loc Cert.KernelFfnIdeal.main_arg1))
  obtain ⟨d, hd⟩ := exists_E2 (m ((c.tc : Thread Cert.KernelFfnIdeal.nD Cert.KernelFfnIdeal.τ).loc Cert.KernelFfnIdeal.main_arg2))
  obtain ⟨e, he⟩ := exists_E2 (m ((c.tc : Thread Cert.KernelFfnIdeal.nD Cert.KernelFfnIdeal.τ).loc Cert.KernelFfnIdeal.main_arg3))
  refine ⟨(h c).1.trans ?_, (h c).2.1.trans ?_, (h c).2.2.1.trans ?_, (h c).2.2.2⟩
  · refine (Cert.ReferenceFfnIdeal.Read.val_main_v36_eq (F := Ideal) _ _ _ _).trans ?_
    rw [e0, e1, e2, e3]
    exact funext fun i => (reference_input hx hd he hg i).trans (final4 hx hd he (E2.row (φ := .f32) hg _) i).symm
  · refine (Cert.ReferenceFfnIdeal.Read.val_main_v37_eq (F := Ideal) _ _ _ _).trans ?_
    rw [e0, e1, e2, e3]
    exact funext fun i => ((reference_input hx hd he hg).truncf _ i).trans (final5 hx hd he (E2.row (φ := .f32) hg _) i).symm
  · refine (Cert.ReferenceFfnIdeal.Read.val_main_v38_eq (F := Ideal) _ _).trans ?_
    rw [e0, e2]
    exact funext fun i => (reference_gain hx hd i).trans (final6 hx hd i).symm

end Cert.Mlp.Ffn

end
-- ==== Proof.Mlp.Proj.lean ====
module

public import proofs.«01_k».proof.Proof.Mlp.Product
public import proofs.«01_k».proof.Proof.Gen.KernelProjIdeal.Value

/-! The mixers' output product, added to the layer's input: what the kernel leaves. -/

@[expose] public section

noncomputable section

namespace Cert.Mlp.Proj

open Finset Idealize.ShloMosaic Idealize.ShloMosaic.TcCoe Idealize.SL.Sem Cert.KernelProjIdeal Cert.KernelProjIdeal.Gen

/-- One point: the product of two blocks, added to the block of the input. -/
theorem point {x : Vec Ideal S1024x2048 .bf16} {y : Vec Ideal S2048x1024 .bf16} {s : Vec Ideal S1024x1024 .f32}
    {f g h : ℕ → ℕ → EReal} (hx : E2 x f) (hy : E2 y g) (hs : E2 s h) :
    E2 (out0_3 x y s) fun r c => h r c + ∑ k ∈ range 2048, f r k * g k c := by
  unfold out0_3
  rw [View.canon_unit_zero hz2]
  simp only [View.ld_unit_zero (S := S1024x2048) hz2, View.ld_unit_zero (S := S2048x1024) hz2, View.ld_unit_zero (S := S1024x1024) hz2]
  unfold k0_pay1
  simp only [shapeCast_self]
  exact E2.addf (φ := .f32) hs (hx.mm10 hy _ _)

variable {m : (ℓ : Loc nD τ sig) → Buf (Elt Ideal) ℓ} {c : Dev nD} {f g h : ℕ → ℕ → EReal}

theorem idx : ∀ t : Fin cfg0.N, win0_0.index t 0 = t.val / 2 ∧ win0_0.index t 1 = 0 ∧ win0_1.index t 0 = 0
    ∧ win0_1.index t 1 = t.val % 2 ∧ win0_2.index t 0 = t.val / 2 ∧ win0_2.index t 1 = t.val % 2
    ∧ win0_3.index t 0 = t.val / 2 ∧ win0_3.index t 1 = t.val % 2 := by decide +kernel

theorem cover (i : S4096x2048.Idx) : ∃ t : Fin cfg0.N, (cfg0.win 3).flush t = true ∧ i ∈ ((cfg0.win 3).blk t).view.set := by
  have i0 : (i 0).val < 4096 := (i 0).isLt
  have i1 : (i 1).val < 2048 := (i 1).isLt
  obtain ⟨t, ht⟩ : ∃ t : Fin cfg0.N, t.val = (i 0).val / 1024 * 2 + (i 1).val / 1024 := ⟨⟨_, show _ < 8 by omega⟩, rfl⟩
  have hi := idx t
  refine ⟨t, flush0_3 t, ?_⟩
  show i ∈ ((View.whole main_v2).slice (win0_3.rect t)).set
  rw [View.set_slice_whole, Rect.mem_set_unit]
  intro a
  match a with
  | ⟨0, _⟩ => exact show win0_3.index t 0 * 1024 ≤ (i 0).val ∧ (i 0).val < win0_3.index t 0 * 1024 + 1024 by omega
  | ⟨1, _⟩ => exact show win0_3.index t 1 * 1024 ≤ (i 1).val ∧ (i 1).val < win0_3.index t 1 * 1024 + 1024 by omega

/-- The result array. -/
theorem final (hf : E2 (n := 4096) (m := 2048) (V m c main_v0) f) (hg : E2 (n := 2048) (m := 2048) (V m c main_v1) g)
    (hs : E2 (n := 4096) (m := 2048) (V m c main_arg2) h) :
    E2 (n := 4096) (m := 2048) ((dats m 0 c).arrAt 3 cfg0.N) fun r c => h r c + ∑ k ∈ range 2048, f r k * g k c := by
  refine (dats m 0 c).arrAt_forall_of_cover 3
    (fun i v => v = h (i 0).val (i 1).val + ∑ k ∈ range 2048, f (i 0).val k * g k (i 1).val) ?_ cover
  intro t _ y
  have hi := idx t
  rw [show (((cfg0.win 3).blk t).view.emb y 0).val = t.val / 2 * 1024 + (y 0).val from show win0_3.index t 0 * 1024 + 1 * (y 0).val = _ by omega,
    show (((cfg0.win 3).blk t).view.emb y 1).val = t.val % 2 * 1024 + (y 1).val from show win0_3.index t 1 * 1024 + 1 * (y 1).val = _ by omega]
  refine (cast_eq _ _).trans ((congrFun (Value.flushed3 m c t) y).trans ?_)
  have b0 : E2 (n := 1024) (m := 2048) (iblk m c 0 t) fun r c => f (t.val / 2 * 1024 + r) (0 + c) :=
    hf.block fun i => ⟨show win0_0.index t 0 * 1024 + 1 * (i 0).val = _ by omega, show win0_0.index t 1 * 2048 + 1 * (i 1).val = _ by omega⟩
  have b1 : E2 (n := 2048) (m := 1024) (iblk m c 1 t) fun r c => g (0 + r) (t.val % 2 * 1024 + c) :=
    hg.block fun i => ⟨show win0_1.index t 0 * 2048 + 1 * (i 0).val = _ by omega, show win0_1.index t 1 * 1024 + 1 * (i 1).val = _ by omega⟩
  have b2 : E2 (n := 1024) (m := 1024) (iblk m c 2 t) fun r c => h (t.val / 2 * 1024 + r) (t.val % 2 * 1024 + c) :=
    hs.block fun i => ⟨show win0_2.index t 0 * 1024 + 1 * (i 0).val = _ by omega, show win0_2.index t 1 * 1024 + 1 * (i 1).val = _ by omega⟩
  refine (point b0 b1 b2 y).trans ?_
  simp only [Nat.zero_add]

end Cert.Mlp.Proj

end
-- ==== Proof.Mlp.ProjClaims.lean ====
module

public import proofs.«01_k».proof.Defs
public import proofs.«01_k».proof.Proof.Mlp.Proj
public import proofs.«01_k».proof.Proof.Gen.KernelProj.Frame
public import proofs.«01_k».proof.Proof.Gen.ReferenceProjIdeal.Run
public import proofs.«01_k».proof.Proof.Gen.ReferenceProjIdeal.Read
public import Idealize.ShloMosaic.Lib.Quiescent

/-! The claims of the mixers' output product. -/

@[expose] public section

noncomputable section

namespace Cert.Mlp.Proj

open Finset Idealize.ShloMosaic Idealize.ShloMosaic.TcCoe Idealize.SL.Sem

theorem frame_reference : Cert.quiescent_ReferenceProjIdeal := fun m ρ _ =>
  (θ_run Cert.ReferenceProjIdeal.defs _ _).mono (fun r h => ⟨fun c => (h c).2,
      Idealize.ShloMosaic.sem_eq_zero_of_no_sems (by decide) r.2⟩)
    (Cert.ReferenceProjIdeal.Value.run (F := Ideal) m ρ)

theorem frames : Cert.quiescent_KernelProj ∧ Cert.quiescent_KernelProjIdeal ∧ Cert.quiescent_ReferenceProjIdeal :=
  ⟨fun m ρ _ => Cert.KernelProj.Gen.frame m ρ, fun m ρ _ => Cert.KernelProjIdeal.Gen.frame m ρ, frame_reference⟩

section Reference
open Cert.ReferenceProjIdeal Cert.ReferenceProjIdeal.Read

/-- The reference's result: the same product, added to the same input. -/
theorem reference {x0 : FVec Ideal S4096x2048 .f32} {x1 : FVec Ideal S2048x2048 .f32} {x2 : FVec Ideal S4096x2048 .f32}
    {f g h : ℕ → ℕ → EReal} (hf : E2 (n := 4096) (m := 2048) x0 f) (hg : E2 (n := 2048) (m := 2048) x1 g)
    (hs : E2 (n := 4096) (m := 2048) x2 h) :
    E2 (n := 4096) (m := 2048) (val_main_v1 (F := Ideal) x0 x1 x2) fun r c => h r c + ∑ k ∈ range 2048, f r k * g k c := by
  have t : E2 (n := 4096) (m := 2048) (val_main_v0 (F := Ideal) x0 x1) fun r c => ∑ k ∈ range 2048, f r k * g k c :=
    E2.viaDot (fun i => val_main_v0_apply x0 x1 i) fun i k => by rw [hf, hg]
  exact E2.addf (φ := .f32) hs t

end Reference

/-- The kernel and the reference compute the same result. -/
theorem algebraic : Cert.algebraic_KernelProjIdeal_ReferenceProjIdeal := by
  intro m ρ m' ρ' _ hagree
  refine ⟨_, Cert.KernelProjIdeal.Value.run_blocks (F := Ideal) m ρ, ?_⟩
  refine (θ_run Cert.ReferenceProjIdeal.defs _ _).mono (fun _ h c => ⟨(h c).1.trans ?_, (h c).2⟩)
    (Cert.ReferenceProjIdeal.Value.run (F := Ideal) m' ρ')
  obtain ⟨e0, e1, e2⟩ := hagree c
  refine (Cert.ReferenceProjIdeal.Read.val_main_v1_eq (F := Ideal) _ _ _).trans ?_
  rw [e0, e1, e2]
  obtain ⟨f, hf⟩ := exists_E2 (m ((c.tc : Thread Cert.KernelProjIdeal.nD Cert.KernelProjIdeal.τ).loc Cert.KernelProjIdeal.main_arg0))
  obtain ⟨g, hg⟩ := exists_E2 (m ((c.tc : Thread Cert.KernelProjIdeal.nD Cert.KernelProjIdeal.τ).loc Cert.KernelProjIdeal.main_arg1))
  obtain ⟨h, hs⟩ := exists_E2 (m ((c.tc : Thread Cert.KernelProjIdeal.nD Cert.KernelProjIdeal.τ).loc Cert.KernelProjIdeal.main_arg2))
  exact funext fun i => (reference hf hg hs i).trans (final hf hg hs i).symm

end Cert.Mlp.Proj

end
-- ==== Proof.Mlp.Loss.lean ====
module

public import proofs.«01_k».proof.Proof.Mlp.Rms
public import proofs.«01_k».proof.Proof.Gen.KernelLossIdeal.Value

/-! The last norm, the loss and their gradients: what the kernel leaves. -/

@[expose] public section

noncomputable section

namespace Cert.Mlp.Loss

open Finset Idealize.ShloMosaic Idealize.ShloMosaic.TcCoe Idealize.SL.Sem Cert.KernelLossIdeal Cert.KernelLossIdeal.Gen
open Cert.Mixer (bits_half bits_zero)

theorem bits_inv : Ideal.ofBits .f32 0x3A000000#32 = ((1 / 2048 : ℝ) : EReal) := by
  simp [Ideal.ofBits, Ideal.ieee, -EReal.coe_mul]; norm_num

/-! ### The error and the loss

`x` is the norm's input, `g` its gain and `t` the target. -/

/-- How far the norm's output is from the target. -/
def err (x t : ℕ → ℕ → EReal) (g : ℕ → EReal) (r c : ℕ) : EReal := x r c * ir x r * g c - t r c
/-- The loss's gradient at the norm's output. -/
def slope (x t : ℕ → ℕ → EReal) (g : ℕ → EReal) (r c : ℕ) : EReal := err x t g r c * (1 / 2048 : ℝ)
/-- The mean square of a row's errors. -/
def square (x t : ℕ → ℕ → EReal) (g : ℕ → EReal) (r : ℕ) : EReal :=
  Ideal.div (∑ k ∈ range 2048, err x t g r k * err x t g r k) (2048 : ℝ)
/-- The sum of two matrices. -/
def plus (x y : ℕ → ℕ → EReal) (r c : ℕ) : EReal := x r c + y r c

/-- The sum of a column, as one number. -/
theorem total {n : ℕ} {x : FVec Ideal ⟨2, ![n, 1]⟩ .f32} {f : ℕ → ℕ → EReal} (hx : E2 x f) (h₁ h hf ha h₂ hp) :
    extractAt ![0, 0, 0] (shapeCast ⟨3, ![1, 1, 1]⟩ (multiReduction .add [1, 2] ⟨1, ![1]⟩ (shapeCast ⟨3, ![1, n, 1]⟩ x h₁) 0x00000000#32 h hf ha) h₂) hp
      = ∑ r ∈ range n, f r 0 := by
  unfold extractAt
  rw [shapeCast_apply _ h₂ _ (fun a => match a with | ⟨0, _⟩ => (0 : Fin 1)), multiReduction_add_apply, Ideal.reduceAdd_def, Ideal.reduceAdd_r3_a12]
  · exact (Finset.sum_congr rfl fun k _ => (Fin.sum_univ_one _).trans (hx.to3 h₁ _)).trans (Fin.sum_univ_eq_sum_range (fun k => f k 0) n)
  · rw [Shape.rowMajor_val_one, Shape.rowMajor_val_three]
    rfl

/-! ### The body's values -/

section Body
variable {x y t w : Vec Ideal S512x2048 .f32} {v : Vec Ideal S512x1 .f32} {g s : Vec Ideal S1x2048 .f32} {a : Vec Ideal S8x128 .f32}
  {f fx fy ft fe : ℕ → ℕ → EReal} {fg fs : ℕ → EReal} {fa : ℕ → ℕ → EReal}

theorem summed (hx : E2 x fx) (hy : E2 y fy) : E2 (k0_pay7 x y) (plus fx fy) := E2.addf (φ := .f32) hx hy

theorem column (hs : E2 (k0_pay7 x y) f) : E2 (k0_pay8 x y) fun r _ => ir f r := hs.inv _ _ _ _

theorem normed (hs : E2 (k0_pay7 x y) f) : E2 (k0_pay9 x y) fun r c => f r c * ir f r := E2.normed hs (column hs) _ (by decide)

theorem error (hs : E2 (k0_pay7 x y) f) (hg : E2 g fun _ c => fg c) (ht : E2 t ft) : E2 (k0_pay10 x y g t) (err f ft fg) :=
  E2.subf (φ := .f32) (E2.mulf (φ := .f32) (normed hs) (E2.bcastRow (φ := .f32) (E2.cast_self (φ := .f32) hg _) _ (by decide))) ht

theorem scaled (hw : E2 w fe) : E2 (k0_pay1 (F := Ideal) w) fun r c => fe r c * (1 / 2048 : ℝ) := fun i => by
  show w i * Ideal.ofBits .f32 0x3A000000#32 = _
  rw [hw i, bits_inv]

/-- The input's gradient. -/
theorem input (hs : E2 (k0_pay7 x y) f) (hg : E2 g fun _ c => fg c) (ht : E2 t ft) :
    E2 (k0_pay3 (k0_pay8 x y) (k0_pay9 x y) (k0_pay10 x y g t) g) (back f (fun r c => slope f ft fg r c * fg c) fun _ _ => 0) :=
  (E2.slope (E2.mulf (φ := .f32) (scaled (error hs hg ht)) (E2.bcastRow (φ := .f32) (E2.cast_self (φ := .f32) hg _) _ (by decide)))
    (column hs) (normed hs) (by decide) _ _ _ _ _ _).congr fun _ _ _ _ => (zero_add _).symm

/-- The gain's gradient: a block's sums added to those so far. -/
theorem gain (ha : E2 s fun _ c => fs c) (hs : E2 (k0_pay7 x y) f) (hg : E2 g fun _ c => fg c) (ht : E2 t ft) :
    E2 (k0_pay2 (k0_pay9 x y) (k0_pay10 x y g t) s) fun _ c => fs c + ∑ r ∈ range 512, slope f ft fg r c * (f r c * ir f r) :=
  E2.gain ha (scaled (error hs hg ht)) (normed hs) _ _ _ _ _

/-- The loss: half of a block's mean squares added to those so far. -/
theorem loss (ha : E2 a fa) (hs : E2 (k0_pay7 x y) f) (hg : E2 g fun _ c => fg c) (ht : E2 t ft) :
    E2 (k0_pay11 x y g t a) fun r c => fa r c + ∑ r ∈ range 512, ((1 / 2 : ℝ) : EReal) * square f ft fg r := by
  have he := error hs hg ht
  refine E2.addf (φ := .f32) (E2.cast_self (φ := .f32) ha _) fun i => ?_
  refine (congrArg₂ (· * ·) bits_half (total ((((E2.mulf (φ := .f32) he he).rowSum _ _ _ _).divc bits_2048)) _ _ _ _ _ _)).trans ?_
  exact coe_mul_sum (by norm_num) _ _

end Body

variable {m : (ℓ : Loc nD τ sig) → Buf (Elt Ideal) ℓ} {c : Dev nD} {fx fy ft : ℕ → ℕ → EReal} {fg : ℕ → EReal}

/-! ### What a point stores -/

theorem first_loss (t : Fin cfg0.N) (ht : t.val % 8 = 0) : (outsAt0 m c t.val t.isLt).1
    = k0_pay11 (iblk m c 1 t) (iblk m c 0 t) (iblk m c 3 t) (iblk m c 2 t) (k0_pay5 (F := Ideal)) := by
  rw [outsAt0_A m c t ht]
  unfold out0_A_4 kernelRun0_A
  dsimp only
  rw [last_store _ _ hz2]
  sl_unfold_words
  rw [View.readCov_unit_zero (S := S8x128) _ hz2]
  simp only [View.readAt_eq_ld, Memref.IsWhole.read_unread, View.ld_unit_zero (S := S512x2048) hz2, View.ld_unit_zero (S := S1x2048) hz2]

theorem next_loss (t : Fin cfg0.N) (ht : t.val % 8 ≠ 0) (ht' : t.val - 1 < cfg0.N) : (outsAt0 m c t.val t.isLt).1
    = k0_pay11 (iblk m c 1 t) (iblk m c 0 t) (iblk m c 3 t) (iblk m c 2 t) (outsAt0 m c (t.val - 1) ht').1 := by
  rw [outsAt0_B m c t ht]
  unfold out0_B_4 kernelRun0_B
  dsimp only
  rw [whole_store _ _ hz2]
  sl_unfold_words
  simp only [View.readAt_eq_ld, Memref.IsWhole.read_unread, View.ld_unit_zero (S := S512x2048) hz2, View.ld_unit_zero (S := S1x2048) hz2, View.ld_unit_zero (S := S8x128) hz2]

theorem first_row (t : Fin cfg0.N) (ht : t.val % 8 = 0) : (outsAt0 m c t.val t.isLt).2.2.2
    = k0_pay2 (k0_pay9 (iblk m c 1 t) (iblk m c 0 t)) (k0_pay10 (iblk m c 1 t) (iblk m c 0 t) (iblk m c 3 t) (iblk m c 2 t)) (k0_pay6 (F := Ideal)) := by
  rw [outsAt0_A m c t ht]
  unfold out0_A_7 kernelRun0_A
  dsimp only
  rw [last_store _ _ hz2]
  sl_unfold_words
  rw [View.readCov_unit_zero (S := S1x2048) _ hz2]
  simp only [View.readAt_eq_ld, Memref.IsWhole.read_unread, View.ld_unit_zero (S := S512x2048) hz2, View.ld_unit_zero (S := S1x2048) hz2]

theorem next_row (t : Fin cfg0.N) (ht : t.val % 8 ≠ 0) (ht' : t.val - 1 < cfg0.N) : (outsAt0 m c t.val t.isLt).2.2.2
    = k0_pay2 (k0_pay9 (iblk m c 1 t) (iblk m c 0 t)) (k0_pay10 (iblk m c 1 t) (iblk m c 0 t) (iblk m c 3 t) (iblk m c 2 t))
      (outsAt0 m c (t.val - 1) ht').2.2.2 := by
  rw [outsAt0_B m c t ht]
  unfold out0_B_7 kernelRun0_B
  dsimp only
  rw [whole_store _ _ hz2]
  sl_unfold_words
  simp only [View.readAt_eq_ld, Memref.IsWhole.read_unread, View.ld_unit_zero (S := S512x2048) hz2, View.ld_unit_zero (S := S1x2048) hz2]

theorem stored (t : Fin cfg0.N) : (outsAt0 m c t.val t.isLt).2.1 = k0_pay3 (k0_pay8 (iblk m c 1 t) (iblk m c 0 t))
    (k0_pay9 (iblk m c 1 t) (iblk m c 0 t)) (k0_pay10 (iblk m c 1 t) (iblk m c 0 t) (iblk m c 3 t) (iblk m c 2 t)) (iblk m c 3 t) := by
  by_cases ht : t.val % 8 = 0
  · rw [outsAt0_A m c t ht]
    unfold out0_A_5 kernelRun0_A
    dsimp only
    rw [whole_store _ _ hz2]
    sl_unfold_words
    simp only [View.readAt_eq_ld, Memref.IsWhole.read_unread, View.ld_unit_zero (S := S512x2048) hz2, View.ld_unit_zero (S := S1x2048) hz2]
  · rw [outsAt0_B m c t ht]
    unfold out0_B_5 kernelRun0_B
    dsimp only
    rw [whole_store _ _ hz2]
    sl_unfold_words
    simp only [View.readAt_eq_ld, Memref.IsWhole.read_unread, View.ld_unit_zero (S := S512x2048) hz2, View.ld_unit_zero (S := S1x2048) hz2]

/-- The narrower copy of the input's gradient. -/
theorem stored_narrow (t : Fin cfg0.N) : (outsAt0 m c t.val t.isLt).2.2.1 = k0_pay4 (k0_pay8 (iblk m c 1 t) (iblk m c 0 t))
    (k0_pay9 (iblk m c 1 t) (iblk m c 0 t)) (k0_pay10 (iblk m c 1 t) (iblk m c 0 t) (iblk m c 3 t) (iblk m c 2 t)) (iblk m c 3 t) := by
  by_cases ht : t.val % 8 = 0
  · rw [outsAt0_A m c t ht]
    unfold out0_A_6 kernelRun0_A
    dsimp only
    rw [whole_store _ _ hz2]
    sl_unfold_words
    simp only [View.readAt_eq_ld, Memref.IsWhole.read_unread, View.ld_unit_zero (S := S512x2048) hz2, View.ld_unit_zero (S := S1x2048) hz2]
  · rw [outsAt0_B m c t ht]
    unfold out0_B_6 kernelRun0_B
    dsimp only
    rw [whole_store _ _ hz2]
    sl_unfold_words
    simp only [View.readAt_eq_ld, Memref.IsWhole.read_unread, View.ld_unit_zero (S := S512x2048) hz2, View.ld_unit_zero (S := S1x2048) hz2]

/-! ### The results -/

theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0
    ∧ win0_6.index t 0 = t.val ∧ win0_6.index t 1 = 0 ∧ win0_7.index t 0 = 0 ∧ win0_7.index t 1 = 0 := by decide +kernel

section Blocks
variable (t : Fin cfg0.N)

theorem block0 (h : E2 (n := 4096) (m := 2048) (V m c main_arg0) fy) :
    E2 (n := 512) (m := 2048) (iblk m c 0 t) fun r c => fy (t.val * 512 + r) (0 + c) := h.block fun i => have hi := idx t
  ⟨show win0_0.index t 0 * 512 + 1 * (i 0).val = _ by omega, show win0_0.index t 1 * 2048 + 1 * (i 1).val = _ by omega⟩

theorem block1 (h : E2 (n := 4096) (m := 2048) (V m c main_arg1) fx) :
    E2 (n := 512) (m := 2048) (iblk m c 1 t) fun r c => fx (t.val * 512 + r) (0 + c) := h.block fun i => have hi := idx t
  ⟨show win0_1.index t 0 * 512 + 1 * (i 0).val = _ by omega, show win0_1.index t 1 * 2048 + 1 * (i 1).val = _ by omega⟩

theorem block2 (h : E2 (n := 4096) (m := 2048) (V m c main_arg2) ft) :
    E2 (n := 512) (m := 2048) (iblk m c 2 t) fun r c => ft (t.val * 512 + r) (0 + c) := h.block fun i => have hi := idx t
  ⟨show win0_2.index t 0 * 512 + 1 * (i 0).val = _ by omega, show win0_2.index t 1 * 2048 + 1 * (i 1).val = _ by omega⟩

theorem block3 (h : E2 (n := 1) (m := 2048) (V m c main_v0) fun _ c => fg c) :
    E2 (n := 1) (m := 2048) (iblk m c 3 t) fun _ c => fg (0 + c) := (h.block (p := 0) (q := 0) fun i => have hi := idx t
  ⟨show win0_3.index t 0 * 1 + 1 * (i 0).val = _ by omega, show win0_3.index t 1 * 2048 + 1 * (i 1).val = _ by omega⟩)

/-- The norm's input in a block. -/
theorem block (hy : E2 (n := 4096) (m := 2048) (V m c main_arg0) fy) (hx : E2 (n := 4096) (m := 2048) (V m c main_arg1) fx) :
    E2 (k0_pay7 (F := Ideal) (iblk m c 1 t) (iblk m c 0 t)) fun r c => plus fx fy (t.val * 512 + r) (0 + c) := summed (block1 t hx) (block0 t hy)

end Blocks

/-- The rows from `p` on have the same slopes, -/
theorem slope_rows (x t : ℕ → ℕ → EReal) (g : ℕ → EReal) (p r c : ℕ) :
    slope (fun r c => x (p + r) (0 + c)) (fun r c => t (p + r) (0 + c)) (fun c => g (0 + c)) r c = slope x t g (p + r) c := by
  simp only [slope, err, Nat.zero_add, ir_rows]

/-- the same mean squares, -/
theorem square_rows (x t : ℕ → ℕ → EReal) (g : ℕ → EReal) (p r : ℕ) :
    square (fun r c => x (p + r) (0 + c)) (fun r c => t (p + r) (0 + c)) (fun c => g (0 + c)) r = square x t g (p + r) := by
  simp only [square, err, Nat.zero_add, ir_rows]

/-- and so the same gradient. -/
theorem input_rows (x t : ℕ → ℕ → EReal) (g : ℕ → EReal) (p r c : ℕ) :
    back (fun r c => x (p + r) (0 + c)) (fun r c => slope (fun r c => x (p + r) (0 + c)) (fun r c => t (p + r) (0 + c)) (fun c => g (0 + c)) r c
      * g (0 + c)) (fun _ _ => 0) r c = back x (fun r c => slope x t g r c * g c) (fun _ _ => 0) (p + r) c := by
  simp only [back, slope_rows]
  simp only [Nat.zero_add, ir_rows]

theorem zero_loss : E2 (n := 8) (m := 128) (k0_pay5 (F := Ideal)) fun _ _ => 0 := fun _ => bits_zero
theorem zero_row : E2 (n := 1) (m := 2048) (k0_pay6 (F := Ideal)) fun _ _ => 0 := fun _ => bits_zero

section Results
variable (hy : E2 (n := 4096) (m := 2048) (V m c main_arg0) fy) (hx : E2 (n := 4096) (m := 2048) (V m c main_arg1) fx)
  (ht : E2 (n := 4096) (m := 2048) (V m c main_arg2) ft) (hg : E2 (n := 1) (m := 2048) (V m c main_v0) fun _ c => fg c)
include hy hx ht hg

/-- The loss of the blocks so far. -/
theorem held_loss (t : ℕ) (h : t < cfg0.N) : E2 (n := 8) (m := 128) (outsAt0 m c t h).1
    fun _ _ => ∑ r ∈ range ((t + 1) * 512), ((1 / 2 : ℝ) : EReal) * square (plus fx fy) ft fg r := by
  refine E2.points (N := 8) (n := 8) (m := 128) (K := 512) (f := fun r _ => ((1 / 2 : ℝ) : EReal) * square (plus fx fy) ft fg r)
    (o := fun t h => (outsAt0 m c t h).1) (fun h => ?_) (fun t h h' hz e => ?_) t h
  · rw [first_loss ⟨0, h⟩ rfl]
    refine (loss zero_loss (block ⟨0, h⟩ hy hx) (block3 ⟨0, h⟩ hg) (block2 ⟨0, h⟩ ht)).congr fun _ _ c _ => ?_
    simp only [square_rows]
    simp only [Nat.zero_add, Nat.zero_mul, zero_add]
  · rw [next_loss ⟨t, h⟩ (show t % 8 ≠ 0 by omega) h']
    refine (loss e (block ⟨t, h⟩ hy hx) (block3 ⟨t, h⟩ hg) (block2 ⟨t, h⟩ ht)).congr fun _ _ c _ => ?_
    simp only [square_rows]

/-- The sums of the blocks so far. -/
theorem held_row (t : ℕ) (h : t < cfg0.N) : E2 (n := 1) (m := 2048) (outsAt0 m c t h).2.2.2
    fun _ c => ∑ r ∈ range ((t + 1) * 512), slope (plus fx fy) ft fg r c * (plus fx fy r c * ir (plus fx fy) r) := by
  refine E2.points (N := 8) (n := 1) (K := 512) (f := fun r c => slope (plus fx fy) ft fg r c * (plus fx fy r c * ir (plus fx fy) r))
    (o := fun t h => (outsAt0 m c t h).2.2.2) (fun h => ?_) (fun t h h' hz e => ?_) t h
  · rw [first_row ⟨0, h⟩ rfl]
    refine (gain zero_row (block ⟨0, h⟩ hy hx) (block3 ⟨0, h⟩ hg) (block2 ⟨0, h⟩ ht)).congr fun _ _ c _ => ?_
    simp only [slope_rows]
    simp only [ir_rows, Nat.zero_add, Nat.zero_mul, zero_add]
  · rw [next_row ⟨t, h⟩ (show t % 8 ≠ 0 by omega) h']
    refine (gain e (block ⟨t, h⟩ hy hx) (block3 ⟨t, h⟩ hg) (block2 ⟨t, h⟩ ht)).congr fun _ _ c _ => ?_
    simp only [slope_rows]
    simp only [ir_rows, Nat.zero_add]

/-- The loss. -/
theorem final4 : E2 (n := 8) (m := 128) ((dats m 0 c).arrAt 4 cfg0.N)
    fun _ _ => ∑ r ∈ range 4096, ((1 / 2 : ℝ) : EReal) * square (plus fx fy) ft fg r := by
  refine (dats m 0 c).arrAt_forall_of_cover 4 (fun _ v => v = ∑ r ∈ range 4096, ((1 / 2 : ℝ) : EReal) * square (plus fx fy) ft fg r) ?_ fun i => ?_
  · intro t h y
    have ht' := (flush0_4 t).mp h
    refine (cast_eq _ _).trans ((congrFun (Value.flushed4 m c t) y).trans ((held_loss hy hx ht hg t.val t.isLt y).trans ?_))
    rw [show t.val = 7 from by have hN : t.val < 8 := t.isLt; omega]
  · have i0 : (i 0).val < 8 := (i 0).isLt
    have i1 : (i 1).val < 128 := (i 1).isLt
    obtain ⟨t, ht⟩ : ∃ t : Fin cfg0.N, t.val = 7 := ⟨⟨_, show 7 < 8 by omega⟩, rfl⟩
    have hi := idx t
    refine ⟨t, (flush0_4 t).mpr (by omega), ?_⟩
    show i ∈ ((View.whole main_v1_0).slice (win0_4.rect t)).set
    rw [View.set_slice_whole, Rect.mem_set_unit]
    intro a
    match a with
    | ⟨0, _⟩ => exact show win0_4.index t 0 * 8 ≤ (i 0).val ∧ (i 0).val < win0_4.index t 0 * 8 + 8 by omega
    | ⟨1, _⟩ => exact show win0_4.index t 1 * 128 ≤ (i 1).val ∧ (i 1).val < win0_4.index t 1 * 128 + 128 by omega

/-- The input's gradient. -/
theorem final5 : E2 (n := 4096) (m := 2048) ((dats m 0 c).arrAt 5 cfg0.N)
    (back (plus fx fy) (fun r c => slope (plus fx fy) ft fg r c * fg c) fun _ _ => 0) := by
  refine (dats m 0 c).arrAt_forall_of_cover 5
    (fun i v => v = back (plus fx fy) (fun r c => slope (plus fx fy) ft fg r c * fg c) (fun _ _ => 0) (i 0).val (i 1).val) ?_ fun i => ?_
  · intro t _ y
    have hi := idx t
    rw [show (((cfg0.win 5).blk t).view.emb y 0).val = t.val * 512 + (y 0).val from show win0_5.index t 0 * 512 + 1 * (y 0).val = _ by omega,
      show (((cfg0.win 5).blk t).view.emb y 1).val = (y 1).val from show win0_5.index t 1 * 2048 + 1 * (y 1).val = _ by omega]
    refine (cast_eq _ _).trans ((congrFun ((Value.flushed5 m c t).trans (congrArg _ (stored t))) y).trans ?_)
    exact (input (block t hy hx) (block3 t hg) (block2 t ht) y).trans (input_rows ..)
  · have i0 : (i 0).val < 4096 := (i 0).isLt
    have i1 : (i 1).val < 2048 := (i 1).isLt
    obtain ⟨t, ht⟩ : ∃ t : Fin cfg0.N, t.val = (i 0).val / 512 := ⟨⟨_, show _ < 8 by omega⟩, rfl⟩
    have hi := idx t
    refine ⟨t, flush0_5 t, ?_⟩
    show i ∈ ((View.whole main_v1_1).slice (win0_5.rect t)).set
    rw [View.set_slice_whole, Rect.mem_set_unit]
    intro a
    match a with
    | ⟨0, _⟩ => exact show win0_5.index t 0 * 512 ≤ (i 0).val ∧ (i 0).val < win0_5.index t 0 * 512 + 512 by omega
    | ⟨1, _⟩ => exact show win0_5.index t 1 * 2048 ≤ (i 1).val ∧ (i 1).val < win0_5.index t 1 * 2048 + 2048 by omega

/-- Its narrower copy. -/
theorem final6 : E2 (n := 4096) (m := 2048) ((dats m 0 c).arrAt 6 cfg0.N)
    (back (plus fx fy) (fun r c => slope (plus fx fy) ft fg r c * fg c) fun _ _ => 0) := by
  refine (dats m 0 c).arrAt_forall_of_cover 6
    (fun i v => v = back (plus fx fy) (fun r c => slope (plus fx fy) ft fg r c * fg c) (fun _ _ => 0) (i 0).val (i 1).val) ?_ fun i => ?_
  · intro t _ y
    have hi := idx t
    rw [show (((cfg0.win 6).blk t).view.emb y 0).val = t.val * 512 + (y 0).val from show win0_6.index t 0 * 512 + 1 * (y 0).val = _ by omega,
      show (((cfg0.win 6).blk t).view.emb y 1).val = (y 1).val from show win0_6.index t 1 * 2048 + 1 * (y 1).val = _ by omega]
    refine (cast_eq _ _).trans ((congrFun ((Value.flushed6 m c t).trans (congrArg _ (stored_narrow t))) y).trans ?_)
    exact ((input (block t hy hx) (block3 t hg) (block2 t ht)).truncf _ y).trans (input_rows ..)
  · have i0 : (i 0).val < 4096 := (i 0).isLt
    have i1 : (i 1).val < 2048 := (i 1).isLt
    obtain ⟨t, ht⟩ : ∃ t : Fin cfg0.N, t.val = (i 0).val / 512 := ⟨⟨_, show _ < 8 by omega⟩, rfl⟩
    have hi := idx t
    refine ⟨t, flush0_6 t, ?_⟩
    show i ∈ ((View.whole main_v1_2).slice (win0_6.rect t)).set
    rw [View.set_slice_whole, Rect.mem_set_unit]
    intro a
    match a with
    | ⟨0, _⟩ => exact show win0_6.index t 0 * 512 ≤ (i 0).val ∧ (i 0).val < win0_6.index t 0 * 512 + 512 by omega
    | ⟨1, _⟩ => exact show win0_6.index t 1 * 2048 ≤ (i 1).val ∧ (i 1).val < win0_6.index t 1 * 2048 + 2048 by omega

/-- The gain's gradient. -/
theorem final7 : E2 (n := 1) (m := 2048) ((dats m 0 c).arrAt 7 cfg0.N)
    fun _ c => ∑ r ∈ range 4096, slope (plus fx fy) ft fg r c * (plus fx fy r c * ir (plus fx fy) r) := by
  refine (dats m 0 c).arrAt_forall_of_cover 7
    (fun i v => v = ∑ r ∈ range 4096, slope (plus fx fy) ft fg r (i 1).val * (plus fx fy r (i 1).val * ir (plus fx fy) r)) ?_ fun i => ?_
  · intro t h y
    have ht' := (flush0_7 t).mp h
    have hi := idx t
    rw [show (((cfg0.win 7).blk t).view.emb y 1).val = (y 1).val from show win0_7.index t 1 * 2048 + 1 * (y 1).val = _ by omega]
    refine (cast_eq _ _).trans ((congrFun (Value.flushed7 m c t) y).trans ((held_row hy hx ht hg t.val t.isLt y).trans ?_))
    rw [show t.val = 7 from by have hN : t.val < 8 := t.isLt; omega]
  · have i0 : (i 0).val < 1 := (i 0).isLt
    have i1 : (i 1).val < 2048 := (i 1).isLt
    obtain ⟨t, ht⟩ : ∃ t : Fin cfg0.N, t.val = 7 := ⟨⟨_, show 7 < 8 by omega⟩, rfl⟩
    have hi := idx t
    refine ⟨t, (flush0_7 t).mpr (by omega), ?_⟩
    show i ∈ ((View.whole main_v1_3).slice (win0_7.rect t)).set
    rw [View.set_slice_whole, Rect.mem_set_unit]
    intro a
    match a with
    | ⟨0, _⟩ => exact show win0_7.index t 0 * 1 ≤ (i 0).val ∧ (i 0).val < win0_7.index t 0 * 1 + 1 by omega
    | ⟨1, _⟩ => exact show win0_7.index t 1 * 2048 ≤ (i 1).val ∧ (i 1).val < win0_7.index t 1 * 2048 + 2048 by omega

end Results

end Cert.Mlp.Loss

end
-- ==== Proof.Mlp.LossReference.lean ====
module

public import proofs.«01_k».proof.Proof.Mlp.Loss
public import proofs.«01_k».proof.Proof.Mlp.NormReference
public import proofs.«01_k».proof.Proof.Gen.ReferenceLossIdeal.Read

/-! The last norm, the loss and their gradients: what the reference's operations hold.

The norm and its gradients are those of Proof/Mlp/NormReference.lean, at the sum of the two inputs and the loss's gradient. -/

@[expose] public section

noncomputable section

namespace Cert.Mlp.LossReference

open Finset Idealize.ShloMosaic Idealize.ShloMosaic.TcCoe Cert.ReferenceLossIdeal Cert.ReferenceLossIdeal.Read
open Cert.Mixer (bits_half bits_one bits_zero)
open Cert.Mlp.NormReference (from_zero)
open Cert.Mlp.Loss (err slope square plus)

theorem bits_two : Ideal.ofBits .f32 0x40000000#32 = ((2 : ℝ) : EReal) := by
  simp [Ideal.ofBits, Ideal.ieee, -EReal.coe_mul]; norm_num

variable {x0 x1 x2 : FVec Ideal S4096x2048 .f32} {x3 : FVec Ideal S2048 .f32} {y x t : ℕ → ℕ → EReal} {g : ℕ → EReal}
  (hy : E2 (n := 4096) (m := 2048) x0 y) (hx : E2 (n := 4096) (m := 2048) x1 x) (ht : E2 (n := 4096) (m := 2048) x2 t)
  (hg : ∀ i, x3 i = g (i 0).val)

include hy hx in
theorem summed : E2 (n := 4096) (m := 2048) (val_main_v0 (F := Ideal) x0 x1) (plus x y) := E2.addf (φ := .f32) hx hy

include hy hx ht hg

theorem error : E2 (n := 4096) (m := 2048) (val_main_v17 (F := Ideal) x0 x1 x2 x3) (err (plus x y) t g) := fun i => by
  rw [val_main_v17_apply, val_main_v16_apply, val_main_v15_apply, val_main_v14_apply]
  exact congrArg₂ (· - ·) (congrArg₂ (· * ·) (NormReference.normed (summed hy hx) i) (hg _)) (ht i)

/-- The loss's gradient at the norm's output. -/
theorem sloped : E2 (n := 4096) (m := 2048) (val_main_v31 (F := Ideal) x0 x1 x2 x3) (slope (plus x y) t g) := fun i => by
  rw [val_main_v31_apply, val_main_v20_apply, error hy hx ht hg i]
  show Ideal.div (Ideal.ofBits .f32 0x3F000000#32 * Ideal.ofBits .f32 0x3F800000#32) (Ideal.ofBits .f32 0x45000000#32)
    * (Ideal.ofBits .f32 0x40000000#32 * err (plus x y) t g (i 0).val (i 1).val) = _
  rw [bits_half, bits_one, bits_2048, bits_two, Ideal.div_coe (by norm_num), ← EReal.coe_mul, ← EReal.coe_mul, ← mul_assoc, ← EReal.coe_mul,
    mul_comm]
  unfold Loss.slope
  congr 2
  norm_num

/-- The loss, in every entry. -/
theorem loss : E2 (n := 8) (m := 128) (val_main_v53 (F := Ideal) x0 x1 x2 x3)
    fun _ _ => ∑ r ∈ range 4096, ((1 / 2 : ℝ) : EReal) * square (plus x y) t g r := fun i => by
  rw [val_main_v53_apply, val_main_v25_apply, val_main_v24_apply, sum_idx1]
  refine (congrArg₂ (· * ·) bits_half (from_zero (f := square (plus x y) t g) bits_zero fun r => ?_)).trans (coe_mul_sum (by norm_num) _ _)
  rw [val_main_v23_apply, val_main_v21_apply]
  refine congrArg₂ Ideal.div (from_zero (f := fun k => err (plus x y) t g r k * err (plus x y) t g r k) bits_zero fun k => ?_) bits_2048
  exact congrArg₂ (· * ·) (error hy hx ht hg _) (error hy hx ht hg _)

/-- The input's gradient. -/
theorem input : E2 (n := 4096) (m := 2048) (val_main_v52 (F := Ideal) x0 x1 x2 x3)
    (back (plus x y) (fun r c => slope (plus x y) t g r c * g c) fun _ _ => 0) := fun i => by
  rw [val_main_v52_apply, val_main_v50_apply, val_main_v51_apply, val_main_v43_apply, val_main_v49_apply]
  refine Eq.trans ?_ (back_eq (plus x y) (fun r c => slope (plus x y) t g r c * g c) (fun _ _ => 0) (i 0).val (i 1).val).symm
  rw [zero_add]
  have hs := summed hy hx i
  have hm : val_main_v48 (F := Ideal) x0 x1 x2 x3 i = _ := NormReference.through (summed hy hx) (sloped hy hx ht hg) hg i
  have hq : val_main_v37 (F := Ideal) x0 x1 x2 x3 i = _ := NormReference.gained (sloped hy hx ht hg) hg i
  have hr : val_main_v42 (F := Ideal) x0 x1 i = _ := NormReference.root (summed hy hx) _
  rw [hm, hq, hr, hs]
  rfl

/-- The gain's gradient, as a row. -/
theorem gain : E2 (n := 1) (m := 2048) (val_main_v55 (F := Ideal) x0 x1 x2 x3)
    fun _ c => ∑ r ∈ range 4096, slope (plus x y) t g r c * (plus x y r c * ir (plus x y) r) :=
  NormReference.gain (summed hy hx) (sloped hy hx ht hg)

end Cert.Mlp.LossReference

end
-- ==== Proof.Mlp.LossClaims.lean ====
module

public import proofs.«01_k».proof.Defs
public import proofs.«01_k».proof.Proof.Mlp.Loss
public import proofs.«01_k».proof.Proof.Mlp.LossReference
public import proofs.«01_k».proof.Proof.Gen.KernelLoss.Frame
public import proofs.«01_k».proof.Proof.Gen.ReferenceLossIdeal.Run
public import Idealize.ShloMosaic.Lib.Quiescent

/-! The claims of the last norm, the loss and their gradients. -/

@[expose] public section

noncomputable section

namespace Cert.Mlp.Loss

open Finset Idealize.ShloMosaic Idealize.ShloMosaic.TcCoe Idealize.SL.Sem

theorem frame_reference : Cert.quiescent_ReferenceLossIdeal := fun m ρ _ =>
  (θ_run Cert.ReferenceLossIdeal.defs _ _).mono (fun r h => ⟨fun c => (h c).2.2.2.2,
      Idealize.ShloMosaic.sem_eq_zero_of_no_sems (by decide) r.2⟩)
    (Cert.ReferenceLossIdeal.Value.run (F := Ideal) m ρ)

theorem frames : Cert.quiescent_KernelLoss ∧ Cert.quiescent_KernelLossIdeal ∧ Cert.quiescent_ReferenceLossIdeal :=
  ⟨fun m ρ _ => Cert.KernelLoss.Gen.frame m ρ, fun m ρ _ => Cert.KernelLossIdeal.Gen.frame m ρ, frame_reference⟩

/-- The kernel and the reference compute the same four results. -/
theorem algebraic : Cert.algebraic_KernelLossIdeal_ReferenceLossIdeal := by
  intro m ρ m' ρ' _ hagree
  refine ⟨_, _, _, _, Cert.KernelLossIdeal.Value.run_blocks (F := Ideal) m ρ, ?_⟩
  refine (θ_run Cert.ReferenceLossIdeal.defs _ _).mono (fun _ h c => ?_) (Cert.ReferenceLossIdeal.Value.run (F := Ideal) m' ρ')
  obtain ⟨e0, e1, e2, e3⟩ := hagree c
  obtain ⟨y, hy⟩ := exists_E2 (m ((c.tc : Thread Cert.KernelLossIdeal.nD Cert.KernelLossIdeal.τ).loc Cert.KernelLossIdeal.main_arg0))
  obtain ⟨x, hx⟩ := exists_E2 (m ((c.tc : Thread Cert.KernelLossIdeal.nD Cert.KernelLossIdeal.τ).loc Cert.KernelLossIdeal.main_arg1))
  obtain ⟨t, ht⟩ := exists_E2 (m ((c.tc : Thread Cert.KernelLossIdeal.nD Cert.KernelLossIdeal.τ).loc Cert.KernelLossIdeal.main_arg2))
  obtain ⟨g, hg⟩ := exists_row (m ((c.tc : Thread Cert.KernelLossIdeal.nD Cert.KernelLossIdeal.τ).loc Cert.KernelLossIdeal.main_arg3))
  have hr := E2.row (φ := .f32) hg Cert.KernelLossIdeal.Gen.shapeCasts_S2048_S1x2048
  refine ⟨(h c).1.trans ?_, (h c).2.1.trans ?_, (h c).2.2.1.trans ?_, (h c).2.2.2.1.trans ?_, (h c).2.2.2.2⟩
  · refine (Cert.ReferenceLossIdeal.Read.val_main_v53_eq (F := Ideal) _ _ _ _).trans ?_
    rw [e0, e1, e2, e3]
    exact funext fun i => (LossReference.loss hy hx ht hg i).trans (final4 hy hx ht hr i).symm
  · refine (Cert.ReferenceLossIdeal.Read.val_main_v52_eq (F := Ideal) m' c).trans ?_
    rw [e0, e1, e2, e3]
    exact funext fun i => (LossReference.input hy hx ht hg i).trans (final5 hy hx ht hr i).symm
  · refine (Cert.ReferenceLossIdeal.Read.val_main_v54_eq (F := Ideal) m' c).trans ?_
    rw [e0, e1, e2, e3]
    exact funext fun i => ((LossReference.input hy hx ht hg).truncf _ i).trans (final6 hy hx ht hr i).symm
  · refine (Cert.ReferenceLossIdeal.Read.val_main_v55_eq (F := Ideal) _ _ _ _).trans ?_
    rw [e0, e1, e2, e3]
    exact funext fun i => (LossReference.gain hy hx ht hg i).trans (final7 hy hx ht hr i).symm

end Cert.Mlp.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.KernelActIdeal.Value
public import proofs.«01_k».proof.Proof.Gen.ReferenceActIdeal
public import proofs.«01_k».proof.Proof.Gen.ReferenceActIdeal.Run
public import proofs.«01_k».proof.Proof.Gen.ReferenceActIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelDh2
public import proofs.«01_k».proof.Proof.Gen.KernelDh2.Skeleton
public import proofs.«01_k».proof.Proof.Gen.KernelDh2.Launch
public import proofs.«01_k».proof.Proof.Gen.KernelDh2.Points
public import proofs.«01_k».proof.Proof.Gen.KernelDh2.Frame
public import proofs.«01_k».proof.Proof.Gen.KernelDh2Ideal
public import proofs.«01_k».proof.Proof.Gen.KernelDh2Ideal.Skeleton
public import proofs.«01_k».proof.Proof.Gen.KernelDh2Ideal.Launch
public import proofs.«01_k».proof.Proof.Gen.KernelDh2Ideal.Points
public import proofs.«01_k».proof.Proof.Gen.KernelDh2Ideal.Frame
public import proofs.«01_k».proof.Proof.Gen.KernelDh2Ideal.Value
public import proofs.«01_k».proof.Proof.Gen.ReferenceDh2Ideal
public import proofs.«01_k».proof.Proof.Gen.ReferenceDh2Ideal.Run
public import proofs.«01_k».proof.Proof.Gen.ReferenceDh2Ideal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelDh1
public import proofs.«01_k».proof.Proof.Gen.KernelDh1.Skeleton
public import proofs.«01_k».proof.Proof.Gen.KernelDh1.Launch
public import proofs.«01_k».proof.Proof.Gen.KernelDh1.Points
public import proofs.«01_k».proof.Proof.Gen.KernelDh1.Frame
public import proofs.«01_k».proof.Proof.Gen.KernelDh1Ideal
public import proofs.«01_k».proof.Proof.Gen.KernelDh1Ideal.Skeleton
public import proofs.«01_k».proof.Proof.Gen.KernelDh1Ideal.Launch
public import proofs.«01_k».proof.Proof.Gen.KernelDh1Ideal.Points
public import proofs.«01_k».proof.Proof.Gen.KernelDh1Ideal.Frame
public import proofs.«01_k».proof.Proof.Gen.KernelDh1Ideal.Value
public import proofs.«01_k».proof.Proof.Gen.ReferenceDh1Ideal
public import proofs.«01_k».proof.Proof.Gen.ReferenceDh1Ideal.Run
public import proofs.«01_k».proof.Proof.Gen.ReferenceDh1Ideal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelDmixed
public import proofs.«01_k».proof.Proof.Gen.KernelDmixed.Skeleton
public import proofs.«01_k».proof.Proof.Gen.KernelDmixed.Launch
public import proofs.«01_k».proof.Proof.Gen.KernelDmixed.Points
public import proofs.«01_k».proof.Proof.Gen.KernelDmixed.Frame
public import proofs.«01_k».proof.Proof.Gen.KernelDmixedIdeal
public import proofs.«01_k».proof.Proof.Gen.KernelDmixedIdeal.Skeleton
public import proofs.«01_k».proof.Proof.Gen.KernelDmixedIdeal.Launch
public import proofs.«01_k».proof.Proof.Gen.KernelDmixedIdeal.Points
public import proofs.«01_k».proof.Proof.Gen.KernelDmixedIdeal.Frame
public import proofs.«01_k».proof.Proof.Gen.KernelDmixedIdeal.Value
public import proofs.«01_k».proof.Proof.Gen.ReferenceDmixedIdeal
public import proofs.«01_k».proof.Proof.Gen.ReferenceDmixedIdeal.Run
public import proofs.«01_k».proof.Proof.Gen.ReferenceDmixedIdeal.Read
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Mixer.Claims
public import proofs.«01_k».proof.Proof.Mlp.DownClaims
public import proofs.«01_k».proof.Proof.Mlp.ActClaims
public import proofs.«01_k».proof.Proof.Mlp.UpClaims
public import proofs.«01_k».proof.Proof.Mlp.Dh2Claims
public import proofs.«01_k».proof.Proof.Mlp.InClaims
public import proofs.«01_k».proof.Proof.Mlp.Dh1Claims
public import proofs.«01_k».proof.Proof.Mlp.OutClaims
public import proofs.«01_k».proof.Proof.Mlp.DmixedClaims
public import proofs.«01_k».proof.Proof.Mlp.NormClaims
public import proofs.«01_k».proof.Proof.Mlp.FfnClaims
public import proofs.«01_k».proof.Proof.Mlp.ProjClaims
public import proofs.«01_k».proof.Proof.Mlp.LossClaims
public import Idealize.ShloMosaic.Adequacy
public import Idealize.ShloMosaic.Init

@[expose] public section

noncomputable section

namespace Cert.Proof

open Idealize.ShloMosaic Idealize.SL.Sem

/-- Everything that the certificate claims. -/
theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelAct.Gen.facts, Cert.KernelActIdeal.Gen.facts, Cert.ReferenceActIdeal.Gen.facts,
    Cert.KernelUp.Gen.facts, Cert.KernelUpIdeal.Gen.facts, Cert.ReferenceUpIdeal.Gen.facts,
    Cert.KernelDh2.Gen.facts, Cert.KernelDh2Ideal.Gen.facts, Cert.ReferenceDh2Ideal.Gen.facts,
    Cert.KernelIn.Gen.facts, Cert.KernelInIdeal.Gen.facts, Cert.ReferenceInIdeal.Gen.facts,
    Cert.KernelDh1.Gen.facts, Cert.KernelDh1Ideal.Gen.facts, Cert.ReferenceDh1Ideal.Gen.facts,
    Cert.KernelOut.Gen.facts, Cert.KernelOutIdeal.Gen.facts, Cert.ReferenceOutIdeal.Gen.facts,
    Cert.KernelDmixed.Gen.facts, Cert.KernelDmixedIdeal.Gen.facts, Cert.ReferenceDmixedIdeal.Gen.facts,
    Cert.KernelNorm.Gen.facts, Cert.KernelNormIdeal.Gen.facts, Cert.ReferenceNormIdeal.Gen.facts,
    Cert.KernelFfn.Gen.facts, Cert.KernelFfnIdeal.Gen.facts, Cert.ReferenceFfnIdeal.Gen.facts,
    Cert.KernelProj.Gen.facts, Cert.KernelProjIdeal.Gen.facts, Cert.ReferenceProjIdeal.Gen.facts,
    Cert.KernelLoss.Gen.facts, Cert.KernelLossIdeal.Gen.facts, Cert.ReferenceLossIdeal.Gen.facts,
    Cert.Mixer.facts_finite,
    Cert.Mixer.frame_kernel, Cert.Mixer.frame_ideal, fun m ρ _ => Cert.Mixer.frame_ideal m ρ trivial,
    Cert.Mixer.frame_reference, fun m ρ _ => Cert.Mixer.frame_reference m ρ trivial,
    Cert.Mlp.Down.frames.1, Cert.Mlp.Down.frames.2.1, Cert.Mlp.Down.frames.2.2,
    Cert.Mlp.Act.frames.1, Cert.Mlp.Act.frames.2.1, Cert.Mlp.Act.frames.2.2,
    Cert.Mlp.Up.frames.1, Cert.Mlp.Up.frames.2.1, Cert.Mlp.Up.frames.2.2,
    Cert.Mlp.Dh2.frames.1, Cert.Mlp.Dh2.frames.2.1, Cert.Mlp.Dh2.frames.2.2,
    Cert.Mlp.In.frames.1, Cert.Mlp.In.frames.2.1, Cert.Mlp.In.frames.2.2,
    Cert.Mlp.Dh1.frames.1, Cert.Mlp.Dh1.frames.2.1, Cert.Mlp.Dh1.frames.2.2,
    Cert.Mlp.Out.frames.1, Cert.Mlp.Out.frames.2.1, Cert.Mlp.Out.frames.2.2,
    Cert.Mlp.Dmixed.frames.1, Cert.Mlp.Dmixed.frames.2.1, Cert.Mlp.Dmixed.frames.2.2,
    Cert.Mlp.Norm.frames.1, Cert.Mlp.Norm.frames.2.1, Cert.Mlp.Norm.frames.2.2,
    Cert.Mlp.Ffn.frames.1, Cert.Mlp.Ffn.frames.2.1, Cert.Mlp.Ffn.frames.2.2,
    Cert.Mlp.Proj.frames.1, Cert.Mlp.Proj.frames.2.1, Cert.Mlp.Proj.frames.2.2,
    Cert.Mlp.Loss.frames.1, Cert.Mlp.Loss.frames.2.1, Cert.Mlp.Loss.frames.2.2,
    Cert.Mixer.preserves, (letI := Cert.Mixer.facts_finite; Cert.Mixer.algebraic),
    trivial, Cert.Mlp.Down.algebraic,
    trivial, Cert.Mlp.Act.algebraic,
    trivial, Cert.Mlp.Up.algebraic,
    trivial, Cert.Mlp.Dh2.algebraic,
    trivial, Cert.Mlp.In.algebraic,
    trivial, Cert.Mlp.Dh1.algebraic,
    trivial, Cert.Mlp.Out.algebraic,
    trivial, Cert.Mlp.Dmixed.algebraic,
    trivial, Cert.Mlp.Norm.algebraic,
    trivial, Cert.Mlp.Ffn.algebraic,
    trivial, Cert.Mlp.Proj.algebraic,
    trivial, Cert.Mlp.Loss.algebraic⟩

end Cert.Proof

end
